-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KDwFf2 (m : (ℓ : Loc Cert.KDwFf2.nD Cert.KDwFf2.τ Cert.KDwFf2.sig) → Buf (Elt Bits) ℓ) : Prop :=
  True

def Pre_KDwFf2Ideal (m : (ℓ : Loc Cert.KDwFf2Ideal.nD Cert.KDwFf2Ideal.τ Cert.KDwFf2Ideal.sig) → Buf (Elt Ideal) ℓ) : Prop :=
  True

def Pre_RDwFf2Ideal (m : (ℓ : Loc Cert.RDwFf2Ideal.nD Cert.RDwFf2Ideal.τ Cert.RDwFf2Ideal.sig) → Buf (Elt Ideal) ℓ) : Prop :=
  True

def Pre_KDn2 (m : (ℓ : Loc Cert.KDn2.nD Cert.KDn2.τ Cert.KDn2.sig) → Buf (Elt Bits) ℓ) : Prop :=
  True

def Pre_KDn2Ideal (m : (ℓ : Loc Cert.KDn2Ideal.nD Cert.KDn2Ideal.τ Cert.KDn2Ideal.sig) → Buf (Elt Ideal) ℓ) : Prop :=
  True

def Pre_RDn2Ideal (m : (ℓ : Loc Cert.RDn2Ideal.nD Cert.RDn2Ideal.τ Cert.RDn2Ideal.sig) → Buf (Elt Ideal) ℓ) : Prop :=
  True

def Pre_KDwFf1 (m : (ℓ : Loc Cert.KDwFf1.nD Cert.KDwFf1.τ Cert.KDwFf1.sig) → Buf (Elt Bits) ℓ) : Prop :=
  True

def Pre_KDwFf1Ideal (m : (ℓ : Loc Cert.KDwFf1Ideal.nD Cert.KDwFf1Ideal.τ Cert.KDwFf1Ideal.sig) → Buf (Elt Ideal) ℓ) : Prop :=
  True

def Pre_RDwFf1Ideal (m : (ℓ : Loc Cert.RDwFf1Ideal.nD Cert.RDwFf1Ideal.τ Cert.RDwFf1Ideal.sig) → Buf (Elt Ideal) ℓ) : Prop :=
  True

def Pre_KFf1 (m : (ℓ : Loc Cert.KFf1.nD Cert.KFf1.τ Cert.KFf1.sig) → Buf (Elt Bits) ℓ) : Prop :=
  True

def Pre_KFf1Ideal (m : (ℓ : Loc Cert.KFf1Ideal.nD Cert.KFf1Ideal.τ Cert.KFf1Ideal.sig) → Buf (Elt Ideal) ℓ) : Prop :=
  True

def Pre_RFf1Ideal (m : (ℓ : Loc Cert.RFf1Ideal.nD Cert.RFf1Ideal.τ Cert.RFf1Ideal.sig) → Buf (Elt Ideal) ℓ) : Prop :=
  True

def Pre_KDMix (m : (ℓ : Loc Cert.KDMix.nD Cert.KDMix.τ Cert.KDMix.sig) → Buf (Elt Bits) ℓ) : Prop :=
  True

def Pre_KDMixIdeal (m : (ℓ : Loc Cert.KDMixIdeal.nD Cert.KDMixIdeal.τ Cert.KDMixIdeal.sig) → Buf (Elt Ideal) ℓ) : Prop :=
  True

def Pre_RDMixIdeal (m : (ℓ : Loc Cert.RDMixIdeal.nD Cert.RDMixIdeal.τ Cert.RDMixIdeal.sig) → Buf (Elt Ideal) ℓ) : Prop :=
  True

def Pre_KDwOut (m : (ℓ : Loc Cert.KDwOut.nD Cert.KDwOut.τ Cert.KDwOut.sig) → Buf (Elt Bits) ℓ) : Prop :=
  True

def Pre_KDwOutIdeal (m : (ℓ : Loc Cert.KDwOutIdeal.nD Cert.KDwOutIdeal.τ Cert.KDwOutIdeal.sig) → Buf (Elt Ideal) ℓ) : Prop :=
  True

def Pre_RDwOutIdeal (m : (ℓ : Loc Cert.RDwOutIdeal.nD Cert.RDwOutIdeal.τ Cert.RDwOutIdeal.sig) → Buf (Elt Ideal) ℓ) : Prop :=
  True

def Pre_KDwIn (m : (ℓ : Loc Cert.KDwIn.nD Cert.KDwIn.τ Cert.KDwIn.sig) → Buf (Elt Bits) ℓ) : Prop :=
  True

def Pre_KDwInIdeal (m : (ℓ : Loc Cert.KDwInIdeal.nD Cert.KDwInIdeal.τ Cert.KDwInIdeal.sig) → Buf (Elt Ideal) ℓ) : Prop :=
  True

def Pre_RDwInIdeal (m : (ℓ : Loc Cert.RDwInIdeal.nD Cert.RDwInIdeal.τ Cert.RDwInIdeal.sig) → Buf (Elt Ideal) ℓ) : Prop :=
  True

def Pre_KDn1 (m : (ℓ : Loc Cert.KDn1.nD Cert.KDn1.τ Cert.KDn1.sig) → Buf (Elt Bits) ℓ) : Prop :=
  True

def Pre_KDn1Ideal (m : (ℓ : Loc Cert.KDn1Ideal.nD Cert.KDn1Ideal.τ Cert.KDn1Ideal.sig) → Buf (Elt Ideal) ℓ) : Prop :=
  True

def Pre_RDn1Ideal (m : (ℓ : Loc Cert.RDn1Ideal.nD Cert.RDn1Ideal.τ Cert.RDn1Ideal.sig) → Buf (Elt Ideal) ℓ) : Prop :=
  True

def Pre_KRmsBwd (m : (ℓ : Loc Cert.KRmsBwd.nD Cert.KRmsBwd.τ Cert.KRmsBwd.sig) → Buf (Elt Bits) ℓ) : Prop :=
  True

def Pre_KRmsBwdIdeal (m : (ℓ : Loc Cert.KRmsBwdIdeal.nD Cert.KRmsBwdIdeal.τ Cert.KRmsBwdIdeal.sig) → Buf (Elt Ideal) ℓ) : Prop :=
  True

def Pre_RRmsBwdIdeal (m : (ℓ : Loc Cert.RRmsBwdIdeal.nD Cert.RRmsBwdIdeal.τ Cert.RRmsBwdIdeal.sig) → Buf (Elt Ideal) ℓ) : Prop :=
  True

def Pre_KRmsFfn (m : (ℓ : Loc Cert.KRmsFfn.nD Cert.KRmsFfn.τ Cert.KRmsFfn.sig) → Buf (Elt Bits) ℓ) : Prop :=
  True

def Pre_KRmsFfnIdeal (m : (ℓ : Loc Cert.KRmsFfnIdeal.nD Cert.KRmsFfnIdeal.τ Cert.KRmsFfnIdeal.sig) → Buf (Elt Ideal) ℓ) : Prop :=
  True

def Pre_RRmsFfnIdeal (m : (ℓ : Loc Cert.RRmsFfnIdeal.nD Cert.RRmsFfnIdeal.τ Cert.RRmsFfnIdeal.sig) → Buf (Elt Ideal) ℓ) : Prop :=
  True

def Pre_KConvBwd (m : (ℓ : Loc Cert.KConvBwd.nD Cert.KConvBwd.τ Cert.KConvBwd.sig) → Buf (Elt Bits) ℓ) : Prop :=
  True

def Pre_KConvBwdIdeal (m : (ℓ : Loc Cert.KConvBwdIdeal.nD Cert.KConvBwdIdeal.τ Cert.KConvBwdIdeal.sig) → Buf (Elt Ideal) ℓ) : Prop :=
  True

def Pre_KConvBwdIdeal_finite_gradient [hPre_finite_gradient : Cert.Pre_finite_gradient.Facts] (m : (ℓ : Loc Cert.KConvBwdIdeal.nD Cert.KConvBwdIdeal.τ Cert.KConvBwdIdeal.sig) → Buf (Elt Ideal) ℓ) : Prop :=
  ∀ c : Dev Cert.KConvBwdIdeal.nD,
    (Cert.Pre_finite_gradient.fn (F := Ideal) (m ((c.tc : Thread Cert.KConvBwdIdeal.nD Cert.KConvBwdIdeal.τ).loc Cert.KConvBwdIdeal.main_arg0)) (m ((c.tc : Thread Cert.KConvBwdIdeal.nD Cert.KConvBwdIdeal.τ).loc Cert.KConvBwdIdeal.main_arg1)) (m ((c.tc : Thread Cert.KConvBwdIdeal.nD Cert.KConvBwdIdeal.τ).loc Cert.KConvBwdIdeal.main_arg2)) (m ((c.tc : Thread Cert.KConvBwdIdeal.nD Cert.KConvBwdIdeal.τ).loc Cert.KConvBwdIdeal.main_arg3))) = (fun _ => 1#1)

def Pre_RConvBwdIdeal (m : (ℓ : Loc Cert.RConvBwdIdeal.nD Cert.RConvBwdIdeal.τ Cert.RConvBwdIdeal.sig) → Buf (Elt Ideal) ℓ) : Prop :=
  True

def Pre_RConvBwdIdeal_finite_gradient [hPre_finite_gradient : Cert.Pre_finite_gradient.Facts] (m : (ℓ : Loc Cert.RConvBwdIdeal.nD Cert.RConvBwdIdeal.τ Cert.RConvBwdIdeal.sig) → Buf (Elt Ideal) ℓ) : Prop :=
  ∀ c : Dev Cert.RConvBwdIdeal.nD,
    (Cert.Pre_finite_gradient.fn (F := Ideal) (m ((c.tc : Thread Cert.RConvBwdIdeal.nD Cert.RConvBwdIdeal.τ).loc Cert.RConvBwdIdeal.main_arg0)) (m ((c.tc : Thread Cert.RConvBwdIdeal.nD Cert.RConvBwdIdeal.τ).loc Cert.RConvBwdIdeal.main_arg1)) (m ((c.tc : Thread Cert.RConvBwdIdeal.nD Cert.RConvBwdIdeal.τ).loc Cert.RConvBwdIdeal.main_arg2)) (m ((c.tc : Thread Cert.RConvBwdIdeal.nD Cert.RConvBwdIdeal.τ).loc Cert.RConvBwdIdeal.main_arg3))) = (fun _ => 1#1)

def Pre_KInProj (m : (ℓ : Loc Cert.KInProj.nD Cert.KInProj.τ Cert.KInProj.sig) → Buf (Elt Bits) ℓ) : Prop :=
  True

def Pre_KInProjIdeal (m : (ℓ : Loc Cert.KInProjIdeal.nD Cert.KInProjIdeal.τ Cert.KInProjIdeal.sig) → Buf (Elt Ideal) ℓ) : Prop :=
  True

def Pre_RInProjIdeal (m : (ℓ : Loc Cert.RInProjIdeal.nD Cert.RInProjIdeal.τ Cert.RInProjIdeal.sig) → Buf (Elt Ideal) ℓ) : Prop :=
  True

def Pre_KInHigh (m : (ℓ : Loc Cert.KInHigh.nD Cert.KInHigh.τ Cert.KInHigh.sig) → Buf (Elt Bits) ℓ) : Prop :=
  True

def Pre_KInHighIdeal (m : (ℓ : Loc Cert.KInHighIdeal.nD Cert.KInHighIdeal.τ Cert.KInHighIdeal.sig) → Buf (Elt Ideal) ℓ) : Prop :=
  True

def Pre_RInHighIdeal (m : (ℓ : Loc Cert.RInHighIdeal.nD Cert.RInHighIdeal.τ Cert.RInHighIdeal.sig) → Buf (Elt Ideal) ℓ) : Prop :=
  True

def Pre_KOutProj (m : (ℓ : Loc Cert.KOutProj.nD Cert.KOutProj.τ Cert.KOutProj.sig) → Buf (Elt Bits) ℓ) : Prop :=
  True

def Pre_KOutProjIdeal (m : (ℓ : Loc Cert.KOutProjIdeal.nD Cert.KOutProjIdeal.τ Cert.KOutProjIdeal.sig) → Buf (Elt Ideal) ℓ) : Prop :=
  True

def Pre_ROutProjIdeal (m : (ℓ : Loc Cert.ROutProjIdeal.nD Cert.ROutProjIdeal.τ Cert.ROutProjIdeal.sig) → Buf (Elt Ideal) ℓ) : Prop :=
  True

def Pre_KConv (m : (ℓ : Loc Cert.KConv.nD Cert.KConv.τ Cert.KConv.sig) → Buf (Elt Bits) ℓ) : Prop :=
  True

def Pre_KConvIdeal (m : (ℓ : Loc Cert.KConvIdeal.nD Cert.KConvIdeal.τ Cert.KConvIdeal.sig) → Buf (Elt Ideal) ℓ) : Prop :=
  True

def Pre_RConvIdeal (m : (ℓ : Loc Cert.RConvIdeal.nD Cert.RConvIdeal.τ Cert.RConvIdeal.sig) → Buf (Elt Ideal) ℓ) : Prop :=
  True

def Pre_KRms (m : (ℓ : Loc Cert.KRms.nD Cert.KRms.τ Cert.KRms.sig) → Buf (Elt Bits) ℓ) : Prop :=
  True

def Pre_KRmsIdeal (m : (ℓ : Loc Cert.KRmsIdeal.nD Cert.KRmsIdeal.τ Cert.KRmsIdeal.sig) → Buf (Elt Ideal) ℓ) : Prop :=
  True

def Pre_RRmsIdeal (m : (ℓ : Loc Cert.RRmsIdeal.nD Cert.RRmsIdeal.τ Cert.RRmsIdeal.sig) → Buf (Elt Ideal) ℓ) : Prop :=
  True

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KPair (m : (ℓ : Loc Cert.KPair.nD Cert.KPair.τ Cert.KPair.sig) → Buf (Elt Bits) ℓ) : Prop :=
  True

def Pre_KPairIdeal (m : (ℓ : Loc Cert.KPairIdeal.nD Cert.KPairIdeal.τ Cert.KPairIdeal.sig) → Buf (Elt Ideal) ℓ) : Prop :=
  True

def Pre_RPairIdeal (m : (ℓ : Loc Cert.RPairIdeal.nD Cert.RPairIdeal.τ Cert.RPairIdeal.sig) → Buf (Elt Ideal) ℓ) : Prop :=
  True

def Pre_KAdFf2 (m : (ℓ : Loc Cert.KAdFf2.nD Cert.KAdFf2.τ Cert.KAdFf2.sig) → Buf (Elt Bits) ℓ) : Prop :=
  True

def Pre_KAdFf2Ideal (m : (ℓ : Loc Cert.KAdFf2Ideal.nD Cert.KAdFf2Ideal.τ Cert.KAdFf2Ideal.sig) → Buf (Elt Ideal) ℓ) : Prop :=
  True

def Pre_RAdFf2Ideal (m : (ℓ : Loc Cert.RAdFf2Ideal.nD Cert.RAdFf2Ideal.τ Cert.RAdFf2Ideal.sig) → Buf (Elt Ideal) ℓ) : Prop :=
  True

def Pre_KAdFf1 (m : (ℓ : Loc Cert.KAdFf1.nD Cert.KAdFf1.τ Cert.KAdFf1.sig) → Buf (Elt Bits) ℓ) : Prop :=
  True

def Pre_KAdFf1Ideal (m : (ℓ : Loc Cert.KAdFf1Ideal.nD Cert.KAdFf1Ideal.τ Cert.KAdFf1Ideal.sig) → Buf (Elt Ideal) ℓ) : Prop :=
  True

def Pre_RAdFf1Ideal (m : (ℓ : Loc Cert.RAdFf1Ideal.nD Cert.RAdFf1Ideal.τ Cert.RAdFf1Ideal.sig) → Buf (Elt Ideal) ℓ) : Prop :=
  True

def Pre_KAdOut (m : (ℓ : Loc Cert.KAdOut.nD Cert.KAdOut.τ Cert.KAdOut.sig) → Buf (Elt Bits) ℓ) : Prop :=
  True

def Pre_KAdOutIdeal (m : (ℓ : Loc Cert.KAdOutIdeal.nD Cert.KAdOutIdeal.τ Cert.KAdOutIdeal.sig) → Buf (Elt Ideal) ℓ) : Prop :=
  True

def Pre_RAdOutIdeal (m : (ℓ : Loc Cert.RAdOutIdeal.nD Cert.RAdOutIdeal.τ Cert.RAdOutIdeal.sig) → Buf (Elt Ideal) ℓ) : Prop :=
  True

def Pre_KAdIn (m : (ℓ : Loc Cert.KAdIn.nD Cert.KAdIn.τ Cert.KAdIn.sig) → Buf (Elt Bits) ℓ) : Prop :=
  True

def Pre_KAdInIdeal (m : (ℓ : Loc Cert.KAdInIdeal.nD Cert.KAdInIdeal.τ Cert.KAdInIdeal.sig) → Buf (Elt Ideal) ℓ) : Prop :=
  True

def Pre_RAdInIdeal (m : (ℓ : Loc Cert.RAdInIdeal.nD Cert.RAdInIdeal.τ Cert.RAdInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KDwFf2 [hKDwFf2 : Cert.KDwFf2.Facts] : Prop :=
  ∀ (m : (ℓ : Loc Cert.KDwFf2.nD Cert.KDwFf2.τ Cert.KDwFf2.sig) → Buf (Elt Bits) ℓ) (g : Dev Cert.KDwFf2.nD → PrngReg), Pre_KDwFf2 m →
    θ_run (Cert.KDwFf2.defs (F := Bits)) (onTc (τ := Cert.KDwFf2.τ) (Cert.KDwFf2.main (F := Bits))) ⟨m, fun _ => 0, g⟩ (fun r => (∀ c : Dev Cert.KDwFf2.nD,
      r.2.mem ((c.tc : Thread Cert.KDwFf2.nD Cert.KDwFf2.τ).loc Cert.KDwFf2.main_arg0) = m ((c.tc : Thread Cert.KDwFf2.nD Cert.KDwFf2.τ).loc Cert.KDwFf2.main_arg0)
      ∧ r.2.mem ((c.tc : Thread Cert.KDwFf2.nD Cert.KDwFf2.τ).loc Cert.KDwFf2.main_arg1) = m ((c.tc : Thread Cert.KDwFf2.nD Cert.KDwFf2.τ).loc Cert.KDwFf2.main_arg1)
      ∧ r.2.mem ((c.tc : Thread Cert.KDwFf2.nD Cert.KDwFf2.τ).loc Cert.KDwFf2.main_arg2) = m ((c.tc : Thread Cert.KDwFf2.nD Cert.KDwFf2.τ).loc Cert.KDwFf2.main_arg2))
      ∧ r.2.sem = fun _ => 0)

def quiescent_KDwFf2Ideal [hKDwFf2Ideal : Cert.KDwFf2Ideal.Facts] : Prop :=
  ∀ (m : (ℓ : Loc Cert.KDwFf2Ideal.nD Cert.KDwFf2Ideal.τ Cert.KDwFf2Ideal.sig) → Buf (Elt Ideal) ℓ) (g : Dev Cert.KDwFf2Ideal.nD → PrngReg), Pre_KDwFf2Ideal m →
    θ_run (Cert.KDwFf2Ideal.defs (F := Ideal)) (onTc (τ := Cert.KDwFf2Ideal.τ) (Cert.KDwFf2Ideal.main (F := Ideal))) ⟨m, fun _ => 0, g⟩ (fun r => (∀ c : Dev Cert.KDwFf2Ideal.nD,
      r.2.mem ((c.tc : Thread Cert.KDwFf2Ideal.nD Cert.KDwFf2Ideal.τ).loc Cert.KDwFf2Ideal.main_arg0) = m ((c.tc : Thread Cert.KDwFf2Ideal.nD Cert.KDwFf2Ideal.τ).loc Cert.KDwFf2Ideal.main_arg0)
      ∧ r.2.mem ((c.tc : Thread Cert.KDwFf2Ideal.nD Cert.KDwFf2Ideal.τ).loc Cert.KDwFf2Ideal.main_arg1) = m ((c.tc : Thread Cert.KDwFf2Ideal.nD Cert.KDwFf2Ideal.τ).loc Cert.KDwFf2Ideal.main_arg1)
      ∧ r.2.mem ((c.tc : Thread Cert.KDwFf2Ideal.nD Cert.KDwFf2Ideal.τ).loc Cert.KDwFf2Ideal.main_arg2) = m ((c.tc : Thread Cert.KDwFf2Ideal.nD Cert.KDwFf2Ideal.τ).loc Cert.KDwFf2Ideal.main_arg2))
      ∧ r.2.sem = fun _ => 0)

def quiescent_RDwFf2Ideal [hRDwFf2Ideal : Cert.RDwFf2Ideal.Facts] : Prop :=
  ∀ (m : (ℓ : Loc Cert.RDwFf2Ideal.nD Cert.RDwFf2Ideal.τ Cert.RDwFf2Ideal.sig) → Buf (Elt Ideal) ℓ) (g : Dev Cert.RDwFf2Ideal.nD → PrngReg), Pre_RDwFf2Ideal m →
    θ_run (Cert.RDwFf2Ideal.defs (F := Ideal)) (onTc (τ := Cert.RDwFf2Ideal.τ) (Cert.RDwFf2Ideal.main (F := Ideal))) ⟨m, fun _ => 0, g⟩ (fun r => (∀ c : Dev Cert.RDwFf2Ideal.nD,
      r.2.mem ((c.tc : Thread Cert.RDwFf2Ideal.nD Cert.RDwFf2Ideal.τ).loc Cert.RDwFf2Ideal.main_arg0) = m ((c.tc : Thread Cert.RDwFf2Ideal.nD Cert.RDwFf2Ideal.τ).loc Cert.RDwFf2Ideal.main_arg0)
      ∧ r.2.mem ((c.tc : Thread Cert.RDwFf2Ideal.nD Cert.RDwFf2Ideal.τ).loc Cert.RDwFf2Ideal.main_arg1) = m ((c.tc : Thread Cert.RDwFf2Ideal.nD Cert.RDwFf2Ideal.τ).loc Cert.RDwFf2Ideal.main_arg1)
      ∧ r.2.mem ((c.tc : Thread Cert.RDwFf2Ideal.nD Cert.RDwFf2Ideal.τ).loc Cert.RDwFf2Ideal.main_arg2) = m ((c.tc : Thread Cert.RDwFf2Ideal.nD Cert.RDwFf2Ideal.τ).loc Cert.RDwFf2Ideal.main_arg2))
      ∧ r.2.sem = fun _ => 0)

def quiescent_KDn2 [hKDn2 : Cert.KDn2.Facts] : Prop :=
  ∀ (m : (ℓ : Loc Cert.KDn2.nD Cert.KDn2.τ Cert.KDn2.sig) → Buf (Elt Bits) ℓ) (g : Dev Cert.KDn2.nD → PrngReg), Pre_KDn2 m →
    θ_run (Cert.KDn2.defs (F := Bits)) (onTc (τ := Cert.KDn2.τ) (Cert.KDn2.main (F := Bits))) ⟨m, fun _ => 0, g⟩ (fun r => (∀ c : Dev Cert.KDn2.nD,
      r.2.mem ((c.tc : Thread Cert.KDn2.nD Cert.KDn2.τ).loc Cert.KDn2.main_arg0) = m ((c.tc : Thread Cert.KDn2.nD Cert.KDn2.τ).loc Cert.KDn2.main_arg0)
      ∧ r.2.mem ((c.tc : Thread Cert.KDn2.nD Cert.KDn2.τ).loc Cert.KDn2.main_arg1) = m ((c.tc : Thread Cert.KDn2.nD Cert.KDn2.τ).loc Cert.KDn2.main_arg1)
      ∧ r.2.mem ((c.tc : Thread Cert.KDn2.nD Cert.KDn2.τ).loc Cert.KDn2.main_arg2) = m ((c.tc : Thread Cert.KDn2.nD Cert.KDn2.τ).loc Cert.KDn2.main_arg2))
      ∧ r.2.sem = fun _ => 0)

def quiescent_KDn2Ideal [hKDn2Ideal : Cert.KDn2Ideal.Facts] : Prop :=
  ∀ (m : (ℓ : Loc Cert.KDn2Ideal.nD Cert.KDn2Ideal.τ Cert.KDn2Ideal.sig) → Buf (Elt Ideal) ℓ) (g : Dev Cert.KDn2Ideal.nD → PrngReg), Pre_KDn2Ideal m →
    θ_run (Cert.KDn2Ideal.defs (F := Ideal)) (onTc (τ := Cert.KDn2Ideal.τ) (Cert.KDn2Ideal.main (F := Ideal))) ⟨m, fun _ => 0, g⟩ (fun r => (∀ c : Dev Cert.KDn2Ideal.nD,
      r.2.mem ((c.tc : Thread Cert.KDn2Ideal.nD Cert.KDn2Ideal.τ).loc Cert.KDn2Ideal.main_arg0) = m ((c.tc : Thread Cert.KDn2Ideal.nD Cert.KDn2Ideal.τ).loc Cert.KDn2Ideal.main_arg0)
      ∧ r.2.mem ((c.tc : Thread Cert.KDn2Ideal.nD Cert.KDn2Ideal.τ).loc Cert.KDn2Ideal.main_arg1) = m ((c.tc : Thread Cert.KDn2Ideal.nD Cert.KDn2Ideal.τ).loc Cert.KDn2Ideal.main_arg1)
      ∧ r.2.mem ((c.tc : Thread Cert.KDn2Ideal.nD Cert.KDn2Ideal.τ).loc Cert.KDn2Ideal.main_arg2) = m ((c.tc : Thread Cert.KDn2Ideal.nD Cert.KDn2Ideal.τ).loc Cert.KDn2Ideal.main_arg2))
      ∧ r.2.sem = fun _ => 0)

def quiescent_RDn2Ideal [hRDn2Ideal : Cert.RDn2Ideal.Facts] : Prop :=
  ∀ (m : (ℓ : Loc Cert.RDn2Ideal.nD Cert.RDn2Ideal.τ Cert.RDn2Ideal.sig) → Buf (Elt Ideal) ℓ) (g : Dev Cert.RDn2Ideal.nD → PrngReg), Pre_RDn2Ideal m →
    θ_run (Cert.RDn2Ideal.defs (F := Ideal)) (onTc (τ := Cert.RDn2Ideal.τ) (Cert.RDn2Ideal.main (F := Ideal))) ⟨m, fun _ => 0, g⟩ (fun r => (∀ c : Dev Cert.RDn2Ideal.nD,
      r.2.mem ((c.tc : Thread Cert.RDn2Ideal.nD Cert.RDn2Ideal.τ).loc Cert.RDn2Ideal.main_arg0) = m ((c.tc : Thread Cert.RDn2Ideal.nD Cert.RDn2Ideal.τ).loc Cert.RDn2Ideal.main_arg0)
      ∧ r.2.mem ((c.tc : Thread Cert.RDn2Ideal.nD Cert.RDn2Ideal.τ).loc Cert.RDn2Ideal.main_arg1) = m ((c.tc : Thread Cert.RDn2Ideal.nD Cert.RDn2Ideal.τ).loc Cert.RDn2Ideal.main_arg1)
      ∧ r.2.mem ((c.tc : Thread Cert.RDn2Ideal.nD Cert.RDn2Ideal.τ).loc Cert.RDn2Ideal.main_arg2) = m ((c.tc : Thread Cert.RDn2Ideal.nD Cert.RDn2Ideal.τ).loc Cert.RDn2Ideal.main_arg2))
      ∧ r.2.sem = fun _ => 0)

def quiescent_KDwFf1 [hKDwFf1 : Cert.KDwFf1.Facts] : Prop :=
  ∀ (m : (ℓ : Loc Cert.KDwFf1.nD Cert.KDwFf1.τ Cert.KDwFf1.sig) → Buf (Elt Bits) ℓ) (g : Dev Cert.KDwFf1.nD → PrngReg), Pre_KDwFf1 m →
    θ_run (Cert.KDwFf1.defs (F := Bits)) (onTc (τ := Cert.KDwFf1.τ) (Cert.KDwFf1.main (F := Bits))) ⟨m, fun _ => 0, g⟩ (fun r => (∀ c : Dev Cert.KDwFf1.nD,
      r.2.mem ((c.tc : Thread Cert.KDwFf1.nD Cert.KDwFf1.τ).loc Cert.KDwFf1.main_arg0) = m ((c.tc : Thread Cert.KDwFf1.nD Cert.KDwFf1.τ).loc Cert.KDwFf1.main_arg0)
      ∧ r.2.mem ((c.tc : Thread Cert.KDwFf1.nD Cert.KDwFf1.τ).loc Cert.KDwFf1.main_arg1) = m ((c.tc : Thread Cert.KDwFf1.nD Cert.KDwFf1.τ).loc Cert.KDwFf1.main_arg1)
      ∧ r.2.mem ((c.tc : Thread Cert.KDwFf1.nD Cert.KDwFf1.τ).loc Cert.KDwFf1.main_arg2) = m ((c.tc : Thread Cert.KDwFf1.nD Cert.KDwFf1.τ).loc Cert.KDwFf1.main_arg2))
      ∧ r.2.sem = fun _ => 0)

def quiescent_KDwFf1Ideal [hKDwFf1Ideal : Cert.KDwFf1Ideal.Facts] : Prop :=
  ∀ (m : (ℓ : Loc Cert.KDwFf1Ideal.nD Cert.KDwFf1Ideal.τ Cert.KDwFf1Ideal.sig) → Buf (Elt Ideal) ℓ) (g : Dev Cert.KDwFf1Ideal.nD → PrngReg), Pre_KDwFf1Ideal m →
    θ_run (Cert.KDwFf1Ideal.defs (F := Ideal)) (onTc (τ := Cert.KDwFf1Ideal.τ) (Cert.KDwFf1Ideal.main (F := Ideal))) ⟨m, fun _ => 0, g⟩ (fun r => (∀ c : Dev Cert.KDwFf1Ideal.nD,
      r.2.mem ((c.tc : Thread Cert.KDwFf1Ideal.nD Cert.KDwFf1Ideal.τ).loc Cert.KDwFf1Ideal.main_arg0) = m ((c.tc : Thread Cert.KDwFf1Ideal.nD Cert.KDwFf1Ideal.τ).loc Cert.KDwFf1Ideal.main_arg0)
      ∧ r.2.mem ((c.tc : Thread Cert.KDwFf1Ideal.nD Cert.KDwFf1Ideal.τ).loc Cert.KDwFf1Ideal.main_arg1) = m ((c.tc : Thread Cert.KDwFf1Ideal.nD Cert.KDwFf1Ideal.τ).loc Cert.KDwFf1Ideal.main_arg1)
      ∧ r.2.mem ((c.tc : Thread Cert.KDwFf1Ideal.nD Cert.KDwFf1Ideal.τ).loc Cert.KDwFf1Ideal.main_arg2) = m ((c.tc : Thread Cert.KDwFf1Ideal.nD Cert.KDwFf1Ideal.τ).loc Cert.KDwFf1Ideal.main_arg2))
      ∧ r.2.sem = fun _ => 0)

def quiescent_RDwFf1Ideal [hRDwFf1Ideal : Cert.RDwFf1Ideal.Facts] : Prop :=
  ∀ (m : (ℓ : Loc Cert.RDwFf1Ideal.nD Cert.RDwFf1Ideal.τ Cert.RDwFf1Ideal.sig) → Buf (Elt Ideal) ℓ) (g : Dev Cert.RDwFf1Ideal.nD → PrngReg), Pre_RDwFf1Ideal m →
    θ_run (Cert.RDwFf1Ideal.defs (F := Ideal)) (onTc (τ := Cert.RDwFf1Ideal.τ) (Cert.RDwFf1Ideal.main (F := Ideal))) ⟨m, fun _ => 0, g⟩ (fun r => (∀ c : Dev Cert.RDwFf1Ideal.nD,
      r.2.mem ((c.tc : Thread Cert.RDwFf1Ideal.nD Cert.RDwFf1Ideal.τ).loc Cert.RDwFf1Ideal.main_arg0) = m ((c.tc : Thread Cert.RDwFf1Ideal.nD Cert.RDwFf1Ideal.τ).loc Cert.RDwFf1Ideal.main_arg0)
      ∧ r.2.mem ((c.tc : Thread Cert.RDwFf1Ideal.nD Cert.RDwFf1Ideal.τ).loc Cert.RDwFf1Ideal.main_arg1) = m ((c.tc : Thread Cert.RDwFf1Ideal.nD Cert.RDwFf1Ideal.τ).loc Cert.RDwFf1Ideal.main_arg1)
      ∧ r.2.mem ((c.tc : Thread Cert.RDwFf1Ideal.nD Cert.RDwFf1Ideal.τ).loc Cert.RDwFf1Ideal.main_arg2) = m ((c.tc : Thread Cert.RDwFf1Ideal.nD Cert.RDwFf1Ideal.τ).loc Cert.RDwFf1Ideal.main_arg2))
      ∧ r.2.sem = fun _ => 0)

def quiescent_KFf1 [hKFf1 : Cert.KFf1.Facts] : Prop :=
  ∀ (m : (ℓ : Loc Cert.KFf1.nD Cert.KFf1.τ Cert.KFf1.sig) → Buf (Elt Bits) ℓ) (g : Dev Cert.KFf1.nD → PrngReg), Pre_KFf1 m →
    θ_run (Cert.KFf1.defs (F := Bits)) (onTc (τ := Cert.KFf1.τ) (Cert.KFf1.main (F := Bits))) ⟨m, fun _ => 0, g⟩ (fun r => (∀ c : Dev Cert.KFf1.nD,
      r.2.mem ((c.tc : Thread Cert.KFf1.nD Cert.KFf1.τ).loc Cert.KFf1.main_arg0) = m ((c.tc : Thread Cert.KFf1.nD Cert.KFf1.τ).loc Cert.KFf1.main_arg0)
      ∧ r.2.mem ((c.tc : Thread Cert.KFf1.nD Cert.KFf1.τ).loc Cert.KFf1.main_arg1) = m ((c.tc : Thread Cert.KFf1.nD Cert.KFf1.τ).loc Cert.KFf1.main_arg1))
      ∧ r.2.sem = fun _ => 0)

def quiescent_KFf1Ideal [hKFf1Ideal : Cert.KFf1Ideal.Facts] : Prop :=
  ∀ (m : (ℓ : Loc Cert.KFf1Ideal.nD Cert.KFf1Ideal.τ Cert.KFf1Ideal.sig) → Buf (Elt Ideal) ℓ) (g : Dev Cert.KFf1Ideal.nD → PrngReg), Pre_KFf1Ideal m →
    θ_run (Cert.KFf1Ideal.defs (F := Ideal)) (onTc (τ := Cert.KFf1Ideal.τ) (Cert.KFf1Ideal.main (F := Ideal))) ⟨m, fun _ => 0, g⟩ (fun r => (∀ c : Dev Cert.KFf1Ideal.nD,
      r.2.mem ((c.tc : Thread Cert.KFf1Ideal.nD Cert.KFf1Ideal.τ).loc Cert.KFf1Ideal.main_arg0) = m ((c.tc : Thread Cert.KFf1Ideal.nD Cert.KFf1Ideal.τ).loc Cert.KFf1Ideal.main_arg0)
      ∧ r.2.mem ((c.tc : Thread Cert.KFf1Ideal.nD Cert.KFf1Ideal.τ).loc Cert.KFf1Ideal.main_arg1) = m ((c.tc : Thread Cert.KFf1Ideal.nD Cert.KFf1Ideal.τ).loc Cert.KFf1Ideal.main_arg1))
      ∧ r.2.sem = fun _ => 0)

def quiescent_RFf1Ideal [hRFf1Ideal : Cert.RFf1Ideal.Facts] : Prop :=
  ∀ (m : (ℓ : Loc Cert.RFf1Ideal.nD Cert.RFf1Ideal.τ Cert.RFf1Ideal.sig) → Buf (Elt Ideal) ℓ) (g : Dev Cert.RFf1Ideal.nD → PrngReg), Pre_RFf1Ideal m →
    θ_run (Cert.RFf1Ideal.defs (F := Ideal)) (onTc (τ := Cert.RFf1Ideal.τ) (Cert.RFf1Ideal.main (F := Ideal))) ⟨m, fun _ => 0, g⟩ (fun r => (∀ c : Dev Cert.RFf1Ideal.nD,
      r.2.mem ((c.tc : Thread Cert.RFf1Ideal.nD Cert.RFf1Ideal.τ).loc Cert.RFf1Ideal.main_arg0) = m ((c.tc : Thread Cert.RFf1Ideal.nD Cert.RFf1Ideal.τ).loc Cert.RFf1Ideal.main_arg0)
      ∧ r.2.mem ((c.tc : Thread Cert.RFf1Ideal.nD Cert.RFf1Ideal.τ).loc Cert.RFf1Ideal.main_arg1) = m ((c.tc : Thread Cert.RFf1Ideal.nD Cert.RFf1Ideal.τ).loc Cert.RFf1Ideal.main_arg1))
      ∧ r.2.sem = fun _ => 0)

def quiescent_KDMix [hKDMix : Cert.KDMix.Facts] : Prop :=
  ∀ (m : (ℓ : Loc Cert.KDMix.nD Cert.KDMix.τ Cert.KDMix.sig) → Buf (Elt Bits) ℓ) (g : Dev Cert.KDMix.nD → PrngReg), Pre_KDMix m →
    θ_run (Cert.KDMix.defs (F := Bits)) (onTc (τ := Cert.KDMix.τ) (Cert.KDMix.main (F := Bits))) ⟨m, fun _ => 0, g⟩ (fun r => (∀ c : Dev Cert.KDMix.nD,
      r.2.mem ((c.tc : Thread Cert.KDMix.nD Cert.KDMix.τ).loc Cert.KDMix.main_arg0) = m ((c.tc : Thread Cert.KDMix.nD Cert.KDMix.τ).loc Cert.KDMix.main_arg0)
      ∧ r.2.mem ((c.tc : Thread Cert.KDMix.nD Cert.KDMix.τ).loc Cert.KDMix.main_arg1) = m ((c.tc : Thread Cert.KDMix.nD Cert.KDMix.τ).loc Cert.KDMix.main_arg1)
      ∧ r.2.mem ((c.tc : Thread Cert.KDMix.nD Cert.KDMix.τ).loc Cert.KDMix.main_arg2) = m ((c.tc : Thread Cert.KDMix.nD Cert.KDMix.τ).loc Cert.KDMix.main_arg2))
      ∧ r.2.sem = fun _ => 0)

def quiescent_KDMixIdeal [hKDMixIdeal : Cert.KDMixIdeal.Facts] : Prop :=
  ∀ (m : (ℓ : Loc Cert.KDMixIdeal.nD Cert.KDMixIdeal.τ Cert.KDMixIdeal.sig) → Buf (Elt Ideal) ℓ) (g : Dev Cert.KDMixIdeal.nD → PrngReg), Pre_KDMixIdeal m →
    θ_run (Cert.KDMixIdeal.defs (F := Ideal)) (onTc (τ := Cert.KDMixIdeal.τ) (Cert.KDMixIdeal.main (F := Ideal))) ⟨m, fun _ => 0, g⟩ (fun r => (∀ c : Dev Cert.KDMixIdeal.nD,
      r.2.mem ((c.tc : Thread Cert.KDMixIdeal.nD Cert.KDMixIdeal.τ).loc Cert.KDMixIdeal.main_arg0) = m ((c.tc : Thread Cert.KDMixIdeal.nD Cert.KDMixIdeal.τ).loc Cert.KDMixIdeal.main_arg0)
      ∧ r.2.mem ((c.tc : Thread Cert.KDMixIdeal.nD Cert.KDMixIdeal.τ).loc Cert.KDMixIdeal.main_arg1) = m ((c.tc : Thread Cert.KDMixIdeal.nD Cert.KDMixIdeal.τ).loc Cert.KDMixIdeal.main_arg1)
      ∧ r.2.mem ((c.tc : Thread Cert.KDMixIdeal.nD Cert.KDMixIdeal.τ).loc Cert.KDMixIdeal.main_arg2) = m ((c.tc : Thread Cert.KDMixIdeal.nD Cert.KDMixIdeal.τ).loc Cert.KDMixIdeal.main_arg2))
      ∧ r.2.sem = fun _ => 0)

def quiescent_RDMixIdeal [hRDMixIdeal : Cert.RDMixIdeal.Facts] : Prop :=
  ∀ (m : (ℓ : Loc Cert.RDMixIdeal.nD Cert.RDMixIdeal.τ Cert.RDMixIdeal.sig) → Buf (Elt Ideal) ℓ) (g : Dev Cert.RDMixIdeal.nD → PrngReg), Pre_RDMixIdeal m →
    θ_run (Cert.RDMixIdeal.defs (F := Ideal)) (onTc (τ := Cert.RDMixIdeal.τ) (Cert.RDMixIdeal.main (F := Ideal))) ⟨m, fun _ => 0, g⟩ (fun r => (∀ c : Dev Cert.RDMixIdeal.nD,
      r.2.mem ((c.tc : Thread Cert.RDMixIdeal.nD Cert.RDMixIdeal.τ).loc Cert.RDMixIdeal.main_arg0) = m ((c.tc : Thread Cert.RDMixIdeal.nD Cert.RDMixIdeal.τ).loc Cert.RDMixIdeal.main_arg0)
      ∧ r.2.mem ((c.tc : Thread Cert.RDMixIdeal.nD Cert.RDMixIdeal.τ).loc Cert.RDMixIdeal.main_arg1) = m ((c.tc : Thread Cert.RDMixIdeal.nD Cert.RDMixIdeal.τ).loc Cert.RDMixIdeal.main_arg1)
      ∧ r.2.mem ((c.tc : Thread Cert.RDMixIdeal.nD Cert.RDMixIdeal.τ).loc Cert.RDMixIdeal.main_arg2) = m ((c.tc : Thread Cert.RDMixIdeal.nD Cert.RDMixIdeal.τ).loc Cert.RDMixIdeal.main_arg2))
      ∧ r.2.sem = fun _ => 0)

def quiescent_KDwOut [hKDwOut : Cert.KDwOut.Facts] : Prop :=
  ∀ (m : (ℓ : Loc Cert.KDwOut.nD Cert.KDwOut.τ Cert.KDwOut.sig) → Buf (Elt Bits) ℓ) (g : Dev Cert.KDwOut.nD → PrngReg), Pre_KDwOut m →
    θ_run (Cert.KDwOut.defs (F := Bits)) (onTc (τ := Cert.KDwOut.τ) (Cert.KDwOut.main (F := Bits))) ⟨m, fun _ => 0, g⟩ (fun r => (∀ c : Dev Cert.KDwOut.nD,
      r.2.mem ((c.tc : Thread Cert.KDwOut.nD Cert.KDwOut.τ).loc Cert.KDwOut.main_arg0) = m ((c.tc : Thread Cert.KDwOut.nD Cert.KDwOut.τ).loc Cert.KDwOut.main_arg0)
      ∧ r.2.mem ((c.tc : Thread Cert.KDwOut.nD Cert.KDwOut.τ).loc Cert.KDwOut.main_arg1) = m ((c.tc : Thread Cert.KDwOut.nD Cert.KDwOut.τ).loc Cert.KDwOut.main_arg1)
      ∧ r.2.mem ((c.tc : Thread Cert.KDwOut.nD Cert.KDwOut.τ).loc Cert.KDwOut.main_arg2) = m ((c.tc : Thread Cert.KDwOut.nD Cert.KDwOut.τ).loc Cert.KDwOut.main_arg2))
      ∧ r.2.sem = fun _ => 0)

def quiescent_KDwOutIdeal [hKDwOutIdeal : Cert.KDwOutIdeal.Facts] : Prop :=
  ∀ (m : (ℓ : Loc Cert.KDwOutIdeal.nD Cert.KDwOutIdeal.τ Cert.KDwOutIdeal.sig) → Buf (Elt Ideal) ℓ) (g : Dev Cert.KDwOutIdeal.nD → PrngReg), Pre_KDwOutIdeal m →
    θ_run (Cert.KDwOutIdeal.defs (F := Ideal)) (onTc (τ := Cert.KDwOutIdeal.τ) (Cert.KDwOutIdeal.main (F := Ideal))) ⟨m, fun _ => 0, g⟩ (fun r => (∀ c : Dev Cert.KDwOutIdeal.nD,
      r.2.mem ((c.tc : Thread Cert.KDwOutIdeal.nD Cert.KDwOutIdeal.τ).loc Cert.KDwOutIdeal.main_arg0) = m ((c.tc : Thread Cert.KDwOutIdeal.nD Cert.KDwOutIdeal.τ).loc Cert.KDwOutIdeal.main_arg0)
      ∧ r.2.mem ((c.tc : Thread Cert.KDwOutIdeal.nD Cert.KDwOutIdeal.τ).loc Cert.KDwOutIdeal.main_arg1) = m ((c.tc : Thread Cert.KDwOutIdeal.nD Cert.KDwOutIdeal.τ).loc Cert.KDwOutIdeal.main_arg1)
      ∧ r.2.mem ((c.tc : Thread Cert.KDwOutIdeal.nD Cert.KDwOutIdeal.τ).loc Cert.KDwOutIdeal.main_arg2) = m ((c.tc : Thread Cert.KDwOutIdeal.nD Cert.KDwOutIdeal.τ).loc Cert.KDwOutIdeal.main_arg2))
      ∧ r.2.sem = fun _ => 0)

def quiescent_RDwOutIdeal [hRDwOutIdeal : Cert.RDwOutIdeal.Facts] : Prop :=
  ∀ (m : (ℓ : Loc Cert.RDwOutIdeal.nD Cert.RDwOutIdeal.τ Cert.RDwOutIdeal.sig) → Buf (Elt Ideal) ℓ) (g : Dev Cert.RDwOutIdeal.nD → PrngReg), Pre_RDwOutIdeal m →
    θ_run (Cert.RDwOutIdeal.defs (F := Ideal)) (onTc (τ := Cert.RDwOutIdeal.τ) (Cert.RDwOutIdeal.main (F := Ideal))) ⟨m, fun _ => 0, g⟩ (fun r => (∀ c : Dev Cert.RDwOutIdeal.nD,
      r.2.mem ((c.tc : Thread Cert.RDwOutIdeal.nD Cert.RDwOutIdeal.τ).loc Cert.RDwOutIdeal.main_arg0) = m ((c.tc : Thread Cert.RDwOutIdeal.nD Cert.RDwOutIdeal.τ).loc Cert.RDwOutIdeal.main_arg0)
      ∧ r.2.mem ((c.tc : Thread Cert.RDwOutIdeal.nD Cert.RDwOutIdeal.τ).loc Cert.RDwOutIdeal.main_arg1) = m ((c.tc : Thread Cert.RDwOutIdeal.nD Cert.RDwOutIdeal.τ).loc Cert.RDwOutIdeal.main_arg1)
      ∧ r.2.mem ((c.tc : Thread Cert.RDwOutIdeal.nD Cert.RDwOutIdeal.τ).loc Cert.RDwOutIdeal.main_arg2) = m ((c.tc : Thread Cert.RDwOutIdeal.nD Cert.RDwOutIdeal.τ).loc Cert.RDwOutIdeal.main_arg2))
      ∧ r.2.sem = fun _ => 0)

def quiescent_KDwIn [hKDwIn : Cert.KDwIn.Facts] : Prop :=
  ∀ (m : (ℓ : Loc Cert.KDwIn.nD Cert.KDwIn.τ Cert.KDwIn.sig) → Buf (Elt Bits) ℓ) (g : Dev Cert.KDwIn.nD → PrngReg), Pre_KDwIn m →
    θ_run (Cert.KDwIn.defs (F := Bits)) (onTc (τ := Cert.KDwIn.τ) (Cert.KDwIn.main (F := Bits))) ⟨m, fun _ => 0, g⟩ (fun r => (∀ c : Dev Cert.KDwIn.nD,
      r.2.mem ((c.tc : Thread Cert.KDwIn.nD Cert.KDwIn.τ).loc Cert.KDwIn.main_arg0) = m ((c.tc : Thread Cert.KDwIn.nD Cert.KDwIn.τ).loc Cert.KDwIn.main_arg0)
      ∧ r.2.mem ((c.tc : Thread Cert.KDwIn.nD Cert.KDwIn.τ).loc Cert.KDwIn.main_arg1) = m ((c.tc : Thread Cert.KDwIn.nD Cert.KDwIn.τ).loc Cert.KDwIn.main_arg1)
      ∧ r.2.mem ((c.tc : Thread Cert.KDwIn.nD Cert.KDwIn.τ).loc Cert.KDwIn.main_arg2) = m ((c.tc : Thread Cert.KDwIn.nD Cert.KDwIn.τ).loc Cert.KDwIn.main_arg2))
      ∧ r.2.sem = fun _ => 0)

def quiescent_KDwInIdeal [hKDwInIdeal : Cert.KDwInIdeal.Facts] : Prop :=
  ∀ (m : (ℓ : Loc Cert.KDwInIdeal.nD Cert.KDwInIdeal.τ Cert.KDwInIdeal.sig) → Buf (Elt Ideal) ℓ) (g : Dev Cert.KDwInIdeal.nD → PrngReg), Pre_KDwInIdeal m →
    θ_run (Cert.KDwInIdeal.defs (F := Ideal)) (onTc (τ := Cert.KDwInIdeal.τ) (Cert.KDwInIdeal.main (F := Ideal))) ⟨m, fun _ => 0, g⟩ (fun r => (∀ c : Dev Cert.KDwInIdeal.nD,
      r.2.mem ((c.tc : Thread Cert.KDwInIdeal.nD Cert.KDwInIdeal.τ).loc Cert.KDwInIdeal.main_arg0) = m ((c.tc : Thread Cert.KDwInIdeal.nD Cert.KDwInIdeal.τ).loc Cert.KDwInIdeal.main_arg0)
      ∧ r.2.mem ((c.tc : Thread Cert.KDwInIdeal.nD Cert.KDwInIdeal.τ).loc Cert.KDwInIdeal.main_arg1) = m ((c.tc : Thread Cert.KDwInIdeal.nD Cert.KDwInIdeal.τ).loc Cert.KDwInIdeal.main_arg1)
      ∧ r.2.mem ((c.tc : Thread Cert.KDwInIdeal.nD Cert.KDwInIdeal.τ).loc Cert.KDwInIdeal.main_arg2) = m ((c.tc : Thread Cert.KDwInIdeal.nD Cert.KDwInIdeal.τ).loc Cert.KDwInIdeal.main_arg2))
      ∧ r.2.sem = fun _ => 0)

def quiescent_RDwInIdeal [hRDwInIdeal : Cert.RDwInIdeal.Facts] : Prop :=
  ∀ (m : (ℓ : Loc Cert.RDwInIdeal.nD Cert.RDwInIdeal.τ Cert.RDwInIdeal.sig) → Buf (Elt Ideal) ℓ) (g : Dev Cert.RDwInIdeal.nD → PrngReg), Pre_RDwInIdeal m →
    θ_run (Cert.RDwInIdeal.defs (F := Ideal)) (onTc (τ := Cert.RDwInIdeal.τ) (Cert.RDwInIdeal.main (F := Ideal))) ⟨m, fun _ => 0, g⟩ (fun r => (∀ c : Dev Cert.RDwInIdeal.nD,
      r.2.mem ((c.tc : Thread Cert.RDwInIdeal.nD Cert.RDwInIdeal.τ).loc Cert.RDwInIdeal.main_arg0) = m ((c.tc : Thread Cert.RDwInIdeal.nD Cert.RDwInIdeal.τ).loc Cert.RDwInIdeal.main_arg0)
      ∧ r.2.mem ((c.tc : Thread Cert.RDwInIdeal.nD Cert.RDwInIdeal.τ).loc Cert.RDwInIdeal.main_arg1) = m ((c.tc : Thread Cert.RDwInIdeal.nD Cert.RDwInIdeal.τ).loc Cert.RDwInIdeal.main_arg1)
      ∧ r.2.mem ((c.tc : Thread Cert.RDwInIdeal.nD Cert.RDwInIdeal.τ).loc Cert.RDwInIdeal.main_arg2) = m ((c.tc : Thread Cert.RDwInIdeal.nD Cert.RDwInIdeal.τ).loc Cert.RDwInIdeal.main_arg2))
      ∧ r.2.sem = fun _ => 0)

def quiescent_KDn1 [hKDn1 : Cert.KDn1.Facts] : Prop :=
  ∀ (m : (ℓ : Loc Cert.KDn1.nD Cert.KDn1.τ Cert.KDn1.sig) → Buf (Elt Bits) ℓ) (g : Dev Cert.KDn1.nD → PrngReg), Pre_KDn1 m →
    θ_run (Cert.KDn1.defs (F := Bits)) (onTc (τ := Cert.KDn1.τ) (Cert.KDn1.main (F := Bits))) ⟨m, fun _ => 0, g⟩ (fun r => (∀ c : Dev Cert.KDn1.nD,
      r.2.mem ((c.tc : Thread Cert.KDn1.nD Cert.KDn1.τ).loc Cert.KDn1.main_arg0) = m ((c.tc : Thread Cert.KDn1.nD Cert.KDn1.τ).loc Cert.KDn1.main_arg0)
      ∧ r.2.mem ((c.tc : Thread Cert.KDn1.nD Cert.KDn1.τ).loc Cert.KDn1.main_arg1) = m ((c.tc : Thread Cert.KDn1.nD Cert.KDn1.τ).loc Cert.KDn1.main_arg1)
      ∧ r.2.mem ((c.tc : Thread Cert.KDn1.nD Cert.KDn1.τ).loc Cert.KDn1.main_arg2) = m ((c.tc : Thread Cert.KDn1.nD Cert.KDn1.τ).loc Cert.KDn1.main_arg2))
      ∧ r.2.sem = fun _ => 0)

def quiescent_KDn1Ideal [hKDn1Ideal : Cert.KDn1Ideal.Facts] : Prop :=
  ∀ (m : (ℓ : Loc Cert.KDn1Ideal.nD Cert.KDn1Ideal.τ Cert.KDn1Ideal.sig) → Buf (Elt Ideal) ℓ) (g : Dev Cert.KDn1Ideal.nD → PrngReg), Pre_KDn1Ideal m →
    θ_run (Cert.KDn1Ideal.defs (F := Ideal)) (onTc (τ := Cert.KDn1Ideal.τ) (Cert.KDn1Ideal.main (F := Ideal))) ⟨m, fun _ => 0, g⟩ (fun r => (∀ c : Dev Cert.KDn1Ideal.nD,
      r.2.mem ((c.tc : Thread Cert.KDn1Ideal.nD Cert.KDn1Ideal.τ).loc Cert.KDn1Ideal.main_arg0) = m ((c.tc : Thread Cert.KDn1Ideal.nD Cert.KDn1Ideal.τ).loc Cert.KDn1Ideal.main_arg0)
      ∧ r.2.mem ((c.tc : Thread Cert.KDn1Ideal.nD Cert.KDn1Ideal.τ).loc Cert.KDn1Ideal.main_arg1) = m ((c.tc : Thread Cert.KDn1Ideal.nD Cert.KDn1Ideal.τ).loc Cert.KDn1Ideal.main_arg1)
      ∧ r.2.mem ((c.tc : Thread Cert.KDn1Ideal.nD Cert.KDn1Ideal.τ).loc Cert.KDn1Ideal.main_arg2) = m ((c.tc : Thread Cert.KDn1Ideal.nD Cert.KDn1Ideal.τ).loc Cert.KDn1Ideal.main_arg2))
      ∧ r.2.sem = fun _ => 0)

def quiescent_RDn1Ideal [hRDn1Ideal : Cert.RDn1Ideal.Facts] : Prop :=
  ∀ (m : (ℓ : Loc Cert.RDn1Ideal.nD Cert.RDn1Ideal.τ Cert.RDn1Ideal.sig) → Buf (Elt Ideal) ℓ) (g : Dev Cert.RDn1Ideal.nD → PrngReg), Pre_RDn1Ideal m →
    θ_run (Cert.RDn1Ideal.defs (F := Ideal)) (onTc (τ := Cert.RDn1Ideal.τ) (Cert.RDn1Ideal.main (F := Ideal))) ⟨m, fun _ => 0, g⟩ (fun r => (∀ c : Dev Cert.RDn1Ideal.nD,
      r.2.mem ((c.tc : Thread Cert.RDn1Ideal.nD Cert.RDn1Ideal.τ).loc Cert.RDn1Ideal.main_arg0) = m ((c.tc : Thread Cert.RDn1Ideal.nD Cert.RDn1Ideal.τ).loc Cert.RDn1Ideal.main_arg0)
      ∧ r.2.mem ((c.tc : Thread Cert.RDn1Ideal.nD Cert.RDn1Ideal.τ).loc Cert.RDn1Ideal.main_arg1) = m ((c.tc : Thread Cert.RDn1Ideal.nD Cert.RDn1Ideal.τ).loc Cert.RDn1Ideal.main_arg1)
      ∧ r.2.mem ((c.tc : Thread Cert.RDn1Ideal.nD Cert.RDn1Ideal.τ).loc Cert.RDn1Ideal.main_arg2) = m ((c.tc : Thread Cert.RDn1Ideal.nD Cert.RDn1Ideal.τ).loc Cert.RDn1Ideal.main_arg2))
      ∧ r.2.sem = fun _ => 0)

def quiescent_KRmsBwd [hKRmsBwd : Cert.KRmsBwd.Facts] : Prop :=
  ∀ (m : (ℓ : Loc Cert.KRmsBwd.nD Cert.KRmsBwd.τ Cert.KRmsBwd.sig) → Buf (Elt Bits) ℓ) (g : Dev Cert.KRmsBwd.nD → PrngReg), Pre_KRmsBwd m →
    θ_run (Cert.KRmsBwd.defs (F := Bits)) (onTc (τ := Cert.KRmsBwd.τ) (Cert.KRmsBwd.main (F := Bits))) ⟨m, fun _ => 0, g⟩ (fun r => (∀ c : Dev Cert.KRmsBwd.nD,
      r.2.mem ((c.tc : Thread Cert.KRmsBwd.nD Cert.KRmsBwd.τ).loc Cert.KRmsBwd.main_arg0) = m ((c.tc : Thread Cert.KRmsBwd.nD Cert.KRmsBwd.τ).loc Cert.KRmsBwd.main_arg0)
      ∧ r.2.mem ((c.tc : Thread Cert.KRmsBwd.nD Cert.KRmsBwd.τ).loc Cert.KRmsBwd.main_arg1) = m ((c.tc : Thread Cert.KRmsBwd.nD Cert.KRmsBwd.τ).loc Cert.KRmsBwd.main_arg1)
      ∧ r.2.mem ((c.tc : Thread Cert.KRmsBwd.nD Cert.KRmsBwd.τ).loc Cert.KRmsBwd.main_arg2) = m ((c.tc : Thread Cert.KRmsBwd.nD Cert.KRmsBwd.τ).loc Cert.KRmsBwd.main_arg2)
      ∧ r.2.mem ((c.tc : Thread Cert.KRmsBwd.nD Cert.KRmsBwd.τ).loc Cert.KRmsBwd.main_arg3) = m ((c.tc : Thread Cert.KRmsBwd.nD Cert.KRmsBwd.τ).loc Cert.KRmsBwd.main_arg3))
      ∧ r.2.sem = fun _ => 0)

def quiescent_KRmsBwdIdeal [hKRmsBwdIdeal : Cert.KRmsBwdIdeal.Facts] : Prop :=
  ∀ (m : (ℓ : Loc Cert.KRmsBwdIdeal.nD Cert.KRmsBwdIdeal.τ Cert.KRmsBwdIdeal.sig) → Buf (Elt Ideal) ℓ) (g : Dev Cert.KRmsBwdIdeal.nD → PrngReg), Pre_KRmsBwdIdeal m →
    θ_run (Cert.KRmsBwdIdeal.defs (F := Ideal)) (onTc (τ := Cert.KRmsBwdIdeal.τ) (Cert.KRmsBwdIdeal.main (F := Ideal))) ⟨m, fun _ => 0, g⟩ (fun r => (∀ c : Dev Cert.KRmsBwdIdeal.nD,
      r.2.mem ((c.tc : Thread Cert.KRmsBwdIdeal.nD Cert.KRmsBwdIdeal.τ).loc Cert.KRmsBwdIdeal.main_arg0) = m ((c.tc : Thread Cert.KRmsBwdIdeal.nD Cert.KRmsBwdIdeal.τ).loc Cert.KRmsBwdIdeal.main_arg0)
      ∧ r.2.mem ((c.tc : Thread Cert.KRmsBwdIdeal.nD Cert.KRmsBwdIdeal.τ).loc Cert.KRmsBwdIdeal.main_arg1) = m ((c.tc : Thread Cert.KRmsBwdIdeal.nD Cert.KRmsBwdIdeal.τ).loc Cert.KRmsBwdIdeal.main_arg1)
      ∧ r.2.mem ((c.tc : Thread Cert.KRmsBwdIdeal.nD Cert.KRmsBwdIdeal.τ).loc Cert.KRmsBwdIdeal.main_arg2) = m ((c.tc : Thread Cert.KRmsBwdIdeal.nD Cert.KRmsBwdIdeal.τ).loc Cert.KRmsBwdIdeal.main_arg2)
      ∧ r.2.mem ((c.tc : Thread Cert.KRmsBwdIdeal.nD Cert.KRmsBwdIdeal.τ).loc Cert.KRmsBwdIdeal.main_arg3) = m ((c.tc : Thread Cert.KRmsBwdIdeal.nD Cert.KRmsBwdIdeal.τ).loc Cert.KRmsBwdIdeal.main_arg3))
      ∧ r.2.sem = fun _ => 0)

def quiescent_RRmsBwdIdeal [hRRmsBwdIdeal : Cert.RRmsBwdIdeal.Facts] : Prop :=
  ∀ (m : (ℓ : Loc Cert.RRmsBwdIdeal.nD Cert.RRmsBwdIdeal.τ Cert.RRmsBwdIdeal.sig) → Buf (Elt Ideal) ℓ) (g : Dev Cert.RRmsBwdIdeal.nD → PrngReg), Pre_RRmsBwdIdeal m →
    θ_run (Cert.RRmsBwdIdeal.defs (F := Ideal)) (onTc (τ := Cert.RRmsBwdIdeal.τ) (Cert.RRmsBwdIdeal.main (F := Ideal))) ⟨m, fun _ => 0, g⟩ (fun r => (∀ c : Dev Cert.RRmsBwdIdeal.nD,
      r.2.mem ((c.tc : Thread Cert.RRmsBwdIdeal.nD Cert.RRmsBwdIdeal.τ).loc Cert.RRmsBwdIdeal.main_arg0) = m ((c.tc : Thread Cert.RRmsBwdIdeal.nD Cert.RRmsBwdIdeal.τ).loc Cert.RRmsBwdIdeal.main_arg0)
      ∧ r.2.mem ((c.tc : Thread Cert.RRmsBwdIdeal.nD Cert.RRmsBwdIdeal.τ).loc Cert.RRmsBwdIdeal.main_arg1) = m ((c.tc : Thread Cert.RRmsBwdIdeal.nD Cert.RRmsBwdIdeal.τ).loc Cert.RRmsBwdIdeal.main_arg1)
      ∧ r.2.mem ((c.tc : Thread Cert.RRmsBwdIdeal.nD Cert.RRmsBwdIdeal.τ).loc Cert.RRmsBwdIdeal.main_arg2) = m ((c.tc : Thread Cert.RRmsBwdIdeal.nD Cert.RRmsBwdIdeal.τ).loc Cert.RRmsBwdIdeal.main_arg2)
      ∧ r.2.mem ((c.tc : Thread Cert.RRmsBwdIdeal.nD Cert.RRmsBwdIdeal.τ).loc Cert.RRmsBwdIdeal.main_arg3) = m ((c.tc : Thread Cert.RRmsBwdIdeal.nD Cert.RRmsBwdIdeal.τ).loc Cert.RRmsBwdIdeal.main_arg3))
      ∧ r.2.sem = fun _ => 0)

def quiescent_KRmsFfn [hKRmsFfn : Cert.KRmsFfn.Facts] : Prop :=
  ∀ (m : (ℓ : Loc Cert.KRmsFfn.nD Cert.KRmsFfn.τ Cert.KRmsFfn.sig) → Buf (Elt Bits) ℓ) (g : Dev Cert.KRmsFfn.nD → PrngReg), Pre_KRmsFfn m →
    θ_run (Cert.KRmsFfn.defs (F := Bits)) (onTc (τ := Cert.KRmsFfn.τ) (Cert.KRmsFfn.main (F := Bits))) ⟨m, fun _ => 0, g⟩ (fun r => (∀ c : Dev Cert.KRmsFfn.nD,
      r.2.mem ((c.tc : Thread Cert.KRmsFfn.nD Cert.KRmsFfn.τ).loc Cert.KRmsFfn.main_arg0) = m ((c.tc : Thread Cert.KRmsFfn.nD Cert.KRmsFfn.τ).loc Cert.KRmsFfn.main_arg0)
      ∧ r.2.mem ((c.tc : Thread Cert.KRmsFfn.nD Cert.KRmsFfn.τ).loc Cert.KRmsFfn.main_arg1) = m ((c.tc : Thread Cert.KRmsFfn.nD Cert.KRmsFfn.τ).loc Cert.KRmsFfn.main_arg1)
      ∧ r.2.mem ((c.tc : Thread Cert.KRmsFfn.nD Cert.KRmsFfn.τ).loc Cert.KRmsFfn.main_arg2) = m ((c.tc : Thread Cert.KRmsFfn.nD Cert.KRmsFfn.τ).loc Cert.KRmsFfn.main_arg2)
      ∧ r.2.mem ((c.tc : Thread Cert.KRmsFfn.nD Cert.KRmsFfn.τ).loc Cert.KRmsFfn.main_arg3) = m ((c.tc : Thread Cert.KRmsFfn.nD Cert.KRmsFfn.τ).loc Cert.KRmsFfn.main_arg3))
      ∧ r.2.sem = fun _ => 0)

def quiescent_KRmsFfnIdeal [hKRmsFfnIdeal : Cert.KRmsFfnIdeal.Facts] : Prop :=
  ∀ (m : (ℓ : Loc Cert.KRmsFfnIdeal.nD Cert.KRmsFfnIdeal.τ Cert.KRmsFfnIdeal.sig) → Buf (Elt Ideal) ℓ) (g : Dev Cert.KRmsFfnIdeal.nD → PrngReg), Pre_KRmsFfnIdeal m →
    θ_run (Cert.KRmsFfnIdeal.defs (F := Ideal)) (onTc (τ := Cert.KRmsFfnIdeal.τ) (Cert.KRmsFfnIdeal.main (F := Ideal))) ⟨m, fun _ => 0, g⟩ (fun r => (∀ c : Dev Cert.KRmsFfnIdeal.nD,
      r.2.mem ((c.tc : Thread Cert.KRmsFfnIdeal.nD Cert.KRmsFfnIdeal.τ).loc Cert.KRmsFfnIdeal.main_arg0) = m ((c.tc : Thread Cert.KRmsFfnIdeal.nD Cert.KRmsFfnIdeal.τ).loc Cert.KRmsFfnIdeal.main_arg0)
      ∧ r.2.mem ((c.tc : Thread Cert.KRmsFfnIdeal.nD Cert.KRmsFfnIdeal.τ).loc Cert.KRmsFfnIdeal.main_arg1) = m ((c.tc : Thread Cert.KRmsFfnIdeal.nD Cert.KRmsFfnIdeal.τ).loc Cert.KRmsFfnIdeal.main_arg1)
      ∧ r.2.mem ((c.tc : Thread Cert.KRmsFfnIdeal.nD Cert.KRmsFfnIdeal.τ).loc Cert.KRmsFfnIdeal.main_arg2) = m ((c.tc : Thread Cert.KRmsFfnIdeal.nD Cert.KRmsFfnIdeal.τ).loc Cert.KRmsFfnIdeal.main_arg2)
      ∧ r.2.mem ((c.tc : Thread Cert.KRmsFfnIdeal.nD Cert.KRmsFfnIdeal.τ).loc Cert.KRmsFfnIdeal.main_arg3) = m ((c.tc : Thread Cert.KRmsFfnIdeal.nD Cert.KRmsFfnIdeal.τ).loc Cert.KRmsFfnIdeal.main_arg3))
      ∧ r.2.sem = fun _ => 0)

def quiescent_RRmsFfnIdeal [hRRmsFfnIdeal : Cert.RRmsFfnIdeal.Facts] : Prop :=
  ∀ (m : (ℓ : Loc Cert.RRmsFfnIdeal.nD Cert.RRmsFfnIdeal.τ Cert.RRmsFfnIdeal.sig) → Buf (Elt Ideal) ℓ) (g : Dev Cert.RRmsFfnIdeal.nD → PrngReg), Pre_RRmsFfnIdeal m →
    θ_run (Cert.RRmsFfnIdeal.defs (F := Ideal)) (onTc (τ := Cert.RRmsFfnIdeal.τ) (Cert.RRmsFfnIdeal.main (F := Ideal))) ⟨m, fun _ => 0, g⟩ (fun r => (∀ c : Dev Cert.RRmsFfnIdeal.nD,
      r.2.mem ((c.tc : Thread Cert.RRmsFfnIdeal.nD Cert.RRmsFfnIdeal.τ).loc Cert.RRmsFfnIdeal.main_arg0) = m ((c.tc : Thread Cert.RRmsFfnIdeal.nD Cert.RRmsFfnIdeal.τ).loc Cert.RRmsFfnIdeal.main_arg0)
      ∧ r.2.mem ((c.tc : Thread Cert.RRmsFfnIdeal.nD Cert.RRmsFfnIdeal.τ).loc Cert.RRmsFfnIdeal.main_arg1) = m ((c.tc : Thread Cert.RRmsFfnIdeal.nD Cert.RRmsFfnIdeal.τ).loc Cert.RRmsFfnIdeal.main_arg1)
      ∧ r.2.mem ((c.tc : Thread Cert.RRmsFfnIdeal.nD Cert.RRmsFfnIdeal.τ).loc Cert.RRmsFfnIdeal.main_arg2) = m ((c.tc : Thread Cert.RRmsFfnIdeal.nD Cert.RRmsFfnIdeal.τ).loc Cert.RRmsFfnIdeal.main_arg2)
      ∧ r.2.mem ((c.tc : Thread Cert.RRmsFfnIdeal.nD Cert.RRmsFfnIdeal.τ).loc Cert.RRmsFfnIdeal.main_arg3) = m ((c.tc : Thread Cert.RRmsFfnIdeal.nD Cert.RRmsFfnIdeal.τ).loc Cert.RRmsFfnIdeal.main_arg3))
      ∧ r.2.sem = fun _ => 0)

def quiescent_KConvBwd [hKConvBwd : Cert.KConvBwd.Facts] : Prop :=
  ∀ (m : (ℓ : Loc Cert.KConvBwd.nD Cert.KConvBwd.τ Cert.KConvBwd.sig) → Buf (Elt Bits) ℓ) (g : Dev Cert.KConvBwd.nD → PrngReg), Pre_KConvBwd m →
    θ_run (Cert.KConvBwd.defs (F := Bits)) (onTc (τ := Cert.KConvBwd.τ) (Cert.KConvBwd.main (F := Bits))) ⟨m, fun _ => 0, g⟩ (fun r => (∀ c : Dev Cert.KConvBwd.nD,
      r.2.mem ((c.tc : Thread Cert.KConvBwd.nD Cert.KConvBwd.τ).loc Cert.KConvBwd.main_arg0) = m ((c.tc : Thread Cert.KConvBwd.nD Cert.KConvBwd.τ).loc Cert.KConvBwd.main_arg0)
      ∧ r.2.mem ((c.tc : Thread Cert.KConvBwd.nD Cert.KConvBwd.τ).loc Cert.KConvBwd.main_arg1) = m ((c.tc : Thread Cert.KConvBwd.nD Cert.KConvBwd.τ).loc Cert.KConvBwd.main_arg1)
      ∧ r.2.mem ((c.tc : Thread Cert.KConvBwd.nD Cert.KConvBwd.τ).loc Cert.KConvBwd.main_arg2) = m ((c.tc : Thread Cert.KConvBwd.nD Cert.KConvBwd.τ).loc Cert.KConvBwd.main_arg2)
      ∧ r.2.mem ((c.tc : Thread Cert.KConvBwd.nD Cert.KConvBwd.τ).loc Cert.KConvBwd.main_arg3) = m ((c.tc : Thread Cert.KConvBwd.nD Cert.KConvBwd.τ).loc Cert.KConvBwd.main_arg3))
      ∧ r.2.sem = fun _ => 0)

def quiescent_KConvBwdIdeal [hKConvBwdIdeal : Cert.KConvBwdIdeal.Facts] : Prop :=
  ∀ (m : (ℓ : Loc Cert.KConvBwdIdeal.nD Cert.KConvBwdIdeal.τ Cert.KConvBwdIdeal.sig) → Buf (Elt Ideal) ℓ) (g : Dev Cert.KConvBwdIdeal.nD → PrngReg), Pre_KConvBwdIdeal m →
    θ_run (Cert.KConvBwdIdeal.defs (F := Ideal)) (onTc (τ := Cert.KConvBwdIdeal.τ) (Cert.KConvBwdIdeal.main (F := Ideal))) ⟨m, fun _ => 0, g⟩ (fun r => (∀ c : Dev Cert.KConvBwdIdeal.nD,
      r.2.mem ((c.tc : Thread Cert.KConvBwdIdeal.nD Cert.KConvBwdIdeal.τ).loc Cert.KConvBwdIdeal.main_arg0) = m ((c.tc : Thread Cert.KConvBwdIdeal.nD Cert.KConvBwdIdeal.τ).loc Cert.KConvBwdIdeal.main_arg0)
      ∧ r.2.mem ((c.tc : Thread Cert.KConvBwdIdeal.nD Cert.KConvBwdIdeal.τ).loc Cert.KConvBwdIdeal.main_arg1) = m ((c.tc : Thread Cert.KConvBwdIdeal.nD Cert.KConvBwdIdeal.τ).loc Cert.KConvBwdIdeal.main_arg1)
      ∧ r.2.mem ((c.tc : Thread Cert.KConvBwdIdeal.nD Cert.KConvBwdIdeal.τ).loc Cert.KConvBwdIdeal.main_arg2) = m ((c.tc : Thread Cert.KConvBwdIdeal.nD Cert.KConvBwdIdeal.τ).loc Cert.KConvBwdIdeal.main_arg2)
      ∧ r.2.mem ((c.tc : Thread Cert.KConvBwdIdeal.nD Cert.KConvBwdIdeal.τ).loc Cert.KConvBwdIdeal.main_arg3) = m ((c.tc : Thread Cert.KConvBwdIdeal.nD Cert.KConvBwdIdeal.τ).loc Cert.KConvBwdIdeal.main_arg3))
      ∧ r.2.sem = fun _ => 0)

def quiescent_KConvBwdIdeal_pre_finite_gradient [hKConvBwdIdeal : Cert.KConvBwdIdeal.Facts] [hPre_finite_gradient : Cert.Pre_finite_gradient.Facts] : Prop :=
  ∀ (m : (ℓ : Loc Cert.KConvBwdIdeal.nD Cert.KConvBwdIdeal.τ Cert.KConvBwdIdeal.sig) → Buf (Elt Ideal) ℓ) (g : Dev Cert.KConvBwdIdeal.nD → PrngReg), Pre_KConvBwdIdeal_finite_gradient m →
    θ_run (Cert.KConvBwdIdeal.defs (F := Ideal)) (onTc (τ := Cert.KConvBwdIdeal.τ) (Cert.KConvBwdIdeal.main (F := Ideal))) ⟨m, fun _ => 0, g⟩ (fun r => (∀ c : Dev Cert.KConvBwdIdeal.nD,
      r.2.mem ((c.tc : Thread Cert.KConvBwdIdeal.nD Cert.KConvBwdIdeal.τ).loc Cert.KConvBwdIdeal.main_arg0) = m ((c.tc : Thread Cert.KConvBwdIdeal.nD Cert.KConvBwdIdeal.τ).loc Cert.KConvBwdIdeal.main_arg0)
      ∧ r.2.mem ((c.tc : Thread Cert.KConvBwdIdeal.nD Cert.KConvBwdIdeal.τ).loc Cert.KConvBwdIdeal.main_arg1) = m ((c.tc : Thread Cert.KConvBwdIdeal.nD Cert.KConvBwdIdeal.τ).loc Cert.KConvBwdIdeal.main_arg1)
      ∧ r.2.mem ((c.tc : Thread Cert.KConvBwdIdeal.nD Cert.KConvBwdIdeal.τ).loc Cert.KConvBwdIdeal.main_arg2) = m ((c.tc : Thread Cert.KConvBwdIdeal.nD Cert.KConvBwdIdeal.τ).loc Cert.KConvBwdIdeal.main_arg2)
      ∧ r.2.mem ((c.tc : Thread Cert.KConvBwdIdeal.nD Cert.KConvBwdIdeal.τ).loc Cert.KConvBwdIdeal.main_arg3) = m ((c.tc : Thread Cert.KConvBwdIdeal.nD Cert.KConvBwdIdeal.τ).loc Cert.KConvBwdIdeal.main_arg3))
      ∧ r.2.sem = fun _ => 0)

def quiescent_RConvBwdIdeal [hRConvBwdIdeal : Cert.RConvBwdIdeal.Facts] : Prop :=
  ∀ (m : (ℓ : Loc Cert.RConvBwdIdeal.nD Cert.RConvBwdIdeal.τ Cert.RConvBwdIdeal.sig) → Buf (Elt Ideal) ℓ) (g : Dev Cert.RConvBwdIdeal.nD → PrngReg), Pre_RConvBwdIdeal m →
    θ_run (Cert.RConvBwdIdeal.defs (F := Ideal)) (onTc (τ := Cert.RConvBwdIdeal.τ) (Cert.RConvBwdIdeal.main (F := Ideal))) ⟨m, fun _ => 0, g⟩ (fun r => (∀ c : Dev Cert.RConvBwdIdeal.nD,
      r.2.mem ((c.tc : Thread Cert.RConvBwdIdeal.nD Cert.RConvBwdIdeal.τ).loc Cert.RConvBwdIdeal.main_arg0) = m ((c.tc : Thread Cert.RConvBwdIdeal.nD Cert.RConvBwdIdeal.τ).loc Cert.RConvBwdIdeal.main_arg0)
      ∧ r.2.mem ((c.tc : Thread Cert.RConvBwdIdeal.nD Cert.RConvBwdIdeal.τ).loc Cert.RConvBwdIdeal.main_arg1) = m ((c.tc : Thread Cert.RConvBwdIdeal.nD Cert.RConvBwdIdeal.τ).loc Cert.RConvBwdIdeal.main_arg1)
      ∧ r.2.mem ((c.tc : Thread Cert.RConvBwdIdeal.nD Cert.RConvBwdIdeal.τ).loc Cert.RConvBwdIdeal.main_arg2) = m ((c.tc : Thread Cert.RConvBwdIdeal.nD Cert.RConvBwdIdeal.τ).loc Cert.RConvBwdIdeal.main_arg2)
      ∧ r.2.mem ((c.tc : Thread Cert.RConvBwdIdeal.nD Cert.RConvBwdIdeal.τ).loc Cert.RConvBwdIdeal.main_arg3) = m ((c.tc : Thread Cert.RConvBwdIdeal.nD Cert.RConvBwdIdeal.τ).loc Cert.RConvBwdIdeal.main_arg3))
      ∧ r.2.sem = fun _ => 0)

def quiescent_RConvBwdIdeal_pre_finite_gradient [hRConvBwdIdeal : Cert.RConvBwdIdeal.Facts] [hPre_finite_gradient : Cert.Pre_finite_gradient.Facts] : Prop :=
  ∀ (m : (ℓ : Loc Cert.RConvBwdIdeal.nD Cert.RConvBwdIdeal.τ Cert.RConvBwdIdeal.sig) → Buf (Elt Ideal) ℓ) (g : Dev Cert.RConvBwdIdeal.nD → PrngReg), Pre_RConvBwdIdeal_finite_gradient m →
    θ_run (Cert.RConvBwdIdeal.defs (F := Ideal)) (onTc (τ := Cert.RConvBwdIdeal.τ) (Cert.RConvBwdIdeal.main (F := Ideal))) ⟨m, fun _ => 0, g⟩ (fun r => (∀ c : Dev Cert.RConvBwdIdeal.nD,
      r.2.mem ((c.tc : Thread Cert.RConvBwdIdeal.nD Cert.RConvBwdIdeal.τ).loc Cert.RConvBwdIdeal.main_arg0) = m ((c.tc : Thread Cert.RConvBwdIdeal.nD Cert.RConvBwdIdeal.τ).loc Cert.RConvBwdIdeal.main_arg0)
      ∧ r.2.mem ((c.tc : Thread Cert.RConvBwdIdeal.nD Cert.RConvBwdIdeal.τ).loc Cert.RConvBwdIdeal.main_arg1) = m ((c.tc : Thread Cert.RConvBwdIdeal.nD Cert.RConvBwdIdeal.τ).loc Cert.RConvBwdIdeal.main_arg1)
      ∧ r.2.mem ((c.tc : Thread Cert.RConvBwdIdeal.nD Cert.RConvBwdIdeal.τ).loc Cert.RConvBwdIdeal.main_arg2) = m ((c.tc : Thread Cert.RConvBwdIdeal.nD Cert.RConvBwdIdeal.τ).loc Cert.RConvBwdIdeal.main_arg2)
      ∧ r.2.mem ((c.tc : Thread Cert.RConvBwdIdeal.nD Cert.RConvBwdIdeal.τ).loc Cert.RConvBwdIdeal.main_arg3) = m ((c.tc : Thread Cert.RConvBwdIdeal.nD Cert.RConvBwdIdeal.τ).loc Cert.RConvBwdIdeal.main_arg3))
      ∧ r.2.sem = fun _ => 0)

def quiescent_KInProj [hKInProj : Cert.KInProj.Facts] : Prop :=
  ∀ (m : (ℓ : Loc Cert.KInProj.nD Cert.KInProj.τ Cert.KInProj.sig) → Buf (Elt Bits) ℓ) (g : Dev Cert.KInProj.nD → PrngReg), Pre_KInProj m →
    θ_run (Cert.KInProj.defs (F := Bits)) (onTc (τ := Cert.KInProj.τ) (Cert.KInProj.main (F := Bits))) ⟨m, fun _ => 0, g⟩ (fun r => (∀ c : Dev Cert.KInProj.nD,
      r.2.mem ((c.tc : Thread Cert.KInProj.nD Cert.KInProj.τ).loc Cert.KInProj.main_arg0) = m ((c.tc : Thread Cert.KInProj.nD Cert.KInProj.τ).loc Cert.KInProj.main_arg0)
      ∧ r.2.mem ((c.tc : Thread Cert.KInProj.nD Cert.KInProj.τ).loc Cert.KInProj.main_arg1) = m ((c.tc : Thread Cert.KInProj.nD Cert.KInProj.τ).loc Cert.KInProj.main_arg1))
      ∧ r.2.sem = fun _ => 0)

def quiescent_KInProjIdeal [hKInProjIdeal : Cert.KInProjIdeal.Facts] : Prop :=
  ∀ (m : (ℓ : Loc Cert.KInProjIdeal.nD Cert.KInProjIdeal.τ Cert.KInProjIdeal.sig) → Buf (Elt Ideal) ℓ) (g : Dev Cert.KInProjIdeal.nD → PrngReg), Pre_KInProjIdeal m →
    θ_run (Cert.KInProjIdeal.defs (F := Ideal)) (onTc (τ := Cert.KInProjIdeal.τ) (Cert.KInProjIdeal.main (F := Ideal))) ⟨m, fun _ => 0, g⟩ (fun r => (∀ c : Dev Cert.KInProjIdeal.nD,
      r.2.mem ((c.tc : Thread Cert.KInProjIdeal.nD Cert.KInProjIdeal.τ).loc Cert.KInProjIdeal.main_arg0) = m ((c.tc : Thread Cert.KInProjIdeal.nD Cert.KInProjIdeal.τ).loc Cert.KInProjIdeal.main_arg0)
      ∧ r.2.mem ((c.tc : Thread Cert.KInProjIdeal.nD Cert.KInProjIdeal.τ).loc Cert.KInProjIdeal.main_arg1) = m ((c.tc : Thread Cert.KInProjIdeal.nD Cert.KInProjIdeal.τ).loc Cert.KInProjIdeal.main_arg1))
      ∧ r.2.sem = fun _ => 0)

def quiescent_RInProjIdeal [hRInProjIdeal : Cert.RInProjIdeal.Facts] : Prop :=
  ∀ (m : (ℓ : Loc Cert.RInProjIdeal.nD Cert.RInProjIdeal.τ Cert.RInProjIdeal.sig) → Buf (Elt Ideal) ℓ) (g : Dev Cert.RInProjIdeal.nD → PrngReg), Pre_RInProjIdeal m →
    θ_run (Cert.RInProjIdeal.defs (F := Ideal)) (onTc (τ := Cert.RInProjIdeal.τ) (Cert.RInProjIdeal.main (F := Ideal))) ⟨m, fun _ => 0, g⟩ (fun r => (∀ c : Dev Cert.RInProjIdeal.nD,
      r.2.mem ((c.tc : Thread Cert.RInProjIdeal.nD Cert.RInProjIdeal.τ).loc Cert.RInProjIdeal.main_arg0) = m ((c.tc : Thread Cert.RInProjIdeal.nD Cert.RInProjIdeal.τ).loc Cert.RInProjIdeal.main_arg0)
      ∧ r.2.mem ((c.tc : Thread Cert.RInProjIdeal.nD Cert.RInProjIdeal.τ).loc Cert.RInProjIdeal.main_arg1) = m ((c.tc : Thread Cert.RInProjIdeal.nD Cert.RInProjIdeal.τ).loc Cert.RInProjIdeal.main_arg1))
      ∧ r.2.sem = fun _ => 0)

def quiescent_KInHigh [hKInHigh : Cert.KInHigh.Facts] : Prop :=
  ∀ (m : (ℓ : Loc Cert.KInHigh.nD Cert.KInHigh.τ Cert.KInHigh.sig) → Buf (Elt Bits) ℓ) (g : Dev Cert.KInHigh.nD → PrngReg), Pre_KInHigh m →
    θ_run (Cert.KInHigh.defs (F := Bits)) (onTc (τ := Cert.KInHigh.τ) (Cert.KInHigh.main (F := Bits))) ⟨m, fun _ => 0, g⟩ (fun r => (∀ c : Dev Cert.KInHigh.nD,
      r.2.mem ((c.tc : Thread Cert.KInHigh.nD Cert.KInHigh.τ).loc Cert.KInHigh.main_arg0) = m ((c.tc : Thread Cert.KInHigh.nD Cert.KInHigh.τ).loc Cert.KInHigh.main_arg0)
      ∧ r.2.mem ((c.tc : Thread Cert.KInHigh.nD Cert.KInHigh.τ).loc Cert.KInHigh.main_arg1) = m ((c.tc : Thread Cert.KInHigh.nD Cert.KInHigh.τ).loc Cert.KInHigh.main_arg1))
      ∧ r.2.sem = fun _ => 0)

def quiescent_KInHighIdeal [hKInHighIdeal : Cert.KInHighIdeal.Facts] : Prop :=
  ∀ (m : (ℓ : Loc Cert.KInHighIdeal.nD Cert.KInHighIdeal.τ Cert.KInHighIdeal.sig) → Buf (Elt Ideal) ℓ) (g : Dev Cert.KInHighIdeal.nD → PrngReg), Pre_KInHighIdeal m →
    θ_run (Cert.KInHighIdeal.defs (F := Ideal)) (onTc (τ := Cert.KInHighIdeal.τ) (Cert.KInHighIdeal.main (F := Ideal))) ⟨m, fun _ => 0, g⟩ (fun r => (∀ c : Dev Cert.KInHighIdeal.nD,
      r.2.mem ((c.tc : Thread Cert.KInHighIdeal.nD Cert.KInHighIdeal.τ).loc Cert.KInHighIdeal.main_arg0) = m ((c.tc : Thread Cert.KInHighIdeal.nD Cert.KInHighIdeal.τ).loc Cert.KInHighIdeal.main_arg0)
      ∧ r.2.mem ((c.tc : Thread Cert.KInHighIdeal.nD Cert.KInHighIdeal.τ).loc Cert.KInHighIdeal.main_arg1) = m ((c.tc : Thread Cert.KInHighIdeal.nD Cert.KInHighIdeal.τ).loc Cert.KInHighIdeal.main_arg1))
      ∧ r.2.sem = fun _ => 0)

def quiescent_RInHighIdeal [hRInHighIdeal : Cert.RInHighIdeal.Facts] : Prop :=
  ∀ (m : (ℓ : Loc Cert.RInHighIdeal.nD Cert.RInHighIdeal.τ Cert.RInHighIdeal.sig) → Buf (Elt Ideal) ℓ) (g : Dev Cert.RInHighIdeal.nD → PrngReg), Pre_RInHighIdeal m →
    θ_run (Cert.RInHighIdeal.defs (F := Ideal)) (onTc (τ := Cert.RInHighIdeal.τ) (Cert.RInHighIdeal.main (F := Ideal))) ⟨m, fun _ => 0, g⟩ (fun r => (∀ c : Dev Cert.RInHighIdeal.nD,
      r.2.mem ((c.tc : Thread Cert.RInHighIdeal.nD Cert.RInHighIdeal.τ).loc Cert.RInHighIdeal.main_arg0) = m ((c.tc : Thread Cert.RInHighIdeal.nD Cert.RInHighIdeal.τ).loc Cert.RInHighIdeal.main_arg0)
      ∧ r.2.mem ((c.tc : Thread Cert.RInHighIdeal.nD Cert.RInHighIdeal.τ).loc Cert.RInHighIdeal.main_arg1) = m ((c.tc : Thread Cert.RInHighIdeal.nD Cert.RInHighIdeal.τ).loc Cert.RInHighIdeal.main_arg1))
      ∧ r.2.sem = fun _ => 0)

def quiescent_KOutProj [hKOutProj : Cert.KOutProj.Facts] : Prop :=
  ∀ (m : (ℓ : Loc Cert.KOutProj.nD Cert.KOutProj.τ Cert.KOutProj.sig) → Buf (Elt Bits) ℓ) (g : Dev Cert.KOutProj.nD → PrngReg), Pre_KOutProj m →
    θ_run (Cert.KOutProj.defs (F := Bits)) (onTc (τ := Cert.KOutProj.τ) (Cert.KOutProj.main (F := Bits))) ⟨m, fun _ => 0, g⟩ (fun r => (∀ c : Dev Cert.KOutProj.nD,
      r.2.mem ((c.tc : Thread Cert.KOutProj.nD Cert.KOutProj.τ).loc Cert.KOutProj.main_arg0) = m ((c.tc : Thread Cert.KOutProj.nD Cert.KOutProj.τ).loc Cert.KOutProj.main_arg0)
      ∧ r.2.mem ((c.tc : Thread Cert.KOutProj.nD Cert.KOutProj.τ).loc Cert.KOutProj.main_arg1) = m ((c.tc : Thread Cert.KOutProj.nD Cert.KOutProj.τ).loc Cert.KOutProj.main_arg1)
      ∧ r.2.mem ((c.tc : Thread Cert.KOutProj.nD Cert.KOutProj.τ).loc Cert.KOutProj.main_arg2) = m ((c.tc : Thread Cert.KOutProj.nD Cert.KOutProj.τ).loc Cert.KOutProj.main_arg2)
      ∧ r.2.mem ((c.tc : Thread Cert.KOutProj.nD Cert.KOutProj.τ).loc Cert.KOutProj.main_arg3) = m ((c.tc : Thread Cert.KOutProj.nD Cert.KOutProj.τ).loc Cert.KOutProj.main_arg3))
      ∧ r.2.sem = fun _ => 0)

def quiescent_KOutProjIdeal [hKOutProjIdeal : Cert.KOutProjIdeal.Facts] : Prop :=
  ∀ (m : (ℓ : Loc Cert.KOutProjIdeal.nD Cert.KOutProjIdeal.τ Cert.KOutProjIdeal.sig) → Buf (Elt Ideal) ℓ) (g : Dev Cert.KOutProjIdeal.nD → PrngReg), Pre_KOutProjIdeal m →
    θ_run (Cert.KOutProjIdeal.defs (F := Ideal)) (onTc (τ := Cert.KOutProjIdeal.τ) (Cert.KOutProjIdeal.main (F := Ideal))) ⟨m, fun _ => 0, g⟩ (fun r => (∀ c : Dev Cert.KOutProjIdeal.nD,
      r.2.mem ((c.tc : Thread Cert.KOutProjIdeal.nD Cert.KOutProjIdeal.τ).loc Cert.KOutProjIdeal.main_arg0) = m ((c.tc : Thread Cert.KOutProjIdeal.nD Cert.KOutProjIdeal.τ).loc Cert.KOutProjIdeal.main_arg0)
      ∧ r.2.mem ((c.tc : Thread Cert.KOutProjIdeal.nD Cert.KOutProjIdeal.τ).loc Cert.KOutProjIdeal.main_arg1) = m ((c.tc : Thread Cert.KOutProjIdeal.nD Cert.KOutProjIdeal.τ).loc Cert.KOutProjIdeal.main_arg1)
      ∧ r.2.mem ((c.tc : Thread Cert.KOutProjIdeal.nD Cert.KOutProjIdeal.τ).loc Cert.KOutProjIdeal.main_arg2) = m ((c.tc : Thread Cert.KOutProjIdeal.nD Cert.KOutProjIdeal.τ).loc Cert.KOutProjIdeal.main_arg2)
      ∧ r.2.mem ((c.tc : Thread Cert.KOutProjIdeal.nD Cert.KOutProjIdeal.τ).loc Cert.KOutProjIdeal.main_arg3) = m ((c.tc : Thread Cert.KOutProjIdeal.nD Cert.KOutProjIdeal.τ).loc Cert.KOutProjIdeal.main_arg3))
      ∧ r.2.sem = fun _ => 0)

def quiescent_ROutProjIdeal [hROutProjIdeal : Cert.ROutProjIdeal.Facts] : Prop :=
  ∀ (m : (ℓ : Loc Cert.ROutProjIdeal.nD Cert.ROutProjIdeal.τ Cert.ROutProjIdeal.sig) → Buf (Elt Ideal) ℓ) (g : Dev Cert.ROutProjIdeal.nD → PrngReg), Pre_ROutProjIdeal m →
    θ_run (Cert.ROutProjIdeal.defs (F := Ideal)) (onTc (τ := Cert.ROutProjIdeal.τ) (Cert.ROutProjIdeal.main (F := Ideal))) ⟨m, fun _ => 0, g⟩ (fun r => (∀ c : Dev Cert.ROutProjIdeal.nD,
      r.2.mem ((c.tc : Thread Cert.ROutProjIdeal.nD Cert.ROutProjIdeal.τ).loc Cert.ROutProjIdeal.main_arg0) = m ((c.tc : Thread Cert.ROutProjIdeal.nD Cert.ROutProjIdeal.τ).loc Cert.ROutProjIdeal.main_arg0)
      ∧ r.2.mem ((c.tc : Thread Cert.ROutProjIdeal.nD Cert.ROutProjIdeal.τ).loc Cert.ROutProjIdeal.main_arg1) = m ((c.tc : Thread Cert.ROutProjIdeal.nD Cert.ROutProjIdeal.τ).loc Cert.ROutProjIdeal.main_arg1)
      ∧ r.2.mem ((c.tc : Thread Cert.ROutProjIdeal.nD Cert.ROutProjIdeal.τ).loc Cert.ROutProjIdeal.main_arg2) = m ((c.tc : Thread Cert.ROutProjIdeal.nD Cert.ROutProjIdeal.τ).loc Cert.ROutProjIdeal.main_arg2)
      ∧ r.2.mem ((c.tc : Thread Cert.ROutProjIdeal.nD Cert.ROutProjIdeal.τ).loc Cert.ROutProjIdeal.main_arg3) = m ((c.tc : Thread Cert.ROutProjIdeal.nD Cert.ROutProjIdeal.τ).loc Cert.ROutProjIdeal.main_arg3))
      ∧ r.2.sem = fun _ => 0)

def quiescent_KConv [hKConv : Cert.KConv.Facts] : Prop :=
  ∀ (m : (ℓ : Loc Cert.KConv.nD Cert.KConv.τ Cert.KConv.sig) → Buf (Elt Bits) ℓ) (g : Dev Cert.KConv.nD → PrngReg), Pre_KConv m →
    θ_run (Cert.KConv.defs (F := Bits)) (onTc (τ := Cert.KConv.τ) (Cert.KConv.main (F := Bits))) ⟨m, fun _ => 0, g⟩ (fun r => (∀ c : Dev Cert.KConv.nD,
      r.2.mem ((c.tc : Thread Cert.KConv.nD Cert.KConv.τ).loc Cert.KConv.main_arg0) = m ((c.tc : Thread Cert.KConv.nD Cert.KConv.τ).loc Cert.KConv.main_arg0)
      ∧ r.2.mem ((c.tc : Thread Cert.KConv.nD Cert.KConv.τ).loc Cert.KConv.main_arg1) = m ((c.tc : Thread Cert.KConv.nD Cert.KConv.τ).loc Cert.KConv.main_arg1))
      ∧ r.2.sem = fun _ => 0)

def quiescent_KConvIdeal [hKConvIdeal : Cert.KConvIdeal.Facts] : Prop :=
  ∀ (m : (ℓ : Loc Cert.KConvIdeal.nD Cert.KConvIdeal.τ Cert.KConvIdeal.sig) → Buf (Elt Ideal) ℓ) (g : Dev Cert.KConvIdeal.nD → PrngReg), Pre_KConvIdeal m →
    θ_run (Cert.KConvIdeal.defs (F := Ideal)) (onTc (τ := Cert.KConvIdeal.τ) (Cert.KConvIdeal.main (F := Ideal))) ⟨m, fun _ => 0, g⟩ (fun r => (∀ c : Dev Cert.KConvIdeal.nD,
      r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
      ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1))
      ∧ r.2.sem = fun _ => 0)

def quiescent_RConvIdeal [hRConvIdeal : Cert.RConvIdeal.Facts] : Prop :=
  ∀ (m : (ℓ : Loc Cert.RConvIdeal.nD Cert.RConvIdeal.τ Cert.RConvIdeal.sig) → Buf (Elt Ideal) ℓ) (g : Dev Cert.RConvIdeal.nD → PrngReg), Pre_RConvIdeal m →
    θ_run (Cert.RConvIdeal.defs (F := Ideal)) (onTc (τ := Cert.RConvIdeal.τ) (Cert.RConvIdeal.main (F := Ideal))) ⟨m, fun _ => 0, g⟩ (fun r => (∀ c : Dev Cert.RConvIdeal.nD,
      r.2.mem ((c.tc : Thread Cert.RConvIdeal.nD Cert.RConvIdeal.τ).loc Cert.RConvIdeal.main_arg0) = m ((c.tc : Thread Cert.RConvIdeal.nD Cert.RConvIdeal.τ).loc Cert.RConvIdeal.main_arg0)
      ∧ r.2.mem ((c.tc : Thread Cert.RConvIdeal.nD Cert.RConvIdeal.τ).loc Cert.RConvIdeal.main_arg1) = m ((c.tc : Thread Cert.RConvIdeal.nD Cert.RConvIdeal.τ).loc Cert.RConvIdeal.main_arg1))
      ∧ r.2.sem = fun _ => 0)

def quiescent_KRms [hKRms : Cert.KRms.Facts] : Prop :=
  ∀ (m : (ℓ : Loc Cert.KRms.nD Cert.KRms.τ Cert.KRms.sig) → Buf (Elt Bits) ℓ) (g : Dev Cert.KRms.nD → PrngReg), Pre_KRms m →
    θ_run (Cert.KRms.defs (F := Bits)) (onTc (τ := Cert.KRms.τ) (Cert.KRms.main (F := Bits))) ⟨m, fun _ => 0, g⟩ (fun r => (∀ c : Dev Cert.KRms.nD,
      r.2.mem ((c.tc : Thread Cert.KRms.nD Cert.KRms.τ).loc Cert.KRms.main_arg0) = m ((c.tc : Thread Cert.KRms.nD Cert.KRms.τ).loc Cert.KRms.main_arg0)
      ∧ r.2.mem ((c.tc : Thread Cert.KRms.nD Cert.KRms.τ).loc Cert.KRms.main_arg1) = m ((c.tc : Thread Cert.KRms.nD Cert.KRms.τ).loc Cert.KRms.main_arg1))
      ∧ r.2.sem = fun _ => 0)

def quiescent_KRmsIdeal [hKRmsIdeal : Cert.KRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg), Pre_KRmsIdeal m →
    θ_run (Cert.KRmsIdeal.defs (F := Ideal)) (onTc (τ := Cert.KRmsIdeal.τ) (Cert.KRmsIdeal.main (F := Ideal))) ⟨m, fun _ => 0, g⟩ (fun r => (∀ c : Dev Cert.KRmsIdeal.nD,
      r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
      ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1))
      ∧ r.2.sem = fun _ => 0)

def quiescent_RRmsIdeal [hRRmsIdeal : Cert.RRmsIdeal.Facts] : Prop :=
  ∀ (m : (ℓ : Loc Cert.RRmsIdeal.nD Cert.RRmsIdeal.τ Cert.RRmsIdeal.sig) → Buf (Elt Ideal) ℓ) (g : Dev Cert.RRmsIdeal.nD → PrngReg), Pre_RRmsIdeal m →
    θ_run (Cert.RRmsIdeal.defs (F := Ideal)) (onTc (τ := Cert.RRmsIdeal.τ) (Cert.RRmsIdeal.main (F := Ideal))) ⟨m, fun _ => 0, g⟩ (fun r => (∀ c : Dev Cert.RRmsIdeal.nD,
      r.2.mem ((c.tc : Thread Cert.RRmsIdeal.nD Cert.RRmsIdeal.τ).loc Cert.RRmsIdeal.main_arg0) = m ((c.tc : Thread Cert.RRmsIdeal.nD Cert.RRmsIdeal.τ).loc Cert.RRmsIdeal.main_arg0)
      ∧ r.2.mem ((c.tc : Thread Cert.RRmsIdeal.nD Cert.RRmsIdeal.τ).loc Cert.RRmsIdeal.main_arg1) = m ((c.tc : Thread Cert.RRmsIdeal.nD Cert.RRmsIdeal.τ).loc Cert.RRmsIdeal.main_arg1))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1)
      ∧ r.2.mem ((c.tc : Thread Cert.KLoss.nD Cert.KLoss.τ).loc Cert.KLoss.main_arg2) = m ((c.tc : Thread Cert.KLoss.nD Cert.KLoss.τ).loc Cert.KLoss.main_arg2)
      ∧ r.2.mem ((c.tc : Thread Cert.KLoss.nD Cert.KLoss.τ).loc Cert.KLoss.main_arg3) = m ((c.tc : Thread Cert.KLoss.nD Cert.KLoss.τ).loc Cert.KLoss.main_arg3)
      ∧ r.2.mem ((c.tc : Thread Cert.KLoss.nD Cert.KLoss.τ).loc Cert.KLoss.main_arg4) = m ((c.tc : Thread Cert.KLoss.nD Cert.KLoss.τ).loc Cert.KLoss.main_arg4))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
      ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
      ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3)
      ∧ r.2.mem ((c.tc : Thread Cert.RLossIdeal.nD Cert.RLossIdeal.τ).loc Cert.RLossIdeal.main_arg4) = m ((c.tc : Thread Cert.RLossIdeal.nD Cert.RLossIdeal.τ).loc Cert.RLossIdeal.main_arg4))
      ∧ r.2.sem = fun _ => 0)

def quiescent_KPair [hKPair : Cert.KPair.Facts] : Prop :=
  ∀ (m : (ℓ : Loc Cert.KPair.nD Cert.KPair.τ Cert.KPair.sig) → Buf (Elt Bits) ℓ) (g : Dev Cert.KPair.nD → PrngReg), Pre_KPair m →
    θ_run (Cert.KPair.defs (F := Bits)) (onTc (τ := Cert.KPair.τ) (Cert.KPair.main (F := Bits))) ⟨m, fun _ => 0, g⟩ (fun r => (∀ c : Dev Cert.KPair.nD,
      r.2.mem ((c.tc : Thread Cert.KPair.nD Cert.KPair.τ).loc Cert.KPair.main_arg0) = m ((c.tc : Thread Cert.KPair.nD Cert.KPair.τ).loc Cert.KPair.main_arg0)
      ∧ r.2.mem ((c.tc : Thread Cert.KPair.nD Cert.KPair.τ).loc Cert.KPair.main_arg1) = m ((c.tc : Thread Cert.KPair.nD Cert.KPair.τ).loc Cert.KPair.main_arg1))
      ∧ r.2.sem = fun _ => 0)

def quiescent_KPairIdeal [hKPairIdeal : Cert.KPairIdeal.Facts] : Prop :=
  ∀ (m : (ℓ : Loc Cert.KPairIdeal.nD Cert.KPairIdeal.τ Cert.KPairIdeal.sig) → Buf (Elt Ideal) ℓ) (g : Dev Cert.KPairIdeal.nD → PrngReg), Pre_KPairIdeal m →
    θ_run (Cert.KPairIdeal.defs (F := Ideal)) (onTc (τ := Cert.KPairIdeal.τ) (Cert.KPairIdeal.main (F := Ideal))) ⟨m, fun _ => 0, g⟩ (fun r => (∀ c : Dev Cert.KPairIdeal.nD,
      r.2.mem ((c.tc : Thread Cert.KPairIdeal.nD Cert.KPairIdeal.τ).loc Cert.KPairIdeal.main_arg0) = m ((c.tc : Thread Cert.KPairIdeal.nD Cert.KPairIdeal.τ).loc Cert.KPairIdeal.main_arg0)
      ∧ r.2.mem ((c.tc : Thread Cert.KPairIdeal.nD Cert.KPairIdeal.τ).loc Cert.KPairIdeal.main_arg1) = m ((c.tc : Thread Cert.KPairIdeal.nD Cert.KPairIdeal.τ).loc Cert.KPairIdeal.main_arg1))
      ∧ r.2.sem = fun _ => 0)

def quiescent_RPairIdeal [hRPairIdeal : Cert.RPairIdeal.Facts] : Prop :=
  ∀ (m : (ℓ : Loc Cert.RPairIdeal.nD Cert.RPairIdeal.τ Cert.RPairIdeal.sig) → Buf (Elt Ideal) ℓ) (g : Dev Cert.RPairIdeal.nD → PrngReg), Pre_RPairIdeal m →
    θ_run (Cert.RPairIdeal.defs (F := Ideal)) (onTc (τ := Cert.RPairIdeal.τ) (Cert.RPairIdeal.main (F := Ideal))) ⟨m, fun _ => 0, g⟩ (fun r => (∀ c : Dev Cert.RPairIdeal.nD,
      r.2.mem ((c.tc : Thread Cert.RPairIdeal.nD Cert.RPairIdeal.τ).loc Cert.RPairIdeal.main_arg0) = m ((c.tc : Thread Cert.RPairIdeal.nD Cert.RPairIdeal.τ).loc Cert.RPairIdeal.main_arg0)
      ∧ r.2.mem ((c.tc : Thread Cert.RPairIdeal.nD Cert.RPairIdeal.τ).loc Cert.RPairIdeal.main_arg1) = m ((c.tc : Thread Cert.RPairIdeal.nD Cert.RPairIdeal.τ).loc Cert.RPairIdeal.main_arg1))
      ∧ r.2.sem = fun _ => 0)

def quiescent_KAdFf2 [hKAdFf2 : Cert.KAdFf2.Facts] : Prop :=
  ∀ (m : (ℓ : Loc Cert.KAdFf2.nD Cert.KAdFf2.τ Cert.KAdFf2.sig) → Buf (Elt Bits) ℓ) (g : Dev Cert.KAdFf2.nD → PrngReg), Pre_KAdFf2 m →
    θ_run (Cert.KAdFf2.defs (F := Bits)) (onTc (τ := Cert.KAdFf2.τ) (Cert.KAdFf2.main (F := Bits))) ⟨m, fun _ => 0, g⟩ (fun r => (∀ c : Dev Cert.KAdFf2.nD,
      r.2.mem ((c.tc : Thread Cert.KAdFf2.nD Cert.KAdFf2.τ).loc Cert.KAdFf2.main_arg0) = m ((c.tc : Thread Cert.KAdFf2.nD Cert.KAdFf2.τ).loc Cert.KAdFf2.main_arg0)
      ∧ r.2.mem ((c.tc : Thread Cert.KAdFf2.nD Cert.KAdFf2.τ).loc Cert.KAdFf2.main_arg1) = m ((c.tc : Thread Cert.KAdFf2.nD Cert.KAdFf2.τ).loc Cert.KAdFf2.main_arg1)
      ∧ r.2.mem ((c.tc : Thread Cert.KAdFf2.nD Cert.KAdFf2.τ).loc Cert.KAdFf2.main_arg2) = m ((c.tc : Thread Cert.KAdFf2.nD Cert.KAdFf2.τ).loc Cert.KAdFf2.main_arg2)
      ∧ r.2.mem ((c.tc : Thread Cert.KAdFf2.nD Cert.KAdFf2.τ).loc Cert.KAdFf2.main_arg3) = m ((c.tc : Thread Cert.KAdFf2.nD Cert.KAdFf2.τ).loc Cert.KAdFf2.main_arg3)
      ∧ r.2.mem ((c.tc : Thread Cert.KAdFf2.nD Cert.KAdFf2.τ).loc Cert.KAdFf2.main_arg4) = m ((c.tc : Thread Cert.KAdFf2.nD Cert.KAdFf2.τ).loc Cert.KAdFf2.main_arg4))
      ∧ r.2.sem = fun _ => 0)

def quiescent_KAdFf2Ideal [hKAdFf2Ideal : Cert.KAdFf2Ideal.Facts] : Prop :=
  ∀ (m : (ℓ : Loc Cert.KAdFf2Ideal.nD Cert.KAdFf2Ideal.τ Cert.KAdFf2Ideal.sig) → Buf (Elt Ideal) ℓ) (g : Dev Cert.KAdFf2Ideal.nD → PrngReg), Pre_KAdFf2Ideal m →
    θ_run (Cert.KAdFf2Ideal.defs (F := Ideal)) (onTc (τ := Cert.KAdFf2Ideal.τ) (Cert.KAdFf2Ideal.main (F := Ideal))) ⟨m, fun _ => 0, g⟩ (fun r => (∀ c : Dev Cert.KAdFf2Ideal.nD,
      r.2.mem ((c.tc : Thread Cert.KAdFf2Ideal.nD Cert.KAdFf2Ideal.τ).loc Cert.KAdFf2Ideal.main_arg0) = m ((c.tc : Thread Cert.KAdFf2Ideal.nD Cert.KAdFf2Ideal.τ).loc Cert.KAdFf2Ideal.main_arg0)
      ∧ r.2.mem ((c.tc : Thread Cert.KAdFf2Ideal.nD Cert.KAdFf2Ideal.τ).loc Cert.KAdFf2Ideal.main_arg1) = m ((c.tc : Thread Cert.KAdFf2Ideal.nD Cert.KAdFf2Ideal.τ).loc Cert.KAdFf2Ideal.main_arg1)
      ∧ r.2.mem ((c.tc : Thread Cert.KAdFf2Ideal.nD Cert.KAdFf2Ideal.τ).loc Cert.KAdFf2Ideal.main_arg2) = m ((c.tc : Thread Cert.KAdFf2Ideal.nD Cert.KAdFf2Ideal.τ).loc Cert.KAdFf2Ideal.main_arg2)
      ∧ r.2.mem ((c.tc : Thread Cert.KAdFf2Ideal.nD Cert.KAdFf2Ideal.τ).loc Cert.KAdFf2Ideal.main_arg3) = m ((c.tc : Thread Cert.KAdFf2Ideal.nD Cert.KAdFf2Ideal.τ).loc Cert.KAdFf2Ideal.main_arg3)
      ∧ r.2.mem ((c.tc : Thread Cert.KAdFf2Ideal.nD Cert.KAdFf2Ideal.τ).loc Cert.KAdFf2Ideal.main_arg4) = m ((c.tc : Thread Cert.KAdFf2Ideal.nD Cert.KAdFf2Ideal.τ).loc Cert.KAdFf2Ideal.main_arg4))
      ∧ r.2.sem = fun _ => 0)

def quiescent_RAdFf2Ideal [hRAdFf2Ideal : Cert.RAdFf2Ideal.Facts] : Prop :=
  ∀ (m : (ℓ : Loc Cert.RAdFf2Ideal.nD Cert.RAdFf2Ideal.τ Cert.RAdFf2Ideal.sig) → Buf (Elt Ideal) ℓ) (g : Dev Cert.RAdFf2Ideal.nD → PrngReg), Pre_RAdFf2Ideal m →
    θ_run (Cert.RAdFf2Ideal.defs (F := Ideal)) (onTc (τ := Cert.RAdFf2Ideal.τ) (Cert.RAdFf2Ideal.main (F := Ideal))) ⟨m, fun _ => 0, g⟩ (fun r => (∀ c : Dev Cert.RAdFf2Ideal.nD,
      r.2.mem ((c.tc : Thread Cert.RAdFf2Ideal.nD Cert.RAdFf2Ideal.τ).loc Cert.RAdFf2Ideal.main_arg0) = m ((c.tc : Thread Cert.RAdFf2Ideal.nD Cert.RAdFf2Ideal.τ).loc Cert.RAdFf2Ideal.main_arg0)
      ∧ r.2.mem ((c.tc : Thread Cert.RAdFf2Ideal.nD Cert.RAdFf2Ideal.τ).loc Cert.RAdFf2Ideal.main_arg1) = m ((c.tc : Thread Cert.RAdFf2Ideal.nD Cert.RAdFf2Ideal.τ).loc Cert.RAdFf2Ideal.main_arg1)
      ∧ r.2.mem ((c.tc : Thread Cert.RAdFf2Ideal.nD Cert.RAdFf2Ideal.τ).loc Cert.RAdFf2Ideal.main_arg2) = m ((c.tc : Thread Cert.RAdFf2Ideal.nD Cert.RAdFf2Ideal.τ).loc Cert.RAdFf2Ideal.main_arg2)
      ∧ r.2.mem ((c.tc : Thread Cert.RAdFf2Ideal.nD Cert.RAdFf2Ideal.τ).loc Cert.RAdFf2Ideal.main_arg3) = m ((c.tc : Thread Cert.RAdFf2Ideal.nD Cert.RAdFf2Ideal.τ).loc Cert.RAdFf2Ideal.main_arg3)
      ∧ r.2.mem ((c.tc : Thread Cert.RAdFf2Ideal.nD Cert.RAdFf2Ideal.τ).loc Cert.RAdFf2Ideal.main_arg4) = m ((c.tc : Thread Cert.RAdFf2Ideal.nD Cert.RAdFf2Ideal.τ).loc Cert.RAdFf2Ideal.main_arg4))
      ∧ r.2.sem = fun _ => 0)

def quiescent_KAdFf1 [hKAdFf1 : Cert.KAdFf1.Facts] : Prop :=
  ∀ (m : (ℓ : Loc Cert.KAdFf1.nD Cert.KAdFf1.τ Cert.KAdFf1.sig) → Buf (Elt Bits) ℓ) (g : Dev Cert.KAdFf1.nD → PrngReg), Pre_KAdFf1 m →
    θ_run (Cert.KAdFf1.defs (F := Bits)) (onTc (τ := Cert.KAdFf1.τ) (Cert.KAdFf1.main (F := Bits))) ⟨m, fun _ => 0, g⟩ (fun r => (∀ c : Dev Cert.KAdFf1.nD,
      r.2.mem ((c.tc : Thread Cert.KAdFf1.nD Cert.KAdFf1.τ).loc Cert.KAdFf1.main_arg0) = m ((c.tc : Thread Cert.KAdFf1.nD Cert.KAdFf1.τ).loc Cert.KAdFf1.main_arg0)
      ∧ r.2.mem ((c.tc : Thread Cert.KAdFf1.nD Cert.KAdFf1.τ).loc Cert.KAdFf1.main_arg1) = m ((c.tc : Thread Cert.KAdFf1.nD Cert.KAdFf1.τ).loc Cert.KAdFf1.main_arg1)
      ∧ r.2.mem ((c.tc : Thread Cert.KAdFf1.nD Cert.KAdFf1.τ).loc Cert.KAdFf1.main_arg2) = m ((c.tc : Thread Cert.KAdFf1.nD Cert.KAdFf1.τ).loc Cert.KAdFf1.main_arg2)
      ∧ r.2.mem ((c.tc : Thread Cert.KAdFf1.nD Cert.KAdFf1.τ).loc Cert.KAdFf1.main_arg3) = m ((c.tc : Thread Cert.KAdFf1.nD Cert.KAdFf1.τ).loc Cert.KAdFf1.main_arg3)
      ∧ r.2.mem ((c.tc : Thread Cert.KAdFf1.nD Cert.KAdFf1.τ).loc Cert.KAdFf1.main_arg4) = m ((c.tc : Thread Cert.KAdFf1.nD Cert.KAdFf1.τ).loc Cert.KAdFf1.main_arg4))
      ∧ r.2.sem = fun _ => 0)

def quiescent_KAdFf1Ideal [hKAdFf1Ideal : Cert.KAdFf1Ideal.Facts] : Prop :=
  ∀ (m : (ℓ : Loc Cert.KAdFf1Ideal.nD Cert.KAdFf1Ideal.τ Cert.KAdFf1Ideal.sig) → Buf (Elt Ideal) ℓ) (g : Dev Cert.KAdFf1Ideal.nD → PrngReg), Pre_KAdFf1Ideal m →
    θ_run (Cert.KAdFf1Ideal.defs (F := Ideal)) (onTc (τ := Cert.KAdFf1Ideal.τ) (Cert.KAdFf1Ideal.main (F := Ideal))) ⟨m, fun _ => 0, g⟩ (fun r => (∀ c : Dev Cert.KAdFf1Ideal.nD,
      r.2.mem ((c.tc : Thread Cert.KAdFf1Ideal.nD Cert.KAdFf1Ideal.τ).loc Cert.KAdFf1Ideal.main_arg0) = m ((c.tc : Thread Cert.KAdFf1Ideal.nD Cert.KAdFf1Ideal.τ).loc Cert.KAdFf1Ideal.main_arg0)
      ∧ r.2.mem ((c.tc : Thread Cert.KAdFf1Ideal.nD Cert.KAdFf1Ideal.τ).loc Cert.KAdFf1Ideal.main_arg1) = m ((c.tc : Thread Cert.KAdFf1Ideal.nD Cert.KAdFf1Ideal.τ).loc Cert.KAdFf1Ideal.main_arg1)
      ∧ r.2.mem ((c.tc : Thread Cert.KAdFf1Ideal.nD Cert.KAdFf1Ideal.τ).loc Cert.KAdFf1Ideal.main_arg2) = m ((c.tc : Thread Cert.KAdFf1Ideal.nD Cert.KAdFf1Ideal.τ).loc Cert.KAdFf1Ideal.main_arg2)
      ∧ r.2.mem ((c.tc : Thread Cert.KAdFf1Ideal.nD Cert.KAdFf1Ideal.τ).loc Cert.KAdFf1Ideal.main_arg3) = m ((c.tc : Thread Cert.KAdFf1Ideal.nD Cert.KAdFf1Ideal.τ).loc Cert.KAdFf1Ideal.main_arg3)
      ∧ r.2.mem ((c.tc : Thread Cert.KAdFf1Ideal.nD Cert.KAdFf1Ideal.τ).loc Cert.KAdFf1Ideal.main_arg4) = m ((c.tc : Thread Cert.KAdFf1Ideal.nD Cert.KAdFf1Ideal.τ).loc Cert.KAdFf1Ideal.main_arg4))
      ∧ r.2.sem = fun _ => 0)

def quiescent_RAdFf1Ideal [hRAdFf1Ideal : Cert.RAdFf1Ideal.Facts] : Prop :=
  ∀ (m : (ℓ : Loc Cert.RAdFf1Ideal.nD Cert.RAdFf1Ideal.τ Cert.RAdFf1Ideal.sig) → Buf (Elt Ideal) ℓ) (g : Dev Cert.RAdFf1Ideal.nD → PrngReg), Pre_RAdFf1Ideal m →
    θ_run (Cert.RAdFf1Ideal.defs (F := Ideal)) (onTc (τ := Cert.RAdFf1Ideal.τ) (Cert.RAdFf1Ideal.main (F := Ideal))) ⟨m, fun _ => 0, g⟩ (fun r => (∀ c : Dev Cert.RAdFf1Ideal.nD,
      r.2.mem ((c.tc : Thread Cert.RAdFf1Ideal.nD Cert.RAdFf1Ideal.τ).loc Cert.RAdFf1Ideal.main_arg0) = m ((c.tc : Thread Cert.RAdFf1Ideal.nD Cert.RAdFf1Ideal.τ).loc Cert.RAdFf1Ideal.main_arg0)
      ∧ r.2.mem ((c.tc : Thread Cert.RAdFf1Ideal.nD Cert.RAdFf1Ideal.τ).loc Cert.RAdFf1Ideal.main_arg1) = m ((c.tc : Thread Cert.RAdFf1Ideal.nD Cert.RAdFf1Ideal.τ).loc Cert.RAdFf1Ideal.main_arg1)
      ∧ r.2.mem ((c.tc : Thread Cert.RAdFf1Ideal.nD Cert.RAdFf1Ideal.τ).loc Cert.RAdFf1Ideal.main_arg2) = m ((c.tc : Thread Cert.RAdFf1Ideal.nD Cert.RAdFf1Ideal.τ).loc Cert.RAdFf1Ideal.main_arg2)
      ∧ r.2.mem ((c.tc : Thread Cert.RAdFf1Ideal.nD Cert.RAdFf1Ideal.τ).loc Cert.RAdFf1Ideal.main_arg3) = m ((c.tc : Thread Cert.RAdFf1Ideal.nD Cert.RAdFf1Ideal.τ).loc Cert.RAdFf1Ideal.main_arg3)
      ∧ r.2.mem ((c.tc : Thread Cert.RAdFf1Ideal.nD Cert.RAdFf1Ideal.τ).loc Cert.RAdFf1Ideal.main_arg4) = m ((c.tc : Thread Cert.RAdFf1Ideal.nD Cert.RAdFf1Ideal.τ).loc Cert.RAdFf1Ideal.main_arg4))
      ∧ r.2.sem = fun _ => 0)

def quiescent_KAdOut [hKAdOut : Cert.KAdOut.Facts] : Prop :=
  ∀ (m : (ℓ : Loc Cert.KAdOut.nD Cert.KAdOut.τ Cert.KAdOut.sig) → Buf (Elt Bits) ℓ) (g : Dev Cert.KAdOut.nD → PrngReg), Pre_KAdOut m →
    θ_run (Cert.KAdOut.defs (F := Bits)) (onTc (τ := Cert.KAdOut.τ) (Cert.KAdOut.main (F := Bits))) ⟨m, fun _ => 0, g⟩ (fun r => (∀ c : Dev Cert.KAdOut.nD,
      r.2.mem ((c.tc : Thread Cert.KAdOut.nD Cert.KAdOut.τ).loc Cert.KAdOut.main_arg0) = m ((c.tc : Thread Cert.KAdOut.nD Cert.KAdOut.τ).loc Cert.KAdOut.main_arg0)
      ∧ r.2.mem ((c.tc : Thread Cert.KAdOut.nD Cert.KAdOut.τ).loc Cert.KAdOut.main_arg1) = m ((c.tc : Thread Cert.KAdOut.nD Cert.KAdOut.τ).loc Cert.KAdOut.main_arg1)
      ∧ r.2.mem ((c.tc : Thread Cert.KAdOut.nD Cert.KAdOut.τ).loc Cert.KAdOut.main_arg2) = m ((c.tc : Thread Cert.KAdOut.nD Cert.KAdOut.τ).loc Cert.KAdOut.main_arg2)
      ∧ r.2.mem ((c.tc : Thread Cert.KAdOut.nD Cert.KAdOut.τ).loc Cert.KAdOut.main_arg3) = m ((c.tc : Thread Cert.KAdOut.nD Cert.KAdOut.τ).loc Cert.KAdOut.main_arg3)
      ∧ r.2.mem ((c.tc : Thread Cert.KAdOut.nD Cert.KAdOut.τ).loc Cert.KAdOut.main_arg4) = m ((c.tc : Thread Cert.KAdOut.nD Cert.KAdOut.τ).loc Cert.KAdOut.main_arg4))
      ∧ r.2.sem = fun _ => 0)

def quiescent_KAdOutIdeal [hKAdOutIdeal : Cert.KAdOutIdeal.Facts] : Prop :=
  ∀ (m : (ℓ : Loc Cert.KAdOutIdeal.nD Cert.KAdOutIdeal.τ Cert.KAdOutIdeal.sig) → Buf (Elt Ideal) ℓ) (g : Dev Cert.KAdOutIdeal.nD → PrngReg), Pre_KAdOutIdeal m →
    θ_run (Cert.KAdOutIdeal.defs (F := Ideal)) (onTc (τ := Cert.KAdOutIdeal.τ) (Cert.KAdOutIdeal.main (F := Ideal))) ⟨m, fun _ => 0, g⟩ (fun r => (∀ c : Dev Cert.KAdOutIdeal.nD,
      r.2.mem ((c.tc : Thread Cert.KAdOutIdeal.nD Cert.KAdOutIdeal.τ).loc Cert.KAdOutIdeal.main_arg0) = m ((c.tc : Thread Cert.KAdOutIdeal.nD Cert.KAdOutIdeal.τ).loc Cert.KAdOutIdeal.main_arg0)
      ∧ r.2.mem ((c.tc : Thread Cert.KAdOutIdeal.nD Cert.KAdOutIdeal.τ).loc Cert.KAdOutIdeal.main_arg1) = m ((c.tc : Thread Cert.KAdOutIdeal.nD Cert.KAdOutIdeal.τ).loc Cert.KAdOutIdeal.main_arg1)
      ∧ r.2.mem ((c.tc : Thread Cert.KAdOutIdeal.nD Cert.KAdOutIdeal.τ).loc Cert.KAdOutIdeal.main_arg2) = m ((c.tc : Thread Cert.KAdOutIdeal.nD Cert.KAdOutIdeal.τ).loc Cert.KAdOutIdeal.main_arg2)
      ∧ r.2.mem ((c.tc : Thread Cert.KAdOutIdeal.nD Cert.KAdOutIdeal.τ).loc Cert.KAdOutIdeal.main_arg3) = m ((c.tc : Thread Cert.KAdOutIdeal.nD Cert.KAdOutIdeal.τ).loc Cert.KAdOutIdeal.main_arg3)
      ∧ r.2.mem ((c.tc : Thread Cert.KAdOutIdeal.nD Cert.KAdOutIdeal.τ).loc Cert.KAdOutIdeal.main_arg4) = m ((c.tc : Thread Cert.KAdOutIdeal.nD Cert.KAdOutIdeal.τ).loc Cert.KAdOutIdeal.main_arg4))
      ∧ r.2.sem = fun _ => 0)

def quiescent_RAdOutIdeal [hRAdOutIdeal : Cert.RAdOutIdeal.Facts] : Prop :=
  ∀ (m : (ℓ : Loc Cert.RAdOutIdeal.nD Cert.RAdOutIdeal.τ Cert.RAdOutIdeal.sig) → Buf (Elt Ideal) ℓ) (g : Dev Cert.RAdOutIdeal.nD → PrngReg), Pre_RAdOutIdeal m →
    θ_run (Cert.RAdOutIdeal.defs (F := Ideal)) (onTc (τ := Cert.RAdOutIdeal.τ) (Cert.RAdOutIdeal.main (F := Ideal))) ⟨m, fun _ => 0, g⟩ (fun r => (∀ c : Dev Cert.RAdOutIdeal.nD,
      r.2.mem ((c.tc : Thread Cert.RAdOutIdeal.nD Cert.RAdOutIdeal.τ).loc Cert.RAdOutIdeal.main_arg0) = m ((c.tc : Thread Cert.RAdOutIdeal.nD Cert.RAdOutIdeal.τ).loc Cert.RAdOutIdeal.main_arg0)
      ∧ r.2.mem ((c.tc : Thread Cert.RAdOutIdeal.nD Cert.RAdOutIdeal.τ).loc Cert.RAdOutIdeal.main_arg1) = m ((c.tc : Thread Cert.RAdOutIdeal.nD Cert.RAdOutIdeal.τ).loc Cert.RAdOutIdeal.main_arg1)
      ∧ r.2.mem ((c.tc : Thread Cert.RAdOutIdeal.nD Cert.RAdOutIdeal.τ).loc Cert.RAdOutIdeal.main_arg2) = m ((c.tc : Thread Cert.RAdOutIdeal.nD Cert.RAdOutIdeal.τ).loc Cert.RAdOutIdeal.main_arg2)
      ∧ r.2.mem ((c.tc : Thread Cert.RAdOutIdeal.nD Cert.RAdOutIdeal.τ).loc Cert.RAdOutIdeal.main_arg3) = m ((c.tc : Thread Cert.RAdOutIdeal.nD Cert.RAdOutIdeal.τ).loc Cert.RAdOutIdeal.main_arg3)
      ∧ r.2.mem ((c.tc : Thread Cert.RAdOutIdeal.nD Cert.RAdOutIdeal.τ).loc Cert.RAdOutIdeal.main_arg4) = m ((c.tc : Thread Cert.RAdOutIdeal.nD Cert.RAdOutIdeal.τ).loc Cert.RAdOutIdeal.main_arg4))
      ∧ r.2.sem = fun _ => 0)

def quiescent_KAdIn [hKAdIn : Cert.KAdIn.Facts] : Prop :=
  ∀ (m : (ℓ : Loc Cert.KAdIn.nD Cert.KAdIn.τ Cert.KAdIn.sig) → Buf (Elt Bits) ℓ) (g : Dev Cert.KAdIn.nD → PrngReg), Pre_KAdIn m →
    θ_run (Cert.KAdIn.defs (F := Bits)) (onTc (τ := Cert.KAdIn.τ) (Cert.KAdIn.main (F := Bits))) ⟨m, fun _ => 0, g⟩ (fun r => (∀ c : Dev Cert.KAdIn.nD,
      r.2.mem ((c.tc : Thread Cert.KAdIn.nD Cert.KAdIn.τ).loc Cert.KAdIn.main_arg0) = m ((c.tc : Thread Cert.KAdIn.nD Cert.KAdIn.τ).loc Cert.KAdIn.main_arg0)
      ∧ r.2.mem ((c.tc : Thread Cert.KAdIn.nD Cert.KAdIn.τ).loc Cert.KAdIn.main_arg1) = m ((c.tc : Thread Cert.KAdIn.nD Cert.KAdIn.τ).loc Cert.KAdIn.main_arg1)
      ∧ r.2.mem ((c.tc : Thread Cert.KAdIn.nD Cert.KAdIn.τ).loc Cert.KAdIn.main_arg2) = m ((c.tc : Thread Cert.KAdIn.nD Cert.KAdIn.τ).loc Cert.KAdIn.main_arg2)
      ∧ r.2.mem ((c.tc : Thread Cert.KAdIn.nD Cert.KAdIn.τ).loc Cert.KAdIn.main_arg3) = m ((c.tc : Thread Cert.KAdIn.nD Cert.KAdIn.τ).loc Cert.KAdIn.main_arg3)
      ∧ r.2.mem ((c.tc : Thread Cert.KAdIn.nD Cert.KAdIn.τ).loc Cert.KAdIn.main_arg4) = m ((c.tc : Thread Cert.KAdIn.nD Cert.KAdIn.τ).loc Cert.KAdIn.main_arg4))
      ∧ r.2.sem = fun _ => 0)

def quiescent_KAdInIdeal [hKAdInIdeal : Cert.KAdInIdeal.Facts] : Prop :=
  ∀ (m : (ℓ : Loc Cert.KAdInIdeal.nD Cert.KAdInIdeal.τ Cert.KAdInIdeal.sig) → Buf (Elt Ideal) ℓ) (g : Dev Cert.KAdInIdeal.nD → PrngReg), Pre_KAdInIdeal m →
    θ_run (Cert.KAdInIdeal.defs (F := Ideal)) (onTc (τ := Cert.KAdInIdeal.τ) (Cert.KAdInIdeal.main (F := Ideal))) ⟨m, fun _ => 0, g⟩ (fun r => (∀ c : Dev Cert.KAdInIdeal.nD,
      r.2.mem ((c.tc : Thread Cert.KAdInIdeal.nD Cert.KAdInIdeal.τ).loc Cert.KAdInIdeal.main_arg0) = m ((c.tc : Thread Cert.KAdInIdeal.nD Cert.KAdInIdeal.τ).loc Cert.KAdInIdeal.main_arg0)
      ∧ r.2.mem ((c.tc : Thread Cert.KAdInIdeal.nD Cert.KAdInIdeal.τ).loc Cert.KAdInIdeal.main_arg1) = m ((c.tc : Thread Cert.KAdInIdeal.nD Cert.KAdInIdeal.τ).loc Cert.KAdInIdeal.main_arg1)
      ∧ r.2.mem ((c.tc : Thread Cert.KAdInIdeal.nD Cert.KAdInIdeal.τ).loc Cert.KAdInIdeal.main_arg2) = m ((c.tc : Thread Cert.KAdInIdeal.nD Cert.KAdInIdeal.τ).loc Cert.KAdInIdeal.main_arg2)
      ∧ r.2.mem ((c.tc : Thread Cert.KAdInIdeal.nD Cert.KAdInIdeal.τ).loc Cert.KAdInIdeal.main_arg3) = m ((c.tc : Thread Cert.KAdInIdeal.nD Cert.KAdInIdeal.τ).loc Cert.KAdInIdeal.main_arg3)
      ∧ r.2.mem ((c.tc : Thread Cert.KAdInIdeal.nD Cert.KAdInIdeal.τ).loc Cert.KAdInIdeal.main_arg4) = m ((c.tc : Thread Cert.KAdInIdeal.nD Cert.KAdInIdeal.τ).loc Cert.KAdInIdeal.main_arg4))
      ∧ r.2.sem = fun _ => 0)

def quiescent_RAdInIdeal [hRAdInIdeal : Cert.RAdInIdeal.Facts] : Prop :=
  ∀ (m : (ℓ : Loc Cert.RAdInIdeal.nD Cert.RAdInIdeal.τ Cert.RAdInIdeal.sig) → Buf (Elt Ideal) ℓ) (g : Dev Cert.RAdInIdeal.nD → PrngReg), Pre_RAdInIdeal m →
    θ_run (Cert.RAdInIdeal.defs (F := Ideal)) (onTc (τ := Cert.RAdInIdeal.τ) (Cert.RAdInIdeal.main (F := Ideal))) ⟨m, fun _ => 0, g⟩ (fun r => (∀ c : Dev Cert.RAdInIdeal.nD,
      r.2.mem ((c.tc : Thread Cert.RAdInIdeal.nD Cert.RAdInIdeal.τ).loc Cert.RAdInIdeal.main_arg0) = m ((c.tc : Thread Cert.RAdInIdeal.nD Cert.RAdInIdeal.τ).loc Cert.RAdInIdeal.main_arg0)
      ∧ r.2.mem ((c.tc : Thread Cert.RAdInIdeal.nD Cert.RAdInIdeal.τ).loc Cert.RAdInIdeal.main_arg1) = m ((c.tc : Thread Cert.RAdInIdeal.nD Cert.RAdInIdeal.τ).loc Cert.RAdInIdeal.main_arg1)
      ∧ r.2.mem ((c.tc : Thread Cert.RAdInIdeal.nD Cert.RAdInIdeal.τ).loc Cert.RAdInIdeal.main_arg2) = m ((c.tc : Thread Cert.RAdInIdeal.nD Cert.RAdInIdeal.τ).loc Cert.RAdInIdeal.main_arg2)
      ∧ r.2.mem ((c.tc : Thread Cert.RAdInIdeal.nD Cert.RAdInIdeal.τ).loc Cert.RAdInIdeal.main_arg3) = m ((c.tc : Thread Cert.RAdInIdeal.nD Cert.RAdInIdeal.τ).loc Cert.RAdInIdeal.main_arg3)
      ∧ r.2.mem ((c.tc : Thread Cert.RAdInIdeal.nD Cert.RAdInIdeal.τ).loc Cert.RAdInIdeal.main_arg4) = m ((c.tc : Thread Cert.RAdInIdeal.nD Cert.RAdInIdeal.τ).loc Cert.RAdInIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KDwFf2_KDwFf2Ideal : Prop :=
  True

def algebraic_KDwFf2Ideal_RDwFf2Ideal [hKDwFf2Ideal : Cert.KDwFf2Ideal.Facts] [hRDwFf2Ideal : Cert.RDwFf2Ideal.Facts] : Prop :=
  ∀ (m : (ℓ : Loc Cert.KDwFf2Ideal.nD Cert.KDwFf2Ideal.τ Cert.KDwFf2Ideal.sig) → Buf (Elt Ideal) ℓ) (g : Dev Cert.KDwFf2Ideal.nD → PrngReg)
    (m' : (ℓ : Loc Cert.RDwFf2Ideal.nD Cert.RDwFf2Ideal.τ Cert.RDwFf2Ideal.sig) → Buf (Elt Ideal) ℓ) (g' : Dev Cert.RDwFf2Ideal.nD → PrngReg), Pre_KDwFf2Ideal m →
    (∀ c : Dev Cert.KDwFf2Ideal.nD,
      m' ((c.tc : Thread Cert.RDwFf2Ideal.nD Cert.RDwFf2Ideal.τ).loc Cert.RDwFf2Ideal.main_arg0) = m ((c.tc : Thread Cert.KDwFf2Ideal.nD Cert.KDwFf2Ideal.τ).loc Cert.KDwFf2Ideal.main_arg0)
      ∧ m' ((c.tc : Thread Cert.RDwFf2Ideal.nD Cert.RDwFf2Ideal.τ).loc Cert.RDwFf2Ideal.main_arg1) = m ((c.tc : Thread Cert.KDwFf2Ideal.nD Cert.KDwFf2Ideal.τ).loc Cert.KDwFf2Ideal.main_arg1)
      ∧ m' ((c.tc : Thread Cert.RDwFf2Ideal.nD Cert.RDwFf2Ideal.τ).loc Cert.RDwFf2Ideal.main_arg2) = m ((c.tc : Thread Cert.KDwFf2Ideal.nD Cert.KDwFf2Ideal.τ).loc Cert.KDwFf2Ideal.main_arg2)) →
    ∃ (v0 : (c : Dev Cert.KDwFf2Ideal.nD) → Buf (Elt Ideal) ((c.tc : Thread Cert.KDwFf2Ideal.nD Cert.KDwFf2Ideal.τ).loc Cert.KDwFf2Ideal.main_v3)),
      θ_run (Cert.KDwFf2Ideal.defs (F := Ideal)) (onTc (τ := Cert.KDwFf2Ideal.τ) (Cert.KDwFf2Ideal.main (F := Ideal))) ⟨m, fun _ => 0, g⟩ (fun r => ∀ c : Dev Cert.KDwFf2Ideal.nD,
          r.2.mem ((c.tc : Thread Cert.KDwFf2Ideal.nD Cert.KDwFf2Ideal.τ).loc Cert.KDwFf2Ideal.main_v3) = v0 c
          ∧ r.2.mem ((c.tc : Thread Cert.KDwFf2Ideal.nD Cert.KDwFf2Ideal.τ).loc Cert.KDwFf2Ideal.main_arg0) = m ((c.tc : Thread Cert.KDwFf2Ideal.nD Cert.KDwFf2Ideal.τ).loc Cert.KDwFf2Ideal.main_arg0)
          ∧ r.2.mem ((c.tc : Thread Cert.KDwFf2Ideal.nD Cert.KDwFf2Ideal.τ).loc Cert.KDwFf2Ideal.main_arg1) = m ((c.tc : Thread Cert.KDwFf2Ideal.nD Cert.KDwFf2Ideal.τ).loc Cert.KDwFf2Ideal.main_arg1)
          ∧ r.2.mem ((c.tc : Thread Cert.KDwFf2Ideal.nD Cert.KDwFf2Ideal.τ).loc Cert.KDwFf2Ideal.main_arg2) = m ((c.tc : Thread Cert.KDwFf2Ideal.nD Cert.KDwFf2Ideal.τ).loc Cert.KDwFf2Ideal.main_arg2))
      ∧ θ_run (Cert.RDwFf2Ideal.defs (F := Ideal)) (onTc (τ := Cert.RDwFf2Ideal.τ) (Cert.RDwFf2Ideal.main (F := Ideal))) ⟨m', fun _ => 0, g'⟩ (fun r => ∀ c : Dev Cert.RDwFf2Ideal.nD,
          r.2.mem ((c.tc : Thread Cert.RDwFf2Ideal.nD Cert.RDwFf2Ideal.τ).loc Cert.RDwFf2Ideal.main_v16) = v0 c
          ∧ r.2.mem ((c.tc : Thread Cert.RDwFf2Ideal.nD Cert.RDwFf2Ideal.τ).loc Cert.RDwFf2Ideal.main_arg0) = m' ((c.tc : Thread Cert.RDwFf2Ideal.nD Cert.RDwFf2Ideal.τ).loc Cert.RDwFf2Ideal.main_arg0)
          ∧ r.2.mem ((c.tc : Thread Cert.RDwFf2Ideal.nD Cert.RDwFf2Ideal.τ).loc Cert.RDwFf2Ideal.main_arg1) = m' ((c.tc : Thread Cert.RDwFf2Ideal.nD Cert.RDwFf2Ideal.τ).loc Cert.RDwFf2Ideal.main_arg1)
          ∧ r.2.mem ((c.tc : Thread Cert.RDwFf2Ideal.nD Cert.RDwFf2Ideal.τ).loc Cert.RDwFf2Ideal.main_arg2) = m' ((c.tc : Thread Cert.RDwFf2Ideal.nD Cert.RDwFf2Ideal.τ).loc Cert.RDwFf2Ideal.main_arg2))

def preserves_KDn2_KDn2Ideal : Prop :=
  True

def algebraic_KDn2Ideal_RDn2Ideal [hKDn2Ideal : Cert.KDn2Ideal.Facts] [hRDn2Ideal : Cert.RDn2Ideal.Facts] : Prop :=
  ∀ (m : (ℓ : Loc Cert.KDn2Ideal.nD Cert.KDn2Ideal.τ Cert.KDn2Ideal.sig) → Buf (Elt Ideal) ℓ) (g : Dev Cert.KDn2Ideal.nD → PrngReg)
    (m' : (ℓ : Loc Cert.RDn2Ideal.nD Cert.RDn2Ideal.τ Cert.RDn2Ideal.sig) → Buf (Elt Ideal) ℓ) (g' : Dev Cert.RDn2Ideal.nD → PrngReg), Pre_KDn2Ideal m →
    (∀ c : Dev Cert.KDn2Ideal.nD,
      m' ((c.tc : Thread Cert.RDn2Ideal.nD Cert.RDn2Ideal.τ).loc Cert.RDn2Ideal.main_arg0) = m ((c.tc : Thread Cert.KDn2Ideal.nD Cert.KDn2Ideal.τ).loc Cert.KDn2Ideal.main_arg0)
      ∧ m' ((c.tc : Thread Cert.RDn2Ideal.nD Cert.RDn2Ideal.τ).loc Cert.RDn2Ideal.main_arg1) = m ((c.tc : Thread Cert.KDn2Ideal.nD Cert.KDn2Ideal.τ).loc Cert.KDn2Ideal.main_arg1)
      ∧ m' ((c.tc : Thread Cert.RDn2Ideal.nD Cert.RDn2Ideal.τ).loc Cert.RDn2Ideal.main_arg2) = m ((c.tc : Thread Cert.KDn2Ideal.nD Cert.KDn2Ideal.τ).loc Cert.KDn2Ideal.main_arg2)) →
    ∃ (v0 : (c : Dev Cert.KDn2Ideal.nD) → Buf (Elt Ideal) ((c.tc : Thread Cert.KDn2Ideal.nD Cert.KDn2Ideal.τ).loc Cert.KDn2Ideal.main_v0)),
      θ_run (Cert.KDn2Ideal.defs (F := Ideal)) (onTc (τ := Cert.KDn2Ideal.τ) (Cert.KDn2Ideal.main (F := Ideal))) ⟨m, fun _ => 0, g⟩ (fun r => ∀ c : Dev Cert.KDn2Ideal.nD,
          r.2.mem ((c.tc : Thread Cert.KDn2Ideal.nD Cert.KDn2Ideal.τ).loc Cert.KDn2Ideal.main_v0) = v0 c
          ∧ r.2.mem ((c.tc : Thread Cert.KDn2Ideal.nD Cert.KDn2Ideal.τ).loc Cert.KDn2Ideal.main_arg0) = m ((c.tc : Thread Cert.KDn2Ideal.nD Cert.KDn2Ideal.τ).loc Cert.KDn2Ideal.main_arg0)
          ∧ r.2.mem ((c.tc : Thread Cert.KDn2Ideal.nD Cert.KDn2Ideal.τ).loc Cert.KDn2Ideal.main_arg1) = m ((c.tc : Thread Cert.KDn2Ideal.nD Cert.KDn2Ideal.τ).loc Cert.KDn2Ideal.main_arg1)
          ∧ r.2.mem ((c.tc : Thread Cert.KDn2Ideal.nD Cert.KDn2Ideal.τ).loc Cert.KDn2Ideal.main_arg2) = m ((c.tc : Thread Cert.KDn2Ideal.nD Cert.KDn2Ideal.τ).loc Cert.KDn2Ideal.main_arg2))
      ∧ θ_run (Cert.RDn2Ideal.defs (F := Ideal)) (onTc (τ := Cert.RDn2Ideal.τ) (Cert.RDn2Ideal.main (F := Ideal))) ⟨m', fun _ => 0, g'⟩ (fun r => ∀ c : Dev Cert.RDn2Ideal.nD,
          r.2.mem ((c.tc : Thread Cert.RDn2Ideal.nD Cert.RDn2Ideal.τ).loc Cert.RDn2Ideal.main_v9) = v0 c
          ∧ r.2.mem ((c.tc : Thread Cert.RDn2Ideal.nD Cert.RDn2Ideal.τ).loc Cert.RDn2Ideal.main_arg0) = m' ((c.tc : Thread Cert.RDn2Ideal.nD Cert.RDn2Ideal.τ).loc Cert.RDn2Ideal.main_arg0)
          ∧ r.2.mem ((c.tc : Thread Cert.RDn2Ideal.nD Cert.RDn2Ideal.τ).loc Cert.RDn2Ideal.main_arg1) = m' ((c.tc : Thread Cert.RDn2Ideal.nD Cert.RDn2Ideal.τ).loc Cert.RDn2Ideal.main_arg1)
          ∧ r.2.mem ((c.tc : Thread Cert.RDn2Ideal.nD Cert.RDn2Ideal.τ).loc Cert.RDn2Ideal.main_arg2) = m' ((c.tc : Thread Cert.RDn2Ideal.nD Cert.RDn2Ideal.τ).loc Cert.RDn2Ideal.main_arg2))

def preserves_KDwFf1_KDwFf1Ideal : Prop :=
  True

def algebraic_KDwFf1Ideal_RDwFf1Ideal [hKDwFf1Ideal : Cert.KDwFf1Ideal.Facts] [hRDwFf1Ideal : Cert.RDwFf1Ideal.Facts] : Prop :=
  ∀ (m : (ℓ : Loc Cert.KDwFf1Ideal.nD Cert.KDwFf1Ideal.τ Cert.KDwFf1Ideal.sig) → Buf (Elt Ideal) ℓ) (g : Dev Cert.KDwFf1Ideal.nD → PrngReg)
    (m' : (ℓ : Loc Cert.RDwFf1Ideal.nD Cert.RDwFf1Ideal.τ Cert.RDwFf1Ideal.sig) → Buf (Elt Ideal) ℓ) (g' : Dev Cert.RDwFf1Ideal.nD → PrngReg), Pre_KDwFf1Ideal m →
    (∀ c : Dev Cert.KDwFf1Ideal.nD,
      m' ((c.tc : Thread Cert.RDwFf1Ideal.nD Cert.RDwFf1Ideal.τ).loc Cert.RDwFf1Ideal.main_arg0) = m ((c.tc : Thread Cert.KDwFf1Ideal.nD Cert.KDwFf1Ideal.τ).loc Cert.KDwFf1Ideal.main_arg0)
      ∧ m' ((c.tc : Thread Cert.RDwFf1Ideal.nD Cert.RDwFf1Ideal.τ).loc Cert.RDwFf1Ideal.main_arg1) = m ((c.tc : Thread Cert.KDwFf1Ideal.nD Cert.KDwFf1Ideal.τ).loc Cert.KDwFf1Ideal.main_arg1)
      ∧ m' ((c.tc : Thread Cert.RDwFf1Ideal.nD Cert.RDwFf1Ideal.τ).loc Cert.RDwFf1Ideal.main_arg2) = m ((c.tc : Thread Cert.KDwFf1Ideal.nD Cert.KDwFf1Ideal.τ).loc Cert.KDwFf1Ideal.main_arg2)) →
    ∃ (v0 : (c : Dev Cert.KDwFf1Ideal.nD) → Buf (Elt Ideal) ((c.tc : Thread Cert.KDwFf1Ideal.nD Cert.KDwFf1Ideal.τ).loc Cert.KDwFf1Ideal.main_v0)),
      θ_run (Cert.KDwFf1Ideal.defs (F := Ideal)) (onTc (τ := Cert.KDwFf1Ideal.τ) (Cert.KDwFf1Ideal.main (F := Ideal))) ⟨m, fun _ => 0, g⟩ (fun r => ∀ c : Dev Cert.KDwFf1Ideal.nD,
          r.2.mem ((c.tc : Thread Cert.KDwFf1Ideal.nD Cert.KDwFf1Ideal.τ).loc Cert.KDwFf1Ideal.main_v0) = v0 c
          ∧ r.2.mem ((c.tc : Thread Cert.KDwFf1Ideal.nD Cert.KDwFf1Ideal.τ).loc Cert.KDwFf1Ideal.main_arg0) = m ((c.tc : Thread Cert.KDwFf1Ideal.nD Cert.KDwFf1Ideal.τ).loc Cert.KDwFf1Ideal.main_arg0)
          ∧ r.2.mem ((c.tc : Thread Cert.KDwFf1Ideal.nD Cert.KDwFf1Ideal.τ).loc Cert.KDwFf1Ideal.main_arg1) = m ((c.tc : Thread Cert.KDwFf1Ideal.nD Cert.KDwFf1Ideal.τ).loc Cert.KDwFf1Ideal.main_arg1)
          ∧ r.2.mem ((c.tc : Thread Cert.KDwFf1Ideal.nD Cert.KDwFf1Ideal.τ).loc Cert.KDwFf1Ideal.main_arg2) = m ((c.tc : Thread Cert.KDwFf1Ideal.nD Cert.KDwFf1Ideal.τ).loc Cert.KDwFf1Ideal.main_arg2))
      ∧ θ_run (Cert.RDwFf1Ideal.defs (F := Ideal)) (onTc (τ := Cert.RDwFf1Ideal.τ) (Cert.RDwFf1Ideal.main (F := Ideal))) ⟨m', fun _ => 0, g'⟩ (fun r => ∀ c : Dev Cert.RDwFf1Ideal.nD,
          r.2.mem ((c.tc : Thread Cert.RDwFf1Ideal.nD Cert.RDwFf1Ideal.τ).loc Cert.RDwFf1Ideal.main_v11) = v0 c
          ∧ r.2.mem ((c.tc : Thread Cert.RDwFf1Ideal.nD Cert.RDwFf1Ideal.τ).loc Cert.RDwFf1Ideal.main_arg0) = m' ((c.tc : Thread Cert.RDwFf1Ideal.nD Cert.RDwFf1Ideal.τ).loc Cert.RDwFf1Ideal.main_arg0)
          ∧ r.2.mem ((c.tc : Thread Cert.RDwFf1Ideal.nD Cert.RDwFf1Ideal.τ).loc Cert.RDwFf1Ideal.main_arg1) = m' ((c.tc : Thread Cert.RDwFf1Ideal.nD Cert.RDwFf1Ideal.τ).loc Cert.RDwFf1Ideal.main_arg1)
          ∧ r.2.mem ((c.tc : Thread Cert.RDwFf1Ideal.nD Cert.RDwFf1Ideal.τ).loc Cert.RDwFf1Ideal.main_arg2) = m' ((c.tc : Thread Cert.RDwFf1Ideal.nD Cert.RDwFf1Ideal.τ).loc Cert.RDwFf1Ideal.main_arg2))

def preserves_KFf1_KFf1Ideal : Prop :=
  True

def algebraic_KFf1Ideal_RFf1Ideal [hKFf1Ideal : Cert.KFf1Ideal.Facts] [hRFf1Ideal : Cert.RFf1Ideal.Facts] : Prop :=
  ∀ (m : (ℓ : Loc Cert.KFf1Ideal.nD Cert.KFf1Ideal.τ Cert.KFf1Ideal.sig) → Buf (Elt Ideal) ℓ) (g : Dev Cert.KFf1Ideal.nD → PrngReg)
    (m' : (ℓ : Loc Cert.RFf1Ideal.nD Cert.RFf1Ideal.τ Cert.RFf1Ideal.sig) → Buf (Elt Ideal) ℓ) (g' : Dev Cert.RFf1Ideal.nD → PrngReg), Pre_KFf1Ideal m →
    (∀ c : Dev Cert.KFf1Ideal.nD,
      m' ((c.tc : Thread Cert.RFf1Ideal.nD Cert.RFf1Ideal.τ).loc Cert.RFf1Ideal.main_arg0) = m ((c.tc : Thread Cert.KFf1Ideal.nD Cert.KFf1Ideal.τ).loc Cert.KFf1Ideal.main_arg0)
      ∧ m' ((c.tc : Thread Cert.RFf1Ideal.nD Cert.RFf1Ideal.τ).loc Cert.RFf1Ideal.main_arg1) = m ((c.tc : Thread Cert.KFf1Ideal.nD Cert.KFf1Ideal.τ).loc Cert.KFf1Ideal.main_arg1)) →
    ∃ (v0 : (c : Dev Cert.KFf1Ideal.nD) → Buf (Elt Ideal) ((c.tc : Thread Cert.KFf1Ideal.nD Cert.KFf1Ideal.τ).loc Cert.KFf1Ideal.main_v0_0)) (v1 : (c : Dev Cert.KFf1Ideal.nD) → Buf (Elt Ideal) ((c.tc : Thread Cert.KFf1Ideal.nD Cert.KFf1Ideal.τ).loc Cert.KFf1Ideal.main_v0_1)),
      θ_run (Cert.KFf1Ideal.defs (F := Ideal)) (onTc (τ := Cert.KFf1Ideal.τ) (Cert.KFf1Ideal.main (F := Ideal))) ⟨m, fun _ => 0, g⟩ (fun r => ∀ c : Dev Cert.KFf1Ideal.nD,
          r.2.mem ((c.tc : Thread Cert.KFf1Ideal.nD Cert.KFf1Ideal.τ).loc Cert.KFf1Ideal.main_v0_0) = v0 c
          ∧ r.2.mem ((c.tc : Thread Cert.KFf1Ideal.nD Cert.KFf1Ideal.τ).loc Cert.KFf1Ideal.main_v0_1) = v1 c
          ∧ r.2.mem ((c.tc : Thread Cert.KFf1Ideal.nD Cert.KFf1Ideal.τ).loc Cert.KFf1Ideal.main_arg0) = m ((c.tc : Thread Cert.KFf1Ideal.nD Cert.KFf1Ideal.τ).loc Cert.KFf1Ideal.main_arg0)
          ∧ r.2.mem ((c.tc : Thread Cert.KFf1Ideal.nD Cert.KFf1Ideal.τ).loc Cert.KFf1Ideal.main_arg1) = m ((c.tc : Thread Cert.KFf1Ideal.nD Cert.KFf1Ideal.τ).loc Cert.KFf1Ideal.main_arg1))
      ∧ θ_run (Cert.RFf1Ideal.defs (F := Ideal)) (onTc (τ := Cert.RFf1Ideal.τ) (Cert.RFf1Ideal.main (F := Ideal))) ⟨m', fun _ => 0, g'⟩ (fun r => ∀ c : Dev Cert.RFf1Ideal.nD,
          r.2.mem ((c.tc : Thread Cert.RFf1Ideal.nD Cert.RFf1Ideal.τ).loc Cert.RFf1Ideal.main_v4) = v0 c
          ∧ r.2.mem ((c.tc : Thread Cert.RFf1Ideal.nD Cert.RFf1Ideal.τ).loc Cert.RFf1Ideal.main_v7) = v1 c
          ∧ r.2.mem ((c.tc : Thread Cert.RFf1Ideal.nD Cert.RFf1Ideal.τ).loc Cert.RFf1Ideal.main_arg0) = m' ((c.tc : Thread Cert.RFf1Ideal.nD Cert.RFf1Ideal.τ).loc Cert.RFf1Ideal.main_arg0)
          ∧ r.2.mem ((c.tc : Thread Cert.RFf1Ideal.nD Cert.RFf1Ideal.τ).loc Cert.RFf1Ideal.main_arg1) = m' ((c.tc : Thread Cert.RFf1Ideal.nD Cert.RFf1Ideal.τ).loc Cert.RFf1Ideal.main_arg1))

def preserves_KDMix_KDMixIdeal : Prop :=
  True

def algebraic_KDMixIdeal_RDMixIdeal [hKDMixIdeal : Cert.KDMixIdeal.Facts] [hRDMixIdeal : Cert.RDMixIdeal.Facts] : Prop :=
  ∀ (m : (ℓ : Loc Cert.KDMixIdeal.nD Cert.KDMixIdeal.τ Cert.KDMixIdeal.sig) → Buf (Elt Ideal) ℓ) (g : Dev Cert.KDMixIdeal.nD → PrngReg)
    (m' : (ℓ : Loc Cert.RDMixIdeal.nD Cert.RDMixIdeal.τ Cert.RDMixIdeal.sig) → Buf (Elt Ideal) ℓ) (g' : Dev Cert.RDMixIdeal.nD → PrngReg), Pre_KDMixIdeal m →
    (∀ c : Dev Cert.KDMixIdeal.nD,
      m' ((c.tc : Thread Cert.RDMixIdeal.nD Cert.RDMixIdeal.τ).loc Cert.RDMixIdeal.main_arg0) = m ((c.tc : Thread Cert.KDMixIdeal.nD Cert.KDMixIdeal.τ).loc Cert.KDMixIdeal.main_arg0)
      ∧ m' ((c.tc : Thread Cert.RDMixIdeal.nD Cert.RDMixIdeal.τ).loc Cert.RDMixIdeal.main_arg1) = m ((c.tc : Thread Cert.KDMixIdeal.nD Cert.KDMixIdeal.τ).loc Cert.KDMixIdeal.main_arg1)
      ∧ m' ((c.tc : Thread Cert.RDMixIdeal.nD Cert.RDMixIdeal.τ).loc Cert.RDMixIdeal.main_arg2) = m ((c.tc : Thread Cert.KDMixIdeal.nD Cert.KDMixIdeal.τ).loc Cert.KDMixIdeal.main_arg2)) →
    ∃ (v0 : (c : Dev Cert.KDMixIdeal.nD) → Buf (Elt Ideal) ((c.tc : Thread Cert.KDMixIdeal.nD Cert.KDMixIdeal.τ).loc Cert.KDMixIdeal.main_v0)),
      θ_run (Cert.KDMixIdeal.defs (F := Ideal)) (onTc (τ := Cert.KDMixIdeal.τ) (Cert.KDMixIdeal.main (F := Ideal))) ⟨m, fun _ => 0, g⟩ (fun r => ∀ c : Dev Cert.KDMixIdeal.nD,
          r.2.mem ((c.tc : Thread Cert.KDMixIdeal.nD Cert.KDMixIdeal.τ).loc Cert.KDMixIdeal.main_v0) = v0 c
          ∧ r.2.mem ((c.tc : Thread Cert.KDMixIdeal.nD Cert.KDMixIdeal.τ).loc Cert.KDMixIdeal.main_arg0) = m ((c.tc : Thread Cert.KDMixIdeal.nD Cert.KDMixIdeal.τ).loc Cert.KDMixIdeal.main_arg0)
          ∧ r.2.mem ((c.tc : Thread Cert.KDMixIdeal.nD Cert.KDMixIdeal.τ).loc Cert.KDMixIdeal.main_arg1) = m ((c.tc : Thread Cert.KDMixIdeal.nD Cert.KDMixIdeal.τ).loc Cert.KDMixIdeal.main_arg1)
          ∧ r.2.mem ((c.tc : Thread Cert.KDMixIdeal.nD Cert.KDMixIdeal.τ).loc Cert.KDMixIdeal.main_arg2) = m ((c.tc : Thread Cert.KDMixIdeal.nD Cert.KDMixIdeal.τ).loc Cert.KDMixIdeal.main_arg2))
      ∧ θ_run (Cert.RDMixIdeal.defs (F := Ideal)) (onTc (τ := Cert.RDMixIdeal.τ) (Cert.RDMixIdeal.main (F := Ideal))) ⟨m', fun _ => 0, g'⟩ (fun r => ∀ c : Dev Cert.RDMixIdeal.nD,
          r.2.mem ((c.tc : Thread Cert.RDMixIdeal.nD Cert.RDMixIdeal.τ).loc Cert.RDMixIdeal.main_v7) = v0 c
          ∧ r.2.mem ((c.tc : Thread Cert.RDMixIdeal.nD Cert.RDMixIdeal.τ).loc Cert.RDMixIdeal.main_arg0) = m' ((c.tc : Thread Cert.RDMixIdeal.nD Cert.RDMixIdeal.τ).loc Cert.RDMixIdeal.main_arg0)
          ∧ r.2.mem ((c.tc : Thread Cert.RDMixIdeal.nD Cert.RDMixIdeal.τ).loc Cert.RDMixIdeal.main_arg1) = m' ((c.tc : Thread Cert.RDMixIdeal.nD Cert.RDMixIdeal.τ).loc Cert.RDMixIdeal.main_arg1)
          ∧ r.2.mem ((c.tc : Thread Cert.RDMixIdeal.nD Cert.RDMixIdeal.τ).loc Cert.RDMixIdeal.main_arg2) = m' ((c.tc : Thread Cert.RDMixIdeal.nD Cert.RDMixIdeal.τ).loc Cert.RDMixIdeal.main_arg2))

def preserves_KDwOut_KDwOutIdeal : Prop :=
  True

def algebraic_KDwOutIdeal_RDwOutIdeal [hKDwOutIdeal : Cert.KDwOutIdeal.Facts] [hRDwOutIdeal : Cert.RDwOutIdeal.Facts] : Prop :=
  ∀ (m : (ℓ : Loc Cert.KDwOutIdeal.nD Cert.KDwOutIdeal.τ Cert.KDwOutIdeal.sig) → Buf (Elt Ideal) ℓ) (g : Dev Cert.KDwOutIdeal.nD → PrngReg)
    (m' : (ℓ : Loc Cert.RDwOutIdeal.nD Cert.RDwOutIdeal.τ Cert.RDwOutIdeal.sig) → Buf (Elt Ideal) ℓ) (g' : Dev Cert.RDwOutIdeal.nD → PrngReg), Pre_KDwOutIdeal m →
    (∀ c : Dev Cert.KDwOutIdeal.nD,
      m' ((c.tc : Thread Cert.RDwOutIdeal.nD Cert.RDwOutIdeal.τ).loc Cert.RDwOutIdeal.main_arg0) = m ((c.tc : Thread Cert.KDwOutIdeal.nD Cert.KDwOutIdeal.τ).loc Cert.KDwOutIdeal.main_arg0)
      ∧ m' ((c.tc : Thread Cert.RDwOutIdeal.nD Cert.RDwOutIdeal.τ).loc Cert.RDwOutIdeal.main_arg1) = m ((c.tc : Thread Cert.KDwOutIdeal.nD Cert.KDwOutIdeal.τ).loc Cert.KDwOutIdeal.main_arg1)
      ∧ m' ((c.tc : Thread Cert.RDwOutIdeal.nD Cert.RDwOutIdeal.τ).loc Cert.RDwOutIdeal.main_arg2) = m ((c.tc : Thread Cert.KDwOutIdeal.nD Cert.KDwOutIdeal.τ).loc Cert.KDwOutIdeal.main_arg2)) →
    ∃ (v0 : (c : Dev Cert.KDwOutIdeal.nD) → Buf (Elt Ideal) ((c.tc : Thread Cert.KDwOutIdeal.nD Cert.KDwOutIdeal.τ).loc Cert.KDwOutIdeal.main_v0)),
      θ_run (Cert.KDwOutIdeal.defs (F := Ideal)) (onTc (τ := Cert.KDwOutIdeal.τ) (Cert.KDwOutIdeal.main (F := Ideal))) ⟨m, fun _ => 0, g⟩ (fun r => ∀ c : Dev Cert.KDwOutIdeal.nD,
          r.2.mem ((c.tc : Thread Cert.KDwOutIdeal.nD Cert.KDwOutIdeal.τ).loc Cert.KDwOutIdeal.main_v0) = v0 c
          ∧ r.2.mem ((c.tc : Thread Cert.KDwOutIdeal.nD Cert.KDwOutIdeal.τ).loc Cert.KDwOutIdeal.main_arg0) = m ((c.tc : Thread Cert.KDwOutIdeal.nD Cert.KDwOutIdeal.τ).loc Cert.KDwOutIdeal.main_arg0)
          ∧ r.2.mem ((c.tc : Thread Cert.KDwOutIdeal.nD Cert.KDwOutIdeal.τ).loc Cert.KDwOutIdeal.main_arg1) = m ((c.tc : Thread Cert.KDwOutIdeal.nD Cert.KDwOutIdeal.τ).loc Cert.KDwOutIdeal.main_arg1)
          ∧ r.2.mem ((c.tc : Thread Cert.KDwOutIdeal.nD Cert.KDwOutIdeal.τ).loc Cert.KDwOutIdeal.main_arg2) = m ((c.tc : Thread Cert.KDwOutIdeal.nD Cert.KDwOutIdeal.τ).loc Cert.KDwOutIdeal.main_arg2))
      ∧ θ_run (Cert.RDwOutIdeal.defs (F := Ideal)) (onTc (τ := Cert.RDwOutIdeal.τ) (Cert.RDwOutIdeal.main (F := Ideal))) ⟨m', fun _ => 0, g'⟩ (fun r => ∀ c : Dev Cert.RDwOutIdeal.nD,
          r.2.mem ((c.tc : Thread Cert.RDwOutIdeal.nD Cert.RDwOutIdeal.τ).loc Cert.RDwOutIdeal.main_v7) = v0 c
          ∧ r.2.mem ((c.tc : Thread Cert.RDwOutIdeal.nD Cert.RDwOutIdeal.τ).loc Cert.RDwOutIdeal.main_arg0) = m' ((c.tc : Thread Cert.RDwOutIdeal.nD Cert.RDwOutIdeal.τ).loc Cert.RDwOutIdeal.main_arg0)
          ∧ r.2.mem ((c.tc : Thread Cert.RDwOutIdeal.nD Cert.RDwOutIdeal.τ).loc Cert.RDwOutIdeal.main_arg1) = m' ((c.tc : Thread Cert.RDwOutIdeal.nD Cert.RDwOutIdeal.τ).loc Cert.RDwOutIdeal.main_arg1)
          ∧ r.2.mem ((c.tc : Thread Cert.RDwOutIdeal.nD Cert.RDwOutIdeal.τ).loc Cert.RDwOutIdeal.main_arg2) = m' ((c.tc : Thread Cert.RDwOutIdeal.nD Cert.RDwOutIdeal.τ).loc Cert.RDwOutIdeal.main_arg2))

def preserves_KDwIn_KDwInIdeal : Prop :=
  True

def algebraic_KDwInIdeal_RDwInIdeal [hKDwInIdeal : Cert.KDwInIdeal.Facts] [hRDwInIdeal : Cert.RDwInIdeal.Facts] : Prop :=
  ∀ (m : (ℓ : Loc Cert.KDwInIdeal.nD Cert.KDwInIdeal.τ Cert.KDwInIdeal.sig) → Buf (Elt Ideal) ℓ) (g : Dev Cert.KDwInIdeal.nD → PrngReg)
    (m' : (ℓ : Loc Cert.RDwInIdeal.nD Cert.RDwInIdeal.τ Cert.RDwInIdeal.sig) → Buf (Elt Ideal) ℓ) (g' : Dev Cert.RDwInIdeal.nD → PrngReg), Pre_KDwInIdeal m →
    (∀ c : Dev Cert.KDwInIdeal.nD,
      m' ((c.tc : Thread Cert.RDwInIdeal.nD Cert.RDwInIdeal.τ).loc Cert.RDwInIdeal.main_arg0) = m ((c.tc : Thread Cert.KDwInIdeal.nD Cert.KDwInIdeal.τ).loc Cert.KDwInIdeal.main_arg0)
      ∧ m' ((c.tc : Thread Cert.RDwInIdeal.nD Cert.RDwInIdeal.τ).loc Cert.RDwInIdeal.main_arg1) = m ((c.tc : Thread Cert.KDwInIdeal.nD Cert.KDwInIdeal.τ).loc Cert.KDwInIdeal.main_arg1)
      ∧ m' ((c.tc : Thread Cert.RDwInIdeal.nD Cert.RDwInIdeal.τ).loc Cert.RDwInIdeal.main_arg2) = m ((c.tc : Thread Cert.KDwInIdeal.nD Cert.KDwInIdeal.τ).loc Cert.KDwInIdeal.main_arg2)) →
    ∃ (v0 : (c : Dev Cert.KDwInIdeal.nD) → Buf (Elt Ideal) ((c.tc : Thread Cert.KDwInIdeal.nD Cert.KDwInIdeal.τ).loc Cert.KDwInIdeal.main_v0)),
      θ_run (Cert.KDwInIdeal.defs (F := Ideal)) (onTc (τ := Cert.KDwInIdeal.τ) (Cert.KDwInIdeal.main (F := Ideal))) ⟨m, fun _ => 0, g⟩ (fun r => ∀ c : Dev Cert.KDwInIdeal.nD,
          r.2.mem ((c.tc : Thread Cert.KDwInIdeal.nD Cert.KDwInIdeal.τ).loc Cert.KDwInIdeal.main_v0) = v0 c
          ∧ r.2.mem ((c.tc : Thread Cert.KDwInIdeal.nD Cert.KDwInIdeal.τ).loc Cert.KDwInIdeal.main_arg0) = m ((c.tc : Thread Cert.KDwInIdeal.nD Cert.KDwInIdeal.τ).loc Cert.KDwInIdeal.main_arg0)
          ∧ r.2.mem ((c.tc : Thread Cert.KDwInIdeal.nD Cert.KDwInIdeal.τ).loc Cert.KDwInIdeal.main_arg1) = m ((c.tc : Thread Cert.KDwInIdeal.nD Cert.KDwInIdeal.τ).loc Cert.KDwInIdeal.main_arg1)
          ∧ r.2.mem ((c.tc : Thread Cert.KDwInIdeal.nD Cert.KDwInIdeal.τ).loc Cert.KDwInIdeal.main_arg2) = m ((c.tc : Thread Cert.KDwInIdeal.nD Cert.KDwInIdeal.τ).loc Cert.KDwInIdeal.main_arg2))
      ∧ θ_run (Cert.RDwInIdeal.defs (F := Ideal)) (onTc (τ := Cert.RDwInIdeal.τ) (Cert.RDwInIdeal.main (F := Ideal))) ⟨m', fun _ => 0, g'⟩ (fun r => ∀ c : Dev Cert.RDwInIdeal.nD,
          r.2.mem ((c.tc : Thread Cert.RDwInIdeal.nD Cert.RDwInIdeal.τ).loc Cert.RDwInIdeal.main_v7) = v0 c
          ∧ r.2.mem ((c.tc : Thread Cert.RDwInIdeal.nD Cert.RDwInIdeal.τ).loc Cert.RDwInIdeal.main_arg0) = m' ((c.tc : Thread Cert.RDwInIdeal.nD Cert.RDwInIdeal.τ).loc Cert.RDwInIdeal.main_arg0)
          ∧ r.2.mem ((c.tc : Thread Cert.RDwInIdeal.nD Cert.RDwInIdeal.τ).loc Cert.RDwInIdeal.main_arg1) = m' ((c.tc : Thread Cert.RDwInIdeal.nD Cert.RDwInIdeal.τ).loc Cert.RDwInIdeal.main_arg1)
          ∧ r.2.mem ((c.tc : Thread Cert.RDwInIdeal.nD Cert.RDwInIdeal.τ).loc Cert.RDwInIdeal.main_arg2) = m' ((c.tc : Thread Cert.RDwInIdeal.nD Cert.RDwInIdeal.τ).loc Cert.RDwInIdeal.main_arg2))

def preserves_KDn1_KDn1Ideal : Prop :=
  True

def algebraic_KDn1Ideal_RDn1Ideal [hKDn1Ideal : Cert.KDn1Ideal.Facts] [hRDn1Ideal : Cert.RDn1Ideal.Facts] : Prop :=
  ∀ (m : (ℓ : Loc Cert.KDn1Ideal.nD Cert.KDn1Ideal.τ Cert.KDn1Ideal.sig) → Buf (Elt Ideal) ℓ) (g : Dev Cert.KDn1Ideal.nD → PrngReg)
    (m' : (ℓ : Loc Cert.RDn1Ideal.nD Cert.RDn1Ideal.τ Cert.RDn1Ideal.sig) → Buf (Elt Ideal) ℓ) (g' : Dev Cert.RDn1Ideal.nD → PrngReg), Pre_KDn1Ideal m →
    (∀ c : Dev Cert.KDn1Ideal.nD,
      m' ((c.tc : Thread Cert.RDn1Ideal.nD Cert.RDn1Ideal.τ).loc Cert.RDn1Ideal.main_arg0) = m ((c.tc : Thread Cert.KDn1Ideal.nD Cert.KDn1Ideal.τ).loc Cert.KDn1Ideal.main_arg0)
      ∧ m' ((c.tc : Thread Cert.RDn1Ideal.nD Cert.RDn1Ideal.τ).loc Cert.RDn1Ideal.main_arg1) = m ((c.tc : Thread Cert.KDn1Ideal.nD Cert.KDn1Ideal.τ).loc Cert.KDn1Ideal.main_arg1)
      ∧ m' ((c.tc : Thread Cert.RDn1Ideal.nD Cert.RDn1Ideal.τ).loc Cert.RDn1Ideal.main_arg2) = m ((c.tc : Thread Cert.KDn1Ideal.nD Cert.KDn1Ideal.τ).loc Cert.KDn1Ideal.main_arg2)) →
    ∃ (v0 : (c : Dev Cert.KDn1Ideal.nD) → Buf (Elt Ideal) ((c.tc : Thread Cert.KDn1Ideal.nD Cert.KDn1Ideal.τ).loc Cert.KDn1Ideal.main_v0)),
      θ_run (Cert.KDn1Ideal.defs (F := Ideal)) (onTc (τ := Cert.KDn1Ideal.τ) (Cert.KDn1Ideal.main (F := Ideal))) ⟨m, fun _ => 0, g⟩ (fun r => ∀ c : Dev Cert.KDn1Ideal.nD,
          r.2.mem ((c.tc : Thread Cert.KDn1Ideal.nD Cert.KDn1Ideal.τ).loc Cert.KDn1Ideal.main_v0) = v0 c
          ∧ r.2.mem ((c.tc : Thread Cert.KDn1Ideal.nD Cert.KDn1Ideal.τ).loc Cert.KDn1Ideal.main_arg0) = m ((c.tc : Thread Cert.KDn1Ideal.nD Cert.KDn1Ideal.τ).loc Cert.KDn1Ideal.main_arg0)
          ∧ r.2.mem ((c.tc : Thread Cert.KDn1Ideal.nD Cert.KDn1Ideal.τ).loc Cert.KDn1Ideal.main_arg1) = m ((c.tc : Thread Cert.KDn1Ideal.nD Cert.KDn1Ideal.τ).loc Cert.KDn1Ideal.main_arg1)
          ∧ r.2.mem ((c.tc : Thread Cert.KDn1Ideal.nD Cert.KDn1Ideal.τ).loc Cert.KDn1Ideal.main_arg2) = m ((c.tc : Thread Cert.KDn1Ideal.nD Cert.KDn1Ideal.τ).loc Cert.KDn1Ideal.main_arg2))
      ∧ θ_run (Cert.RDn1Ideal.defs (F := Ideal)) (onTc (τ := Cert.RDn1Ideal.τ) (Cert.RDn1Ideal.main (F := Ideal))) ⟨m', fun _ => 0, g'⟩ (fun r => ∀ c : Dev Cert.RDn1Ideal.nD,
          r.2.mem ((c.tc : Thread Cert.RDn1Ideal.nD Cert.RDn1Ideal.τ).loc Cert.RDn1Ideal.main_v7) = v0 c
          ∧ r.2.mem ((c.tc : Thread Cert.RDn1Ideal.nD Cert.RDn1Ideal.τ).loc Cert.RDn1Ideal.main_arg0) = m' ((c.tc : Thread Cert.RDn1Ideal.nD Cert.RDn1Ideal.τ).loc Cert.RDn1Ideal.main_arg0)
          ∧ r.2.mem ((c.tc : Thread Cert.RDn1Ideal.nD Cert.RDn1Ideal.τ).loc Cert.RDn1Ideal.main_arg1) = m' ((c.tc : Thread Cert.RDn1Ideal.nD Cert.RDn1Ideal.τ).loc Cert.RDn1Ideal.main_arg1)
          ∧ r.2.mem ((c.tc : Thread Cert.RDn1Ideal.nD Cert.RDn1Ideal.τ).loc Cert.RDn1Ideal.main_arg2) = m' ((c.tc : Thread Cert.RDn1Ideal.nD Cert.RDn1Ideal.τ).loc Cert.RDn1Ideal.main_arg2))

def preserves_KRmsBwd_KRmsBwdIdeal : Prop :=
  True

def algebraic_KRmsBwdIdeal_RRmsBwdIdeal [hKRmsBwdIdeal : Cert.KRmsBwdIdeal.Facts] [hRRmsBwdIdeal : Cert.RRmsBwdIdeal.Facts] : Prop :=
  ∀ (m : (ℓ : Loc Cert.KRmsBwdIdeal.nD Cert.KRmsBwdIdeal.τ Cert.KRmsBwdIdeal.sig) → Buf (Elt Ideal) ℓ) (g : Dev Cert.KRmsBwdIdeal.nD → PrngReg)
    (m' : (ℓ : Loc Cert.RRmsBwdIdeal.nD Cert.RRmsBwdIdeal.τ Cert.RRmsBwdIdeal.sig) → Buf (Elt Ideal) ℓ) (g' : Dev Cert.RRmsBwdIdeal.nD → PrngReg), Pre_KRmsBwdIdeal m →
    (∀ c : Dev Cert.KRmsBwdIdeal.nD,
      m' ((c.tc : Thread Cert.RRmsBwdIdeal.nD Cert.RRmsBwdIdeal.τ).loc Cert.RRmsBwdIdeal.main_arg0) = m ((c.tc : Thread Cert.KRmsBwdIdeal.nD Cert.KRmsBwdIdeal.τ).loc Cert.KRmsBwdIdeal.main_arg0)
      ∧ m' ((c.tc : Thread Cert.RRmsBwdIdeal.nD Cert.RRmsBwdIdeal.τ).loc Cert.RRmsBwdIdeal.main_arg1) = m ((c.tc : Thread Cert.KRmsBwdIdeal.nD Cert.KRmsBwdIdeal.τ).loc Cert.KRmsBwdIdeal.main_arg1)
      ∧ m' ((c.tc : Thread Cert.RRmsBwdIdeal.nD Cert.RRmsBwdIdeal.τ).loc Cert.RRmsBwdIdeal.main_arg2) = m ((c.tc : Thread Cert.KRmsBwdIdeal.nD Cert.KRmsBwdIdeal.τ).loc Cert.KRmsBwdIdeal.main_arg2)
      ∧ m' ((c.tc : Thread Cert.RRmsBwdIdeal.nD Cert.RRmsBwdIdeal.τ).loc Cert.RRmsBwdIdeal.main_arg3) = m ((c.tc : Thread Cert.KRmsBwdIdeal.nD Cert.KRmsBwdIdeal.τ).loc Cert.KRmsBwdIdeal.main_arg3)) →
    ∃ (v0 : (c : Dev Cert.KRmsBwdIdeal.nD) → Buf (Elt Ideal) ((c.tc : Thread Cert.KRmsBwdIdeal.nD Cert.KRmsBwdIdeal.τ).loc Cert.KRmsBwdIdeal.main_v8_0)) (v1 : (c : Dev Cert.KRmsBwdIdeal.nD) → Buf (Elt Ideal) ((c.tc : Thread Cert.KRmsBwdIdeal.nD Cert.KRmsBwdIdeal.τ).loc Cert.KRmsBwdIdeal.main_v8_1)),
      θ_run (Cert.KRmsBwdIdeal.defs (F := Ideal)) (onTc (τ := Cert.KRmsBwdIdeal.τ) (Cert.KRmsBwdIdeal.main (F := Ideal))) ⟨m, fun _ => 0, g⟩ (fun r => ∀ c : Dev Cert.KRmsBwdIdeal.nD,
          r.2.mem ((c.tc : Thread Cert.KRmsBwdIdeal.nD Cert.KRmsBwdIdeal.τ).loc Cert.KRmsBwdIdeal.main_v8_0) = v0 c
          ∧ r.2.mem ((c.tc : Thread Cert.KRmsBwdIdeal.nD Cert.KRmsBwdIdeal.τ).loc Cert.KRmsBwdIdeal.main_v8_1) = v1 c
          ∧ r.2.mem ((c.tc : Thread Cert.KRmsBwdIdeal.nD Cert.KRmsBwdIdeal.τ).loc Cert.KRmsBwdIdeal.main_arg0) = m ((c.tc : Thread Cert.KRmsBwdIdeal.nD Cert.KRmsBwdIdeal.τ).loc Cert.KRmsBwdIdeal.main_arg0)
          ∧ r.2.mem ((c.tc : Thread Cert.KRmsBwdIdeal.nD Cert.KRmsBwdIdeal.τ).loc Cert.KRmsBwdIdeal.main_arg1) = m ((c.tc : Thread Cert.KRmsBwdIdeal.nD Cert.KRmsBwdIdeal.τ).loc Cert.KRmsBwdIdeal.main_arg1)
          ∧ r.2.mem ((c.tc : Thread Cert.KRmsBwdIdeal.nD Cert.KRmsBwdIdeal.τ).loc Cert.KRmsBwdIdeal.main_arg2) = m ((c.tc : Thread Cert.KRmsBwdIdeal.nD Cert.KRmsBwdIdeal.τ).loc Cert.KRmsBwdIdeal.main_arg2)
          ∧ r.2.mem ((c.tc : Thread Cert.KRmsBwdIdeal.nD Cert.KRmsBwdIdeal.τ).loc Cert.KRmsBwdIdeal.main_arg3) = m ((c.tc : Thread Cert.KRmsBwdIdeal.nD Cert.KRmsBwdIdeal.τ).loc Cert.KRmsBwdIdeal.main_arg3))
      ∧ θ_run (Cert.RRmsBwdIdeal.defs (F := Ideal)) (onTc (τ := Cert.RRmsBwdIdeal.τ) (Cert.RRmsBwdIdeal.main (F := Ideal))) ⟨m', fun _ => 0, g'⟩ (fun r => ∀ c : Dev Cert.RRmsBwdIdeal.nD,
          r.2.mem ((c.tc : Thread Cert.RRmsBwdIdeal.nD Cert.RRmsBwdIdeal.τ).loc Cert.RRmsBwdIdeal.main_v36) = v0 c
          ∧ r.2.mem ((c.tc : Thread Cert.RRmsBwdIdeal.nD Cert.RRmsBwdIdeal.τ).loc Cert.RRmsBwdIdeal.main_v18) = v1 c
          ∧ r.2.mem ((c.tc : Thread Cert.RRmsBwdIdeal.nD Cert.RRmsBwdIdeal.τ).loc Cert.RRmsBwdIdeal.main_arg0) = m' ((c.tc : Thread Cert.RRmsBwdIdeal.nD Cert.RRmsBwdIdeal.τ).loc Cert.RRmsBwdIdeal.main_arg0)
          ∧ r.2.mem ((c.tc : Thread Cert.RRmsBwdIdeal.nD Cert.RRmsBwdIdeal.τ).loc Cert.RRmsBwdIdeal.main_arg1) = m' ((c.tc : Thread Cert.RRmsBwdIdeal.nD Cert.RRmsBwdIdeal.τ).loc Cert.RRmsBwdIdeal.main_arg1)
          ∧ r.2.mem ((c.tc : Thread Cert.RRmsBwdIdeal.nD Cert.RRmsBwdIdeal.τ).loc Cert.RRmsBwdIdeal.main_arg2) = m' ((c.tc : Thread Cert.RRmsBwdIdeal.nD Cert.RRmsBwdIdeal.τ).loc Cert.RRmsBwdIdeal.main_arg2)
          ∧ r.2.mem ((c.tc : Thread Cert.RRmsBwdIdeal.nD Cert.RRmsBwdIdeal.τ).loc Cert.RRmsBwdIdeal.main_arg3) = m' ((c.tc : Thread Cert.RRmsBwdIdeal.nD Cert.RRmsBwdIdeal.τ).loc Cert.RRmsBwdIdeal.main_arg3))

def preserves_KRmsFfn_KRmsFfnIdeal : Prop :=
  True

def algebraic_KRmsFfnIdeal_RRmsFfnIdeal [hKRmsFfnIdeal : Cert.KRmsFfnIdeal.Facts] [hRRmsFfnIdeal : Cert.RRmsFfnIdeal.Facts] : Prop :=
  ∀ (m : (ℓ : Loc Cert.KRmsFfnIdeal.nD Cert.KRmsFfnIdeal.τ Cert.KRmsFfnIdeal.sig) → Buf (Elt Ideal) ℓ) (g : Dev Cert.KRmsFfnIdeal.nD → PrngReg)
    (m' : (ℓ : Loc Cert.RRmsFfnIdeal.nD Cert.RRmsFfnIdeal.τ Cert.RRmsFfnIdeal.sig) → Buf (Elt Ideal) ℓ) (g' : Dev Cert.RRmsFfnIdeal.nD → PrngReg), Pre_KRmsFfnIdeal m →
    (∀ c : Dev Cert.KRmsFfnIdeal.nD,
      m' ((c.tc : Thread Cert.RRmsFfnIdeal.nD Cert.RRmsFfnIdeal.τ).loc Cert.RRmsFfnIdeal.main_arg0) = m ((c.tc : Thread Cert.KRmsFfnIdeal.nD Cert.KRmsFfnIdeal.τ).loc Cert.KRmsFfnIdeal.main_arg0)
      ∧ m' ((c.tc : Thread Cert.RRmsFfnIdeal.nD Cert.RRmsFfnIdeal.τ).loc Cert.RRmsFfnIdeal.main_arg1) = m ((c.tc : Thread Cert.KRmsFfnIdeal.nD Cert.KRmsFfnIdeal.τ).loc Cert.KRmsFfnIdeal.main_arg1)
      ∧ m' ((c.tc : Thread Cert.RRmsFfnIdeal.nD Cert.RRmsFfnIdeal.τ).loc Cert.RRmsFfnIdeal.main_arg2) = m ((c.tc : Thread Cert.KRmsFfnIdeal.nD Cert.KRmsFfnIdeal.τ).loc Cert.KRmsFfnIdeal.main_arg2)
      ∧ m' ((c.tc : Thread Cert.RRmsFfnIdeal.nD Cert.RRmsFfnIdeal.τ).loc Cert.RRmsFfnIdeal.main_arg3) = m ((c.tc : Thread Cert.KRmsFfnIdeal.nD Cert.KRmsFfnIdeal.τ).loc Cert.KRmsFfnIdeal.main_arg3)) →
    ∃ (v0 : (c : Dev Cert.KRmsFfnIdeal.nD) → Buf (Elt Ideal) ((c.tc : Thread Cert.KRmsFfnIdeal.nD Cert.KRmsFfnIdeal.τ).loc Cert.KRmsFfnIdeal.main_v8_0)) (v1 : (c : Dev Cert.KRmsFfnIdeal.nD) → Buf (Elt Ideal) ((c.tc : Thread Cert.KRmsFfnIdeal.nD Cert.KRmsFfnIdeal.τ).loc Cert.KRmsFfnIdeal.main_v8_1)),
      θ_run (Cert.KRmsFfnIdeal.defs (F := Ideal)) (onTc (τ := Cert.KRmsFfnIdeal.τ) (Cert.KRmsFfnIdeal.main (F := Ideal))) ⟨m, fun _ => 0, g⟩ (fun r => ∀ c : Dev Cert.KRmsFfnIdeal.nD,
          r.2.mem ((c.tc : Thread Cert.KRmsFfnIdeal.nD Cert.KRmsFfnIdeal.τ).loc Cert.KRmsFfnIdeal.main_v8_0) = v0 c
          ∧ r.2.mem ((c.tc : Thread Cert.KRmsFfnIdeal.nD Cert.KRmsFfnIdeal.τ).loc Cert.KRmsFfnIdeal.main_v8_1) = v1 c
          ∧ r.2.mem ((c.tc : Thread Cert.KRmsFfnIdeal.nD Cert.KRmsFfnIdeal.τ).loc Cert.KRmsFfnIdeal.main_arg0) = m ((c.tc : Thread Cert.KRmsFfnIdeal.nD Cert.KRmsFfnIdeal.τ).loc Cert.KRmsFfnIdeal.main_arg0)
          ∧ r.2.mem ((c.tc : Thread Cert.KRmsFfnIdeal.nD Cert.KRmsFfnIdeal.τ).loc Cert.KRmsFfnIdeal.main_arg1) = m ((c.tc : Thread Cert.KRmsFfnIdeal.nD Cert.KRmsFfnIdeal.τ).loc Cert.KRmsFfnIdeal.main_arg1)
          ∧ r.2.mem ((c.tc : Thread Cert.KRmsFfnIdeal.nD Cert.KRmsFfnIdeal.τ).loc Cert.KRmsFfnIdeal.main_arg2) = m ((c.tc : Thread Cert.KRmsFfnIdeal.nD Cert.KRmsFfnIdeal.τ).loc Cert.KRmsFfnIdeal.main_arg2)
          ∧ r.2.mem ((c.tc : Thread Cert.KRmsFfnIdeal.nD Cert.KRmsFfnIdeal.τ).loc Cert.KRmsFfnIdeal.main_arg3) = m ((c.tc : Thread Cert.KRmsFfnIdeal.nD Cert.KRmsFfnIdeal.τ).loc Cert.KRmsFfnIdeal.main_arg3))
      ∧ θ_run (Cert.RRmsFfnIdeal.defs (F := Ideal)) (onTc (τ := Cert.RRmsFfnIdeal.τ) (Cert.RRmsFfnIdeal.main (F := Ideal))) ⟨m', fun _ => 0, g'⟩ (fun r => ∀ c : Dev Cert.RRmsFfnIdeal.nD,
          r.2.mem ((c.tc : Thread Cert.RRmsFfnIdeal.nD Cert.RRmsFfnIdeal.τ).loc Cert.RRmsFfnIdeal.main_v37) = v0 c
          ∧ r.2.mem ((c.tc : Thread Cert.RRmsFfnIdeal.nD Cert.RRmsFfnIdeal.τ).loc Cert.RRmsFfnIdeal.main_v18) = v1 c
          ∧ r.2.mem ((c.tc : Thread Cert.RRmsFfnIdeal.nD Cert.RRmsFfnIdeal.τ).loc Cert.RRmsFfnIdeal.main_arg0) = m' ((c.tc : Thread Cert.RRmsFfnIdeal.nD Cert.RRmsFfnIdeal.τ).loc Cert.RRmsFfnIdeal.main_arg0)
          ∧ r.2.mem ((c.tc : Thread Cert.RRmsFfnIdeal.nD Cert.RRmsFfnIdeal.τ).loc Cert.RRmsFfnIdeal.main_arg1) = m' ((c.tc : Thread Cert.RRmsFfnIdeal.nD Cert.RRmsFfnIdeal.τ).loc Cert.RRmsFfnIdeal.main_arg1)
          ∧ r.2.mem ((c.tc : Thread Cert.RRmsFfnIdeal.nD Cert.RRmsFfnIdeal.τ).loc Cert.RRmsFfnIdeal.main_arg2) = m' ((c.tc : Thread Cert.RRmsFfnIdeal.nD Cert.RRmsFfnIdeal.τ).loc Cert.RRmsFfnIdeal.main_arg2)
          ∧ r.2.mem ((c.tc : Thread Cert.RRmsFfnIdeal.nD Cert.RRmsFfnIdeal.τ).loc Cert.RRmsFfnIdeal.main_arg3) = m' ((c.tc : Thread Cert.RRmsFfnIdeal.nD Cert.RRmsFfnIdeal.τ).loc Cert.RRmsFfnIdeal.main_arg3))

def preserves_KConvBwd_KConvBwdIdeal : Prop :=
  True

def algebraic_KConvBwdIdeal_RConvBwdIdeal_pre_finite_gradient [hKConvBwdIdeal : Cert.KConvBwdIdeal.Facts] [hRConvBwdIdeal : Cert.RConvBwdIdeal.Facts] [hPre_finite_gradient : Cert.Pre_finite_gradient.Facts] : Prop :=
  ∀ (m : (ℓ : Loc Cert.KConvBwdIdeal.nD Cert.KConvBwdIdeal.τ Cert.KConvBwdIdeal.sig) → Buf (Elt Ideal) ℓ) (g : Dev Cert.KConvBwdIdeal.nD → PrngReg)
    (m' : (ℓ : Loc Cert.RConvBwdIdeal.nD Cert.RConvBwdIdeal.τ Cert.RConvBwdIdeal.sig) → Buf (Elt Ideal) ℓ) (g' : Dev Cert.RConvBwdIdeal.nD → PrngReg), Pre_KConvBwdIdeal_finite_gradient m →
    (∀ c : Dev Cert.KConvBwdIdeal.nD,
      m' ((c.tc : Thread Cert.RConvBwdIdeal.nD Cert.RConvBwdIdeal.τ).loc Cert.RConvBwdIdeal.main_arg0) = m ((c.tc : Thread Cert.KConvBwdIdeal.nD Cert.KConvBwdIdeal.τ).loc Cert.KConvBwdIdeal.main_arg0)
      ∧ m' ((c.tc : Thread Cert.RConvBwdIdeal.nD Cert.RConvBwdIdeal.τ).loc Cert.RConvBwdIdeal.main_arg1) = m ((c.tc : Thread Cert.KConvBwdIdeal.nD Cert.KConvBwdIdeal.τ).loc Cert.KConvBwdIdeal.main_arg1)
      ∧ m' ((c.tc : Thread Cert.RConvBwdIdeal.nD Cert.RConvBwdIdeal.τ).loc Cert.RConvBwdIdeal.main_arg2) = m ((c.tc : Thread Cert.KConvBwdIdeal.nD Cert.KConvBwdIdeal.τ).loc Cert.KConvBwdIdeal.main_arg2)
      ∧ m' ((c.tc : Thread Cert.RConvBwdIdeal.nD Cert.RConvBwdIdeal.τ).loc Cert.RConvBwdIdeal.main_arg3) = m ((c.tc : Thread Cert.KConvBwdIdeal.nD Cert.KConvBwdIdeal.τ).loc Cert.KConvBwdIdeal.main_arg3)) →
    ∃ (v0 : (c : Dev Cert.KConvBwdIdeal.nD) → Buf (Elt Ideal) ((c.tc : Thread Cert.KConvBwdIdeal.nD Cert.KConvBwdIdeal.τ).loc Cert.KConvBwdIdeal.main_v0_0)) (v1 : (c : Dev Cert.KConvBwdIdeal.nD) → Buf (Elt Ideal) ((c.tc : Thread Cert.KConvBwdIdeal.nD Cert.KConvBwdIdeal.τ).loc Cert.KConvBwdIdeal.main_v0_1)),
      θ_run (Cert.KConvBwdIdeal.defs (F := Ideal)) (onTc (τ := Cert.KConvBwdIdeal.τ) (Cert.KConvBwdIdeal.main (F := Ideal))) ⟨m, fun _ => 0, g⟩ (fun r => ∀ c : Dev Cert.KConvBwdIdeal.nD,
          r.2.mem ((c.tc : Thread Cert.KConvBwdIdeal.nD Cert.KConvBwdIdeal.τ).loc Cert.KConvBwdIdeal.main_v0_0) = v0 c
          ∧ r.2.mem ((c.tc : Thread Cert.KConvBwdIdeal.nD Cert.KConvBwdIdeal.τ).loc Cert.KConvBwdIdeal.main_v0_1) = v1 c
          ∧ r.2.mem ((c.tc : Thread Cert.KConvBwdIdeal.nD Cert.KConvBwdIdeal.τ).loc Cert.KConvBwdIdeal.main_arg0) = m ((c.tc : Thread Cert.KConvBwdIdeal.nD Cert.KConvBwdIdeal.τ).loc Cert.KConvBwdIdeal.main_arg0)
          ∧ r.2.mem ((c.tc : Thread Cert.KConvBwdIdeal.nD Cert.KConvBwdIdeal.τ).loc Cert.KConvBwdIdeal.main_arg1) = m ((c.tc : Thread Cert.KConvBwdIdeal.nD Cert.KConvBwdIdeal.τ).loc Cert.KConvBwdIdeal.main_arg1)
          ∧ r.2.mem ((c.tc : Thread Cert.KConvBwdIdeal.nD Cert.KConvBwdIdeal.τ).loc Cert.KConvBwdIdeal.main_arg2) = m ((c.tc : Thread Cert.KConvBwdIdeal.nD Cert.KConvBwdIdeal.τ).loc Cert.KConvBwdIdeal.main_arg2)
          ∧ r.2.mem ((c.tc : Thread Cert.KConvBwdIdeal.nD Cert.KConvBwdIdeal.τ).loc Cert.KConvBwdIdeal.main_arg3) = m ((c.tc : Thread Cert.KConvBwdIdeal.nD Cert.KConvBwdIdeal.τ).loc Cert.KConvBwdIdeal.main_arg3))
      ∧ θ_run (Cert.RConvBwdIdeal.defs (F := Ideal)) (onTc (τ := Cert.RConvBwdIdeal.τ) (Cert.RConvBwdIdeal.main (F := Ideal))) ⟨m', fun _ => 0, g'⟩ (fun r => ∀ c : Dev Cert.RConvBwdIdeal.nD,
          r.2.mem ((c.tc : Thread Cert.RConvBwdIdeal.nD Cert.RConvBwdIdeal.τ).loc Cert.RConvBwdIdeal.main_v81) = v0 c
          ∧ r.2.mem ((c.tc : Thread Cert.RConvBwdIdeal.nD Cert.RConvBwdIdeal.τ).loc Cert.RConvBwdIdeal.main_v74) = v1 c
          ∧ r.2.mem ((c.tc : Thread Cert.RConvBwdIdeal.nD Cert.RConvBwdIdeal.τ).loc Cert.RConvBwdIdeal.main_arg0) = m' ((c.tc : Thread Cert.RConvBwdIdeal.nD Cert.RConvBwdIdeal.τ).loc Cert.RConvBwdIdeal.main_arg0)
          ∧ r.2.mem ((c.tc : Thread Cert.RConvBwdIdeal.nD Cert.RConvBwdIdeal.τ).loc Cert.RConvBwdIdeal.main_arg1) = m' ((c.tc : Thread Cert.RConvBwdIdeal.nD Cert.RConvBwdIdeal.τ).loc Cert.RConvBwdIdeal.main_arg1)
          ∧ r.2.mem ((c.tc : Thread Cert.RConvBwdIdeal.nD Cert.RConvBwdIdeal.τ).loc Cert.RConvBwdIdeal.main_arg2) = m' ((c.tc : Thread Cert.RConvBwdIdeal.nD Cert.RConvBwdIdeal.τ).loc Cert.RConvBwdIdeal.main_arg2)
          ∧ r.2.mem ((c.tc : Thread Cert.RConvBwdIdeal.nD Cert.RConvBwdIdeal.τ).loc Cert.RConvBwdIdeal.main_arg3) = m' ((c.tc : Thread Cert.RConvBwdIdeal.nD Cert.RConvBwdIdeal.τ).loc Cert.RConvBwdIdeal.main_arg3))

def preserves_KInProj_KInProjIdeal : Prop :=
  True

def algebraic_KInProjIdeal_RInProjIdeal [hKInProjIdeal : Cert.KInProjIdeal.Facts] [hRInProjIdeal : Cert.RInProjIdeal.Facts] : Prop :=
  ∀ (m : (ℓ : Loc Cert.KInProjIdeal.nD Cert.KInProjIdeal.τ Cert.KInProjIdeal.sig) → Buf (Elt Ideal) ℓ) (g : Dev Cert.KInProjIdeal.nD → PrngReg)
    (m' : (ℓ : Loc Cert.RInProjIdeal.nD Cert.RInProjIdeal.τ Cert.RInProjIdeal.sig) → Buf (Elt Ideal) ℓ) (g' : Dev Cert.RInProjIdeal.nD → PrngReg), Pre_KInProjIdeal m →
    (∀ c : Dev Cert.KInProjIdeal.nD,
      m' ((c.tc : Thread Cert.RInProjIdeal.nD Cert.RInProjIdeal.τ).loc Cert.RInProjIdeal.main_arg0) = m ((c.tc : Thread Cert.KInProjIdeal.nD Cert.KInProjIdeal.τ).loc Cert.KInProjIdeal.main_arg0)
      ∧ m' ((c.tc : Thread Cert.RInProjIdeal.nD Cert.RInProjIdeal.τ).loc Cert.RInProjIdeal.main_arg1) = m ((c.tc : Thread Cert.KInProjIdeal.nD Cert.KInProjIdeal.τ).loc Cert.KInProjIdeal.main_arg1)) →
    ∃ (v0 : (c : Dev Cert.KInProjIdeal.nD) → Buf (Elt Ideal) ((c.tc : Thread Cert.KInProjIdeal.nD Cert.KInProjIdeal.τ).loc Cert.KInProjIdeal.main_v6)),
      θ_run (Cert.KInProjIdeal.defs (F := Ideal)) (onTc (τ := Cert.KInProjIdeal.τ) (Cert.KInProjIdeal.main (F := Ideal))) ⟨m, fun _ => 0, g⟩ (fun r => ∀ c : Dev Cert.KInProjIdeal.nD,
          r.2.mem ((c.tc : Thread Cert.KInProjIdeal.nD Cert.KInProjIdeal.τ).loc Cert.KInProjIdeal.main_v6) = v0 c
          ∧ r.2.mem ((c.tc : Thread Cert.KInProjIdeal.nD Cert.KInProjIdeal.τ).loc Cert.KInProjIdeal.main_arg0) = m ((c.tc : Thread Cert.KInProjIdeal.nD Cert.KInProjIdeal.τ).loc Cert.KInProjIdeal.main_arg0)
          ∧ r.2.mem ((c.tc : Thread Cert.KInProjIdeal.nD Cert.KInProjIdeal.τ).loc Cert.KInProjIdeal.main_arg1) = m ((c.tc : Thread Cert.KInProjIdeal.nD Cert.KInProjIdeal.τ).loc Cert.KInProjIdeal.main_arg1))
      ∧ θ_run (Cert.RInProjIdeal.defs (F := Ideal)) (onTc (τ := Cert.RInProjIdeal.τ) (Cert.RInProjIdeal.main (F := Ideal))) ⟨m', fun _ => 0, g'⟩ (fun r => ∀ c : Dev Cert.RInProjIdeal.nD,
          r.2.mem ((c.tc : Thread Cert.RInProjIdeal.nD Cert.RInProjIdeal.τ).loc Cert.RInProjIdeal.main_v2) = v0 c
          ∧ r.2.mem ((c.tc : Thread Cert.RInProjIdeal.nD Cert.RInProjIdeal.τ).loc Cert.RInProjIdeal.main_arg0) = m' ((c.tc : Thread Cert.RInProjIdeal.nD Cert.RInProjIdeal.τ).loc Cert.RInProjIdeal.main_arg0)
          ∧ r.2.mem ((c.tc : Thread Cert.RInProjIdeal.nD Cert.RInProjIdeal.τ).loc Cert.RInProjIdeal.main_arg1) = m' ((c.tc : Thread Cert.RInProjIdeal.nD Cert.RInProjIdeal.τ).loc Cert.RInProjIdeal.main_arg1))

def preserves_KInHigh_KInHighIdeal : Prop :=
  True

def algebraic_KInHighIdeal_RInHighIdeal [hKInHighIdeal : Cert.KInHighIdeal.Facts] [hRInHighIdeal : Cert.RInHighIdeal.Facts] : Prop :=
  ∀ (m : (ℓ : Loc Cert.KInHighIdeal.nD Cert.KInHighIdeal.τ Cert.KInHighIdeal.sig) → Buf (Elt Ideal) ℓ) (g : Dev Cert.KInHighIdeal.nD → PrngReg)
    (m' : (ℓ : Loc Cert.RInHighIdeal.nD Cert.RInHighIdeal.τ Cert.RInHighIdeal.sig) → Buf (Elt Ideal) ℓ) (g' : Dev Cert.RInHighIdeal.nD → PrngReg), Pre_KInHighIdeal m →
    (∀ c : Dev Cert.KInHighIdeal.nD,
      m' ((c.tc : Thread Cert.RInHighIdeal.nD Cert.RInHighIdeal.τ).loc Cert.RInHighIdeal.main_arg0) = m ((c.tc : Thread Cert.KInHighIdeal.nD Cert.KInHighIdeal.τ).loc Cert.KInHighIdeal.main_arg0)
      ∧ m' ((c.tc : Thread Cert.RInHighIdeal.nD Cert.RInHighIdeal.τ).loc Cert.RInHighIdeal.main_arg1) = m ((c.tc : Thread Cert.KInHighIdeal.nD Cert.KInHighIdeal.τ).loc Cert.KInHighIdeal.main_arg1)) →
    ∃ (v0 : (c : Dev Cert.KInHighIdeal.nD) → Buf (Elt Ideal) ((c.tc : Thread Cert.KInHighIdeal.nD Cert.KInHighIdeal.τ).loc Cert.KInHighIdeal.main_v0)),
      θ_run (Cert.KInHighIdeal.defs (F := Ideal)) (onTc (τ := Cert.KInHighIdeal.τ) (Cert.KInHighIdeal.main (F := Ideal))) ⟨m, fun _ => 0, g⟩ (fun r => ∀ c : Dev Cert.KInHighIdeal.nD,
          r.2.mem ((c.tc : Thread Cert.KInHighIdeal.nD Cert.KInHighIdeal.τ).loc Cert.KInHighIdeal.main_v0) = v0 c
          ∧ r.2.mem ((c.tc : Thread Cert.KInHighIdeal.nD Cert.KInHighIdeal.τ).loc Cert.KInHighIdeal.main_arg0) = m ((c.tc : Thread Cert.KInHighIdeal.nD Cert.KInHighIdeal.τ).loc Cert.KInHighIdeal.main_arg0)
          ∧ r.2.mem ((c.tc : Thread Cert.KInHighIdeal.nD Cert.KInHighIdeal.τ).loc Cert.KInHighIdeal.main_arg1) = m ((c.tc : Thread Cert.KInHighIdeal.nD Cert.KInHighIdeal.τ).loc Cert.KInHighIdeal.main_arg1))
      ∧ θ_run (Cert.RInHighIdeal.defs (F := Ideal)) (onTc (τ := Cert.RInHighIdeal.τ) (Cert.RInHighIdeal.main (F := Ideal))) ⟨m', fun _ => 0, g'⟩ (fun r => ∀ c : Dev Cert.RInHighIdeal.nD,
          r.2.mem ((c.tc : Thread Cert.RInHighIdeal.nD Cert.RInHighIdeal.τ).loc Cert.RInHighIdeal.main_v5) = v0 c
          ∧ r.2.mem ((c.tc : Thread Cert.RInHighIdeal.nD Cert.RInHighIdeal.τ).loc Cert.RInHighIdeal.main_arg0) = m' ((c.tc : Thread Cert.RInHighIdeal.nD Cert.RInHighIdeal.τ).loc Cert.RInHighIdeal.main_arg0)
          ∧ r.2.mem ((c.tc : Thread Cert.RInHighIdeal.nD Cert.RInHighIdeal.τ).loc Cert.RInHighIdeal.main_arg1) = m' ((c.tc : Thread Cert.RInHighIdeal.nD Cert.RInHighIdeal.τ).loc Cert.RInHighIdeal.main_arg1))

def preserves_KOutProj_KOutProjIdeal : Prop :=
  True

def algebraic_KOutProjIdeal_ROutProjIdeal [hKOutProjIdeal : Cert.KOutProjIdeal.Facts] [hROutProjIdeal : Cert.ROutProjIdeal.Facts] : Prop :=
  ∀ (m : (ℓ : Loc Cert.KOutProjIdeal.nD Cert.KOutProjIdeal.τ Cert.KOutProjIdeal.sig) → Buf (Elt Ideal) ℓ) (g : Dev Cert.KOutProjIdeal.nD → PrngReg)
    (m' : (ℓ : Loc Cert.ROutProjIdeal.nD Cert.ROutProjIdeal.τ Cert.ROutProjIdeal.sig) → Buf (Elt Ideal) ℓ) (g' : Dev Cert.ROutProjIdeal.nD → PrngReg), Pre_KOutProjIdeal m →
    (∀ c : Dev Cert.KOutProjIdeal.nD,
      m' ((c.tc : Thread Cert.ROutProjIdeal.nD Cert.ROutProjIdeal.τ).loc Cert.ROutProjIdeal.main_arg0) = m ((c.tc : Thread Cert.KOutProjIdeal.nD Cert.KOutProjIdeal.τ).loc Cert.KOutProjIdeal.main_arg0)
      ∧ m' ((c.tc : Thread Cert.ROutProjIdeal.nD Cert.ROutProjIdeal.τ).loc Cert.ROutProjIdeal.main_arg1) = m ((c.tc : Thread Cert.KOutProjIdeal.nD Cert.KOutProjIdeal.τ).loc Cert.KOutProjIdeal.main_arg1)
      ∧ m' ((c.tc : Thread Cert.ROutProjIdeal.nD Cert.ROutProjIdeal.τ).loc Cert.ROutProjIdeal.main_arg2) = m ((c.tc : Thread Cert.KOutProjIdeal.nD Cert.KOutProjIdeal.τ).loc Cert.KOutProjIdeal.main_arg2)
      ∧ m' ((c.tc : Thread Cert.ROutProjIdeal.nD Cert.ROutProjIdeal.τ).loc Cert.ROutProjIdeal.main_arg3) = m ((c.tc : Thread Cert.KOutProjIdeal.nD Cert.KOutProjIdeal.τ).loc Cert.KOutProjIdeal.main_arg3)) →
    ∃ (v0 : (c : Dev Cert.KOutProjIdeal.nD) → Buf (Elt Ideal) ((c.tc : Thread Cert.KOutProjIdeal.nD Cert.KOutProjIdeal.τ).loc Cert.KOutProjIdeal.main_v0_0)) (v1 : (c : Dev Cert.KOutProjIdeal.nD) → Buf (Elt Ideal) ((c.tc : Thread Cert.KOutProjIdeal.nD Cert.KOutProjIdeal.τ).loc Cert.KOutProjIdeal.main_v0_1)) (v2 : (c : Dev Cert.KOutProjIdeal.nD) → Buf (Elt Ideal) ((c.tc : Thread Cert.KOutProjIdeal.nD Cert.KOutProjIdeal.τ).loc Cert.KOutProjIdeal.main_v0_2)),
      θ_run (Cert.KOutProjIdeal.defs (F := Ideal)) (onTc (τ := Cert.KOutProjIdeal.τ) (Cert.KOutProjIdeal.main (F := Ideal))) ⟨m, fun _ => 0, g⟩ (fun r => ∀ c : Dev Cert.KOutProjIdeal.nD,
          r.2.mem ((c.tc : Thread Cert.KOutProjIdeal.nD Cert.KOutProjIdeal.τ).loc Cert.KOutProjIdeal.main_v0_0) = v0 c
          ∧ r.2.mem ((c.tc : Thread Cert.KOutProjIdeal.nD Cert.KOutProjIdeal.τ).loc Cert.KOutProjIdeal.main_v0_1) = v1 c
          ∧ r.2.mem ((c.tc : Thread Cert.KOutProjIdeal.nD Cert.KOutProjIdeal.τ).loc Cert.KOutProjIdeal.main_v0_2) = v2 c
          ∧ r.2.mem ((c.tc : Thread Cert.KOutProjIdeal.nD Cert.KOutProjIdeal.τ).loc Cert.KOutProjIdeal.main_arg0) = m ((c.tc : Thread Cert.KOutProjIdeal.nD Cert.KOutProjIdeal.τ).loc Cert.KOutProjIdeal.main_arg0)
          ∧ r.2.mem ((c.tc : Thread Cert.KOutProjIdeal.nD Cert.KOutProjIdeal.τ).loc Cert.KOutProjIdeal.main_arg1) = m ((c.tc : Thread Cert.KOutProjIdeal.nD Cert.KOutProjIdeal.τ).loc Cert.KOutProjIdeal.main_arg1)
          ∧ r.2.mem ((c.tc : Thread Cert.KOutProjIdeal.nD Cert.KOutProjIdeal.τ).loc Cert.KOutProjIdeal.main_arg2) = m ((c.tc : Thread Cert.KOutProjIdeal.nD Cert.KOutProjIdeal.τ).loc Cert.KOutProjIdeal.main_arg2)
          ∧ r.2.mem ((c.tc : Thread Cert.KOutProjIdeal.nD Cert.KOutProjIdeal.τ).loc Cert.KOutProjIdeal.main_arg3) = m ((c.tc : Thread Cert.KOutProjIdeal.nD Cert.KOutProjIdeal.τ).loc Cert.KOutProjIdeal.main_arg3))
      ∧ θ_run (Cert.ROutProjIdeal.defs (F := Ideal)) (onTc (τ := Cert.ROutProjIdeal.τ) (Cert.ROutProjIdeal.main (F := Ideal))) ⟨m', fun _ => 0, g'⟩ (fun r => ∀ c : Dev Cert.ROutProjIdeal.nD,
          r.2.mem ((c.tc : Thread Cert.ROutProjIdeal.nD Cert.ROutProjIdeal.τ).loc Cert.ROutProjIdeal.main_v3) = v0 c
          ∧ r.2.mem ((c.tc : Thread Cert.ROutProjIdeal.nD Cert.ROutProjIdeal.τ).loc Cert.ROutProjIdeal.main_v16) = v1 c
          ∧ r.2.mem ((c.tc : Thread Cert.ROutProjIdeal.nD Cert.ROutProjIdeal.τ).loc Cert.ROutProjIdeal.main_v11) = v2 c
          ∧ r.2.mem ((c.tc : Thread Cert.ROutProjIdeal.nD Cert.ROutProjIdeal.τ).loc Cert.ROutProjIdeal.main_arg0) = m' ((c.tc : Thread Cert.ROutProjIdeal.nD Cert.ROutProjIdeal.τ).loc Cert.ROutProjIdeal.main_arg0)
          ∧ r.2.mem ((c.tc : Thread Cert.ROutProjIdeal.nD Cert.ROutProjIdeal.τ).loc Cert.ROutProjIdeal.main_arg1) = m' ((c.tc : Thread Cert.ROutProjIdeal.nD Cert.ROutProjIdeal.τ).loc Cert.ROutProjIdeal.main_arg1)
          ∧ r.2.mem ((c.tc : Thread Cert.ROutProjIdeal.nD Cert.ROutProjIdeal.τ).loc Cert.ROutProjIdeal.main_arg2) = m' ((c.tc : Thread Cert.ROutProjIdeal.nD Cert.ROutProjIdeal.τ).loc Cert.ROutProjIdeal.main_arg2)
          ∧ r.2.mem ((c.tc : Thread Cert.ROutProjIdeal.nD Cert.ROutProjIdeal.τ).loc Cert.ROutProjIdeal.main_arg3) = m' ((c.tc : Thread Cert.ROutProjIdeal.nD Cert.ROutProjIdeal.τ).loc Cert.ROutProjIdeal.main_arg3))

def preserves_KConv_KConvIdeal : Prop :=
  True

def algebraic_KConvIdeal_RConvIdeal [hKConvIdeal : Cert.KConvIdeal.Facts] [hRConvIdeal : Cert.RConvIdeal.Facts] : Prop :=
  ∀ (m : (ℓ : Loc Cert.KConvIdeal.nD Cert.KConvIdeal.τ Cert.KConvIdeal.sig) → Buf (Elt Ideal) ℓ) (g : Dev Cert.KConvIdeal.nD → PrngReg)
    (m' : (ℓ : Loc Cert.RConvIdeal.nD Cert.RConvIdeal.τ Cert.RConvIdeal.sig) → Buf (Elt Ideal) ℓ) (g' : Dev Cert.RConvIdeal.nD → PrngReg), Pre_KConvIdeal m →
    (∀ c : Dev Cert.KConvIdeal.nD,
      m' ((c.tc : Thread Cert.RConvIdeal.nD Cert.RConvIdeal.τ).loc Cert.RConvIdeal.main_arg0) = m ((c.tc : Thread Cert.KConvIdeal.nD Cert.KConvIdeal.τ).loc Cert.KConvIdeal.main_arg0)
      ∧ m' ((c.tc : Thread Cert.RConvIdeal.nD Cert.RConvIdeal.τ).loc Cert.RConvIdeal.main_arg1) = m ((c.tc : Thread Cert.KConvIdeal.nD Cert.KConvIdeal.τ).loc Cert.KConvIdeal.main_arg1)) →
    ∃ (v0 : (c : Dev Cert.KConvIdeal.nD) → Buf (Elt Ideal) ((c.tc : Thread Cert.KConvIdeal.nD Cert.KConvIdeal.τ).loc Cert.KConvIdeal.main_v0)),
      θ_run (Cert.KConvIdeal.defs (F := Ideal)) (onTc (τ := Cert.KConvIdeal.τ) (Cert.KConvIdeal.main (F := Ideal))) ⟨m, fun _ => 0, g⟩ (fun r => ∀ c : Dev Cert.KConvIdeal.nD,
          r.2.mem ((c.tc : Thread Cert.KConvIdeal.nD Cert.KConvIdeal.τ).loc Cert.KConvIdeal.main_v0) = v0 c
          ∧ r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
          ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1))
      ∧ θ_run (Cert.RConvIdeal.defs (F := Ideal)) (onTc (τ := Cert.RConvIdeal.τ) (Cert.RConvIdeal.main (F := Ideal))) ⟨m', fun _ => 0, g'⟩ (fun r => ∀ c : Dev Cert.RConvIdeal.nD,
          r.2.mem ((c.tc : Thread Cert.RConvIdeal.nD Cert.RConvIdeal.τ).loc Cert.RConvIdeal.main_v32) = v0 c
          ∧ r.2.mem ((c.tc : Thread Cert.RConvIdeal.nD Cert.RConvIdeal.τ).loc Cert.RConvIdeal.main_arg0) = m' ((c.tc : Thread Cert.RConvIdeal.nD Cert.RConvIdeal.τ).loc Cert.RConvIdeal.main_arg0)
          ∧ r.2.mem ((c.tc : Thread Cert.RConvIdeal.nD Cert.RConvIdeal.τ).loc Cert.RConvIdeal.main_arg1) = m' ((c.tc : Thread Cert.RConvIdeal.nD Cert.RConvIdeal.τ).loc Cert.RConvIdeal.main_arg1))

def preserves_KRms_KRmsIdeal : Prop :=
  True

def algebraic_KRmsIdeal_RRmsIdeal [hKRmsIdeal : Cert.KRmsIdeal.Facts] [hRRmsIdeal : Cert.RRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg)
    (m' : (ℓ : Loc Cert.RRmsIdeal.nD Cert.RRmsIdeal.τ Cert.RRmsIdeal.sig) → Buf (Elt Ideal) ℓ) (g' : Dev Cert.RRmsIdeal.nD → PrngReg), Pre_KRmsIdeal m →
    (∀ c : Dev Cert.KRmsIdeal.nD,
      m' ((c.tc : Thread Cert.RRmsIdeal.nD Cert.RRmsIdeal.τ).loc Cert.RRmsIdeal.main_arg0) = m ((c.tc : Thread Cert.KRmsIdeal.nD Cert.KRmsIdeal.τ).loc Cert.KRmsIdeal.main_arg0)
      ∧ m' ((c.tc : Thread Cert.RRmsIdeal.nD Cert.RRmsIdeal.τ).loc Cert.RRmsIdeal.main_arg1) = m ((c.tc : Thread Cert.KRmsIdeal.nD Cert.KRmsIdeal.τ).loc Cert.KRmsIdeal.main_arg1)) →
    ∃ (v0 : (c : Dev Cert.KRmsIdeal.nD) → Buf (Elt Ideal) ((c.tc : Thread Cert.KRmsIdeal.nD Cert.KRmsIdeal.τ).loc Cert.KRmsIdeal.main_v0_0)) (v1 : (c : Dev Cert.KRmsIdeal.nD) → Buf (Elt Ideal) ((c.tc : Thread Cert.KRmsIdeal.nD Cert.KRmsIdeal.τ).loc Cert.KRmsIdeal.main_v0_1)),
      θ_run (Cert.KRmsIdeal.defs (F := Ideal)) (onTc (τ := Cert.KRmsIdeal.τ) (Cert.KRmsIdeal.main (F := Ideal))) ⟨m, fun _ => 0, g⟩ (fun r => ∀ c : Dev Cert.KRmsIdeal.nD,
          r.2.mem ((c.tc : Thread Cert.KRmsIdeal.nD Cert.KRmsIdeal.τ).loc Cert.KRmsIdeal.main_v0_0) = v0 c
          ∧ r.2.mem ((c.tc : Thread Cert.KRmsIdeal.nD Cert.KRmsIdeal.τ).loc Cert.KRmsIdeal.main_v0_1) = v1 c
          ∧ r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
          ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1))
      ∧ θ_run (Cert.RRmsIdeal.defs (F := Ideal)) (onTc (τ := Cert.RRmsIdeal.τ) (Cert.RRmsIdeal.main (F := Ideal))) ⟨m', fun _ => 0, g'⟩ (fun r => ∀ c : Dev Cert.RRmsIdeal.nD,
          r.2.mem ((c.tc : Thread Cert.RRmsIdeal.nD Cert.RRmsIdeal.τ).loc Cert.RRmsIdeal.main_v12) = v0 c
          ∧ r.2.mem ((c.tc : Thread Cert.RRmsIdeal.nD Cert.RRmsIdeal.τ).loc Cert.RRmsIdeal.main_v20) = v1 c
          ∧ r.2.mem ((c.tc : Thread Cert.RRmsIdeal.nD Cert.RRmsIdeal.τ).loc Cert.RRmsIdeal.main_arg0) = m' ((c.tc : Thread Cert.RRmsIdeal.nD Cert.RRmsIdeal.τ).loc Cert.RRmsIdeal.main_arg0)
          ∧ r.2.mem ((c.tc : Thread Cert.RRmsIdeal.nD Cert.RRmsIdeal.τ).loc Cert.RRmsIdeal.main_arg1) = m' ((c.tc : Thread Cert.RRmsIdeal.nD Cert.RRmsIdeal.τ).loc Cert.RRmsIdeal.main_arg1))

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)
      ∧ m' ((c.tc : Thread Cert.RLossIdeal.nD Cert.RLossIdeal.τ).loc Cert.RLossIdeal.main_arg2) = m ((c.tc : Thread Cert.KLossIdeal.nD Cert.KLossIdeal.τ).loc Cert.KLossIdeal.main_arg2)
      ∧ m' ((c.tc : Thread Cert.RLossIdeal.nD Cert.RLossIdeal.τ).loc Cert.RLossIdeal.main_arg3) = m ((c.tc : Thread Cert.KLossIdeal.nD Cert.KLossIdeal.τ).loc Cert.KLossIdeal.main_arg3)
      ∧ m' ((c.tc : Thread Cert.RLossIdeal.nD Cert.RLossIdeal.τ).loc Cert.RLossIdeal.main_arg4) = m ((c.tc : Thread Cert.KLossIdeal.nD Cert.KLossIdeal.τ).loc Cert.KLossIdeal.main_arg4)) →
    ∃ (v0 : (c : Dev Cert.KLossIdeal.nD) → Buf (Elt Ideal) ((c.tc : Thread Cert.KLossIdeal.nD Cert.KLossIdeal.τ).loc Cert.KLossIdeal.main_v0_0)) (v1 : (c : Dev Cert.KLossIdeal.nD) → Buf (Elt Ideal) ((c.tc : Thread Cert.KLossIdeal.nD Cert.KLossIdeal.τ).loc Cert.KLossIdeal.main_v0_1)) (v2 : (c : Dev Cert.KLossIdeal.nD) → Buf (Elt Ideal) ((c.tc : Thread Cert.KLossIdeal.nD Cert.KLossIdeal.τ).loc Cert.KLossIdeal.main_v0_2)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v0_0) = v0 c
          ∧ r.2.mem ((c.tc : Thread Cert.KLossIdeal.nD Cert.KLossIdeal.τ).loc Cert.KLossIdeal.main_v0_1) = v1 c
          ∧ r.2.mem ((c.tc : Thread Cert.KLossIdeal.nD Cert.KLossIdeal.τ).loc Cert.KLossIdeal.main_v0_2) = v2 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
          ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
          ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
          ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v53) = v0 c
          ∧ r.2.mem ((c.tc : Thread Cert.RLossIdeal.nD Cert.RLossIdeal.τ).loc Cert.RLossIdeal.main_v54) = v1 c
          ∧ r.2.mem ((c.tc : Thread Cert.RLossIdeal.nD Cert.RLossIdeal.τ).loc Cert.RLossIdeal.main_v36) = v2 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2)
          ∧ r.2.mem ((c.tc : Thread Cert.RLossIdeal.nD Cert.RLossIdeal.τ).loc Cert.RLossIdeal.main_arg3) = m' ((c.tc : Thread Cert.RLossIdeal.nD Cert.RLossIdeal.τ).loc Cert.RLossIdeal.main_arg3)
          ∧ r.2.mem ((c.tc : Thread Cert.RLossIdeal.nD Cert.RLossIdeal.τ).loc Cert.RLossIdeal.main_arg4) = m' ((c.tc : Thread Cert.RLossIdeal.nD Cert.RLossIdeal.τ).loc Cert.RLossIdeal.main_arg4))

def preserves_KPair_KPairIdeal : Prop :=
  True

def algebraic_KPairIdeal_RPairIdeal [hKPairIdeal : Cert.KPairIdeal.Facts] [hRPairIdeal : Cert.RPairIdeal.Facts] : Prop :=
  ∀ (m : (ℓ : Loc Cert.KPairIdeal.nD Cert.KPairIdeal.τ Cert.KPairIdeal.sig) → Buf (Elt Ideal) ℓ) (g : Dev Cert.KPairIdeal.nD → PrngReg)
    (m' : (ℓ : Loc Cert.RPairIdeal.nD Cert.RPairIdeal.τ Cert.RPairIdeal.sig) → Buf (Elt Ideal) ℓ) (g' : Dev Cert.RPairIdeal.nD → PrngReg), Pre_KPairIdeal m →
    (∀ c : Dev Cert.KPairIdeal.nD,
      m' ((c.tc : Thread Cert.RPairIdeal.nD Cert.RPairIdeal.τ).loc Cert.RPairIdeal.main_arg0) = m ((c.tc : Thread Cert.KPairIdeal.nD Cert.KPairIdeal.τ).loc Cert.KPairIdeal.main_arg0)
      ∧ m' ((c.tc : Thread Cert.RPairIdeal.nD Cert.RPairIdeal.τ).loc Cert.RPairIdeal.main_arg1) = m ((c.tc : Thread Cert.KPairIdeal.nD Cert.KPairIdeal.τ).loc Cert.KPairIdeal.main_arg1)) →
    ∃ (v0 : (c : Dev Cert.KPairIdeal.nD) → Buf (Elt Ideal) ((c.tc : Thread Cert.KPairIdeal.nD Cert.KPairIdeal.τ).loc Cert.KPairIdeal.main_v2)),
      θ_run (Cert.KPairIdeal.defs (F := Ideal)) (onTc (τ := Cert.KPairIdeal.τ) (Cert.KPairIdeal.main (F := Ideal))) ⟨m, fun _ => 0, g⟩ (fun r => ∀ c : Dev Cert.KPairIdeal.nD,
          r.2.mem ((c.tc : Thread Cert.KPairIdeal.nD Cert.KPairIdeal.τ).loc Cert.KPairIdeal.main_v2) = v0 c
          ∧ r.2.mem ((c.tc : Thread Cert.KPairIdeal.nD Cert.KPairIdeal.τ).loc Cert.KPairIdeal.main_arg0) = m ((c.tc : Thread Cert.KPairIdeal.nD Cert.KPairIdeal.τ).loc Cert.KPairIdeal.main_arg0)
          ∧ r.2.mem ((c.tc : Thread Cert.KPairIdeal.nD Cert.KPairIdeal.τ).loc Cert.KPairIdeal.main_arg1) = m ((c.tc : Thread Cert.KPairIdeal.nD Cert.KPairIdeal.τ).loc Cert.KPairIdeal.main_arg1))
      ∧ θ_run (Cert.RPairIdeal.defs (F := Ideal)) (onTc (τ := Cert.RPairIdeal.τ) (Cert.RPairIdeal.main (F := Ideal))) ⟨m', fun _ => 0, g'⟩ (fun r => ∀ c : Dev Cert.RPairIdeal.nD,
          r.2.mem ((c.tc : Thread Cert.RPairIdeal.nD Cert.RPairIdeal.τ).loc Cert.RPairIdeal.main_v6) = v0 c
          ∧ r.2.mem ((c.tc : Thread Cert.RPairIdeal.nD Cert.RPairIdeal.τ).loc Cert.RPairIdeal.main_arg0) = m' ((c.tc : Thread Cert.RPairIdeal.nD Cert.RPairIdeal.τ).loc Cert.RPairIdeal.main_arg0)
          ∧ r.2.mem ((c.tc : Thread Cert.RPairIdeal.nD Cert.RPairIdeal.τ).loc Cert.RPairIdeal.main_arg1) = m' ((c.tc : Thread Cert.RPairIdeal.nD Cert.RPairIdeal.τ).loc Cert.RPairIdeal.main_arg1))

def preserves_KAdFf2_KAdFf2Ideal : Prop :=
  True

def algebraic_KAdFf2Ideal_RAdFf2Ideal [hKAdFf2Ideal : Cert.KAdFf2Ideal.Facts] [hRAdFf2Ideal : Cert.RAdFf2Ideal.Facts] : Prop :=
  ∀ (m : (ℓ : Loc Cert.KAdFf2Ideal.nD Cert.KAdFf2Ideal.τ Cert.KAdFf2Ideal.sig) → Buf (Elt Ideal) ℓ) (g : Dev Cert.KAdFf2Ideal.nD → PrngReg)
    (m' : (ℓ : Loc Cert.RAdFf2Ideal.nD Cert.RAdFf2Ideal.τ Cert.RAdFf2Ideal.sig) → Buf (Elt Ideal) ℓ) (g' : Dev Cert.RAdFf2Ideal.nD → PrngReg), Pre_KAdFf2Ideal m →
    (∀ c : Dev Cert.KAdFf2Ideal.nD,
      m' ((c.tc : Thread Cert.RAdFf2Ideal.nD Cert.RAdFf2Ideal.τ).loc Cert.RAdFf2Ideal.main_arg0) = m ((c.tc : Thread Cert.KAdFf2Ideal.nD Cert.KAdFf2Ideal.τ).loc Cert.KAdFf2Ideal.main_arg0)
      ∧ m' ((c.tc : Thread Cert.RAdFf2Ideal.nD Cert.RAdFf2Ideal.τ).loc Cert.RAdFf2Ideal.main_arg1) = m ((c.tc : Thread Cert.KAdFf2Ideal.nD Cert.KAdFf2Ideal.τ).loc Cert.KAdFf2Ideal.main_arg1)
      ∧ m' ((c.tc : Thread Cert.RAdFf2Ideal.nD Cert.RAdFf2Ideal.τ).loc Cert.RAdFf2Ideal.main_arg2) = m ((c.tc : Thread Cert.KAdFf2Ideal.nD Cert.KAdFf2Ideal.τ).loc Cert.KAdFf2Ideal.main_arg2)
      ∧ m' ((c.tc : Thread Cert.RAdFf2Ideal.nD Cert.RAdFf2Ideal.τ).loc Cert.RAdFf2Ideal.main_arg3) = m ((c.tc : Thread Cert.KAdFf2Ideal.nD Cert.KAdFf2Ideal.τ).loc Cert.KAdFf2Ideal.main_arg3)
      ∧ m' ((c.tc : Thread Cert.RAdFf2Ideal.nD Cert.RAdFf2Ideal.τ).loc Cert.RAdFf2Ideal.main_arg4) = m ((c.tc : Thread Cert.KAdFf2Ideal.nD Cert.KAdFf2Ideal.τ).loc Cert.KAdFf2Ideal.main_arg4)) →
    ∃ (v0 : (c : Dev Cert.KAdFf2Ideal.nD) → Buf (Elt Ideal) ((c.tc : Thread Cert.KAdFf2Ideal.nD Cert.KAdFf2Ideal.τ).loc Cert.KAdFf2Ideal.main_v1_0)) (v1 : (c : Dev Cert.KAdFf2Ideal.nD) → Buf (Elt Ideal) ((c.tc : Thread Cert.KAdFf2Ideal.nD Cert.KAdFf2Ideal.τ).loc Cert.KAdFf2Ideal.main_v1_1)) (v2 : (c : Dev Cert.KAdFf2Ideal.nD) → Buf (Elt Ideal) ((c.tc : Thread Cert.KAdFf2Ideal.nD Cert.KAdFf2Ideal.τ).loc Cert.KAdFf2Ideal.main_v1_2)) (v3 : (c : Dev Cert.KAdFf2Ideal.nD) → Buf (Elt Ideal) ((c.tc : Thread Cert.KAdFf2Ideal.nD Cert.KAdFf2Ideal.τ).loc Cert.KAdFf2Ideal.main_v1_3)),
      θ_run (Cert.KAdFf2Ideal.defs (F := Ideal)) (onTc (τ := Cert.KAdFf2Ideal.τ) (Cert.KAdFf2Ideal.main (F := Ideal))) ⟨m, fun _ => 0, g⟩ (fun r => ∀ c : Dev Cert.KAdFf2Ideal.nD,
          r.2.mem ((c.tc : Thread Cert.KAdFf2Ideal.nD Cert.KAdFf2Ideal.τ).loc Cert.KAdFf2Ideal.main_v1_0) = v0 c
          ∧ r.2.mem ((c.tc : Thread Cert.KAdFf2Ideal.nD Cert.KAdFf2Ideal.τ).loc Cert.KAdFf2Ideal.main_v1_1) = v1 c
          ∧ r.2.mem ((c.tc : Thread Cert.KAdFf2Ideal.nD Cert.KAdFf2Ideal.τ).loc Cert.KAdFf2Ideal.main_v1_2) = v2 c
          ∧ r.2.mem ((c.tc : Thread Cert.KAdFf2Ideal.nD Cert.KAdFf2Ideal.τ).loc Cert.KAdFf2Ideal.main_v1_3) = v3 c
          ∧ r.2.mem ((c.tc : Thread Cert.KAdFf2Ideal.nD Cert.KAdFf2Ideal.τ).loc Cert.KAdFf2Ideal.main_arg0) = m ((c.tc : Thread Cert.KAdFf2Ideal.nD Cert.KAdFf2Ideal.τ).loc Cert.KAdFf2Ideal.main_arg0)
          ∧ r.2.mem ((c.tc : Thread Cert.KAdFf2Ideal.nD Cert.KAdFf2Ideal.τ).loc Cert.KAdFf2Ideal.main_arg1) = m ((c.tc : Thread Cert.KAdFf2Ideal.nD Cert.KAdFf2Ideal.τ).loc Cert.KAdFf2Ideal.main_arg1)
          ∧ r.2.mem ((c.tc : Thread Cert.KAdFf2Ideal.nD Cert.KAdFf2Ideal.τ).loc Cert.KAdFf2Ideal.main_arg2) = m ((c.tc : Thread Cert.KAdFf2Ideal.nD Cert.KAdFf2Ideal.τ).loc Cert.KAdFf2Ideal.main_arg2)
          ∧ r.2.mem ((c.tc : Thread Cert.KAdFf2Ideal.nD Cert.KAdFf2Ideal.τ).loc Cert.KAdFf2Ideal.main_arg3) = m ((c.tc : Thread Cert.KAdFf2Ideal.nD Cert.KAdFf2Ideal.τ).loc Cert.KAdFf2Ideal.main_arg3)
          ∧ r.2.mem ((c.tc : Thread Cert.KAdFf2Ideal.nD Cert.KAdFf2Ideal.τ).loc Cert.KAdFf2Ideal.main_arg4) = m ((c.tc : Thread Cert.KAdFf2Ideal.nD Cert.KAdFf2Ideal.τ).loc Cert.KAdFf2Ideal.main_arg4))
      ∧ θ_run (Cert.RAdFf2Ideal.defs (F := Ideal)) (onTc (τ := Cert.RAdFf2Ideal.τ) (Cert.RAdFf2Ideal.main (F := Ideal))) ⟨m', fun _ => 0, g'⟩ (fun r => ∀ c : Dev Cert.RAdFf2Ideal.nD,
          r.2.mem ((c.tc : Thread Cert.RAdFf2Ideal.nD Cert.RAdFf2Ideal.τ).loc Cert.RAdFf2Ideal.main_v4) = v0 c
          ∧ r.2.mem ((c.tc : Thread Cert.RAdFf2Ideal.nD Cert.RAdFf2Ideal.τ).loc Cert.RAdFf2Ideal.main_v28) = v1 c
          ∧ r.2.mem ((c.tc : Thread Cert.RAdFf2Ideal.nD Cert.RAdFf2Ideal.τ).loc Cert.RAdFf2Ideal.main_v9) = v2 c
          ∧ r.2.mem ((c.tc : Thread Cert.RAdFf2Ideal.nD Cert.RAdFf2Ideal.τ).loc Cert.RAdFf2Ideal.main_v15) = v3 c
          ∧ r.2.mem ((c.tc : Thread Cert.RAdFf2Ideal.nD Cert.RAdFf2Ideal.τ).loc Cert.RAdFf2Ideal.main_arg0) = m' ((c.tc : Thread Cert.RAdFf2Ideal.nD Cert.RAdFf2Ideal.τ).loc Cert.RAdFf2Ideal.main_arg0)
          ∧ r.2.mem ((c.tc : Thread Cert.RAdFf2Ideal.nD Cert.RAdFf2Ideal.τ).loc Cert.RAdFf2Ideal.main_arg1) = m' ((c.tc : Thread Cert.RAdFf2Ideal.nD Cert.RAdFf2Ideal.τ).loc Cert.RAdFf2Ideal.main_arg1)
          ∧ r.2.mem ((c.tc : Thread Cert.RAdFf2Ideal.nD Cert.RAdFf2Ideal.τ).loc Cert.RAdFf2Ideal.main_arg2) = m' ((c.tc : Thread Cert.RAdFf2Ideal.nD Cert.RAdFf2Ideal.τ).loc Cert.RAdFf2Ideal.main_arg2)
          ∧ r.2.mem ((c.tc : Thread Cert.RAdFf2Ideal.nD Cert.RAdFf2Ideal.τ).loc Cert.RAdFf2Ideal.main_arg3) = m' ((c.tc : Thread Cert.RAdFf2Ideal.nD Cert.RAdFf2Ideal.τ).loc Cert.RAdFf2Ideal.main_arg3)
          ∧ r.2.mem ((c.tc : Thread Cert.RAdFf2Ideal.nD Cert.RAdFf2Ideal.τ).loc Cert.RAdFf2Ideal.main_arg4) = m' ((c.tc : Thread Cert.RAdFf2Ideal.nD Cert.RAdFf2Ideal.τ).loc Cert.RAdFf2Ideal.main_arg4))

def preserves_KAdFf1_KAdFf1Ideal : Prop :=
  True

def algebraic_KAdFf1Ideal_RAdFf1Ideal [hKAdFf1Ideal : Cert.KAdFf1Ideal.Facts] [hRAdFf1Ideal : Cert.RAdFf1Ideal.Facts] : Prop :=
  ∀ (m : (ℓ : Loc Cert.KAdFf1Ideal.nD Cert.KAdFf1Ideal.τ Cert.KAdFf1Ideal.sig) → Buf (Elt Ideal) ℓ) (g : Dev Cert.KAdFf1Ideal.nD → PrngReg)
    (m' : (ℓ : Loc Cert.RAdFf1Ideal.nD Cert.RAdFf1Ideal.τ Cert.RAdFf1Ideal.sig) → Buf (Elt Ideal) ℓ) (g' : Dev Cert.RAdFf1Ideal.nD → PrngReg), Pre_KAdFf1Ideal m →
    (∀ c : Dev Cert.KAdFf1Ideal.nD,
      m' ((c.tc : Thread Cert.RAdFf1Ideal.nD Cert.RAdFf1Ideal.τ).loc Cert.RAdFf1Ideal.main_arg0) = m ((c.tc : Thread Cert.KAdFf1Ideal.nD Cert.KAdFf1Ideal.τ).loc Cert.KAdFf1Ideal.main_arg0)
      ∧ m' ((c.tc : Thread Cert.RAdFf1Ideal.nD Cert.RAdFf1Ideal.τ).loc Cert.RAdFf1Ideal.main_arg1) = m ((c.tc : Thread Cert.KAdFf1Ideal.nD Cert.KAdFf1Ideal.τ).loc Cert.KAdFf1Ideal.main_arg1)
      ∧ m' ((c.tc : Thread Cert.RAdFf1Ideal.nD Cert.RAdFf1Ideal.τ).loc Cert.RAdFf1Ideal.main_arg2) = m ((c.tc : Thread Cert.KAdFf1Ideal.nD Cert.KAdFf1Ideal.τ).loc Cert.KAdFf1Ideal.main_arg2)
      ∧ m' ((c.tc : Thread Cert.RAdFf1Ideal.nD Cert.RAdFf1Ideal.τ).loc Cert.RAdFf1Ideal.main_arg3) = m ((c.tc : Thread Cert.KAdFf1Ideal.nD Cert.KAdFf1Ideal.τ).loc Cert.KAdFf1Ideal.main_arg3)
      ∧ m' ((c.tc : Thread Cert.RAdFf1Ideal.nD Cert.RAdFf1Ideal.τ).loc Cert.RAdFf1Ideal.main_arg4) = m ((c.tc : Thread Cert.KAdFf1Ideal.nD Cert.KAdFf1Ideal.τ).loc Cert.KAdFf1Ideal.main_arg4)) →
    ∃ (v0 : (c : Dev Cert.KAdFf1Ideal.nD) → Buf (Elt Ideal) ((c.tc : Thread Cert.KAdFf1Ideal.nD Cert.KAdFf1Ideal.τ).loc Cert.KAdFf1Ideal.main_v1_0)) (v1 : (c : Dev Cert.KAdFf1Ideal.nD) → Buf (Elt Ideal) ((c.tc : Thread Cert.KAdFf1Ideal.nD Cert.KAdFf1Ideal.τ).loc Cert.KAdFf1Ideal.main_v1_1)) (v2 : (c : Dev Cert.KAdFf1Ideal.nD) → Buf (Elt Ideal) ((c.tc : Thread Cert.KAdFf1Ideal.nD Cert.KAdFf1Ideal.τ).loc Cert.KAdFf1Ideal.main_v1_2)) (v3 : (c : Dev Cert.KAdFf1Ideal.nD) → Buf (Elt Ideal) ((c.tc : Thread Cert.KAdFf1Ideal.nD Cert.KAdFf1Ideal.τ).loc Cert.KAdFf1Ideal.main_v1_3)),
      θ_run (Cert.KAdFf1Ideal.defs (F := Ideal)) (onTc (τ := Cert.KAdFf1Ideal.τ) (Cert.KAdFf1Ideal.main (F := Ideal))) ⟨m, fun _ => 0, g⟩ (fun r => ∀ c : Dev Cert.KAdFf1Ideal.nD,
          r.2.mem ((c.tc : Thread Cert.KAdFf1Ideal.nD Cert.KAdFf1Ideal.τ).loc Cert.KAdFf1Ideal.main_v1_0) = v0 c
          ∧ r.2.mem ((c.tc : Thread Cert.KAdFf1Ideal.nD Cert.KAdFf1Ideal.τ).loc Cert.KAdFf1Ideal.main_v1_1) = v1 c
          ∧ r.2.mem ((c.tc : Thread Cert.KAdFf1Ideal.nD Cert.KAdFf1Ideal.τ).loc Cert.KAdFf1Ideal.main_v1_2) = v2 c
          ∧ r.2.mem ((c.tc : Thread Cert.KAdFf1Ideal.nD Cert.KAdFf1Ideal.τ).loc Cert.KAdFf1Ideal.main_v1_3) = v3 c
          ∧ r.2.mem ((c.tc : Thread Cert.KAdFf1Ideal.nD Cert.KAdFf1Ideal.τ).loc Cert.KAdFf1Ideal.main_arg0) = m ((c.tc : Thread Cert.KAdFf1Ideal.nD Cert.KAdFf1Ideal.τ).loc Cert.KAdFf1Ideal.main_arg0)
          ∧ r.2.mem ((c.tc : Thread Cert.KAdFf1Ideal.nD Cert.KAdFf1Ideal.τ).loc Cert.KAdFf1Ideal.main_arg1) = m ((c.tc : Thread Cert.KAdFf1Ideal.nD Cert.KAdFf1Ideal.τ).loc Cert.KAdFf1Ideal.main_arg1)
          ∧ r.2.mem ((c.tc : Thread Cert.KAdFf1Ideal.nD Cert.KAdFf1Ideal.τ).loc Cert.KAdFf1Ideal.main_arg2) = m ((c.tc : Thread Cert.KAdFf1Ideal.nD Cert.KAdFf1Ideal.τ).loc Cert.KAdFf1Ideal.main_arg2)
          ∧ r.2.mem ((c.tc : Thread Cert.KAdFf1Ideal.nD Cert.KAdFf1Ideal.τ).loc Cert.KAdFf1Ideal.main_arg3) = m ((c.tc : Thread Cert.KAdFf1Ideal.nD Cert.KAdFf1Ideal.τ).loc Cert.KAdFf1Ideal.main_arg3)
          ∧ r.2.mem ((c.tc : Thread Cert.KAdFf1Ideal.nD Cert.KAdFf1Ideal.τ).loc Cert.KAdFf1Ideal.main_arg4) = m ((c.tc : Thread Cert.KAdFf1Ideal.nD Cert.KAdFf1Ideal.τ).loc Cert.KAdFf1Ideal.main_arg4))
      ∧ θ_run (Cert.RAdFf1Ideal.defs (F := Ideal)) (onTc (τ := Cert.RAdFf1Ideal.τ) (Cert.RAdFf1Ideal.main (F := Ideal))) ⟨m', fun _ => 0, g'⟩ (fun r => ∀ c : Dev Cert.RAdFf1Ideal.nD,
          r.2.mem ((c.tc : Thread Cert.RAdFf1Ideal.nD Cert.RAdFf1Ideal.τ).loc Cert.RAdFf1Ideal.main_v4) = v0 c
          ∧ r.2.mem ((c.tc : Thread Cert.RAdFf1Ideal.nD Cert.RAdFf1Ideal.τ).loc Cert.RAdFf1Ideal.main_v28) = v1 c
          ∧ r.2.mem ((c.tc : Thread Cert.RAdFf1Ideal.nD Cert.RAdFf1Ideal.τ).loc Cert.RAdFf1Ideal.main_v9) = v2 c
          ∧ r.2.mem ((c.tc : Thread Cert.RAdFf1Ideal.nD Cert.RAdFf1Ideal.τ).loc Cert.RAdFf1Ideal.main_v15) = v3 c
          ∧ r.2.mem ((c.tc : Thread Cert.RAdFf1Ideal.nD Cert.RAdFf1Ideal.τ).loc Cert.RAdFf1Ideal.main_arg0) = m' ((c.tc : Thread Cert.RAdFf1Ideal.nD Cert.RAdFf1Ideal.τ).loc Cert.RAdFf1Ideal.main_arg0)
          ∧ r.2.mem ((c.tc : Thread Cert.RAdFf1Ideal.nD Cert.RAdFf1Ideal.τ).loc Cert.RAdFf1Ideal.main_arg1) = m' ((c.tc : Thread Cert.RAdFf1Ideal.nD Cert.RAdFf1Ideal.τ).loc Cert.RAdFf1Ideal.main_arg1)
          ∧ r.2.mem ((c.tc : Thread Cert.RAdFf1Ideal.nD Cert.RAdFf1Ideal.τ).loc Cert.RAdFf1Ideal.main_arg2) = m' ((c.tc : Thread Cert.RAdFf1Ideal.nD Cert.RAdFf1Ideal.τ).loc Cert.RAdFf1Ideal.main_arg2)
          ∧ r.2.mem ((c.tc : Thread Cert.RAdFf1Ideal.nD Cert.RAdFf1Ideal.τ).loc Cert.RAdFf1Ideal.main_arg3) = m' ((c.tc : Thread Cert.RAdFf1Ideal.nD Cert.RAdFf1Ideal.τ).loc Cert.RAdFf1Ideal.main_arg3)
          ∧ r.2.mem ((c.tc : Thread Cert.RAdFf1Ideal.nD Cert.RAdFf1Ideal.τ).loc Cert.RAdFf1Ideal.main_arg4) = m' ((c.tc : Thread Cert.RAdFf1Ideal.nD Cert.RAdFf1Ideal.τ).loc Cert.RAdFf1Ideal.main_arg4))

def preserves_KAdOut_KAdOutIdeal : Prop :=
  True

def algebraic_KAdOutIdeal_RAdOutIdeal [hKAdOutIdeal : Cert.KAdOutIdeal.Facts] [hRAdOutIdeal : Cert.RAdOutIdeal.Facts] : Prop :=
  ∀ (m : (ℓ : Loc Cert.KAdOutIdeal.nD Cert.KAdOutIdeal.τ Cert.KAdOutIdeal.sig) → Buf (Elt Ideal) ℓ) (g : Dev Cert.KAdOutIdeal.nD → PrngReg)
    (m' : (ℓ : Loc Cert.RAdOutIdeal.nD Cert.RAdOutIdeal.τ Cert.RAdOutIdeal.sig) → Buf (Elt Ideal) ℓ) (g' : Dev Cert.RAdOutIdeal.nD → PrngReg), Pre_KAdOutIdeal m →
    (∀ c : Dev Cert.KAdOutIdeal.nD,
      m' ((c.tc : Thread Cert.RAdOutIdeal.nD Cert.RAdOutIdeal.τ).loc Cert.RAdOutIdeal.main_arg0) = m ((c.tc : Thread Cert.KAdOutIdeal.nD Cert.KAdOutIdeal.τ).loc Cert.KAdOutIdeal.main_arg0)
      ∧ m' ((c.tc : Thread Cert.RAdOutIdeal.nD Cert.RAdOutIdeal.τ).loc Cert.RAdOutIdeal.main_arg1) = m ((c.tc : Thread Cert.KAdOutIdeal.nD Cert.KAdOutIdeal.τ).loc Cert.KAdOutIdeal.main_arg1)
      ∧ m' ((c.tc : Thread Cert.RAdOutIdeal.nD Cert.RAdOutIdeal.τ).loc Cert.RAdOutIdeal.main_arg2) = m ((c.tc : Thread Cert.KAdOutIdeal.nD Cert.KAdOutIdeal.τ).loc Cert.KAdOutIdeal.main_arg2)
      ∧ m' ((c.tc : Thread Cert.RAdOutIdeal.nD Cert.RAdOutIdeal.τ).loc Cert.RAdOutIdeal.main_arg3) = m ((c.tc : Thread Cert.KAdOutIdeal.nD Cert.KAdOutIdeal.τ).loc Cert.KAdOutIdeal.main_arg3)
      ∧ m' ((c.tc : Thread Cert.RAdOutIdeal.nD Cert.RAdOutIdeal.τ).loc Cert.RAdOutIdeal.main_arg4) = m ((c.tc : Thread Cert.KAdOutIdeal.nD Cert.KAdOutIdeal.τ).loc Cert.KAdOutIdeal.main_arg4)) →
    ∃ (v0 : (c : Dev Cert.KAdOutIdeal.nD) → Buf (Elt Ideal) ((c.tc : Thread Cert.KAdOutIdeal.nD Cert.KAdOutIdeal.τ).loc Cert.KAdOutIdeal.main_v1_0)) (v1 : (c : Dev Cert.KAdOutIdeal.nD) → Buf (Elt Ideal) ((c.tc : Thread Cert.KAdOutIdeal.nD Cert.KAdOutIdeal.τ).loc Cert.KAdOutIdeal.main_v1_1)) (v2 : (c : Dev Cert.KAdOutIdeal.nD) → Buf (Elt Ideal) ((c.tc : Thread Cert.KAdOutIdeal.nD Cert.KAdOutIdeal.τ).loc Cert.KAdOutIdeal.main_v1_2)) (v3 : (c : Dev Cert.KAdOutIdeal.nD) → Buf (Elt Ideal) ((c.tc : Thread Cert.KAdOutIdeal.nD Cert.KAdOutIdeal.τ).loc Cert.KAdOutIdeal.main_v1_3)),
      θ_run (Cert.KAdOutIdeal.defs (F := Ideal)) (onTc (τ := Cert.KAdOutIdeal.τ) (Cert.KAdOutIdeal.main (F := Ideal))) ⟨m, fun _ => 0, g⟩ (fun r => ∀ c : Dev Cert.KAdOutIdeal.nD,
          r.2.mem ((c.tc : Thread Cert.KAdOutIdeal.nD Cert.KAdOutIdeal.τ).loc Cert.KAdOutIdeal.main_v1_0) = v0 c
          ∧ r.2.mem ((c.tc : Thread Cert.KAdOutIdeal.nD Cert.KAdOutIdeal.τ).loc Cert.KAdOutIdeal.main_v1_1) = v1 c
          ∧ r.2.mem ((c.tc : Thread Cert.KAdOutIdeal.nD Cert.KAdOutIdeal.τ).loc Cert.KAdOutIdeal.main_v1_2) = v2 c
          ∧ r.2.mem ((c.tc : Thread Cert.KAdOutIdeal.nD Cert.KAdOutIdeal.τ).loc Cert.KAdOutIdeal.main_v1_3) = v3 c
          ∧ r.2.mem ((c.tc : Thread Cert.KAdOutIdeal.nD Cert.KAdOutIdeal.τ).loc Cert.KAdOutIdeal.main_arg0) = m ((c.tc : Thread Cert.KAdOutIdeal.nD Cert.KAdOutIdeal.τ).loc Cert.KAdOutIdeal.main_arg0)
          ∧ r.2.mem ((c.tc : Thread Cert.KAdOutIdeal.nD Cert.KAdOutIdeal.τ).loc Cert.KAdOutIdeal.main_arg1) = m ((c.tc : Thread Cert.KAdOutIdeal.nD Cert.KAdOutIdeal.τ).loc Cert.KAdOutIdeal.main_arg1)
          ∧ r.2.mem ((c.tc : Thread Cert.KAdOutIdeal.nD Cert.KAdOutIdeal.τ).loc Cert.KAdOutIdeal.main_arg2) = m ((c.tc : Thread Cert.KAdOutIdeal.nD Cert.KAdOutIdeal.τ).loc Cert.KAdOutIdeal.main_arg2)
          ∧ r.2.mem ((c.tc : Thread Cert.KAdOutIdeal.nD Cert.KAdOutIdeal.τ).loc Cert.KAdOutIdeal.main_arg3) = m ((c.tc : Thread Cert.KAdOutIdeal.nD Cert.KAdOutIdeal.τ).loc Cert.KAdOutIdeal.main_arg3)
          ∧ r.2.mem ((c.tc : Thread Cert.KAdOutIdeal.nD Cert.KAdOutIdeal.τ).loc Cert.KAdOutIdeal.main_arg4) = m ((c.tc : Thread Cert.KAdOutIdeal.nD Cert.KAdOutIdeal.τ).loc Cert.KAdOutIdeal.main_arg4))
      ∧ θ_run (Cert.RAdOutIdeal.defs (F := Ideal)) (onTc (τ := Cert.RAdOutIdeal.τ) (Cert.RAdOutIdeal.main (F := Ideal))) ⟨m', fun _ => 0, g'⟩ (fun r => ∀ c : Dev Cert.RAdOutIdeal.nD,
          r.2.mem ((c.tc : Thread Cert.RAdOutIdeal.nD Cert.RAdOutIdeal.τ).loc Cert.RAdOutIdeal.main_v4) = v0 c
          ∧ r.2.mem ((c.tc : Thread Cert.RAdOutIdeal.nD Cert.RAdOutIdeal.τ).loc Cert.RAdOutIdeal.main_v28) = v1 c
          ∧ r.2.mem ((c.tc : Thread Cert.RAdOutIdeal.nD Cert.RAdOutIdeal.τ).loc Cert.RAdOutIdeal.main_v9) = v2 c
          ∧ r.2.mem ((c.tc : Thread Cert.RAdOutIdeal.nD Cert.RAdOutIdeal.τ).loc Cert.RAdOutIdeal.main_v15) = v3 c
          ∧ r.2.mem ((c.tc : Thread Cert.RAdOutIdeal.nD Cert.RAdOutIdeal.τ).loc Cert.RAdOutIdeal.main_arg0) = m' ((c.tc : Thread Cert.RAdOutIdeal.nD Cert.RAdOutIdeal.τ).loc Cert.RAdOutIdeal.main_arg0)
          ∧ r.2.mem ((c.tc : Thread Cert.RAdOutIdeal.nD Cert.RAdOutIdeal.τ).loc Cert.RAdOutIdeal.main_arg1) = m' ((c.tc : Thread Cert.RAdOutIdeal.nD Cert.RAdOutIdeal.τ).loc Cert.RAdOutIdeal.main_arg1)
          ∧ r.2.mem ((c.tc : Thread Cert.RAdOutIdeal.nD Cert.RAdOutIdeal.τ).loc Cert.RAdOutIdeal.main_arg2) = m' ((c.tc : Thread Cert.RAdOutIdeal.nD Cert.RAdOutIdeal.τ).loc Cert.RAdOutIdeal.main_arg2)
          ∧ r.2.mem ((c.tc : Thread Cert.RAdOutIdeal.nD Cert.RAdOutIdeal.τ).loc Cert.RAdOutIdeal.main_arg3) = m' ((c.tc : Thread Cert.RAdOutIdeal.nD Cert.RAdOutIdeal.τ).loc Cert.RAdOutIdeal.main_arg3)
          ∧ r.2.mem ((c.tc : Thread Cert.RAdOutIdeal.nD Cert.RAdOutIdeal.τ).loc Cert.RAdOutIdeal.main_arg4) = m' ((c.tc : Thread Cert.RAdOutIdeal.nD Cert.RAdOutIdeal.τ).loc Cert.RAdOutIdeal.main_arg4))

def preserves_KAdIn_KAdInIdeal : Prop :=
  True

def algebraic_KAdInIdeal_RAdInIdeal [hKAdInIdeal : Cert.KAdInIdeal.Facts] [hRAdInIdeal : Cert.RAdInIdeal.Facts] : Prop :=
  ∀ (m : (ℓ : Loc Cert.KAdInIdeal.nD Cert.KAdInIdeal.τ Cert.KAdInIdeal.sig) → Buf (Elt Ideal) ℓ) (g : Dev Cert.KAdInIdeal.nD → PrngReg)
    (m' : (ℓ : Loc Cert.RAdInIdeal.nD Cert.RAdInIdeal.τ Cert.RAdInIdeal.sig) → Buf (Elt Ideal) ℓ) (g' : Dev Cert.RAdInIdeal.nD → PrngReg), Pre_KAdInIdeal m →
    (∀ c : Dev Cert.KAdInIdeal.nD,
      m' ((c.tc : Thread Cert.RAdInIdeal.nD Cert.RAdInIdeal.τ).loc Cert.RAdInIdeal.main_arg0) = m ((c.tc : Thread Cert.KAdInIdeal.nD Cert.KAdInIdeal.τ).loc Cert.KAdInIdeal.main_arg0)
      ∧ m' ((c.tc : Thread Cert.RAdInIdeal.nD Cert.RAdInIdeal.τ).loc Cert.RAdInIdeal.main_arg1) = m ((c.tc : Thread Cert.KAdInIdeal.nD Cert.KAdInIdeal.τ).loc Cert.KAdInIdeal.main_arg1)
      ∧ m' ((c.tc : Thread Cert.RAdInIdeal.nD Cert.RAdInIdeal.τ).loc Cert.RAdInIdeal.main_arg2) = m ((c.tc : Thread Cert.KAdInIdeal.nD Cert.KAdInIdeal.τ).loc Cert.KAdInIdeal.main_arg2)
      ∧ m' ((c.tc : Thread Cert.RAdInIdeal.nD Cert.RAdInIdeal.τ).loc Cert.RAdInIdeal.main_arg3) = m ((c.tc : Thread Cert.KAdInIdeal.nD Cert.KAdInIdeal.τ).loc Cert.KAdInIdeal.main_arg3)
      ∧ m' ((c.tc : Thread Cert.RAdInIdeal.nD Cert.RAdInIdeal.τ).loc Cert.RAdInIdeal.main_arg4) = m ((c.tc : Thread Cert.KAdInIdeal.nD Cert.KAdInIdeal.τ).loc Cert.KAdInIdeal.main_arg4)) →
    ∃ (v0 : (c : Dev Cert.KAdInIdeal.nD) → Buf (Elt Ideal) ((c.tc : Thread Cert.KAdInIdeal.nD Cert.KAdInIdeal.τ).loc Cert.KAdInIdeal.main_v1_0)) (v1 : (c : Dev Cert.KAdInIdeal.nD) → Buf (Elt Ideal) ((c.tc : Thread Cert.KAdInIdeal.nD Cert.KAdInIdeal.τ).loc Cert.KAdInIdeal.main_v1_1)) (v2 : (c : Dev Cert.KAdInIdeal.nD) → Buf (Elt Ideal) ((c.tc : Thread Cert.KAdInIdeal.nD Cert.KAdInIdeal.τ).loc Cert.KAdInIdeal.main_v1_2)) (v3 : (c : Dev Cert.KAdInIdeal.nD) → Buf (Elt Ideal) ((c.tc : Thread Cert.KAdInIdeal.nD Cert.KAdInIdeal.τ).loc Cert.KAdInIdeal.main_v1_3)),
      θ_run (Cert.KAdInIdeal.defs (F := Ideal)) (onTc (τ := Cert.KAdInIdeal.τ) (Cert.KAdInIdeal.main (F := Ideal))) ⟨m, fun _ => 0, g⟩ (fun r => ∀ c : Dev Cert.KAdInIdeal.nD,
          r.2.mem ((c.tc : Thread Cert.KAdInIdeal.nD Cert.KAdInIdeal.τ).loc Cert.KAdInIdeal.main_v1_0) = v0 c
          ∧ r.2.mem ((c.tc : Thread Cert.KAdInIdeal.nD Cert.KAdInIdeal.τ).loc Cert.KAdInIdeal.main_v1_1) = v1 c
          ∧ r.2.mem ((c.tc : Thread Cert.KAdInIdeal.nD Cert.KAdInIdeal.τ).loc Cert.KAdInIdeal.main_v1_2) = v2 c
          ∧ r.2.mem ((c.tc : Thread Cert.KAdInIdeal.nD Cert.KAdInIdeal.τ).loc Cert.KAdInIdeal.main_v1_3) = v3 c
          ∧ r.2.mem ((c.tc : Thread Cert.KAdInIdeal.nD Cert.KAdInIdeal.τ).loc Cert.KAdInIdeal.main_arg0) = m ((c.tc : Thread Cert.KAdInIdeal.nD Cert.KAdInIdeal.τ).loc Cert.KAdInIdeal.main_arg0)
          ∧ r.2.mem ((c.tc : Thread Cert.KAdInIdeal.nD Cert.KAdInIdeal.τ).loc Cert.KAdInIdeal.main_arg1) = m ((c.tc : Thread Cert.KAdInIdeal.nD Cert.KAdInIdeal.τ).loc Cert.KAdInIdeal.main_arg1)
          ∧ r.2.mem ((c.tc : Thread Cert.KAdInIdeal.nD Cert.KAdInIdeal.τ).loc Cert.KAdInIdeal.main_arg2) = m ((c.tc : Thread Cert.KAdInIdeal.nD Cert.KAdInIdeal.τ).loc Cert.KAdInIdeal.main_arg2)
          ∧ r.2.mem ((c.tc : Thread Cert.KAdInIdeal.nD Cert.KAdInIdeal.τ).loc Cert.KAdInIdeal.main_arg3) = m ((c.tc : Thread Cert.KAdInIdeal.nD Cert.KAdInIdeal.τ).loc Cert.KAdInIdeal.main_arg3)
          ∧ r.2.mem ((c.tc : Thread Cert.KAdInIdeal.nD Cert.KAdInIdeal.τ).loc Cert.KAdInIdeal.main_arg4) = m ((c.tc : Thread Cert.KAdInIdeal.nD Cert.KAdInIdeal.τ).loc Cert.KAdInIdeal.main_arg4))
      ∧ θ_run (Cert.RAdInIdeal.defs (F := Ideal)) (onTc (τ := Cert.RAdInIdeal.τ) (Cert.RAdInIdeal.main (F := Ideal))) ⟨m', fun _ => 0, g'⟩ (fun r => ∀ c : Dev Cert.RAdInIdeal.nD,
          r.2.mem ((c.tc : Thread Cert.RAdInIdeal.nD Cert.RAdInIdeal.τ).loc Cert.RAdInIdeal.main_v4) = v0 c
          ∧ r.2.mem ((c.tc : Thread Cert.RAdInIdeal.nD Cert.RAdInIdeal.τ).loc Cert.RAdInIdeal.main_v28) = v1 c
          ∧ r.2.mem ((c.tc : Thread Cert.RAdInIdeal.nD Cert.RAdInIdeal.τ).loc Cert.RAdInIdeal.main_v9) = v2 c
          ∧ r.2.mem ((c.tc : Thread Cert.RAdInIdeal.nD Cert.RAdInIdeal.τ).loc Cert.RAdInIdeal.main_v15) = v3 c
          ∧ r.2.mem ((c.tc : Thread Cert.RAdInIdeal.nD Cert.RAdInIdeal.τ).loc Cert.RAdInIdeal.main_arg0) = m' ((c.tc : Thread Cert.RAdInIdeal.nD Cert.RAdInIdeal.τ).loc Cert.RAdInIdeal.main_arg0)
          ∧ r.2.mem ((c.tc : Thread Cert.RAdInIdeal.nD Cert.RAdInIdeal.τ).loc Cert.RAdInIdeal.main_arg1) = m' ((c.tc : Thread Cert.RAdInIdeal.nD Cert.RAdInIdeal.τ).loc Cert.RAdInIdeal.main_arg1)
          ∧ r.2.mem ((c.tc : Thread Cert.RAdInIdeal.nD Cert.RAdInIdeal.τ).loc Cert.RAdInIdeal.main_arg2) = m' ((c.tc : Thread Cert.RAdInIdeal.nD Cert.RAdInIdeal.τ).loc Cert.RAdInIdeal.main_arg2)
          ∧ r.2.mem ((c.tc : Thread Cert.RAdInIdeal.nD Cert.RAdInIdeal.τ).loc Cert.RAdInIdeal.main_arg3) = m' ((c.tc : Thread Cert.RAdInIdeal.nD Cert.RAdInIdeal.τ).loc Cert.RAdInIdeal.main_arg3)
          ∧ r.2.mem ((c.tc : Thread Cert.RAdInIdeal.nD Cert.RAdInIdeal.τ).loc Cert.RAdInIdeal.main_arg4) = m' ((c.tc : Thread Cert.RAdInIdeal.nD Cert.RAdInIdeal.τ).loc Cert.RAdInIdeal.main_arg4))

def Claim : Prop :=
  ∃ (hKernel : Cert.Kernel.Facts) (hKernelIdeal : Cert.KernelIdeal.Facts) (hReferenceIdeal : Cert.ReferenceIdeal.Facts) (hKDwFf2 : Cert.KDwFf2.Facts) (hKDwFf2Ideal : Cert.KDwFf2Ideal.Facts) (hRDwFf2Ideal : Cert.RDwFf2Ideal.Facts) (hKDn2 : Cert.KDn2.Facts) (hKDn2Ideal : Cert.KDn2Ideal.Facts) (hRDn2Ideal : Cert.RDn2Ideal.Facts) (hKDwFf1 : Cert.KDwFf1.Facts) (hKDwFf1Ideal : Cert.KDwFf1Ideal.Facts) (hRDwFf1Ideal : Cert.RDwFf1Ideal.Facts) (hKFf1 : Cert.KFf1.Facts) (hKFf1Ideal : Cert.KFf1Ideal.Facts) (hRFf1Ideal : Cert.RFf1Ideal.Facts) (hKDMix : Cert.KDMix.Facts) (hKDMixIdeal : Cert.KDMixIdeal.Facts) (hRDMixIdeal : Cert.RDMixIdeal.Facts) (hKDwOut : Cert.KDwOut.Facts) (hKDwOutIdeal : Cert.KDwOutIdeal.Facts) (hRDwOutIdeal : Cert.RDwOutIdeal.Facts) (hKDwIn : Cert.KDwIn.Facts) (hKDwInIdeal : Cert.KDwInIdeal.Facts) (hRDwInIdeal : Cert.RDwInIdeal.Facts) (hKDn1 : Cert.KDn1.Facts) (hKDn1Ideal : Cert.KDn1Ideal.Facts) (hRDn1Ideal : Cert.RDn1Ideal.Facts) (hKRmsBwd : Cert.KRmsBwd.Facts) (hKRmsBwdIdeal : Cert.KRmsBwdIdeal.Facts) (hRRmsBwdIdeal : Cert.RRmsBwdIdeal.Facts) (hKRmsFfn : Cert.KRmsFfn.Facts) (hKRmsFfnIdeal : Cert.KRmsFfnIdeal.Facts) (hRRmsFfnIdeal : Cert.RRmsFfnIdeal.Facts) (hKConvBwd : Cert.KConvBwd.Facts) (hKConvBwdIdeal : Cert.KConvBwdIdeal.Facts) (hRConvBwdIdeal : Cert.RConvBwdIdeal.Facts) (hKInProj : Cert.KInProj.Facts) (hKInProjIdeal : Cert.KInProjIdeal.Facts) (hRInProjIdeal : Cert.RInProjIdeal.Facts) (hKInHigh : Cert.KInHigh.Facts) (hKInHighIdeal : Cert.KInHighIdeal.Facts) (hRInHighIdeal : Cert.RInHighIdeal.Facts) (hKOutProj : Cert.KOutProj.Facts) (hKOutProjIdeal : Cert.KOutProjIdeal.Facts) (hROutProjIdeal : Cert.ROutProjIdeal.Facts) (hKConv : Cert.KConv.Facts) (hKConvIdeal : Cert.KConvIdeal.Facts) (hRConvIdeal : Cert.RConvIdeal.Facts) (hKRms : Cert.KRms.Facts) (hKRmsIdeal : Cert.KRmsIdeal.Facts) (hRRmsIdeal : Cert.RRmsIdeal.Facts) (hKLoss : Cert.KLoss.Facts) (hKLossIdeal : Cert.KLossIdeal.Facts) (hRLossIdeal : Cert.RLossIdeal.Facts) (hKPair : Cert.KPair.Facts) (hKPairIdeal : Cert.KPairIdeal.Facts) (hRPairIdeal : Cert.RPairIdeal.Facts) (hKAdFf2 : Cert.KAdFf2.Facts) (hKAdFf2Ideal : Cert.KAdFf2Ideal.Facts) (hRAdFf2Ideal : Cert.RAdFf2Ideal.Facts) (hKAdFf1 : Cert.KAdFf1.Facts) (hKAdFf1Ideal : Cert.KAdFf1Ideal.Facts) (hRAdFf1Ideal : Cert.RAdFf1Ideal.Facts) (hKAdOut : Cert.KAdOut.Facts) (hKAdOutIdeal : Cert.KAdOutIdeal.Facts) (hRAdOutIdeal : Cert.RAdOutIdeal.Facts) (hKAdIn : Cert.KAdIn.Facts) (hKAdInIdeal : Cert.KAdInIdeal.Facts) (hRAdInIdeal : Cert.RAdInIdeal.Facts) (hPre_finite_gradient : Cert.Pre_finite_gradient.Facts),
    quiescent_Kernel (hKernel := hKernel)
    ∧ quiescent_KernelIdeal (hKernelIdeal := hKernelIdeal)
    ∧ quiescent_ReferenceIdeal (hReferenceIdeal := hReferenceIdeal)
    ∧ quiescent_KDwFf2 (hKDwFf2 := hKDwFf2)
    ∧ quiescent_KDwFf2Ideal (hKDwFf2Ideal := hKDwFf2Ideal)
    ∧ quiescent_RDwFf2Ideal (hRDwFf2Ideal := hRDwFf2Ideal)
    ∧ quiescent_KDn2 (hKDn2 := hKDn2)
    ∧ quiescent_KDn2Ideal (hKDn2Ideal := hKDn2Ideal)
    ∧ quiescent_RDn2Ideal (hRDn2Ideal := hRDn2Ideal)
    ∧ quiescent_KDwFf1 (hKDwFf1 := hKDwFf1)
    ∧ quiescent_KDwFf1Ideal (hKDwFf1Ideal := hKDwFf1Ideal)
    ∧ quiescent_RDwFf1Ideal (hRDwFf1Ideal := hRDwFf1Ideal)
    ∧ quiescent_KFf1 (hKFf1 := hKFf1)
    ∧ quiescent_KFf1Ideal (hKFf1Ideal := hKFf1Ideal)
    ∧ quiescent_RFf1Ideal (hRFf1Ideal := hRFf1Ideal)
    ∧ quiescent_KDMix (hKDMix := hKDMix)
    ∧ quiescent_KDMixIdeal (hKDMixIdeal := hKDMixIdeal)
    ∧ quiescent_RDMixIdeal (hRDMixIdeal := hRDMixIdeal)
    ∧ quiescent_KDwOut (hKDwOut := hKDwOut)
    ∧ quiescent_KDwOutIdeal (hKDwOutIdeal := hKDwOutIdeal)
    ∧ quiescent_RDwOutIdeal (hRDwOutIdeal := hRDwOutIdeal)
    ∧ quiescent_KDwIn (hKDwIn := hKDwIn)
    ∧ quiescent_KDwInIdeal (hKDwInIdeal := hKDwInIdeal)
    ∧ quiescent_RDwInIdeal (hRDwInIdeal := hRDwInIdeal)
    ∧ quiescent_KDn1 (hKDn1 := hKDn1)
    ∧ quiescent_KDn1Ideal (hKDn1Ideal := hKDn1Ideal)
    ∧ quiescent_RDn1Ideal (hRDn1Ideal := hRDn1Ideal)
    ∧ quiescent_KRmsBwd (hKRmsBwd := hKRmsBwd)
    ∧ quiescent_KRmsBwdIdeal (hKRmsBwdIdeal := hKRmsBwdIdeal)
    ∧ quiescent_RRmsBwdIdeal (hRRmsBwdIdeal := hRRmsBwdIdeal)
    ∧ quiescent_KRmsFfn (hKRmsFfn := hKRmsFfn)
    ∧ quiescent_KRmsFfnIdeal (hKRmsFfnIdeal := hKRmsFfnIdeal)
    ∧ quiescent_RRmsFfnIdeal (hRRmsFfnIdeal := hRRmsFfnIdeal)
    ∧ quiescent_KConvBwd (hKConvBwd := hKConvBwd)
    ∧ quiescent_KConvBwdIdeal (hKConvBwdIdeal := hKConvBwdIdeal)
    ∧ quiescent_KConvBwdIdeal_pre_finite_gradient (hKConvBwdIdeal := hKConvBwdIdeal) (hPre_finite_gradient := hPre_finite_gradient)
    ∧ quiescent_RConvBwdIdeal (hRConvBwdIdeal := hRConvBwdIdeal)
    ∧ quiescent_RConvBwdIdeal_pre_finite_gradient (hRConvBwdIdeal := hRConvBwdIdeal) (hPre_finite_gradient := hPre_finite_gradient)
    ∧ quiescent_KInProj (hKInProj := hKInProj)
    ∧ quiescent_KInProjIdeal (hKInProjIdeal := hKInProjIdeal)
    ∧ quiescent_RInProjIdeal (hRInProjIdeal := hRInProjIdeal)
    ∧ quiescent_KInHigh (hKInHigh := hKInHigh)
    ∧ quiescent_KInHighIdeal (hKInHighIdeal := hKInHighIdeal)
    ∧ quiescent_RInHighIdeal (hRInHighIdeal := hRInHighIdeal)
    ∧ quiescent_KOutProj (hKOutProj := hKOutProj)
    ∧ quiescent_KOutProjIdeal (hKOutProjIdeal := hKOutProjIdeal)
    ∧ quiescent_ROutProjIdeal (hROutProjIdeal := hROutProjIdeal)
    ∧ quiescent_KConv (hKConv := hKConv)
    ∧ quiescent_KConvIdeal (hKConvIdeal := hKConvIdeal)
    ∧ quiescent_RConvIdeal (hRConvIdeal := hRConvIdeal)
    ∧ quiescent_KRms (hKRms := hKRms)
    ∧ quiescent_KRmsIdeal (hKRmsIdeal := hKRmsIdeal)
    ∧ quiescent_RRmsIdeal (hRRmsIdeal := hRRmsIdeal)
    ∧ quiescent_KLoss (hKLoss := hKLoss)
    ∧ quiescent_KLossIdeal (hKLossIdeal := hKLossIdeal)
    ∧ quiescent_RLossIdeal (hRLossIdeal := hRLossIdeal)
    ∧ quiescent_KPair (hKPair := hKPair)
    ∧ quiescent_KPairIdeal (hKPairIdeal := hKPairIdeal)
    ∧ quiescent_RPairIdeal (hRPairIdeal := hRPairIdeal)
    ∧ quiescent_KAdFf2 (hKAdFf2 := hKAdFf2)
    ∧ quiescent_KAdFf2Ideal (hKAdFf2Ideal := hKAdFf2Ideal)
    ∧ quiescent_RAdFf2Ideal (hRAdFf2Ideal := hRAdFf2Ideal)
    ∧ quiescent_KAdFf1 (hKAdFf1 := hKAdFf1)
    ∧ quiescent_KAdFf1Ideal (hKAdFf1Ideal := hKAdFf1Ideal)
    ∧ quiescent_RAdFf1Ideal (hRAdFf1Ideal := hRAdFf1Ideal)
    ∧ quiescent_KAdOut (hKAdOut := hKAdOut)
    ∧ quiescent_KAdOutIdeal (hKAdOutIdeal := hKAdOutIdeal)
    ∧ quiescent_RAdOutIdeal (hRAdOutIdeal := hRAdOutIdeal)
    ∧ quiescent_KAdIn (hKAdIn := hKAdIn)
    ∧ quiescent_KAdInIdeal (hKAdInIdeal := hKAdInIdeal)
    ∧ quiescent_RAdInIdeal (hRAdInIdeal := hRAdInIdeal)
    ∧ preserves_Kernel_KernelIdeal
    ∧ algebraic_KernelIdeal_ReferenceIdeal (hKernelIdeal := hKernelIdeal) (hReferenceIdeal := hReferenceIdeal)
    ∧ preserves_KDwFf2_KDwFf2Ideal
    ∧ algebraic_KDwFf2Ideal_RDwFf2Ideal (hKDwFf2Ideal := hKDwFf2Ideal) (hRDwFf2Ideal := hRDwFf2Ideal)
    ∧ preserves_KDn2_KDn2Ideal
    ∧ algebraic_KDn2Ideal_RDn2Ideal (hKDn2Ideal := hKDn2Ideal) (hRDn2Ideal := hRDn2Ideal)
    ∧ preserves_KDwFf1_KDwFf1Ideal
    ∧ algebraic_KDwFf1Ideal_RDwFf1Ideal (hKDwFf1Ideal := hKDwFf1Ideal) (hRDwFf1Ideal := hRDwFf1Ideal)
    ∧ preserves_KFf1_KFf1Ideal
    ∧ algebraic_KFf1Ideal_RFf1Ideal (hKFf1Ideal := hKFf1Ideal) (hRFf1Ideal := hRFf1Ideal)
    ∧ preserves_KDMix_KDMixIdeal
    ∧ algebraic_KDMixIdeal_RDMixIdeal (hKDMixIdeal := hKDMixIdeal) (hRDMixIdeal := hRDMixIdeal)
    ∧ preserves_KDwOut_KDwOutIdeal
    ∧ algebraic_KDwOutIdeal_RDwOutIdeal (hKDwOutIdeal := hKDwOutIdeal) (hRDwOutIdeal := hRDwOutIdeal)
    ∧ preserves_KDwIn_KDwInIdeal
    ∧ algebraic_KDwInIdeal_RDwInIdeal (hKDwInIdeal := hKDwInIdeal) (hRDwInIdeal := hRDwInIdeal)
    ∧ preserves_KDn1_KDn1Ideal
    ∧ algebraic_KDn1Ideal_RDn1Ideal (hKDn1Ideal := hKDn1Ideal) (hRDn1Ideal := hRDn1Ideal)
    ∧ preserves_KRmsBwd_KRmsBwdIdeal
    ∧ algebraic_KRmsBwdIdeal_RRmsBwdIdeal (hKRmsBwdIdeal := hKRmsBwdIdeal) (hRRmsBwdIdeal := hRRmsBwdIdeal)
    ∧ preserves_KRmsFfn_KRmsFfnIdeal
    ∧ algebraic_KRmsFfnIdeal_RRmsFfnIdeal (hKRmsFfnIdeal := hKRmsFfnIdeal) (hRRmsFfnIdeal := hRRmsFfnIdeal)
    ∧ preserves_KConvBwd_KConvBwdIdeal
    ∧ algebraic_KConvBwdIdeal_RConvBwdIdeal_pre_finite_gradient (hKConvBwdIdeal := hKConvBwdIdeal) (hRConvBwdIdeal := hRConvBwdIdeal) (hPre_finite_gradient := hPre_finite_gradient)
    ∧ preserves_KInProj_KInProjIdeal
    ∧ algebraic_KInProjIdeal_RInProjIdeal (hKInProjIdeal := hKInProjIdeal) (hRInProjIdeal := hRInProjIdeal)
    ∧ preserves_KInHigh_KInHighIdeal
    ∧ algebraic_KInHighIdeal_RInHighIdeal (hKInHighIdeal := hKInHighIdeal) (hRInHighIdeal := hRInHighIdeal)
    ∧ preserves_KOutProj_KOutProjIdeal
    ∧ algebraic_KOutProjIdeal_ROutProjIdeal (hKOutProjIdeal := hKOutProjIdeal) (hROutProjIdeal := hROutProjIdeal)
    ∧ preserves_KConv_KConvIdeal
    ∧ algebraic_KConvIdeal_RConvIdeal (hKConvIdeal := hKConvIdeal) (hRConvIdeal := hRConvIdeal)
    ∧ preserves_KRms_KRmsIdeal
    ∧ algebraic_KRmsIdeal_RRmsIdeal (hKRmsIdeal := hKRmsIdeal) (hRRmsIdeal := hRRmsIdeal)
    ∧ preserves_KLoss_KLossIdeal
    ∧ algebraic_KLossIdeal_RLossIdeal (hKLossIdeal := hKLossIdeal) (hRLossIdeal := hRLossIdeal)
    ∧ preserves_KPair_KPairIdeal
    ∧ algebraic_KPairIdeal_RPairIdeal (hKPairIdeal := hKPairIdeal) (hRPairIdeal := hRPairIdeal)
    ∧ preserves_KAdFf2_KAdFf2Ideal
    ∧ algebraic_KAdFf2Ideal_RAdFf2Ideal (hKAdFf2Ideal := hKAdFf2Ideal) (hRAdFf2Ideal := hRAdFf2Ideal)
    ∧ preserves_KAdFf1_KAdFf1Ideal
    ∧ algebraic_KAdFf1Ideal_RAdFf1Ideal (hKAdFf1Ideal := hKAdFf1Ideal) (hRAdFf1Ideal := hRAdFf1Ideal)
    ∧ preserves_KAdOut_KAdOutIdeal
    ∧ algebraic_KAdOutIdeal_RAdOutIdeal (hKAdOutIdeal := hKAdOutIdeal) (hRAdOutIdeal := hRAdOutIdeal)
    ∧ preserves_KAdIn_KAdInIdeal
    ∧ algebraic_KAdInIdeal_RAdInIdeal (hKAdInIdeal := hKAdInIdeal) (hRAdInIdeal := hRAdInIdeal)
-- ==== Pre_finite_gradient.lean ====
abbrev S4096x8320 : Shape := ⟨2, ![4096, 8320]⟩
abbrev S4096x3072 : Shape := ⟨2, ![4096, 3072]⟩
abbrev S4x3072 : Shape := ⟨2, ![4, 3072]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x8320 .f32) (main_arg1 : FVec F S4096x3072 .f32) (main_arg2 : FVec F S4x3072 .f32) (main_arg3 : FVec F S4096x8320 .bf16) : IVec S_ 1 :=
  let main_cst : FVec F S_ .f32 := constant S_ .f32 0x7F800000#32
  let main_v0 : FVec F S4096x3072 .f32 := broadcastInDim S4096x3072 ![] bcast_S_S4096x3072 main_cst
  let main_v1 : IVec S4096x3072 1 := cmpf .olt main_arg1 main_v0
  let main_cst_0 : FVec F S_ .f32 := constant S_ .f32 0xFF800000#32
  let main_v2 : FVec F S4096x3072 .f32 := broadcastInDim S4096x3072 ![] bcast_S_S4096x3072 main_cst_0
  let main_v3 : IVec S4096x3072 1 := cmpf .ogt main_arg1 main_v2
  let main_v4 : IVec S4096x3072 1 := andi main_v1 main_v3
  let main_c : IVec S_ 1 := constantI S_ 1 1#1
  let main_v5 : IVec S_ 1 := (fun x v => Host.reduce IntOp.andi x v reducesTo_S4096x3072_S_d0_1 h_S_) main_v4 main_c
  main_v5
-- ==== Kernel.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 26
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S2048x8192, .f32⟩
  | .hbm, ⟨19, _⟩ => ⟨S8192x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== KDwFf2.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S4096x1024 : Shape := ⟨2, ![4096, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwFf2Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 26
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S2048x8192, .f32⟩
  | .hbm, ⟨19, _⟩ => ⟨S8192x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== KDn2.lean ====
abbrev S4096x2048 : Shape := ⟨2, ![4096, 2048]⟩
abbrev S8x2048x1024 : Shape := ⟨3, ![8, 2048, 1024]⟩
abbrev S4096x8192 : Shape := ⟨2, ![4096, 8192]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v27 : BitVec 1 := Scalar.cmpi .eq arg2 c1_i32
  let v28 : BitVec 32 := Scalar.extui v27
  let c0_i32_21 : BitVec 32 := 0#32
  let v29 : BitVec 1 := Scalar.cmpi .ne v28 c0_i32_21
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDn2Ideal.lean ====
abbrev S4096x2048 : Shape := ⟨2, ![4096, 2048]⟩
abbrev S8x2048x1024 : Shape := ⟨3, ![8, 2048, 1024]⟩
abbrev S4096x8192 : Shape := ⟨2, ![4096, 8192]⟩
abbrev S2048x8x1024 : Shape := ⟨3, ![2048, 8, 1024]⟩
abbrev S2048x8192 : Shape := ⟨2, ![2048, 8192]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S4096x2048, .f32⟩
  | .hbm, ⟨12, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KDwFf1.lean ====
abbrev S4096x2048 : Shape := ⟨2, ![4096, 2048]⟩
abbrev S8x2048x1024 : Shape := ⟨3, ![8, 2048, 1024]⟩
abbrev S4096x8192 : Shape := ⟨2, ![4096, 8192]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwFf1Ideal.lean ====
abbrev S4096x2048 : Shape := ⟨2, ![4096, 2048]⟩
abbrev S8x2048x1024 : Shape := ⟨3, ![8, 2048, 1024]⟩
abbrev S4096x8192 : Shape := ⟨2, ![4096, 8192]⟩
abbrev S2048x8x1024 : Shape := ⟨3, ![2048, 8, 1024]⟩
abbrev S2048x8192 : Shape := ⟨2, ![2048, 8192]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S4096x2048, .f32⟩
  | .hbm, ⟨12, _⟩ => ⟨S2048x8192, .bf16⟩
  | .hbm, ⟨13, _⟩ => ⟨S2048x8x1024, .bf16⟩
  | .hbm, ⟨14, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== KFf1.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RFf1Ideal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KDMix.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDMixIdeal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KDwOut.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwOutIdeal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KDwIn.lean ====
abbrev S4096x2048 : Shape := ⟨2, ![4096, 2048]⟩
abbrev S2048x8320 : Shape := ⟨2, ![2048, 8320]⟩
abbrev S4096x8320 : Shape := ⟨2, ![4096, 8320]⟩
abbrev S4096x512 : Shape := ⟨2, ![4096, 512]⟩
abbrev S4096x1664 : Shape := ⟨2, ![4096, 1664]⟩
abbrev S512x1664 : Shape := ⟨2, ![512, 1664]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x8320, .bf16⟩
  | .hbm, ⟨3, _⟩ => ⟨S2048x8320, .bf16⟩
  | .local _ .vmem, ⟨0, _⟩ => ⟨S4096x512, .bf16⟩
  | .local _ .vmem, ⟨1, _⟩ => ⟨S4096x512, .bf16⟩
  | .local _ .vmem, ⟨2, _⟩ => ⟨S4096x1664, .bf16⟩
  | .local _ .vmem, ⟨3, _⟩ => ⟨S4096x1664, .bf16⟩
  | .local _ .vmem, ⟨4, _⟩ => ⟨S512x1664, .bf16⟩
  | .local _ .vmem, ⟨5, _⟩ => ⟨S512x1664, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwInIdeal.lean ====
abbrev S4096x2048 : Shape := ⟨2, ![4096, 2048]⟩
abbrev S2048x8320 : Shape := ⟨2, ![2048, 8320]⟩
abbrev S4096x8320 : Shape := ⟨2, ![4096, 8320]⟩
abbrev S8320x2048 : Shape := ⟨2, ![8320, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x8320, .bf16⟩
  | .hbm, ⟨3, _⟩ => ⟨S4096x2048, .f32⟩
  | .hbm, ⟨4, _⟩ => ⟨S2048x8320, .f32⟩
  | .hbm, ⟨5, _⟩ => ⟨S4096x8320, .f32⟩
  | .hbm, ⟨6, _⟩ => ⟨S4096x8320, .f32⟩
  | .hbm, ⟨7, _⟩ => ⟨S8320x2048, .f32⟩
  | .hbm, ⟨8, _⟩ => ⟨S2048x8320, .f32⟩
  | .hbm, ⟨9, _⟩ => ⟨S4096x2048, .f32⟩
  | .hbm, ⟨10, _⟩ => ⟨S2048x8320, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KDn1.lean ====
abbrev S4096x2048 : Shape := ⟨2, ![4096, 2048]⟩
abbrev S2048x8320 : Shape := ⟨2, ![2048, 8320]⟩
abbrev S4096x8320 : Shape := ⟨2, ![4096, 8320]⟩
abbrev S512x8320 : Shape := ⟨2, ![512, 8320]⟩
abbrev S512x512 : Shape := ⟨2, ![512, 512]⟩
abbrev S3x512x8320 : Shape := ⟨3, ![3, 512, 8320]⟩
abbrev S3 : Shape := ⟨1, ![3]⟩
abbrev S1 : Shape := ⟨1, ![1]⟩
abbrev S_ : Shape := ⟨0, ![]⟩
abbrev S1x512x8320 : Shape := ⟨3, ![1, 512, 8320]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x8320, .bf16⟩
  | .hbm, ⟨3, _⟩ => ⟨S4096x2048, .bf16⟩
  | .local _ .vmem, ⟨0, _⟩ => ⟨S512x8320, .bf16⟩
  | .local _ .vmem, ⟨1, _⟩ => ⟨S512x8320, .bf16⟩
  | .local _ .vmem, ⟨2, _⟩ => ⟨S512x512, .bf16⟩
  | .local _ .vmem, ⟨3, _⟩ => ⟨S512x512, .bf16⟩
  | .local _ .vmem, ⟨4, _⟩ => ⟨S3x512x8320, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_39 : BitVec 32 := 4#32
  let c0_i32_40 : BitVec 32 := 0#32
  let v75 : BitVec 1 := Scalar.cmpi .eq c4_i32_39 c0_i32_40
  let c1_i32_41 : BitVec 32 := 1#32
  let v76 : BitVec 32 := Scalar.select v75 c1_i32_41 c4_i32_39
  let v77 : BitVec 32 := Scalar.remsi v1 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let c512_i32_45 : BitVec 32 := 512#32
  let v85 : BitVec 32 := Scalar.muli v84 c512_i32_45
  v85
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_46 : BitVec 32 := 3#32
  let c0_i32_47 : BitVec 32 := 0#32
  let v87 : BitVec 1 := Scalar.cmpi .eq c3_i32_46 c0_i32_47
  let c1_i32_48 : BitVec 32 := 1#32
  let v88 : BitVec 32 := Scalar.select v87 c1_i32_48 c3_i32_46
  let v89 : BitVec 32 := Scalar.remsi v1 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  ![v96.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_46 : BitVec 32 := 3#32
  let c0_i32_47 : BitVec 32 := 0#32
  let v87 : BitVec 1 := Scalar.cmpi .eq c3_i32_46 c0_i32_47
  let c1_i32_48 : BitVec 32 := 1#32
  let v88 : BitVec 32 := Scalar.select v87 c1_i32_48 c3_i32_46
  let v89 : BitVec 32 := Scalar.remsi v1 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_52 : BitVec 32 := 0#32
  let c0_i32_53 : BitVec 32 := 0#32
  ![v96.toNat, 0, 0]
def k0_off3 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_39 : BitVec 32 := 4#32
  let c0_i32_40 : BitVec 32 := 0#32
  let v75 : BitVec 1 := Scalar.cmpi .eq c4_i32_39 c0_i32_40
  let c1_i32_41 : BitVec 32 := 1#32
  let v76 : BitVec 32 := Scalar.select v75 c1_i32_41 c4_i32_39
  let v77 : BitVec 32 := Scalar.remsi v1 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let c512_i32_45 : BitVec 32 := 512#32
  let v85 : BitVec 32 := Scalar.muli v84 c512_i32_45
  let v86 : BitVec 32 := v85
  let c0_i32_54 : BitVec 32 := 0#32
  ![v86.toNat, 0]
def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_55 : BitVec 32 := 1#32
  let v102 : BitVec 32 := Scalar.addi v1 c1_i32_55
  let c4_i32_56 : BitVec 32 := 4#32
  let c0_i32_57 : BitVec 32 := 0#32
  let v103 : BitVec 1 := Scalar.cmpi .eq c4_i32_56 c0_i32_57
  let c1_i32_58 : BitVec 32 := 1#32
  let v104 : BitVec 32 := Scalar.select v103 c1_i32_58 c4_i32_56
  let v105 : BitVec 32 := Scalar.remsi v102 v104
  let c0_i32_60 : BitVec 32 := 0#32
  let v107 : BitVec 1 := Scalar.cmpi .slt v105 c0_i32_60
  let c0_i32_61 : BitVec 32 := 0#32
  let v108 : BitVec 1 := Scalar.cmpi .slt v104 c0_i32_61
  let v109 : BitVec 1 := Scalar.xori v107 v108
  let c0_i32_59 : BitVec 32 := 0#32
  let v106 : BitVec 1 := Scalar.cmpi .ne v105 c0_i32_59
  let v110 : BitVec 1 := Scalar.andi v109 v106
  let v111 : BitVec 32 := Scalar.addi v105 v104
  let v112 : BitVec 32 := Scalar.select v110 v111 v105
  let c512_i32_62 : BitVec 32 := 512#32
  let v113 : BitVec 32 := Scalar.muli v112 c512_i32_62
  v113
def k0_off4 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_55 : BitVec 32 := 1#32
  let v102 : BitVec 32 := Scalar.addi v1 c1_i32_55
  let c3_i32_63 : BitVec 32 := 3#32
  let c0_i32_64 : BitVec 32 := 0#32
  let v115 : BitVec 1 := Scalar.cmpi .eq c3_i32_63 c0_i32_64
  let c1_i32_65 : BitVec 32 := 1#32
  let v116 : BitVec 32 := Scalar.select v115 c1_i32_65 c3_i32_63
  let v117 : BitVec 32 := Scalar.remsi v102 v116
  let c0_i32_67 : BitVec 32 := 0#32
  let v119 : BitVec 1 := Scalar.cmpi .slt v117 c0_i32_67
  let c0_i32_68 : BitVec 32 := 0#32
  let v120 : BitVec 1 := Scalar.cmpi .slt v116 c0_i32_68
  let v121 : BitVec 1 := Scalar.xori v119 v120
  let c0_i32_66 : BitVec 32 := 0#32
  let v118 : BitVec 1 := Scalar.cmpi .ne v117 c0_i32_66
  let v122 : BitVec 1 := Scalar.andi v121 v118
  let v123 : BitVec 32 := Scalar.addi v117 v116
  let v124 : BitVec 32 := Scalar.select v122 v123 v117
  ![v124.toNat]
def k0_off5 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_55 : BitVec 32 := 1#32
  let v102 : BitVec 32 := Scalar.addi v1 c1_i32_55
  let c3_i32_63 : BitVec 32 := 3#32
  let c0_i32_64 : BitVec 32 := 0#32
  let v115 : BitVec 1 := Scalar.cmpi .eq c3_i32_63 c0_i32_64
  let c1_i32_65 : BitVec 32 := 1#32
  let v116 : BitVec 32 := Scalar.select v115 c1_i32_65 c3_i32_63
  let v117 : BitVec 32 := Scalar.remsi v102 v116
  let c0_i32_67 : BitVec 32 := 0#32
  let v119 : BitVec 1 := Scalar.cmpi .slt v117 c0_i32_67
  let c0_i32_68 : BitVec 32 := 0#32
  let v120 : BitVec 1 := Scalar.cmpi .slt v116 c0_i32_68
  let v121 : BitVec 1 := Scalar.xori v119 v120
  let c0_i32_66 : BitVec 32 := 0#32
  let v118 : BitVec 1 := Scalar.cmpi .ne v117 c0_i32_66
  let v122 : BitVec 1 := Scalar.andi v121 v118
  let v123 : BitVec 32 := Scalar.addi v117 v116
  let v124 : BitVec 32 := Scalar.select v122 v123 v117
  let c0_i32_69 : BitVec 32 := 0#32
  let c0_i32_70 : BitVec 32 := 0#32
  ![v124.toNat, 0, 0]
def k0_off6 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_55 : BitVec 32 := 1#32
  let v102 : BitVec 32 := Scalar.addi v1 c1_i32_55
  let c4_i32_56 : BitVec 32 := 4#32
  let c0_i32_57 : BitVec 32 := 0#32
  let v103 : BitVec 1 := Scalar.cmpi .eq c4_i32_56 c0_i32_57
  let c1_i32_58 : BitVec 32 := 1#32
  let v104 : BitVec 32 := Scalar.select v103 c1_i32_58 c4_i32_56
  let v105 : BitVec 32 := Scalar.remsi v102 v104
  let c0_i32_60 : BitVec 32 := 0#32
  let v107 : BitVec 1 := Scalar.cmpi .slt v105 c0_i32_60
  let c0_i32_61 : BitVec 32 := 0#32
  let v108 : BitVec 1 := Scalar.cmpi .slt v104 c0_i32_61
  let v109 : BitVec 1 := Scalar.xori v107 v108
  let c0_i32_59 : BitVec 32 := 0#32
  let v106 : BitVec 1 := Scalar.cmpi .ne v105 c0_i32_59
  let v110 : BitVec 1 := Scalar.andi v109 v106
  let v111 : BitVec 32 := Scalar.addi v105 v104
  let v112 : BitVec 32 := Scalar.select v110 v111 v105
  let c512_i32_62 : BitVec 32 := 512#32
  let v113 : BitVec 32 := Scalar.muli v112 c512_i32_62
  let v114 : BitVec 32 := v113
  let c0_i32_71 : BitVec 32 := 0#32
  ![v114.toNat, 0]
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v5 : BitVec 32 := Scalar.addi v1 c2_i32
  let c32_i32 : BitVec 32 := 32#32
  let v6 : BitVec 1 := Scalar.cmpi .slt v5 c32_i32
  let v7 : BitVec 32 := Scalar.extui v6
  let c0_i32_1 : BitVec 32 := 0#32
  let v8 : BitVec 1 := Scalar.cmpi .ne v7 c0_i32_1
  v8

def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_39 : BitVec 32 := 2#32
  let v75 : BitVec 32 := Scalar.addi v1 c2_i32_39
  let c4_i32_40 : BitVec 32 := 4#32
  let c0_i32_41 : BitVec 32 := 0#32
  let v76 : BitVec 1 := Scalar.cmpi .eq c4_i32_40 c0_i32_41
  let c1_i32_42 : BitVec 32 := 1#32
  let v77 : BitVec 32 := Scalar.select v76 c1_i32_42 c4_i32_40
  let v78 : BitVec 32 := Scalar.remsi v75 v77
  let c0_i32_44 : BitVec 32 := 0#32
  let v80 : BitVec 1 := Scalar.cmpi .slt v78 c0_i32_44
  let c0_i32_45 : BitVec 32 := 0#32
  let v81 : BitVec 1 := Scalar.cmpi .slt v77 c0_i32_45
  let v82 : BitVec 1 := Scalar.xori v80 v81
  let c0_i32_43 : BitVec 32 := 0#32
  let v79 : BitVec 1 := Scalar.cmpi .ne v78 c0_i32_43
  let v83 : BitVec 1 := Scalar.andi v82 v79
  let v84 : BitVec 32 := Scalar.addi v78 v77
  let v85 : BitVec 32 := Scalar.select v83 v84 v78
  let c512_i32_46 : BitVec 32 := 512#32
  let v86 : BitVec 32 := Scalar.muli v85 c512_i32_46
  v86
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_39 : BitVec 32 := 2#32
  let v75 : BitVec 32 := Scalar.addi v1 c2_i32_39
  let c3_i32_47 : BitVec 32 := 3#32
  let c0_i32_48 : BitVec 32 := 0#32
  let v88 : BitVec 1 := Scalar.cmpi .eq c3_i32_47 c0_i32_48
  let c1_i32_49 : BitVec 32 := 1#32
  let v89 : BitVec 32 := Scalar.select v88 c1_i32_49 c3_i32_47
  let v90 : BitVec 32 := Scalar.remsi v75 v89
  let c0_i32_51 : BitVec 32 := 0#32
  let v92 : BitVec 1 := Scalar.cmpi .slt v90 c0_i32_51
  let c0_i32_52 : BitVec 32 := 0#32
  let v93 : BitVec 1 := Scalar.cmpi .slt v89 c0_i32_52
  let v94 : BitVec 1 := Scalar.xori v92 v93
  let c0_i32_50 : BitVec 32 := 0#32
  let v91 : BitVec 1 := Scalar.cmpi .ne v90 c0_i32_50
  let v95 : BitVec 1 := Scalar.andi v94 v91
  let v96 : BitVec 32 := Scalar.addi v90 v89
  let v97 : BitVec 32 := Scalar.select v95 v96 v90
  ![v97.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_39 : BitVec 32 := 2#32
  let v75 : BitVec 32 := Scalar.addi v1 c2_i32_39
  let c3_i32_47 : BitVec 32 := 3#32
  let c0_i32_48 : BitVec 32 := 0#32
  let v88 : BitVec 1 := Scalar.cmpi .eq c3_i32_47 c0_i32_48
  let c1_i32_49 : BitVec 32 := 1#32
  let v89 : BitVec 32 := Scalar.select v88 c1_i32_49 c3_i32_47
  let v90 : BitVec 32 := Scalar.remsi v75 v89
  let c0_i32_51 : BitVec 32 := 0#32
  let v92 : BitVec 1 := Scalar.cmpi .slt v90 c0_i32_51
  let c0_i32_52 : BitVec 32 := 0#32
  let v93 : BitVec 1 := Scalar.cmpi .slt v89 c0_i32_52
  let v94 : BitVec 1 := Scalar.xori v92 v93
  let c0_i32_50 : BitVec 32 := 0#32
  let v91 : BitVec 1 := Scalar.cmpi .ne v90 c0_i32_50
  let v95 : BitVec 1 := Scalar.andi v94 v91
  let v96 : BitVec 32 := Scalar.addi v90 v89
  let v97 : BitVec 32 := Scalar.select v95 v96 v90
  let c0_i32_53 : BitVec 32 := 0#32
  let c0_i32_54 : BitVec 32 := 0#32
  ![v97.toNat, 0, 0]
def k0_off9 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_39 : BitVec 32 := 2#32
  let v75 : BitVec 32 := Scalar.addi v1 c2_i32_39
  let c4_i32_40 : BitVec 32 := 4#32
  let c0_i32_41 : BitVec 32 := 0#32
  let v76 : BitVec 1 := Scalar.cmpi .eq c4_i32_40 c0_i32_41
  let c1_i32_42 : BitVec 32 := 1#32
  let v77 : BitVec 32 := Scalar.select v76 c1_i32_42 c4_i32_40
  let v78 : BitVec 32 := Scalar.remsi v75 v77
  let c0_i32_44 : BitVec 32 := 0#32
  let v80 : BitVec 1 := Scalar.cmpi .slt v78 c0_i32_44
  let c0_i32_45 : BitVec 32 := 0#32
  let v81 : BitVec 1 := Scalar.cmpi .slt v77 c0_i32_45
  let v82 : BitVec 1 := Scalar.xori v80 v81
  let c0_i32_43 : BitVec 32 := 0#32
  let v79 : BitVec 1 := Scalar.cmpi .ne v78 c0_i32_43
  let v83 : BitVec 1 := Scalar.andi v82 v79
  let v84 : BitVec 32 := Scalar.addi v78 v77
  let v85 : BitVec 32 := Scalar.select v83 v84 v78
  let c512_i32_46 : BitVec 32 := 512#32
  let v86 : BitVec 32 := Scalar.muli v85 c512_i32_46
  let v87 : BitVec 32 := v86
  let c0_i32_55 : BitVec 32 := 0#32
  ![v87.toNat, 0]
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_2 : BitVec 32 := 4#32
  let c0_i32_3 : BitVec 32 := 0#32
  let v9 : BitVec 1 := Scalar.cmpi .eq c4_i32_2 c0_i32_3
  let c1_i32 : BitVec 32 := 1#32
  let v10 : BitVec 32 := Scalar.select v9 c1_i32 c4_i32_2
  let v11 : BitVec 32 := Scalar.remsi v1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v19 : BitVec 32 := Scalar.muli v18 c512_i32
  v19
def k0_off10 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let c0_i32_7 : BitVec 32 := 0#32
  let v21 : BitVec 1 := Scalar.cmpi .eq c3_i32 c0_i32_7
  let c1_i32_8 : BitVec 32 := 1#32
  let v22 : BitVec 32 := Scalar.select v21 c1_i32_8 c3_i32
  let v23 : BitVec 32 := Scalar.remsi v1 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  ![v30.toNat]
def k0_off11 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let c0_i32_7 : BitVec 32 := 0#32
  let v21 : BitVec 1 := Scalar.cmpi .eq c3_i32 c0_i32_7
  let c1_i32_8 : BitVec 32 := 1#32
  let v22 : BitVec 32 := Scalar.select v21 c1_i32_8 c3_i32
  let v23 : BitVec 32 := Scalar.remsi v1 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v30.toNat, 0, 0]
def k0_off12 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_2 : BitVec 32 := 4#32
  let c0_i32_3 : BitVec 32 := 0#32
  let v9 : BitVec 1 := Scalar.cmpi .eq c4_i32_2 c0_i32_3
  let c1_i32 : BitVec 32 := 1#32
  let v10 : BitVec 32 := Scalar.select v9 c1_i32 c4_i32_2
  let v11 : BitVec 32 := Scalar.remsi v1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v19 : BitVec 32 := Scalar.muli v18 c512_i32
  let v20 : BitVec 32 := v19
  let c0_i32_14 : BitVec 32 := 0#32
  ![v20.toNat, 0]
def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v36 : BitVec 1 := Scalar.cmpi .eq c3_i32_15 c0_i32_16
  let c1_i32_17 : BitVec 32 := 1#32
  let v37 : BitVec 32 := Scalar.select v36 c1_i32_17 c3_i32_15
  let v38 : BitVec 32 := Scalar.remsi v1 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let c0_i32_21 : BitVec 32 := 0#32
  let v46 : BitVec 1 := Scalar.cmpi .eq v45 c0_i32_21
  let v47 : BitVec 32 := Scalar.extui v46
  let c0_i32_22 : BitVec 32 := 0#32
  let v48 : BitVec 1 := Scalar.cmpi .ne v47 c0_i32_22
  v48

def k0_cond4 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_23 : BitVec 32 := 3#32
  let c0_i32_24 : BitVec 32 := 0#32
  let v49 : BitVec 1 := Scalar.cmpi .eq c3_i32_23 c0_i32_24
  let c1_i32_25 : BitVec 32 := 1#32
  let v50 : BitVec 32 := Scalar.select v49 c1_i32_25 c3_i32_23
  let v51 : BitVec 32 := Scalar.remsi v1 v50
  let c0_i32_27 : BitVec 32 := 0#32
  let v53 : BitVec 1 := Scalar.cmpi .slt v51 c0_i32_27
  let c0_i32_28 : BitVec 32 := 0#32
  let v54 : BitVec 1 := Scalar.cmpi .slt v50 c0_i32_28
  let v55 : BitVec 1 := Scalar.xori v53 v54
  let c0_i32_26 : BitVec 32 := 0#32
  let v52 : BitVec 1 := Scalar.cmpi .ne v51 c0_i32_26
  let v56 : BitVec 1 := Scalar.andi v55 v52
  let v57 : BitVec 32 := Scalar.addi v51 v50
  let v58 : BitVec 32 := Scalar.select v56 v57 v51
  let c1_i32_29 : BitVec 32 := 1#32
  let v59 : BitVec 1 := Scalar.cmpi .eq v58 c1_i32_29
  let v60 : BitVec 32 := Scalar.extui v59
  let c0_i32_30 : BitVec 32 := 0#32
  let v61 : BitVec 1 := Scalar.cmpi .ne v60 c0_i32_30
  v61

def k0_cond5 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_31 : BitVec 32 := 3#32
  let c0_i32_32 : BitVec 32 := 0#32
  let v62 : BitVec 1 := Scalar.cmpi .eq c3_i32_31 c0_i32_32
  let c1_i32_33 : BitVec 32 := 1#32
  let v63 : BitVec 32 := Scalar.select v62 c1_i32_33 c3_i32_31
  let v64 : BitVec 32 := Scalar.remsi v1 v63
  let c0_i32_35 : BitVec 32 := 0#32
  let v66 : BitVec 1 := Scalar.cmpi .slt v64 c0_i32_35
  let c0_i32_36 : BitVec 32 := 0#32
  let v67 : BitVec 1 := Scalar.cmpi .slt v63 c0_i32_36
  let v68 : BitVec 1 := Scalar.xori v66 v67
  let c0_i32_34 : BitVec 32 := 0#32
  let v65 : BitVec 1 := Scalar.cmpi .ne v64 c0_i32_34
  let v69 : BitVec 1 := Scalar.andi v68 v65
  let v70 : BitVec 32 := Scalar.addi v64 v63
  let v71 : BitVec 32 := Scalar.select v69 v70 v64
  let c2_i32_37 : BitVec 32 := 2#32
  let v72 : BitVec 1 := Scalar.cmpi .eq v71 c2_i32_37
  let v73 : BitVec 32 := Scalar.extui v72
  let c0_i32_38 : BitVec 32 := 0#32
  let v74 : BitVec 1 := Scalar.cmpi .ne v73 c0_i32_38
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== RDn1Ideal.lean ====
abbrev S4096x2048 : Shape := ⟨2, ![4096, 2048]⟩
abbrev S2048x8320 : Shape := ⟨2, ![2048, 8320]⟩
abbrev S4096x8320 : Shape := ⟨2, ![4096, 8320]⟩
abbrev S8320x2048 : Shape := ⟨2, ![8320, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x8320, .bf16⟩
  | .hbm, ⟨3, _⟩ => ⟨S4096x2048, .f32⟩
  | .hbm, ⟨4, _⟩ => ⟨S2048x8320, .f32⟩
  | .hbm, ⟨5, _⟩ => ⟨S4096x8320, .f32⟩
  | .hbm, ⟨6, _⟩ => ⟨S4096x8320, .f32⟩
  | .hbm, ⟨7, _⟩ => ⟨S8320x2048, .f32⟩
  | .hbm, ⟨8, _⟩ => ⟨S2048x8320, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KRmsBwd.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S2048 : Shape := ⟨1, ![2048]⟩
abbrev S512 : Shape := ⟨1, ![512]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RRmsBwdIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== KRmsFfn.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S2048 : Shape := ⟨1, ![2048]⟩
abbrev S512 : Shape := ⟨1, ![512]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .bf16⟩
  | .hbm, ⟨16, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RRmsFfnIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== KConvBwd.lean ====
abbrev S4096x8320 : Shape := ⟨2, ![4096, 8320]⟩
abbrev S4096x3072 : Shape := ⟨2, ![4096, 3072]⟩
abbrev S4x3072 : Shape := ⟨2, ![4, 3072]⟩
abbrev S4096x128 : Shape := ⟨2, ![4096, 128]⟩
abbrev S4x128 : Shape := ⟨2, ![4, 128]⟩
abbrev S4104x128 : Shape := ⟨2, ![4104, 128]⟩
abbrev S8x128 : Shape := ⟨2, ![8, 128]⟩
abbrev S8x1 : Shape := ⟨2, ![8, 1]⟩
abbrev S1x128 : Shape := ⟨2, ![1, 128]⟩
abbrev S504x128 : Shape := ⟨2, ![504, 128]⟩
abbrev S512x128 : Shape := ⟨2, ![512, 128]⟩
abbrev S128 : Shape := ⟨1, ![128]⟩

abbrev nBuf : Space → Nat
  | .hbm => 6
  | .vmem => 11
  | .smem => 0
  | _ => 0

abbrev bufTy : (tb : Table) → Fin (tcTables nBuf tb) → BufTy
  | .hbm, ⟨0, _⟩ => ⟨S4096x8320, .f32⟩
  | .hbm, ⟨1, _⟩ => ⟨S4096x3072, .f32⟩
  | .hbm, ⟨2, _⟩ => ⟨S4x3072, .f32⟩
  | .hbm, ⟨3, _⟩ => ⟨S4096x8320, .bf16⟩
  | .hbm, ⟨4, _⟩ => ⟨S4096x8320, .bf16⟩
  | .hbm, ⟨5, _⟩ => ⟨S4x3072, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4x128, .f32⟩
  | .local _ .vmem, ⟨5, _⟩ => ⟨S4x128, .f32⟩
  | .local _ .vmem, ⟨6, _⟩ => ⟨S4096x128, .bf16⟩
  | .local _ .vmem, ⟨7, _⟩ => ⟨S4096x128, .bf16⟩
  | .local _ .vmem, ⟨8, _⟩ => ⟨S4x128, .f32⟩
  | .local _ .vmem, ⟨9, _⟩ => ⟨S4x128, .f32⟩
  | .local _ .vmem, ⟨10, _⟩ => ⟨S4104x128, .f32⟩
  | _, _ => ⟨S4096x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RConvBwdIdeal.lean ====
abbrev S4096x8320 : Shape := ⟨2, ![4096, 8320]⟩
abbrev S4096x3072 : Shape := ⟨2, ![4096, 3072]⟩
abbrev S4x3072 : Shape := ⟨2, ![4, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x5248 : Shape := ⟨2, ![4096, 5248]⟩

abbrev nBuf : Space → Nat
  | .hbm => 120
  | .vmem => 0
  | .smem => 0
  | _ => 0

abbrev bufTy : (tb : Table) → Fin (tcTables nBuf tb) → BufTy
  | .hbm, ⟨0, _⟩ => ⟨S4096x8320, .f32⟩
  | .hbm, ⟨1, _⟩ => ⟨S4096x3072, .f32⟩
  | .hbm, ⟨2, _⟩ => ⟨S4x3072, .f32⟩
  | .hbm, ⟨3, _⟩ => ⟨S4096x8320, .bf16⟩
  | .hbm, ⟨4, _⟩ => ⟨S4096x3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S_, .f32⟩
  | .hbm, ⟨9, _⟩ => ⟨S3x3072, .f32⟩
  | .hbm, ⟨10, _⟩ => ⟨S4096x3072, .f32⟩
  | .hbm, ⟨11, _⟩ => ⟨S1x3072, .f32⟩
  | .hbm, ⟨12, _⟩ => ⟨S3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S1x3072, .f32⟩
  | .hbm, ⟨35, _⟩ => ⟨S3072, .f32⟩
  | .hbm, ⟨36, _⟩ => ⟨S1x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S4096x3072, .f32⟩
  | .hbm, ⟨44, _⟩ => ⟨S4096x3072, .f32⟩
  | .hbm, ⟨45, _⟩ => ⟨S_, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S4096x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S4096x3072, .f32⟩
  | .hbm, ⟨62, _⟩ => ⟨S4096x3072, .f32⟩
  | .hbm, ⟨63, _⟩ => ⟨S_, .f32⟩
  | .hbm, ⟨64, _⟩ => ⟨S3072, .f32⟩
  | .hbm, ⟨65, _⟩ => ⟨S1x3072, .f32⟩
  | .hbm, ⟨66, _⟩ => ⟨S_, .f32⟩
  | .hbm, ⟨67, _⟩ => ⟨S4x3072, .f32⟩
  | .hbm, ⟨68, _⟩ => ⟨S_, .f32⟩
  | .hbm, ⟨69, _⟩ => ⟨S4099x3072, .f32⟩
  | .hbm, ⟨70, _⟩ => ⟨S4096x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S4096x3072, .f32⟩
  | .hbm, ⟨75, _⟩ => ⟨S4096x3072, .f32⟩
  | .hbm, ⟨76, _⟩ => ⟨S_, .f32⟩
  | .hbm, ⟨77, _⟩ => ⟨S3072, .f32⟩
  | .hbm, ⟨78, _⟩ => ⟨S1x3072, .f32⟩
  | .hbm, ⟨79, _⟩ => ⟨S_, .f32⟩
  | .hbm, ⟨80, _⟩ => ⟨S4x3072, .f32⟩
  | .hbm, ⟨81, _⟩ => ⟨S4x3072, .f32⟩
  | .hbm, ⟨82, _⟩ => ⟨S_, .f32⟩
  | .hbm, ⟨83, _⟩ => ⟨S4099x3072, .f32⟩
  | .hbm, ⟨84, _⟩ => ⟨S4099x3072, .f32⟩
  | .hbm, ⟨85, _⟩ => ⟨S4096x3072, .f32⟩
  | .hbm, ⟨86, _⟩ => ⟨S_, .f32⟩
  | .hbm, ⟨87, _⟩ => ⟨S3072, .f32⟩
  | .hbm, ⟨88, _⟩ => ⟨S1x3072, .f32⟩
  | .hbm, ⟨89, _⟩ => ⟨S4096x3072, .f32⟩
  | .hbm, ⟨90, _⟩ => ⟨S4096x3072, .f32⟩
  | .hbm, ⟨91, _⟩ => ⟨S_, .f32⟩
  | .hbm, ⟨92, _⟩ => ⟨S3072, .f32⟩
  | .hbm, ⟨93, _⟩ => ⟨S1x3072, .f32⟩
  | .hbm, ⟨94, _⟩ => ⟨S_, .f32⟩
  | .hbm, ⟨95, _⟩ => ⟨S4x3072, .f32⟩
  | .hbm, ⟨96, _⟩ => ⟨S4x3072, .f32⟩
  | .hbm, ⟨97, _⟩ => ⟨S_, .f32⟩
  | .hbm, ⟨98, _⟩ => ⟨S4099x3072, .f32⟩
  | .hbm, ⟨99, _⟩ => ⟨S4099x3072, .f32⟩
  | .hbm, ⟨100, _⟩ => ⟨S4096x3072, .f32⟩
  | .hbm, ⟨101, _⟩ => ⟨S_, .f32⟩
  | .hbm, ⟨102, _⟩ => ⟨S3072, .f32⟩
  | .hbm, ⟨103, _⟩ => ⟨S1x3072, .f32⟩
  | .hbm, ⟨104, _⟩ => ⟨S4096x3072, .f32⟩
  | .hbm, ⟨105, _⟩ => ⟨S4096x3072, .f32⟩
  | .hbm, ⟨106, _⟩ => ⟨S_, .f32⟩
  | .hbm, ⟨107, _⟩ => ⟨S3072, .f32⟩
  | .hbm, ⟨108, _⟩ => ⟨S1x3072, .f32⟩
  | .hbm, ⟨109, _⟩ => ⟨S_, .f32⟩
  | .hbm, ⟨110, _⟩ => ⟨S4x3072, .f32⟩
  | .hbm, ⟨111, _⟩ => ⟨S4x3072, .f32⟩
  | .hbm, ⟨112, _⟩ => ⟨S_, .f32⟩
  | .hbm, ⟨113, _⟩ => ⟨S4099x3072, .f32⟩
  | .hbm, ⟨114, _⟩ => ⟨S4099x3072, .f32⟩
  | .hbm, ⟨115, _⟩ => ⟨S3x3072, .f32⟩
  | .hbm, ⟨116, _⟩ => ⟨S4096x3072, .f32⟩
  | .hbm, ⟨117, _⟩ => ⟨S4096x3072, .bf16⟩
  | .hbm, ⟨118, _⟩ => ⟨S4096x5248, .bf16⟩
  | .hbm, ⟨119, _⟩ => ⟨S4096x8320, .bf16⟩
  | _, _ => ⟨S4096x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v33_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v33_1 : Ref sig .tc := ⟨.hbm, 51, rfl⟩
abbrev main_v33_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== KInProj.lean ====
abbrev S4096x2048 : Shape := ⟨2, ![4096, 2048]⟩
abbrev S2048x8320 : Shape := ⟨2, ![2048, 8320]⟩
abbrev S4096x1024 : Shape := ⟨2, ![4096, 1024]⟩
abbrev S1024x8320 : Shape := ⟨2, ![1024, 8320]⟩
abbrev S4096x8320 : Shape := ⟨2, ![4096, 8320]⟩
abbrev S1024x1024 : Shape := ⟨2, ![1024, 1024]⟩
abbrev S1024x1664 : Shape := ⟨2, ![1024, 1664]⟩
abbrev S3x1024x1664 : Shape := ⟨3, ![3, 1024, 1664]⟩
abbrev S3 : Shape := ⟨1, ![3]⟩
abbrev S1 : Shape := ⟨1, ![1]⟩
abbrev S_ : Shape := ⟨0, ![]⟩
abbrev S1x1024x1664 : Shape := ⟨3, ![1, 1024, 1664]⟩

abbrev nBuf : Space → Nat
  | .hbm => 9
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x1024, .bf16⟩
  | .hbm, ⟨3, _⟩ => ⟨S4096x1024, .f32⟩
  | .hbm, ⟨4, _⟩ => ⟨S1024x8320, .bf16⟩
  | .hbm, ⟨5, _⟩ => ⟨S1024x8320, .f32⟩
  | .hbm, ⟨6, _⟩ => ⟨S4096x8320, .f32⟩
  | .hbm, ⟨7, _⟩ => ⟨S4096x8320, .bf16⟩
  | .hbm, ⟨8, _⟩ => ⟨S4096x8320, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | .local _ .vmem, ⟨6, _⟩ => ⟨S3x1024x1664, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def k0_cond1 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 (i : grid0.Coords) : BitVec 32 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_38 : BitVec 32 := 5#32
  let c0_i32_39 : BitVec 32 := 0#32
  let v75 : BitVec 1 := Scalar.cmpi .eq c5_i32_38 c0_i32_39
  let c1_i32_40 : BitVec 32 := 1#32
  let v76 : BitVec 32 := Scalar.select v75 c1_i32_40 c5_i32_38
  let v77 : BitVec 32 := Scalar.remsi v1 v76
  let c0_i32_42 : BitVec 32 := 0#32
  let v79 : BitVec 1 := Scalar.cmpi .slt v77 c0_i32_42
  let c0_i32_43 : BitVec 32 := 0#32
  let v80 : BitVec 1 := Scalar.cmpi .slt v76 c0_i32_43
  let v81 : BitVec 1 := Scalar.xori v79 v80
  let c0_i32_41 : BitVec 32 := 0#32
  let v78 : BitVec 1 := Scalar.cmpi .ne v77 c0_i32_41
  let v82 : BitVec 1 := Scalar.andi v81 v78
  let v83 : BitVec 32 := Scalar.addi v77 v76
  let v84 : BitVec 32 := Scalar.select v82 v83 v77
  let c1664_i32_44 : BitVec 32 := 1664#32
  let v85 : BitVec 32 := Scalar.muli v84 c1664_i32_44
  v85
def k0_off1 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c3_i32_45 : BitVec 32 := 3#32
  let c0_i32_46 : BitVec 32 := 0#32
  let v87 : BitVec 1 := Scalar.cmpi .eq c3_i32_45 c0_i32_46
  let c1_i32_47 : BitVec 32 := 1#32
  let v88 : BitVec 32 := Scalar.select v87 c1_i32_47 c3_i32_45
  let v89 : BitVec 32 := Scalar.remsi v1 v88
  let c0_i32_49 : BitVec 32 := 0#32
  let v91 : BitVec 1 := Scalar.cmpi .slt v89 c0_i32_49
  let c0_i32_50 : BitVec 32 := 0#32
  let v92 : BitVec 1 := Scalar.cmpi .slt v88 c0_i32_50
  let v93 : BitVec 1 := Scalar.xori v91 v92
  let c0_i32_48 : BitVec 32 := 0#32
  let v90 : BitVec 1 := Scalar.cmpi .ne v89 c0_i32_48
  let v94 : BitVec 1 := Scalar.andi v93 v90
  let v95 : BitVec 32 := Scalar.addi v89 v88
  let v96 : BitVec 32 := Scalar.select v94 v95 v89
  ![v96.toNat]
def k0_off2 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c3_i32_45 : BitVec 32 := 3#32
  let c0_i32_46 : BitVec 32 := 0#32
  let v87 : BitVec 1 := Scalar.cmpi .eq c3_i32_45 c0_i32_46
  let c1_i32_47 : BitVec 32 := 1#32
  let v88 : BitVec 32 := Scalar.select v87 c1_i32_47 c3_i32_45
  let v89 : BitVec 32 := Scalar.remsi v1 v88
  let c0_i32_49 : BitVec 32 := 0#32
  let v91 : BitVec 1 := Scalar.cmpi .slt v89 c0_i32_49
  let c0_i32_50 : BitVec 32 := 0#32
  let v92 : BitVec 1 := Scalar.cmpi .slt v88 c0_i32_50
  let v93 : BitVec 1 := Scalar.xori v91 v92
  let c0_i32_48 : BitVec 32 := 0#32
  let v90 : BitVec 1 := Scalar.cmpi .ne v89 c0_i32_48
  let v94 : BitVec 1 := Scalar.andi v93 v90
  let v95 : BitVec 32 := Scalar.addi v89 v88
  let v96 : BitVec 32 := Scalar.select v94 v95 v89
  let c0_i32_51 : BitVec 32 := 0#32
  let c0_i32_52 : BitVec 32 := 0#32
  ![v96.toNat, 0, 0]
def k0_off3 (i : grid0.Coords) : Fin 2 → Nat :=
  let c1024_i32_53 : BitVec 32 := 1024#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_38 : BitVec 32 := 5#32
  let c0_i32_39 : BitVec 32 := 0#32
  let v75 : BitVec 1 := Scalar.cmpi .eq c5_i32_38 c0_i32_39
  let c1_i32_40 : BitVec 32 := 1#32
  let v76 : BitVec 32 := Scalar.select v75 c1_i32_40 c5_i32_38
  let v77 : BitVec 32 := Scalar.remsi v1 v76
  let c0_i32_42 : BitVec 32 := 0#32
  let v79 : BitVec 1 := Scalar.cmpi .slt v77 c0_i32_42
  let c0_i32_43 : BitVec 32 := 0#32
  let v80 : BitVec 1 := Scalar.cmpi .slt v76 c0_i32_43
  let v81 : BitVec 1 := Scalar.xori v79 v80
  let c0_i32_41 : BitVec 32 := 0#32
  let v78 : BitVec 1 := Scalar.cmpi .ne v77 c0_i32_41
  let v82 : BitVec 1 := Scalar.andi v81 v78
  let v83 : BitVec 32 := Scalar.addi v77 v76
  let v84 : BitVec 32 := Scalar.select v82 v83 v77
  let c1664_i32_44 : BitVec 32 := 1664#32
  let v85 : BitVec 32 := Scalar.muli v84 c1664_i32_44
  let v86 : BitVec 32 := v85
  ![1024, v86.toNat]
def k0_mult2 (i : grid0.Coords) : BitVec 32 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c1_i32_54 : BitVec 32 := 1#32
  let v102 : BitVec 32 := Scalar.addi v1 c1_i32_54
  let c5_i32_55 : BitVec 32 := 5#32
  let c0_i32_56 : BitVec 32 := 0#32
  let v103 : BitVec 1 := Scalar.cmpi .eq c5_i32_55 c0_i32_56
  let c1_i32_57 : BitVec 32 := 1#32
  let v104 : BitVec 32 := Scalar.select v103 c1_i32_57 c5_i32_55
  let v105 : BitVec 32 := Scalar.remsi v102 v104
  let c0_i32_59 : BitVec 32 := 0#32
  let v107 : BitVec 1 := Scalar.cmpi .slt v105 c0_i32_59
  let c0_i32_60 : BitVec 32 := 0#32
  let v108 : BitVec 1 := Scalar.cmpi .slt v104 c0_i32_60
  let v109 : BitVec 1 := Scalar.xori v107 v108
  let c0_i32_58 : BitVec 32 := 0#32
  let v106 : BitVec 1 := Scalar.cmpi .ne v105 c0_i32_58
  let v110 : BitVec 1 := Scalar.andi v109 v106
  let v111 : BitVec 32 := Scalar.addi v105 v104
  let v112 : BitVec 32 := Scalar.select v110 v111 v105
  let c1664_i32_61 : BitVec 32 := 1664#32
  let v113 : BitVec 32 := Scalar.muli v112 c1664_i32_61
  v113
def k0_off4 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c1_i32_54 : BitVec 32 := 1#32
  let v102 : BitVec 32 := Scalar.addi v1 c1_i32_54
  let c3_i32_62 : BitVec 32 := 3#32
  let c0_i32_63 : BitVec 32 := 0#32
  let v115 : BitVec 1 := Scalar.cmpi .eq c3_i32_62 c0_i32_63
  let c1_i32_64 : BitVec 32 := 1#32
  let v116 : BitVec 32 := Scalar.select v115 c1_i32_64 c3_i32_62
  let v117 : BitVec 32 := Scalar.remsi v102 v116
  let c0_i32_66 : BitVec 32 := 0#32
  let v119 : BitVec 1 := Scalar.cmpi .slt v117 c0_i32_66
  let c0_i32_67 : BitVec 32 := 0#32
  let v120 : BitVec 1 := Scalar.cmpi .slt v116 c0_i32_67
  let v121 : BitVec 1 := Scalar.xori v119 v120
  let c0_i32_65 : BitVec 32 := 0#32
  let v118 : BitVec 1 := Scalar.cmpi .ne v117 c0_i32_65
  let v122 : BitVec 1 := Scalar.andi v121 v118
  let v123 : BitVec 32 := Scalar.addi v117 v116
  let v124 : BitVec 32 := Scalar.select v122 v123 v117
  ![v124.toNat]
def k0_off5 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c1_i32_54 : BitVec 32 := 1#32
  let v102 : BitVec 32 := Scalar.addi v1 c1_i32_54
  let c3_i32_62 : BitVec 32 := 3#32
  let c0_i32_63 : BitVec 32 := 0#32
  let v115 : BitVec 1 := Scalar.cmpi .eq c3_i32_62 c0_i32_63
  let c1_i32_64 : BitVec 32 := 1#32
  let v116 : BitVec 32 := Scalar.select v115 c1_i32_64 c3_i32_62
  let v117 : BitVec 32 := Scalar.remsi v102 v116
  let c0_i32_66 : BitVec 32 := 0#32
  let v119 : BitVec 1 := Scalar.cmpi .slt v117 c0_i32_66
  let c0_i32_67 : BitVec 32 := 0#32
  let v120 : BitVec 1 := Scalar.cmpi .slt v116 c0_i32_67
  let v121 : BitVec 1 := Scalar.xori v119 v120
  let c0_i32_65 : BitVec 32 := 0#32
  let v118 : BitVec 1 := Scalar.cmpi .ne v117 c0_i32_65
  let v122 : BitVec 1 := Scalar.andi v121 v118
  let v123 : BitVec 32 := Scalar.addi v117 v116
  let v124 : BitVec 32 := Scalar.select v122 v123 v117
  let c0_i32_68 : BitVec 32 := 0#32
  let c0_i32_69 : BitVec 32 := 0#32
  ![v124.toNat, 0, 0]
def k0_off6 (i : grid0.Coords) : Fin 2 → Nat :=
  let c1024_i32_70 : BitVec 32 := 1024#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c1_i32_54 : BitVec 32 := 1#32
  let v102 : BitVec 32 := Scalar.addi v1 c1_i32_54
  let c5_i32_55 : BitVec 32 := 5#32
  let c0_i32_56 : BitVec 32 := 0#32
  let v103 : BitVec 1 := Scalar.cmpi .eq c5_i32_55 c0_i32_56
  let c1_i32_57 : BitVec 32 := 1#32
  let v104 : BitVec 32 := Scalar.select v103 c1_i32_57 c5_i32_55
  let v105 : BitVec 32 := Scalar.remsi v102 v104
  let c0_i32_59 : BitVec 32 := 0#32
  let v107 : BitVec 1 := Scalar.cmpi .slt v105 c0_i32_59
  let c0_i32_60 : BitVec 32 := 0#32
  let v108 : BitVec 1 := Scalar.cmpi .slt v104 c0_i32_60
  let v109 : BitVec 1 := Scalar.xori v107 v108
  let c0_i32_58 : BitVec 32 := 0#32
  let v106 : BitVec 1 := Scalar.cmpi .ne v105 c0_i32_58
  let v110 : BitVec 1 := Scalar.andi v109 v106
  let v111 : BitVec 32 := Scalar.addi v105 v104
  let v112 : BitVec 32 := Scalar.select v110 v111 v105
  let c1664_i32_61 : BitVec 32 := 1664#32
  let v113 : BitVec 32 := Scalar.muli v112 c1664_i32_61
  let v114 : BitVec 32 := v113
  ![1024, v114.toNat]
def k0_cond2 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v5 : BitVec 32 := Scalar.addi v1 c2_i32
  let c20_i32 : BitVec 32 := 20#32
  let v6 : BitVec 1 := Scalar.cmpi .slt v5 c20_i32
  let v7 : BitVec 32 := Scalar.extui v6
  let c0_i32_1 : BitVec 32 := 0#32
  let v8 : BitVec 1 := Scalar.cmpi .ne v7 c0_i32_1
  v8

def k0_mult3 (i : grid0.Coords) : BitVec 32 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32_38 : BitVec 32 := 2#32
  let v75 : BitVec 32 := Scalar.addi v1 c2_i32_38
  let c5_i32_39 : BitVec 32 := 5#32
  let c0_i32_40 : BitVec 32 := 0#32
  let v76 : BitVec 1 := Scalar.cmpi .eq c5_i32_39 c0_i32_40
  let c1_i32_41 : BitVec 32 := 1#32
  let v77 : BitVec 32 := Scalar.select v76 c1_i32_41 c5_i32_39
  let v78 : BitVec 32 := Scalar.remsi v75 v77
  let c0_i32_43 : BitVec 32 := 0#32
  let v80 : BitVec 1 := Scalar.cmpi .slt v78 c0_i32_43
  let c0_i32_44 : BitVec 32 := 0#32
  let v81 : BitVec 1 := Scalar.cmpi .slt v77 c0_i32_44
  let v82 : BitVec 1 := Scalar.xori v80 v81
  let c0_i32_42 : BitVec 32 := 0#32
  let v79 : BitVec 1 := Scalar.cmpi .ne v78 c0_i32_42
  let v83 : BitVec 1 := Scalar.andi v82 v79
  let v84 : BitVec 32 := Scalar.addi v78 v77
  let v85 : BitVec 32 := Scalar.select v83 v84 v78
  let c1664_i32_45 : BitVec 32 := 1664#32
  let v86 : BitVec 32 := Scalar.muli v85 c1664_i32_45
  v86
def k0_off7 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32_38 : BitVec 32 := 2#32
  let v75 : BitVec 32 := Scalar.addi v1 c2_i32_38
  let c3_i32_46 : BitVec 32 := 3#32
  let c0_i32_47 : BitVec 32 := 0#32
  let v88 : BitVec 1 := Scalar.cmpi .eq c3_i32_46 c0_i32_47
  let c1_i32_48 : BitVec 32 := 1#32
  let v89 : BitVec 32 := Scalar.select v88 c1_i32_48 c3_i32_46
  let v90 : BitVec 32 := Scalar.remsi v75 v89
  let c0_i32_50 : BitVec 32 := 0#32
  let v92 : BitVec 1 := Scalar.cmpi .slt v90 c0_i32_50
  let c0_i32_51 : BitVec 32 := 0#32
  let v93 : BitVec 1 := Scalar.cmpi .slt v89 c0_i32_51
  let v94 : BitVec 1 := Scalar.xori v92 v93
  let c0_i32_49 : BitVec 32 := 0#32
  let v91 : BitVec 1 := Scalar.cmpi .ne v90 c0_i32_49
  let v95 : BitVec 1 := Scalar.andi v94 v91
  let v96 : BitVec 32 := Scalar.addi v90 v89
  let v97 : BitVec 32 := Scalar.select v95 v96 v90
  ![v97.toNat]
def k0_off8 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32_38 : BitVec 32 := 2#32
  let v75 : BitVec 32 := Scalar.addi v1 c2_i32_38
  let c3_i32_46 : BitVec 32 := 3#32
  let c0_i32_47 : BitVec 32 := 0#32
  let v88 : BitVec 1 := Scalar.cmpi .eq c3_i32_46 c0_i32_47
  let c1_i32_48 : BitVec 32 := 1#32
  let v89 : BitVec 32 := Scalar.select v88 c1_i32_48 c3_i32_46
  let v90 : BitVec 32 := Scalar.remsi v75 v89
  let c0_i32_50 : BitVec 32 := 0#32
  let v92 : BitVec 1 := Scalar.cmpi .slt v90 c0_i32_50
  let c0_i32_51 : BitVec 32 := 0#32
  let v93 : BitVec 1 := Scalar.cmpi .slt v89 c0_i32_51
  let v94 : BitVec 1 := Scalar.xori v92 v93
  let c0_i32_49 : BitVec 32 := 0#32
  let v91 : BitVec 1 := Scalar.cmpi .ne v90 c0_i32_49
  let v95 : BitVec 1 := Scalar.andi v94 v91
  let v96 : BitVec 32 := Scalar.addi v90 v89
  let v97 : BitVec 32 := Scalar.select v95 v96 v90
  let c0_i32_52 : BitVec 32 := 0#32
  let c0_i32_53 : BitVec 32 := 0#32
  ![v97.toNat, 0, 0]
def k0_off9 (i : grid0.Coords) : Fin 2 → Nat :=
  let c1024_i32_54 : BitVec 32 := 1024#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32_38 : BitVec 32 := 2#32
  let v75 : BitVec 32 := Scalar.addi v1 c2_i32_38
  let c5_i32_39 : BitVec 32 := 5#32
  let c0_i32_40 : BitVec 32 := 0#32
  let v76 : BitVec 1 := Scalar.cmpi .eq c5_i32_39 c0_i32_40
  let c1_i32_41 : BitVec 32 := 1#32
  let v77 : BitVec 32 := Scalar.select v76 c1_i32_41 c5_i32_39
  let v78 : BitVec 32 := Scalar.remsi v75 v77
  let c0_i32_43 : BitVec 32 := 0#32
  let v80 : BitVec 1 := Scalar.cmpi .slt v78 c0_i32_43
  let c0_i32_44 : BitVec 32 := 0#32
  let v81 : BitVec 1 := Scalar.cmpi .slt v77 c0_i32_44
  let v82 : BitVec 1 := Scalar.xori v80 v81
  let c0_i32_42 : BitVec 32 := 0#32
  let v79 : BitVec 1 := Scalar.cmpi .ne v78 c0_i32_42
  let v83 : BitVec 1 := Scalar.andi v82 v79
  let v84 : BitVec 32 := Scalar.addi v78 v77
  let v85 : BitVec 32 := Scalar.select v83 v84 v78
  let c1664_i32_45 : BitVec 32 := 1664#32
  let v86 : BitVec 32 := Scalar.muli v85 c1664_i32_45
  let v87 : BitVec 32 := v86
  ![1024, v87.toNat]
def k0_mult4 (i : grid0.Coords) : BitVec 32 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_2 : BitVec 32 := 5#32
  let c0_i32_3 : BitVec 32 := 0#32
  let v9 : BitVec 1 := Scalar.cmpi .eq c5_i32_2 c0_i32_3
  let c1_i32 : BitVec 32 := 1#32
  let v10 : BitVec 32 := Scalar.select v9 c1_i32 c5_i32_2
  let v11 : BitVec 32 := Scalar.remsi v1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1664_i32 : BitVec 32 := 1664#32
  let v19 : BitVec 32 := Scalar.muli v18 c1664_i32
  v19
def k0_off10 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c3_i32 : BitVec 32 := 3#32
  let c0_i32_7 : BitVec 32 := 0#32
  let v21 : BitVec 1 := Scalar.cmpi .eq c3_i32 c0_i32_7
  let c1_i32_8 : BitVec 32 := 1#32
  let v22 : BitVec 32 := Scalar.select v21 c1_i32_8 c3_i32
  let v23 : BitVec 32 := Scalar.remsi v1 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  ![v30.toNat]
def k0_off11 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c3_i32 : BitVec 32 := 3#32
  let c0_i32_7 : BitVec 32 := 0#32
  let v21 : BitVec 1 := Scalar.cmpi .eq c3_i32 c0_i32_7
  let c1_i32_8 : BitVec 32 := 1#32
  let v22 : BitVec 32 := Scalar.select v21 c1_i32_8 c3_i32
  let v23 : BitVec 32 := Scalar.remsi v1 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v30.toNat, 0, 0]
def k0_off12 (i : grid0.Coords) : Fin 2 → Nat :=
  let c1024_i32 : BitVec 32 := 1024#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_2 : BitVec 32 := 5#32
  let c0_i32_3 : BitVec 32 := 0#32
  let v9 : BitVec 1 := Scalar.cmpi .eq c5_i32_2 c0_i32_3
  let c1_i32 : BitVec 32 := 1#32
  let v10 : BitVec 32 := Scalar.select v9 c1_i32 c5_i32_2
  let v11 : BitVec 32 := Scalar.remsi v1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1664_i32 : BitVec 32 := 1664#32
  let v19 : BitVec 32 := Scalar.muli v18 c1664_i32
  let v20 : BitVec 32 := v19
  ![1024, v20.toNat]
def k0_cond3 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c3_i32_14 : BitVec 32 := 3#32
  let c0_i32_15 : BitVec 32 := 0#32
  let v36 : BitVec 1 := Scalar.cmpi .eq c3_i32_14 c0_i32_15
  let c1_i32_16 : BitVec 32 := 1#32
  let v37 : BitVec 32 := Scalar.select v36 c1_i32_16 c3_i32_14
  let v38 : BitVec 32 := Scalar.remsi v1 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let c0_i32_20 : BitVec 32 := 0#32
  let v46 : BitVec 1 := Scalar.cmpi .eq v45 c0_i32_20
  let v47 : BitVec 32 := Scalar.extui v46
  let c0_i32_21 : BitVec 32 := 0#32
  let v48 : BitVec 1 := Scalar.cmpi .ne v47 c0_i32_21
  v48

def k0_cond4 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c3_i32_22 : BitVec 32 := 3#32
  let c0_i32_23 : BitVec 32 := 0#32
  let v49 : BitVec 1 := Scalar.cmpi .eq c3_i32_22 c0_i32_23
  let c1_i32_24 : BitVec 32 := 1#32
  let v50 : BitVec 32 := Scalar.select v49 c1_i32_24 c3_i32_22
  let v51 : BitVec 32 := Scalar.remsi v1 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  let c1_i32_28 : BitVec 32 := 1#32
  let v59 : BitVec 1 := Scalar.cmpi .eq v58 c1_i32_28
  let v60 : BitVec 32 := Scalar.extui v59
  let c0_i32_29 : BitVec 32 := 0#32
  let v61 : BitVec 1 := Scalar.cmpi .ne v60 c0_i32_29
  v61

def k0_cond5 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c3_i32_30 : BitVec 32 := 3#32
  let c0_i32_31 : BitVec 32 := 0#32
  let v62 : BitVec 1 := Scalar.cmpi .eq c3_i32_30 c0_i32_31
  let c1_i32_32 : BitVec 32 := 1#32
  let v63 : BitVec 32 := Scalar.select v62 c1_i32_32 c3_i32_30
  let v64 : BitVec 32 := Scalar.remsi v1 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let c2_i32_36 : BitVec 32 := 2#32
  let v72 : BitVec 1 := Scalar.cmpi .eq v71 c2_i32_36
  let v73 : BitVec 32 := Scalar.extui v72
  let c0_i32_37 : BitVec 32 := 0#32
  let v74 : BitVec 1 := Scalar.cmpi .ne v73 c0_i32_37
  v74

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RInProjIdeal.lean ====
abbrev S4096x2048 : Shape := ⟨2, ![4096, 2048]⟩
abbrev S2048x8320 : Shape := ⟨2, ![2048, 8320]⟩
abbrev S4096x8320 : Shape := ⟨2, ![4096, 8320]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x2048, .f32⟩
  | .hbm, ⟨3, _⟩ => ⟨S2048x8320, .f32⟩
  | .hbm, ⟨4, _⟩ => ⟨S4096x8320, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KInHigh.lean ====
abbrev S4096x2048 : Shape := ⟨2, ![4096, 2048]⟩
abbrev S2048x8320 : Shape := ⟨2, ![2048, 8320]⟩
abbrev S4096x8320 : Shape := ⟨2, ![4096, 8320]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x8320, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInHighIdeal.lean ====
abbrev S4096x2048 : Shape := ⟨2, ![4096, 2048]⟩
abbrev S2048x8320 : Shape := ⟨2, ![2048, 8320]⟩
abbrev S4096x1024 : Shape := ⟨2, ![4096, 1024]⟩
abbrev S1024x8320 : Shape := ⟨2, ![1024, 8320]⟩
abbrev S4096x8320 : Shape := ⟨2, ![4096, 8320]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x1024, .bf16⟩
  | .hbm, ⟨3, _⟩ => ⟨S4096x1024, .f32⟩
  | .hbm, ⟨4, _⟩ => ⟨S1024x8320, .bf16⟩
  | .hbm, ⟨5, _⟩ => ⟨S1024x8320, .f32⟩
  | .hbm, ⟨6, _⟩ => ⟨S4096x8320, .f32⟩
  | .hbm, ⟨7, _⟩ => ⟨S4096x8320, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KOutProj.lean ====
abbrev S4096x2048 : Shape := ⟨2, ![4096, 2048]⟩
abbrev S2048x2048 : Shape := ⟨2, ![2048, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S4096x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x1, .f32⟩
  | .local _ .vmem, ⟨11, _⟩ => ⟨S512x1, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ROutProjIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KConv.lean ====
abbrev S4096x8320 : Shape := ⟨2, ![4096, 8320]⟩
abbrev S4x3072 : Shape := ⟨2, ![4, 3072]⟩
abbrev S4096x3072 : Shape := ⟨2, ![4096, 3072]⟩
abbrev S4096x128 : Shape := ⟨2, ![4096, 128]⟩
abbrev S4x128 : Shape := ⟨2, ![4, 128]⟩
abbrev S8x128 : Shape := ⟨2, ![8, 128]⟩
abbrev S8x1 : Shape := ⟨2, ![8, 1]⟩
abbrev S1x128 : Shape := ⟨2, ![1, 128]⟩
abbrev S504x128 : Shape := ⟨2, ![504, 128]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x8320, .f32⟩
  | .hbm, ⟨1, _⟩ => ⟨S4x3072, .f32⟩
  | .hbm, ⟨2, _⟩ => ⟨S4096x3072, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S4096x128, .f32⟩
  | .local _ .vmem, ⟨5, _⟩ => ⟨S4096x128, .f32⟩
  | _, _ => ⟨S4096x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RConvIdeal.lean ====
abbrev S4096x8320 : Shape := ⟨2, ![4096, 8320]⟩
abbrev S4x3072 : Shape := ⟨2, ![4, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩

abbrev nBuf : Space → Nat
  | .hbm => 45
  | .vmem => 0
  | .smem => 0
  | _ => 0

abbrev bufTy : (tb : Table) → Fin (tcTables nBuf tb) → BufTy
  | .hbm, ⟨0, _⟩ => ⟨S4096x8320, .f32⟩
  | .hbm, ⟨1, _⟩ => ⟨S4x3072, .f32⟩
  | .hbm, ⟨2, _⟩ => ⟨S4096x3072, .f32⟩
  | .hbm, ⟨3, _⟩ => ⟨S_, .f32⟩
  | .hbm, ⟨4, _⟩ => ⟨S3x3072, .f32⟩
  | .hbm, ⟨5, _⟩ => ⟨S4099x3072, .f32⟩
  | .hbm, ⟨6, _⟩ => ⟨S4096x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S4096x3072, .f32⟩
  | _, _ => ⟨S4096x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== KRms.lean ====
abbrev S4096x2048 : Shape := ⟨2, ![4096, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RRmsIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KLoss.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S1x1 : Shape := ⟨2, ![1, 1]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩
abbrev S1 : Shape := ⟨1, ![1]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x1, .f32⟩
  | .hbm, ⟨6, _⟩ => ⟨S4096x2048, .bf16⟩
  | .hbm, ⟨7, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x1, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RLossIdeal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x8192, .f32⟩
  | .hbm, ⟨6, _⟩ => ⟨S8192x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S1x1, .f32⟩
  | .hbm, ⟨75, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== KPair.lean ====
abbrev S8x2048x1026 : Shape := ⟨3, ![8, 2048, 1026]⟩
abbrev S4x2048x1026 : Shape := ⟨3, ![4, 2048, 1026]⟩
abbrev S_ : Shape := ⟨0, ![]⟩
abbrev S1 : Shape := ⟨1, ![1]⟩
abbrev S4x2x2048x1026 : Shape := ⟨4, ![4, 2, 2048, 1026]⟩
abbrev S1x1x1024x1026 : Shape := ⟨4, ![1, 1, 1024, 1026]⟩
abbrev S1x1024x1026 : Shape := ⟨3, ![1, 1024, 1026]⟩
abbrev S1024x1026 : Shape := ⟨2, ![1024, 1026]⟩

abbrev nBuf : Space → Nat
  | .hbm => 5
  | .vmem => 6
  | .smem => 1
  | _ => 0

abbrev bufTy : (tb : Table) → Fin (tcTables nBuf tb) → BufTy
  | .hbm, ⟨0, _⟩ => ⟨S8x2048x1026, .bf16⟩
  | .hbm, ⟨1, _⟩ => ⟨S4x2048x1026, .bf16⟩
  | .hbm, ⟨2, _⟩ => ⟨S_, .i32⟩
  | .hbm, ⟨3, _⟩ => ⟨S4x2x2048x1026, .bf16⟩
  | .hbm, ⟨4, _⟩ => ⟨S4x2048x1026, .bf16⟩
  | .local _ .vmem, ⟨0, _⟩ => ⟨S1x1x1024x1026, .bf16⟩
  | .local _ .vmem, ⟨1, _⟩ => ⟨S1x1x1024x1026, .bf16⟩
  | .local _ .vmem, ⟨2, _⟩ => ⟨S1x1024x1026, .bf16⟩
  | .local _ .vmem, ⟨3, _⟩ => ⟨S1x1024x1026, .bf16⟩
  | .local _ .vmem, ⟨4, _⟩ => ⟨S1x1024x1026, .bf16⟩
  | .local _ .vmem, ⟨5, _⟩ => ⟨S1x1024x1026, .bf16⟩
  | .local _ .smem, ⟨0, _⟩ => ⟨S1, .i32⟩
  | _, _ => ⟨S8x2048x1026, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024x1026 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1026 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1026 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RPairIdeal.lean ====
abbrev S8x2048x1026 : Shape := ⟨3, ![8, 2048, 1026]⟩
abbrev S4x2048x1026 : Shape := ⟨3, ![4, 2048, 1026]⟩
abbrev S4x2x2048x1026 : Shape := ⟨4, ![4, 2, 2048, 1026]⟩
abbrev S4x1x2048x1026 : Shape := ⟨4, ![4, 1, 2048, 1026]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x1026, .bf16⟩
  | .hbm, ⟨1, _⟩ => ⟨S4x2048x1026, .bf16⟩
  | .hbm, ⟨2, _⟩ => ⟨S4x2x2048x1026, .bf16⟩
  | .hbm, ⟨3, _⟩ => ⟨S4x1x2048x1026, .bf16⟩
  | .hbm, ⟨4, _⟩ => ⟨S4x2048x1026, .bf16⟩
  | .hbm, ⟨5, _⟩ => ⟨S4x2048x1026, .f32⟩
  | .hbm, ⟨6, _⟩ => ⟨S4x2048x1026, .f32⟩
  | .hbm, ⟨7, _⟩ => ⟨S4x2048x1026, .f32⟩
  | .hbm, ⟨8, _⟩ => ⟨S4x2048x1026, .bf16⟩
  | _, _ => ⟨S8x2048x1026, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KAdFf2.lean ====
abbrev S8x1024x2048 : Shape := ⟨3, ![8, 1024, 2048]⟩
abbrev S1024x2048 : Shape := ⟨2, ![1024, 2048]⟩
abbrev S_ : Shape := ⟨0, ![]⟩
abbrev S1 : Shape := ⟨1, ![1]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 10
  | .vmem => 18
  | .smem => 1
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S_, .i32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RAdFf2Ideal.lean ====
abbrev S8x1024x2048 : Shape := ⟨3, ![8, 1024, 2048]⟩
abbrev S1024x2048 : Shape := ⟨2, ![1024, 2048]⟩
abbrev S1x1024x2048 : Shape := ⟨3, ![1, 1024, 2048]⟩
abbrev S7x1024x2048 : Shape := ⟨3, ![7, 1024, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1x1024x2048, .bf16⟩
  | .hbm, ⟨6, _⟩ => ⟨S7x1024x2048, .bf16⟩
  | .hbm, ⟨7, _⟩ => ⟨S8x1024x2048, .bf16⟩
  | .hbm, ⟨8, _⟩ => ⟨S8x1024x2048, .f32⟩
  | .hbm, ⟨9, _⟩ => ⟨S_, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S_, .f32⟩
  | .hbm, ⟨42, _⟩ => ⟨S1024x2048, .f32⟩
  | .hbm, ⟨43, _⟩ => ⟨S1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KAdFf1.lean ====
abbrev S8x2048x1024 : Shape := ⟨3, ![8, 2048, 1024]⟩
abbrev S2048x1024 : Shape := ⟨2, ![2048, 1024]⟩
abbrev S_ : Shape := ⟨0, ![]⟩
abbrev S1 : Shape := ⟨1, ![1]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 10
  | .vmem => 18
  | .smem => 1
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .i32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RAdFf1Ideal.lean ====
abbrev S8x2048x1024 : Shape := ⟨3, ![8, 2048, 1024]⟩
abbrev S2048x1024 : Shape := ⟨2, ![2048, 1024]⟩
abbrev S1x2048x1024 : Shape := ⟨3, ![1, 2048, 1024]⟩
abbrev S7x2048x1024 : Shape := ⟨3, ![7, 2048, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x2048x1024, .bf16⟩
  | .hbm, ⟨6, _⟩ => ⟨S7x2048x1024, .bf16⟩
  | .hbm, ⟨7, _⟩ => ⟨S8x2048x1024, .bf16⟩
  | .hbm, ⟨8, _⟩ => ⟨S8x2048x1024, .f32⟩
  | .hbm, ⟨9, _⟩ => ⟨S_, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KAdOut.lean ====
abbrev S8x256x2048 : Shape := ⟨3, ![8, 256, 2048]⟩
abbrev S256x2048 : Shape := ⟨2, ![256, 2048]⟩
abbrev S_ : Shape := ⟨0, ![]⟩
abbrev S1 : Shape := ⟨1, ![1]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 10
  | .vmem => 18
  | .smem => 1
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S_, .i32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RAdOutIdeal.lean ====
abbrev S8x256x2048 : Shape := ⟨3, ![8, 256, 2048]⟩
abbrev S256x2048 : Shape := ⟨2, ![256, 2048]⟩
abbrev S1x256x2048 : Shape := ⟨3, ![1, 256, 2048]⟩
abbrev S7x256x2048 : Shape := ⟨3, ![7, 256, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S1x256x2048, .bf16⟩
  | .hbm, ⟨6, _⟩ => ⟨S7x256x2048, .bf16⟩
  | .hbm, ⟨7, _⟩ => ⟨S8x256x2048, .bf16⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KAdIn.lean ====
abbrev S4x2048x1026 : Shape := ⟨3, ![4, 2048, 1026]⟩
abbrev S2048x1026 : Shape := ⟨2, ![2048, 1026]⟩
abbrev S_ : Shape := ⟨0, ![]⟩
abbrev S1 : Shape := ⟨1, ![1]⟩
abbrev S4x128x1026 : Shape := ⟨3, ![4, 128, 1026]⟩
abbrev S1x128x1026 : Shape := ⟨3, ![1, 128, 1026]⟩
abbrev S128x1026 : Shape := ⟨2, ![128, 1026]⟩

abbrev nBuf : Space → Nat
  | .hbm => 10
  | .vmem => 18
  | .smem => 1
  | _ => 0

abbrev bufTy : (tb : Table) → Fin (tcTables nBuf tb) → BufTy
  | .hbm, ⟨0, _⟩ => ⟨S4x2048x1026, .bf16⟩
  | .hbm, ⟨1, _⟩ => ⟨S4x2048x1026, .bf16⟩
  | .hbm, ⟨2, _⟩ => ⟨S2048x1026, .f32⟩
  | .hbm, ⟨3, _⟩ => ⟨S2048x1026, .f32⟩
  | .hbm, ⟨4, _⟩ => ⟨S2048x1026, .f32⟩
  | .hbm, ⟨5, _⟩ => ⟨S_, .i32⟩
  | .hbm, ⟨6, _⟩ => ⟨S2048x1026, .f32⟩
  | .hbm, ⟨7, _⟩ => ⟨S2048x1026, .f32⟩
  | .hbm, ⟨8, _⟩ => ⟨S2048x1026, .f32⟩
  | .hbm, ⟨9, _⟩ => ⟨S2048x1026, .f32⟩
  | .local _ .vmem, ⟨0, _⟩ => ⟨S4x128x1026, .bf16⟩
  | .local _ .vmem, ⟨1, _⟩ => ⟨S4x128x1026, .bf16⟩
  | .local _ .vmem, ⟨2, _⟩ => ⟨S1x128x1026, .bf16⟩
  | .local _ .vmem, ⟨3, _⟩ => ⟨S1x128x1026, .bf16⟩
  | .local _ .vmem, ⟨4, _⟩ => ⟨S128x1026, .f32⟩
  | .local _ .vmem, ⟨5, _⟩ => ⟨S128x1026, .f32⟩
  | .local _ .vmem, ⟨6, _⟩ => ⟨S128x1026, .f32⟩
  | .local _ .vmem, ⟨7, _⟩ => ⟨S128x1026, .f32⟩
  | .local _ .vmem, ⟨8, _⟩ => ⟨S128x1026, .f32⟩
  | .local _ .vmem, ⟨9, _⟩ => ⟨S128x1026, .f32⟩
  | .local _ .vmem, ⟨10, _⟩ => ⟨S128x1026, .f32⟩
  | .local _ .vmem, ⟨11, _⟩ => ⟨S128x1026, .f32⟩
  | .local _ .vmem, ⟨12, _⟩ => ⟨S128x1026, .f32⟩
  | .local _ .vmem, ⟨13, _⟩ => ⟨S128x1026, .f32⟩
  | .local _ .vmem, ⟨14, _⟩ => ⟨S128x1026, .f32⟩
  | .local _ .vmem, ⟨15, _⟩ => ⟨S128x1026, .f32⟩
  | .local _ .vmem, ⟨16, _⟩ => ⟨S128x1026, .f32⟩
  | .local _ .vmem, ⟨17, _⟩ => ⟨S128x1026, .f32⟩
  | .local _ .smem, ⟨0, _⟩ => ⟨S1, .i32⟩
  | _, _ => ⟨S4x2048x1026, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1026 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1026 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1026 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1026 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1026 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1026 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1026 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1026 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1026 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RAdInIdeal.lean ====
abbrev S4x2048x1026 : Shape := ⟨3, ![4, 2048, 1026]⟩
abbrev S2048x1026 : Shape := ⟨2, ![2048, 1026]⟩
abbrev S1x2048x1026 : Shape := ⟨3, ![1, 2048, 1026]⟩
abbrev S3x2048x1026 : Shape := ⟨3, ![3, 2048, 1026]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1026, .bf16⟩
  | .hbm, ⟨1, _⟩ => ⟨S4x2048x1026, .bf16⟩
  | .hbm, ⟨2, _⟩ => ⟨S2048x1026, .f32⟩
  | .hbm, ⟨3, _⟩ => ⟨S2048x1026, .f32⟩
  | .hbm, ⟨4, _⟩ => ⟨S2048x1026, .f32⟩
  | .hbm, ⟨5, _⟩ => ⟨S1x2048x1026, .bf16⟩
  | .hbm, ⟨6, _⟩ => ⟨S3x2048x1026, .bf16⟩
  | .hbm, ⟨7, _⟩ => ⟨S4x2048x1026, .bf16⟩
  | .hbm, ⟨8, _⟩ => ⟨S4x2048x1026, .f32⟩
  | .hbm, ⟨9, _⟩ => ⟨S_, .f32⟩
  | .hbm, ⟨10, _⟩ => ⟨S2048x1026, .f32⟩
  | .hbm, ⟨11, _⟩ => ⟨S_, .f32⟩
  | .hbm, ⟨12, _⟩ => ⟨S2048x1026, .f32⟩
  | .hbm, ⟨13, _⟩ => ⟨S2048x1026, .f32⟩
  | .hbm, ⟨14, _⟩ => ⟨S_, .f32⟩
  | .hbm, ⟨15, _⟩ => ⟨S2048x1026, .f32⟩
  | .hbm, ⟨16, _⟩ => ⟨S2048x1026, .f32⟩
  | .hbm, ⟨17, _⟩ => ⟨S2048x1026, .f32⟩
  | .hbm, ⟨18, _⟩ => ⟨S_, .f32⟩
  | .hbm, ⟨19, _⟩ => ⟨S2048x1026, .f32⟩
  | .hbm, ⟨20, _⟩ => ⟨S2048x1026, .f32⟩
  | .hbm, ⟨21, _⟩ => ⟨S2048x1026, .f32⟩
  | .hbm, ⟨22, _⟩ => ⟨S_, .f32⟩
  | .hbm, ⟨23, _⟩ => ⟨S2048x1026, .f32⟩
  | .hbm, ⟨24, _⟩ => ⟨S2048x1026, .f32⟩
  | .hbm, ⟨25, _⟩ => ⟨S2048x1026, .f32⟩
  | .hbm, ⟨26, _⟩ => ⟨S_, .f32⟩
  | .hbm, ⟨27, _⟩ => ⟨S2048x1026, .f32⟩
  | .hbm, ⟨28, _⟩ => ⟨S2048x1026, .f32⟩
  | .hbm, ⟨29, _⟩ => ⟨S_, .f32⟩
  | .hbm, ⟨30, _⟩ => ⟨S2048x1026, .f32⟩
  | .hbm, ⟨31, _⟩ => ⟨S2048x1026, .f32⟩
  | .hbm, ⟨32, _⟩ => ⟨S2048x1026, .f32⟩
  | .hbm, ⟨33, _⟩ => ⟨S_, .f32⟩
  | .hbm, ⟨34, _⟩ => ⟨S2048x1026, .f32⟩
  | .hbm, ⟨35, _⟩ => ⟨S2048x1026, .f32⟩
  | .hbm, ⟨36, _⟩ => ⟨S2048x1026, .f32⟩
  | .hbm, ⟨37, _⟩ => ⟨S_, .f32⟩
  | .hbm, ⟨38, _⟩ => ⟨S2048x1026, .f32⟩
  | .hbm, ⟨39, _⟩ => ⟨S2048x1026, .f32⟩
  | .hbm, ⟨40, _⟩ => ⟨S2048x1026, .f32⟩
  | .hbm, ⟨41, _⟩ => ⟨S_, .f32⟩
  | .hbm, ⟨42, _⟩ => ⟨S2048x1026, .f32⟩
  | .hbm, ⟨43, _⟩ => ⟨S2048x1026, .f32⟩
  | _, _ => ⟨S4x2048x1026, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.DAct.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise
public import Idealize.ShloMosaic.Lib.Quiescent

/-! The gradient of the hidden layer: the product of the cotangent with the second matrix, times the slope of the squared rectifier. -/

@[expose] public section

noncomputable section

open Idealize.ShloMosaic Idealize.ShloMosaic.TcCoe Idealize.SL.Sem
open Idealize.ShloMosaic.Pipeline (Dat)

namespace Cert.KernelIdeal.DAct

open Cert.KernelIdeal Cert.KernelIdeal.Gen

def grad (a : S4096x8192.Idx → EReal) (w : S8192x2048.Idx → EReal) (dh : S4096x2048.Idx → EReal) : S4096x8192.Idx → EReal :=
  fun i => (∑ k : Fin 2048, dh (ix2 (i 0) k) * w (ix2 (i 1) k)) * (Ideal.ofBits .f32 0x40000000#32 * max (a i) 0)

variable (m : (ℓ : Loc nD τ sig) → Buf (Elt Ideal) ℓ) (ρ : Dev nD → PrngReg)

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- What the call leaves in the array of window 3. -/
theorem final (c : Dev nD) : (dats m 0 c).arrAt 3 cfg0.N = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold_payloads
  simp only [pointwise, zero_add]
  unfold grad
  blk_point [iblk, V, e0 t, e1 t, e2 t, e3 t]

open Cert.ReferenceIdeal.Read in
/-- The reference's result, index by index. -/
theorem ref_eq (a : S4096x8192.Idx → EReal) (w : S8192x2048.Idx → EReal) (dh : S4096x2048.Idx → EReal) : val_main_v16 (F := Ideal) a w dh = grad a w dh := by
  funext i
  simp only [val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_cst, val_main_cst, val_main_cst_0, val_main_cst_1, val_main_cst_2]
  simp only [pointwise, zero_add]
  unfold grad
  split
  · rfl
  · rw [max_eq_right (le_of_not_gt ‹_›), mul_zero, mul_zero]

open Cert.ReferenceIdeal.Read in
/-- From memories that agree on the arguments the call and the reference leave equal results. -/
theorem algebraic : Cert.algebraic_KernelIdeal_ReferenceIdeal :=
  fun m ρ m' ρ' _ hag => ⟨fun c => grad (m ((c : Thread nD τ).loc main_arg0)) (m ((c : Thread nD τ).loc main_arg1)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by
        rw [(hag c).1, (hag c).2.1, (hag c).2.2]; exact (val_main_v16_eq _ _ _).trans (ref_eq _ _ _)), (h c).2⟩)
      (Cert.ReferenceIdeal.Value.run m' ρ')⟩

end Cert.KernelIdeal.DAct

end
-- ==== Proof.DwFf2.lean ====
module

public import proofs.«01_k».proof.Defs
public import proofs.«01_k».proof.Proof.Gen.KDwFf2Ideal.Value
public import proofs.«01_k».proof.Proof.Gen.RDwFf2Ideal.Run
public import proofs.«01_k».proof.Proof.Gen.RDwFf2Ideal.Read
public import Idealize.ShloMosaic.Lib.Pipeline.ValueKit
public import Idealize.ShloMosaic.Lib.Pointwise
public import Idealize.ShloMosaic.Lib.Quiescent

/-! The gradient of the second matrix of the layer: the squared rectified activations against the cotangent. -/

@[expose] public section

noncomputable section

open Idealize.ShloMosaic Idealize.ShloMosaic.TcCoe Idealize.SL.Sem
open Idealize.ShloMosaic.Pipeline (Dat)

namespace Cert.KDwFf2Ideal.DwFf2

open Cert.KDwFf2Ideal Cert.KDwFf2Ideal.Gen

/-- The activations: the square of the rectified hidden layer. -/
def act (a : S4096x8192.Idx → EReal) : S4096x8192.Idx → EReal :=
  fun i => max (a i) 0 * max (a i) 0

def grad (a : S4096x8192.Idx → EReal) (dh : S4096x2048.Idx → EReal) : S8192x2048.Idx → EReal :=
  fun i => ∑ k : Fin 4096, act a (ix2 k (i 0)) * dh (ix2 k (i 1))

variable (m : (ℓ : Loc nD τ sig) → Buf (Elt Ideal) ℓ) (ρ : Dev nD → PrngReg)

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The activations as the host lines before the call leave them. -/
theorem act_eq (c : Dev nD) : V m c main_v2 = act (m ((c : Thread nD τ).loc main_arg0)) := by
  unfold V
  simp only [hostOps0, hostOps0_1, List.flatten_cons, List.flatten_nil, List.append_nil, List.cons_append, List.nil_append]
  after_results
  have e : ∀ (a : FVec Ideal S4096x8192 .f32) (i : S4096x8192.Idx),
      maximumf a (broadcastInDim S4096x8192 ![] bcast_S_S4096x8192 (constant S_ .f32 0#32)) i = max (a i) 0 := by
    intro a i
    simp only [pointwise]
  funext i
  exact congrArg₂ (· * ·) (e _ i) (e _ i)

theorem block_act (c : Dev nD) (t : Fin cfg0.N) :
    iblk m c 0 t = ((cfg0.win 0).blk t).view.read (Elt Ideal) (act (m ((c : Thread nD τ).loc main_arg0))) :=
  congrArg _ (act_eq m c)

/-- What the call leaves in the array of window 2. -/
theorem final (c : Dev nD) : (dats m 0 c).arrAt 2 cfg0.N = grad (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  rw [block_act]
  simp only [pointwise, zero_add]
  unfold grad
  blk_point [iblk, V, e0 t, e1 t, e2 t]

open Cert.RDwFf2Ideal.Read in
/-- The reference's result, index by index. -/
theorem ref_eq (a : S4096x8192.Idx → EReal) (dh : S4096x2048.Idx → EReal) : val_main_v16 (F := Ideal) a dh = grad a dh := by
  funext i
  simp only [val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_cst, val_main_cst, val_main_cst_0, val_main_cst_1, val_main_cst_2]
  simp only [pointwise, zero_add]
  unfold grad
  unfold act
  exact Finset.sum_congr rfl fun k _ => mul_comm _ _

open Cert.RDwFf2Ideal.Read in
/-- From memories that agree on the arguments the call and the reference leave equal results. -/
theorem algebraic : Cert.algebraic_KDwFf2Ideal_RDwFf2Ideal :=
  fun m ρ m' ρ' _ hag => ⟨fun c => grad (m ((c : Thread nD τ).loc main_arg0)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by
        rw [(hag c).1, (hag c).2.2]; exact (val_main_v16_eq _ _).trans (ref_eq _ _)), (h c).2⟩)
      (Cert.RDwFf2Ideal.Value.run m' ρ')⟩

end Cert.KDwFf2Ideal.DwFf2

end
-- ==== Proof.Dn2.lean ====
module

public import proofs.«01_k».proof.Defs
public import proofs.«01_k».proof.Proof.Gen.KDn2Ideal.Value
public import proofs.«01_k».proof.Proof.Gen.RDn2Ideal.Run
public import proofs.«01_k».proof.Proof.Gen.RDn2Ideal.Read
public import Idealize.ShloMosaic.Lib.Pipeline.ValueKit
public import Idealize.ShloMosaic.Lib.Pointwise
public import Idealize.ShloMosaic.Lib.Quiescent
public import Idealize.ShloMosaic.Lib.Pipeline.ReadBack

/-! The gradient of the normed tokens of the feed-forward layer: the cotangent of the hidden layer against the first matrix, given in eight shards of its columns and added up in two steps of four shards. -/

@[expose] public section

noncomputable section

open Idealize.ShloMosaic Idealize.ShloMosaic.TcCoe Idealize.SL.Sem
open Idealize.ShloMosaic.Pipeline (Dat)

namespace Cert.KDn2Ideal.Dn2

open Cert.KDn2Ideal Cert.KDn2Ideal.Gen

/-- One shard's part of the product: the `s`-th run of 1024 columns. -/
def part (w : S8x2048x1024.Idx → EReal) (da : S4096x8192.Idx → EReal) (i : S4096x2048.Idx) (s : Fin 8) : EReal :=
  ∑ k : Fin 1024, da (ix2 (i 0) (⟨s.val * 1024 + k.val, by omega⟩ : Fin 8192)) * w (ix3 s (i 1) k)

def grad (w : S8x2048x1024.Idx → EReal) (da : S4096x8192.Idx → EReal) : S4096x2048.Idx → EReal :=
  fun i => ∑ s : Fin 8, part w da i s

variable (m : (ℓ : Loc nD τ sig) → Buf (Elt Ideal) ℓ) (ρ : Dev nD → PrngReg)

theorem e0 : ∀ t : Fin cfg0.N, win0_0.index t = ![t.val / 4, t.val % 2] := (by decide +kernel : ∀ t : Fin grid0.N, _)
theorem e1 : ∀ t : Fin cfg0.N, win0_1.index t = ![t.val % 2, t.val / 2 % 2, 0] := (by decide +kernel : ∀ t : Fin grid0.N, _)
theorem e2 : ∀ t : Fin cfg0.N, win0_2.index t = ![t.val / 4, t.val / 2 % 2] := (by decide +kernel : ∀ t : Fin grid0.N, _)

/-- What the call leaves in the array of window 2. -/
theorem final (c : Dev nD) : (dats m 0 c).arrAt 2 cfg0.N = grad (m ((c : Thread nD τ).loc main_arg1)) (m ((c : Thread nD τ).loc main_arg2)) := by
  refine (dats m 0 c).arrAt_eq_of_covers 2 _ (by decide +kernel) fun t hf y => ?_
  have h1 : t.val % 2 = 1 := (flush0_2 t).mp hf
  have h0 : (⟨t.val - 1, Nat.lt_of_le_of_lt (Nat.sub_le _ _) t.isLt⟩ : Fin cfg0.N).val % 2 = 0 := by show (t.val - 1) % 2 = 0; omega
  blk_simp
  rw [after0_2, outsAt0_B m c t (by omega) h1]
  frame_out
  rw [outsAt0_A m c ⟨t.val - 1, Nat.lt_of_le_of_lt (Nat.sub_le _ _) t.isLt⟩ h0 (by omega)]
  frame_out
  simp only [read_unread_whole]
  unfold_payloads
  simp only [pointwise, zero_add]
  unfold grad
  simp only [Fin.sum_univ_eight, part, add_assoc]
  blk_point [iblk, V, e0 t, e1 t, e2 t, e0 ⟨t.val - 1, Nat.lt_of_le_of_lt (Nat.sub_le _ _) t.isLt⟩, e1 ⟨t.val - 1, Nat.lt_of_le_of_lt (Nat.sub_le _ _) t.isLt⟩]

open Cert.RDn2Ideal.Read in
/-- The reference's result, index by index. -/
theorem ref_eq (w : S8x2048x1024.Idx → EReal) (da : S4096x8192.Idx → EReal) : val_main_v9 (F := Ideal) w da = grad w da := by
  funext i
  simp only [val_main_v9, val_main_v8, val_main_v7, val_main_v6, val_main_v5, val_main_v4, val_main_v3, val_main_v2, val_main_v1, val_main_v0]
  simp only [pointwise, zero_add]
  unfold grad part
  refine (Fin.sum_mul_add_congr fun s k hl => ?_).symm
  have hs : (⟨(s.val * 1024 + k.val) / 1024, by omega⟩ : Fin 8) = s := by ext; show (s.val * 1024 + k.val) / 1024 = s.val; omega
  have hk : (⟨(s.val * 1024 + k.val) % 1024, by omega⟩ : Fin 1024) = k := by ext; show (s.val * 1024 + k.val) % 1024 = k.val; omega
  exact congrArg₂ (fun a b => da (ix2 (i 0) ⟨s.val * 1024 + k.val, hl⟩) * w (ix3 a (i 1) b)) hs.symm hk.symm

open Cert.RDn2Ideal.Read in
/-- From memories that agree on the arguments the call and the reference leave equal results. -/
theorem algebraic : Cert.algebraic_KDn2Ideal_RDn2Ideal :=
  fun m ρ m' ρ' _ hag => ⟨fun c => grad (m ((c : Thread nD τ).loc main_arg1)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by
        rw [(hag c).2.1, (hag c).2.2]; exact (val_main_v9_eq _ _).trans (ref_eq _ _)), (h c).2⟩)
      (Cert.RDn2Ideal.Value.run m' ρ')⟩

end Cert.KDn2Ideal.Dn2

end
-- ==== Proof.DwFf1.lean ====
module

public import proofs.«01_k».proof.Defs
public import proofs.«01_k».proof.Proof.Gen.KDwFf1Ideal.Value
public import proofs.«01_k».proof.Proof.Gen.RDwFf1Ideal.Run
public import proofs.«01_k».proof.Proof.Gen.RDwFf1Ideal.Read
public import Idealize.ShloMosaic.Lib.Pipeline.ValueKit
public import Idealize.ShloMosaic.Lib.Pointwise
public import Idealize.ShloMosaic.Lib.Quiescent

/-! The gradient of the first matrix of the layer, the eight shards of its columns along a new leading axis. -/

@[expose] public section

noncomputable section

open Idealize.ShloMosaic Idealize.ShloMosaic.TcCoe Idealize.SL.Sem
open Idealize.ShloMosaic.Pipeline (Dat)

namespace Cert.KDwFf1Ideal.DwFf1

open Cert.KDwFf1Ideal Cert.KDwFf1Ideal.Gen

def grad (n : S4096x2048.Idx → EReal) (da : S4096x8192.Idx → EReal) : S8x2048x1024.Idx → EReal :=
  fun i => ∑ k : Fin 4096, n (ix2 k (i 1)) * da (ix2 k (⟨(i 0).val * 1024 + (i 2).val, by have := (i 0).isLt; have := (i 2).isLt; change (i 0).val < 8 at *; change (i 2).val < 1024 at *; omega⟩ : Fin 8192))

variable (m : (ℓ : Loc nD τ sig) → Buf (Elt Ideal) ℓ) (ρ : Dev nD → PrngReg)

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 1).val, (grid0.coords t 0).val, 0] := (by decide +kernel : ∀ t : Fin grid0.N, _)

/-- What the call leaves in the array of window 2. -/
theorem final (c : Dev nD) : (dats m 0 c).arrAt 2 cfg0.N = grad (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  simp only [pointwise, zero_add]
  unfold grad
  blk_point [iblk, V, e0 t, e1 t, e2 t]

open Cert.RDwFf1Ideal.Read in
/-- The reference's result, index by index. -/
theorem ref_eq (n : S4096x2048.Idx → EReal) (da : S4096x8192.Idx → EReal) : val_main_v11 (F := Ideal) n da = grad n da := by
  funext i
  simp only [val_main_v11, val_main_v10, val_main_v9, val_main_v8, val_main_v7, val_main_v6, val_main_v5, val_main_v4, val_main_v3, val_main_v2, val_main_v1, val_main_v0]
  simp only [pointwise, zero_add]
  unfold grad
  refine Finset.sum_congr rfl fun k _ => ?_
  rw [mul_comm]

open Cert.RDwFf1Ideal.Read in
/-- From memories that agree on the arguments the call and the reference leave equal results. -/
theorem algebraic : Cert.algebraic_KDwFf1Ideal_RDwFf1Ideal :=
  fun m ρ m' ρ' _ hag => ⟨fun c => grad (m ((c : Thread nD τ).loc main_arg0)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by
        rw [(hag c).1, (hag c).2.2]; exact (val_main_v11_eq _ _).trans (ref_eq _ _)), (h c).2⟩)
      (Cert.RDwFf1Ideal.Value.run m' ρ')⟩

end Cert.KDwFf1Ideal.DwFf1

end
-- ==== Proof.Ff1.lean ====
module

public import proofs.«01_k».proof.Defs
public import proofs.«01_k».proof.Proof.Gen.KFf1Ideal.Value
public import proofs.«01_k».proof.Proof.Gen.RFf1Ideal.Run
public import proofs.«01_k».proof.Proof.Gen.RFf1Ideal.Read
public import Idealize.ShloMosaic.Lib.Pipeline.ValueKit
public import Idealize.ShloMosaic.Lib.Pointwise
public import Idealize.ShloMosaic.Lib.Quiescent

/-! The first product of the layer and the squared rectifier of it, the matrix given in eight shards of its columns. -/

@[expose] public section

noncomputable section

open Idealize.ShloMosaic Idealize.ShloMosaic.TcCoe Idealize.SL.Sem
open Idealize.ShloMosaic.Pipeline (Dat)

namespace Cert.KFf1Ideal.Ff1

open Cert.KFf1Ideal Cert.KFf1Ideal.Gen

def hidden (n : S4096x2048.Idx → EReal) (w : S8x2048x1024.Idx → EReal) : S4096x8192.Idx → EReal :=
  fun i => ∑ k : Fin 2048, n (ix2 (i 0) k) * w (ix3 (⟨(i 1).val / 1024, by have := (i 1).isLt; change (i 1).val < 8192 at this; omega⟩ : Fin 8) k (⟨(i 1).val % 1024, Nat.mod_lt _ (by decide)⟩ : Fin 1024))

def act (n : S4096x2048.Idx → EReal) (w : S8x2048x1024.Idx → EReal) : S4096x8192.Idx → EReal :=
  fun i => max (hidden n w i) 0 * max (hidden n w i) 0

variable (m : (ℓ : Loc nD τ sig) → Buf (Elt Ideal) ℓ) (ρ : Dev nD → PrngReg)

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0, 0] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- What the call leaves in the array of window 2. -/
theorem final_a (c : Dev nD) : (dats m 0 c).arrAt 2 cfg0.N = hidden (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  simp only [pointwise, zero_add]
  unfold hidden
  blk_point [iblk, V, e0 t, e1 t, e2 t, e3 t]

/-- What the call leaves in the array of window 3. -/
theorem final_act (c : Dev nD) : (dats m 0 c).arrAt 3 cfg0.N = act (m ((c : Thread nD τ).loc main_arg0)) (m ((c : Thread nD τ).loc main_arg1)) := by
  refine (dats m 0 c).arrAt_eq_of_covers 3 _ (by decide +kernel) fun t hf y => ?_
  blk_simp
  rw [after0_3]
  frame_out
  unfold_payloads
  simp only [pointwise, zero_add]
  unfold act
  unfold hidden
  blk_point [iblk, V, e0 t, e1 t, e2 t, e3 t]

open Cert.RFf1Ideal.Read in
/-- The reference's result, index by index. -/
theorem ref_hidden (n : S4096x2048.Idx → EReal) (w : S8x2048x1024.Idx → EReal) : val_main_v4 (F := Ideal) n w = hidden n w := by
  funext i
  simp only [val_main_v4, val_main_v3, val_main_v2, val_main_v1, val_main_v0]
  simp only [pointwise, zero_add]
  unfold hidden
  rfl

open Cert.RFf1Ideal.Read in
/-- The reference's result, index by index. -/
theorem ref_act (n : S4096x2048.Idx → EReal) (w : S8x2048x1024.Idx → EReal) : val_main_v7 (F := Ideal) n w = act n w := by
  funext i
  simp only [val_main_v7, val_main_v6, val_main_v5, val_main_call0_v0, val_main_call0_cst, ref_hidden]
  simp only [pointwise, zero_add]
  unfold act
  rfl

open Cert.RFf1Ideal.Read in
/-- From memories that agree on the arguments the call and the reference leave equal results. -/
theorem algebraic : Cert.algebraic_KFf1Ideal_RFf1Ideal :=
  fun m ρ m' ρ' _ hag => ⟨fun c => hidden (m ((c : Thread nD τ).loc main_arg0)) (m ((c : Thread nD τ).loc main_arg1)), fun c => act (m ((c : Thread nD τ).loc main_arg0)) (m ((c : Thread nD τ).loc main_arg1)),
    (θ_run _ _ _).mono (fun _ h c => ⟨(h c).1.trans (final_a m c), (h c).2.1.trans (final_act m c), (h c).2.2⟩) (Value.run_blocks m ρ),
    (θ_run _ _ _).mono (fun _ h c => ⟨(h c).1.trans (by
        rw [(hag c).1, (hag c).2]; exact (val_main_v4_eq _ _).trans (ref_hidden _ _)),
      (h c).2.1.trans (by
        rw [(hag c).1, (hag c).2]; exact (val_main_v7_eq _ _).trans (ref_act _ _)), (h c).2.2⟩)
      (Cert.RFf1Ideal.Value.run m' ρ')⟩

end Cert.KFf1Ideal.Ff1

end
-- ==== Proof.DMix.lean ====
module

public import proofs.«01_k».proof.Defs
public import proofs.«01_k».proof.Proof.Gen.KDMixIdeal.Value
public import proofs.«01_k».proof.Proof.Gen.RDMixIdeal.Run
public import proofs.«01_k».proof.Proof.Gen.RDMixIdeal.Read
public import Idealize.ShloMosaic.Lib.Pipeline.ValueKit
public import Idealize.ShloMosaic.Lib.Pointwise
public import Idealize.ShloMosaic.Lib.Quiescent

/-! The gradient of the mixed heads: the cotangent against the output projection. -/

@[expose] public section

noncomputable section

open Idealize.ShloMosaic Idealize.ShloMosaic.TcCoe Idealize.SL.Sem
open Idealize.ShloMosaic.Pipeline (Dat)

namespace Cert.KDMixIdeal.DMix

open Cert.KDMixIdeal Cert.KDMixIdeal.Gen

def grad (w : S2048x2048.Idx → EReal) (dh : S4096x2048.Idx → EReal) : S4096x2048.Idx → EReal :=
  fun i => ∑ k : Fin 2048, dh (ix2 (i 0) k) * w (ix2 (i 1) k)

variable (m : (ℓ : Loc nD τ sig) → Buf (Elt Ideal) ℓ) (ρ : Dev nD → PrngReg)

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)

/-- What the call leaves in the array of window 2. -/
theorem final (c : Dev nD) : (dats m 0 c).arrAt 2 cfg0.N = grad (m ((c : Thread nD τ).loc main_arg1)) (m ((c : Thread nD τ).loc main_arg2)) := by
  refine (dats m 0 c).arrAt_eq_of_covers 2 _ (by decide +kernel) fun t hf y => ?_
  blk_simp
  rw [after0_2]
  frame_out
  unfold_payloads
  simp only [pointwise, zero_add]
  unfold grad
  blk_point [iblk, V, e0 t, e1 t, e2 t]

open Cert.RDMixIdeal.Read in
/-- The reference's result, index by index. -/
theorem ref_eq (w : S2048x2048.Idx → EReal) (dh : S4096x2048.Idx → EReal) : val_main_v7 (F := Ideal) w dh = grad w dh := by
  funext i
  simp only [val_main_v7, val_main_v6, val_main_v5, val_main_v4, val_main_v3, val_main_v2, val_main_v1, val_main_v0]
  simp only [pointwise, zero_add]
  unfold grad
  rfl

open Cert.RDMixIdeal.Read in
/-- From memories that agree on the arguments the call and the reference leave equal results. -/
theorem algebraic : Cert.algebraic_KDMixIdeal_RDMixIdeal :=
  fun m ρ m' ρ' _ hag => ⟨fun c => grad (m ((c : Thread nD τ).loc main_arg1)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by
        rw [(hag c).2.1, (hag c).2.2]; exact (val_main_v7_eq _ _).trans (ref_eq _ _)), (h c).2⟩)
      (Cert.RDMixIdeal.Value.run m' ρ')⟩

end Cert.KDMixIdeal.DMix

end
-- ==== Proof.DwOut.lean ====
module

public import proofs.«01_k».proof.Defs
public import proofs.«01_k».proof.Proof.Gen.KDwOutIdeal.Value
public import proofs.«01_k».proof.Proof.Gen.RDwOutIdeal.Run
public import proofs.«01_k».proof.Proof.Gen.RDwOutIdeal.Read
public import Idealize.ShloMosaic.Lib.Pipeline.ValueKit
public import Idealize.ShloMosaic.Lib.Pointwise
public import Idealize.ShloMosaic.Lib.Quiescent

/-! The gradient of the output projection: the mixed heads against the cotangent. -/

@[expose] public section

noncomputable section

open Idealize.ShloMosaic Idealize.ShloMosaic.TcCoe Idealize.SL.Sem
open Idealize.ShloMosaic.Pipeline (Dat)

namespace Cert.KDwOutIdeal.DwOut

open Cert.KDwOutIdeal Cert.KDwOutIdeal.Gen

def grad (y dh : S4096x2048.Idx → EReal) : S2048x2048.Idx → EReal :=
  fun i => ∑ k : Fin 4096, y (ix2 k (i 0)) * dh (ix2 k (i 1))

variable (m : (ℓ : Loc nD τ sig) → Buf (Elt Ideal) ℓ) (ρ : Dev nD → PrngReg)

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- What the call leaves in the array of window 2. -/
theorem final (c : Dev nD) : (dats m 0 c).arrAt 2 cfg0.N = grad (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  simp only [pointwise, zero_add]
  unfold grad
  blk_point [iblk, V, e0 t, e1 t, e2 t]

open Cert.RDwOutIdeal.Read in
/-- The reference's result, index by index. -/
theorem ref_eq (y dh : S4096x2048.Idx → EReal) : val_main_v7 (F := Ideal) y dh = grad y dh := by
  funext i
  simp only [val_main_v7, val_main_v6, val_main_v5, val_main_v4, val_main_v3, val_main_v2, val_main_v1, val_main_v0]
  simp only [pointwise, zero_add]
  unfold grad
  exact Finset.sum_congr rfl fun k _ => mul_comm _ _

open Cert.RDwOutIdeal.Read in
/-- From memories that agree on the arguments the call and the reference leave equal results. -/
theorem algebraic : Cert.algebraic_KDwOutIdeal_RDwOutIdeal :=
  fun m ρ m' ρ' _ hag => ⟨fun c => grad (m ((c : Thread nD τ).loc main_arg0)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by
        rw [(hag c).1, (hag c).2.2]; exact (val_main_v7_eq _ _).trans (ref_eq _ _)), (h c).2⟩)
      (Cert.RDwOutIdeal.Value.run m' ρ')⟩

end Cert.KDwOutIdeal.DwOut

end
-- ==== Proof.DwIn.lean ====
module

public import proofs.«01_k».proof.Defs
public import proofs.«01_k».proof.Proof.Gen.KDwInIdeal.Value
public import proofs.«01_k».proof.Proof.Gen.RDwInIdeal.Run
public import proofs.«01_k».proof.Proof.Gen.RDwInIdeal.Read
public import Idealize.ShloMosaic.Lib.Pipeline.ValueKit
public import Idealize.ShloMosaic.Lib.Pointwise
public import Idealize.ShloMosaic.Lib.Quiescent

/-! The gradient of the input projection: the normed tokens against the cotangent. -/

@[expose] public section

noncomputable section

open Idealize.ShloMosaic Idealize.ShloMosaic.TcCoe Idealize.SL.Sem
open Idealize.ShloMosaic.Pipeline (Dat)

namespace Cert.KDwInIdeal.DwIn

open Cert.KDwInIdeal Cert.KDwInIdeal.Gen

def grad (n : S4096x2048.Idx → EReal) (dp : S4096x8320.Idx → EReal) : S2048x8320.Idx → EReal :=
  fun i => ∑ k : Fin 4096, n (ix2 k (i 0)) * dp (ix2 k (i 1))

variable (m : (ℓ : Loc nD τ sig) → Buf (Elt Ideal) ℓ) (ρ : Dev nD → PrngReg)

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- What the call leaves in the array of window 2. -/
theorem final (c : Dev nD) : (dats m 0 c).arrAt 2 cfg0.N = grad (m ((c : Thread nD τ).loc main_arg0)) (m ((c : Thread nD τ).loc main_arg2)) := by
  refine (dats m 0 c).arrAt_eq_of_covers 2 _ (by decide +kernel) fun t hf y => ?_
  blk_simp
  rw [after0_2]
  frame_out
  unfold_payloads
  simp only [pointwise, zero_add]
  unfold grad
  blk_point [iblk, V, e0 t, e1 t, e2 t]

open Cert.RDwInIdeal.Read in
/-- The reference's result, index by index. -/
theorem ref_eq (n : S4096x2048.Idx → EReal) (dp : S4096x8320.Idx → EReal) : val_main_v7 (F := Ideal) n dp = grad n dp := by
  funext i
  simp only [val_main_v7, val_main_v6, val_main_v5, val_main_v4, val_main_v3, val_main_v2, val_main_v1, val_main_v0]
  simp only [pointwise, zero_add]
  unfold grad
  exact Finset.sum_congr rfl fun k _ => mul_comm _ _

open Cert.RDwInIdeal.Read in
/-- From memories that agree on the arguments the call and the reference leave equal results. -/
theorem algebraic : Cert.algebraic_KDwInIdeal_RDwInIdeal :=
  fun m ρ m' ρ' _ hag => ⟨fun c => grad (m ((c : Thread nD τ).loc main_arg0)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by
        rw [(hag c).1, (hag c).2.2]; exact (val_main_v7_eq _ _).trans (ref_eq _ _)), (h c).2⟩)
      (Cert.RDwInIdeal.Value.run m' ρ')⟩

end Cert.KDwInIdeal.DwIn

end
-- ==== Proof.SlotRead.lean ====
module

public import Idealize.ShloMosaic.Lib.Pipeline.Value
public import Idealize.ShloMosaic.Lib.VecWindow

/-! A load of one slot of a ring of buffers, after a block was copied into the slot. -/

@[expose] public section

noncomputable section

open Idealize.ShloMosaic

namespace Cert.SlotRead

/-- A load of a slice of a buffer, without its unit axes, reads what was written into the whole of that slice. -/
theorem read_slot {sig : RefSig} {κ : Kind} {cs : Space} {s s' : Shape} {e : EltTy} {Val : EltTy → Type} (M : Memref sig κ cs s e)
    (r : Rect s) (hr : ∀ a, r.stride a = 1) (hq : r.shape.Squeezes s') (hc : r.shape.ShapeCasts s')
    (f : ((M.slice r hr).squeeze s' hq).view.ty.Contents Val) (X : s'.Idx → Val e) :
    shapeCast s' (M.view.readAt Val r.toLoadRect (((M.slice r hr).squeeze s' hq).view.writes Val f [⟨Rect.whole s', X⟩])) hc = X :=
  (Memref.read_squeeze_slice M r hr hq hc _).symm.trans
    (View.read_writes_full ((M.slice r hr).squeeze s' hq).view f (fun _ => (Nat.zero_add _).le) X [])

end Cert.SlotRead

end
-- ==== Proof.Dn1.lean ====
module

public import proofs.«01_k».proof.Defs
public import proofs.«01_k».proof.Proof.Gen.KDn1Ideal.Value
public import proofs.«01_k».proof.Proof.Gen.RDn1Ideal.Run
public import proofs.«01_k».proof.Proof.Gen.RDn1Ideal.Read
public import Idealize.ShloMosaic.Lib.Pipeline.ValueKit
public import Idealize.ShloMosaic.Lib.Pointwise
public import Idealize.ShloMosaic.Lib.Quiescent
public import proofs.«01_k».proof.Proof.SlotRead
public import Idealize.ShloMosaic.Lib.Pipeline.ReadBack

/-! The gradient of the input projection by its activations: the cotangent against the projection's matrix, whose rows
are streamed through a ring of three buffers. -/

@[expose] public section

noncomputable section

open Idealize.ShloMosaic Idealize.ShloMosaic.TcCoe Idealize.SL.Sem
open Idealize.ShloMosaic.Pipeline (Dat)

namespace Cert.KDn1Ideal.Dn1

open Cert.KDn1Ideal Cert.KDn1Ideal.Gen

def grad (w : S2048x8320.Idx → EReal) (dp : S4096x8320.Idx → EReal) : S4096x2048.Idx → EReal :=
  fun i => ∑ k : Fin 8320, dp (ix2 (i 0) k) * w (ix2 (i 1) k)

variable (m : (ℓ : Loc nD τ sig) → Buf (Elt Ideal) ℓ) (ρ : Dev nD → PrngReg)

theorem e0 : ∀ t : Fin cfg0.N, win0_0.index t = ![t.val / 4, 0] := (by decide +kernel : ∀ t : Fin grid0.N, _)
theorem e1 : ∀ t : Fin cfg0.N, win0_1.index t = ![t.val / 4, t.val % 4] := (by decide +kernel : ∀ t : Fin grid0.N, _)

/-- A load of slot `s` of the ring, without its leading axis, reads the block that was copied into the slot. -/
theorem slot_read (s : Fin 3) (X : S512x8320.Idx → EReal) (inb : ∀ a, (![s.val, 0, 0] : Fin 3 → Nat) a + S1x512x8320.size a ≤ S3x512x8320.size a)
    (f : (rslot0_0 s).view.ty.Contents (Elt Ideal)) (hc : (Rect.unit (s := S3x512x8320) ![s.val, 0, 0] S1x512x8320.size inb).shape.ShapeCasts S512x8320) :
    shapeCast S512x8320 (View.readAt (Elt Ideal) (View.whole cc0_scratch0) (Rect.unit (s := S3x512x8320) ![s.val, 0, 0] S1x512x8320.size inb).toLoadRect
      ((rslot0_0 s).view.writes (Elt Ideal) f [⟨Rect.whole S512x8320, X⟩])) hc = X :=
  SlotRead.read_slot scM0_0 _ (fun _ => rfl) squeezes_S1x512x8320_S512x8320 hc f X

/-- Block `b` of the matrix: 512 of its rows. -/
theorem src_at (b : Fin 32) (n : Nat) (hn : b.val % 4 = n) (W : S2048x8320.Idx → EReal) (j : Fin 512) (k : Fin 8320) :
    View.read (Elt Ideal) (srcB0_0 b).view W (ix2 j k) = W (ix2 (⟨512 * n + j.val, by omega⟩ : Fin 2048) k) := by
  subst hn
  show W ((srcB0_0 b).view.emb (ix2 j k)) = _
  refine congrArg W (funext fun a => Fin.ext ?_)
  unfold srcB0_0
  fin_cases a
  · show 512 * (b.val % 4) + 1 * j.val = _
    simp
  · show 0 + 1 * k.val = _
    simp

theorem src_eq (b : Fin 32) (n : Nat) (hn : b.val % 4 = n) (hlt : n < 4) (W : S2048x8320.Idx → EReal) :
    View.read (Elt Ideal) (srcB0_0 b).view W = fun i : S512x8320.Idx => W (ix2 (⟨512 * n + (i 0).val, by have := (i 0).isLt; change (i 0).val < 512 at this; omega⟩ : Fin 2048) (i 1)) := by
  funext i
  have h := src_at b n hn W (i 0) (i 1)
  have e : i = ix2 (i 0) (i 1) := funext fun a => by fin_cases a <;> rfl
  exact (congrArg _ e).trans h

/-- What a point writes back, from what its slot holds. -/
theorem point (c : Dev nD) (t : Fin cfg0.N) (s : Fin 3) (hs : s.val = t.val % 3) (inb : ∀ a, (![s.val, 0, 0] : Fin 3 → Nat) a + S1x512x8320.size a ≤ S3x512x8320.size a)
    (f : (rslot0_0 s).view.ty.Contents (Elt Ideal)) (y : S512x512.Idx) :
    k0_pay2 (F := Ideal) (iblk m c 0 t) (View.readAt (Elt Ideal) (View.whole cc0_scratch0) (Rect.unit (s := S3x512x8320) ![s.val, 0, 0] S1x512x8320.size inb).toLoadRect
      ((rslot0_0 s).view.writes (Elt Ideal) f
          [⟨Rect.whole S512x8320, View.read (Elt Ideal) (srcB0_0 (Ring.bk 32 t.val)).view (V m c main_arg1)⟩])) y
      = grad (m ((c : Thread nD τ).loc main_arg1)) (m ((c : Thread nD τ).loc main_arg2)) (((cfg0.win 1).blk t).view.emb y) := by
  unfold_payloads
  rw [slot_read, src_eq (Ring.bk 32 t.val) (t.val % 4) (by show (t.val % 32) % 4 = _; omega) (by omega)]
  simp only [pointwise, zero_add]
  unfold grad
  blk_point [iblk, V, e0 t, e1 t]

/-- What the call leaves in the array of window 1. -/
theorem final (c : Dev nD) : (dats m 0 c).arrAt 1 cfg0.N = grad (m ((c : Thread nD τ).loc main_arg1)) (m ((c : Thread nD τ).loc main_arg2)) := by
  refine (dats m 0 c).arrAt_eq_of_covers 1 _ (by decide +kernel) fun t hf y => ?_
  have hN : t.val < 32 := lt_of_lt_of_eq t.isLt N_0
  have hsl : ∀ s : Fin 3, t.val % 3 = s.val → Fin.ofNat 3 t.val = s := fun s h => Fin.ext h
  blk_simp
  rw [after0_1]
  by_cases h0 : t.val % 32 = 0
  · rw [outsAt0_A m c t h0 (by omega) (by omega) (by omega) (by omega)]
    frame_out
    rw [hsl 0 (by show _ = 0; omega)]
    exact point m c t 0 (by show 0 = _; omega) _ _ y
  · by_cases h1 : t.val < 30
    · rcases (by omega : t.val % 3 = 0 ∨ t.val % 3 = 1 ∨ t.val % 3 = 2) with h2 | h2 | h2
      · rw [outsAt0_D m c t h0 (by omega) (by omega) (by omega) (by omega)]
        frame_out
        rw [hsl 0 (by show _ = 0; omega)]
        exact point m c t 0 (by show 0 = _; omega) _ _ y
      · rw [outsAt0_B m c t h0 (by omega) (by omega) (by omega) (by omega)]
        frame_out
        rw [hsl 1 (by show _ = 1; omega)]
        exact point m c t 1 (by show 1 = _; omega) _ _ y
      · rw [outsAt0_C m c t h0 (by omega) (by omega) (by omega) (by omega)]
        frame_out
        rw [hsl 2 (by show _ = 2; omega)]
        exact point m c t 2 (by show 2 = _; omega) _ _ y
    · rcases (by omega : t.val % 3 = 0 ∨ t.val % 3 = 1) with h2 | h2
      · rw [outsAt0_E m c t h0 (by omega) (by omega) (by omega) (by omega)]
        frame_out
        rw [hsl 0 (by show _ = 0; omega)]
        exact point m c t 0 (by show 0 = _; omega) _ _ y
      · rw [outsAt0_F m c t h0 (by omega) (by omega) (by omega) (by omega)]
        frame_out
        rw [hsl 1 (by show _ = 1; omega)]
        exact point m c t 1 (by show 1 = _; omega) _ _ y

open Cert.RDn1Ideal.Read in
/-- The reference's result, index by index. -/
theorem ref_eq (w : S2048x8320.Idx → EReal) (dp : S4096x8320.Idx → EReal) : val_main_v7 (F := Ideal) w dp = grad w dp := by
  funext i
  simp only [val_main_v7, val_main_v6, val_main_v5, val_main_v4, val_main_v3, val_main_v2, val_main_v1, val_main_v0]
  simp only [pointwise, zero_add]
  unfold grad
  rfl

open Cert.RDn1Ideal.Read in
/-- From memories that agree on the arguments the call and the reference leave equal results. -/
theorem algebraic : Cert.algebraic_KDn1Ideal_RDn1Ideal :=
  fun m ρ m' ρ' _ hag => ⟨fun c => grad (m ((c : Thread nD τ).loc main_arg1)) (m ((c : Thread nD τ).loc main_arg2)),
    (θ_run _ _ _).mono (fun _ h c => ⟨(h c).1.trans (final m c), (h c).2⟩) (Value.run_blocks m ρ),
    (θ_run _ _ _).mono (fun _ h c => ⟨(h c).1.trans (by
        rw [(hag c).2.1, (hag c).2.2]; exact (val_main_v7_eq _ _).trans (ref_eq _ _)), (h c).2⟩)
      (Cert.RDn1Ideal.Value.run m' ρ')⟩

end Cert.KDn1Ideal.Dn1

end
-- ==== Proof.NormGrad.lean ====
module

public import Idealize.ShloMosaic.PureOps.Ideal.Laws
public import Idealize.ShloMosaic.Lib.IdealHost
public import Idealize.ShloMosaic.Lib.Pointwise

/-! The gradient of the root-mean-square norm over the extended reals: the two ways of writing it agree at every argument. -/

@[expose] public section

noncomputable section

open Idealize.ShloMosaic

namespace Cert.NormGrad

theorem width_eq : Ideal.ofBits .f32 0x45000000#32 = ((2048 : ℝ) : EReal) := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem neg_half_eq : Ideal.ofBits .f32 0xBF000000#32 = ((-(1 / 2) : ℝ) : EReal) := by
  simp [Ideal.ofBits, Ideal.ieee, -EReal.coe_mul, -EReal.coe_neg]; norm_num

theorem two_eq : Ideal.ofBits .f32 0x40000000#32 = ((2 : ℝ) : EReal) := by
  simp [Ideal.ofBits, Ideal.ieee, -EReal.coe_mul]; norm_num

theorem small_eq : ∃ e : ℝ, 0 < e ∧ Ideal.ofBits .f32 0x358637BD#32 = (e : EReal) := by
  refine ⟨_, ?_, by simp [Ideal.ofBits, Ideal.ieee, -EReal.coe_mul]; rfl⟩
  norm_num

/-- A nonnegative real factor goes through a sum of extended reals. -/
theorem sum_mul_real {ι : Type} (s : Finset ι) (f : ι → EReal) (a : ℝ) (ha : 0 ≤ a) :
    (∑ k ∈ s, f k) * (a : EReal) = ∑ k ∈ s, f k * (a : EReal) := by
  classical
  induction s using Finset.induction_on with
  | empty => simp
  | insert k s hk ih =>
      rw [Finset.sum_insert hk, Finset.sum_insert hk, EReal.right_distrib_of_nonneg_of_ne_top (EReal.coe_nonneg.mpr ha) (EReal.coe_ne_top a), ih]

theorem sq_nonneg (x : EReal) : 0 ≤ x * x := by
  rcases le_total 0 x with h | h
  · exact mul_nonneg h h
  · have := mul_nonneg (EReal.neg_nonneg.mpr h) (EReal.neg_nonneg.mpr h)
    rwa [neg_mul, mul_neg, neg_neg] at this

/-- The mean square of a row and the small constant. -/
def ms (h : Fin 2048 → EReal) : EReal :=
  Ideal.div (∑ k : Fin 2048, h k * h k) (Ideal.ofBits .f32 0x45000000#32) + Ideal.ofBits .f32 0x358637BD#32

/-- It is infinite or a positive real. -/
theorem ms_cases (h : Fin 2048 → EReal) : ms h = ⊤ ∨ ∃ μ : ℝ, 0 < μ ∧ ms h = (μ : EReal) := by
  obtain ⟨e, he, hE⟩ := small_eq
  unfold ms
  rw [width_eq, Ideal.div_coe (by norm_num), hE]
  have hS : 0 ≤ ∑ k : Fin 2048, h k * h k := Finset.sum_nonneg fun k _ => sq_nonneg (h k)
  generalize (∑ k : Fin 2048, h k * h k) = S at hS
  induction S using EReal.rec with
  | bot => exact absurd hS (by simp)
  | top =>
      refine Or.inl ?_
      rw [EReal.top_mul_coe_of_pos (by norm_num), EReal.top_add_coe]
  | coe s =>
      refine Or.inr ⟨s * (1 / 2048) + e, ?_, by push_cast; rfl⟩
      have : 0 ≤ s := EReal.coe_nonneg.mp hS
      positivity

/-- The gradient by an element of a row, written with the normed row and written with the derivative of the reciprocal root. -/
theorem norm_grad (h g : Fin 2048 → EReal) (j : Fin 2048) :
    Ideal.rsqrt (ms h) * (g j - h j * Ideal.rsqrt (ms h) * Ideal.div (∑ k : Fin 2048, g k * (h k * Ideal.rsqrt (ms h))) (Ideal.ofBits .f32 0x45000000#32))
      = g j * Ideal.rsqrt (ms h)
        + h j * Ideal.div ((∑ k : Fin 2048, h k * g k) * (Ideal.ofBits .f32 0xBF000000#32 * Ideal.div (Ideal.rsqrt (ms h)) (ms h))) (Ideal.ofBits .f32 0x45000000#32)
        + Ideal.div ((∑ k : Fin 2048, h k * g k) * (Ideal.ofBits .f32 0xBF000000#32 * Ideal.div (Ideal.rsqrt (ms h)) (ms h))) (Ideal.ofBits .f32 0x45000000#32) * h j := by
  rw [width_eq, neg_half_eq]
  rcases ms_cases h with hM | ⟨μ, hμ, hM⟩
  · rw [hM]
    simp [Ideal.div]
  · have hr : Ideal.rsqrt (ms h) = (((Real.sqrt μ)⁻¹ : ℝ) : EReal) := by
      rw [hM, Ideal.rsqrt_coe, if_neg (not_lt.mpr hμ.le), if_neg hμ.ne']
    have hρ : 0 < (Real.sqrt μ)⁻¹ := inv_pos.mpr (Real.sqrt_pos.mpr hμ)
    have hq : 1 / μ = (Real.sqrt μ)⁻¹ * (Real.sqrt μ)⁻¹ := by
      rw [← mul_inv, Real.mul_self_sqrt hμ.le, one_div]
    rw [hr, hM]
    rw [Ideal.div_coe (by norm_num : (2048 : ℝ) ≠ 0), Ideal.div_coe (by norm_num : (2048 : ℝ) ≠ 0), Ideal.div_coe hμ.ne', hq]
    generalize (Real.sqrt μ)⁻¹ = ρ at hρ
    have hsum : (∑ k : Fin 2048, g k * (h k * (ρ : EReal))) = (∑ k : Fin 2048, h k * g k) * (ρ : EReal) := by
      rw [sum_mul_real _ _ _ hρ.le]
      refine Finset.sum_congr rfl fun k _ => ?_
      rw [← mul_assoc, mul_comm (g k)]
    rw [hsum]
    generalize (∑ k : Fin 2048, h k * g k) = S
    generalize h j = x
    generalize g j = y
    have hb : (0 : ℝ) ≤ ρ * ρ * ρ / 4096 := by positivity
    have l : x * (ρ : EReal) * (S * (ρ : EReal) * ((1 / 2048 : ℝ) : EReal)) * (ρ : EReal) = x * S * ((ρ * ρ * ρ / 2048 : ℝ) : EReal) := by
      have : (ρ * ρ * ρ / 2048 : ℝ) = ρ * ρ * (1 / 2048) * ρ := by ring
      rw [this]; push_cast
      ac_rfl
    have s : x * (S * (((-(1 / 2) : ℝ) : EReal) * ((ρ : EReal) * ((ρ * ρ : ℝ) : EReal))) * ((1 / 2048 : ℝ) : EReal)) = -(x * S) * ((ρ * ρ * ρ / 4096 : ℝ) : EReal) := by
      have : (-(1 / 2) : ℝ) * (ρ * (ρ * ρ)) * (1 / 2048) = -(ρ * ρ * ρ / 4096) := by ring
      rw [neg_mul, ← mul_neg, ← EReal.coe_neg, ← this]; push_cast
      ac_rfl
    rw [add_assoc, mul_comm _ x, s, ← EReal.left_distrib_of_nonneg (EReal.coe_nonneg.mpr hb) (EReal.coe_nonneg.mpr hb)]
    rw [mul_comm, sub_eq_add_neg, EReal.right_distrib_of_nonneg_of_ne_top (EReal.coe_nonneg.mpr hρ.le) (EReal.coe_ne_top ρ), neg_mul, l, neg_mul, ← EReal.coe_add]
    congr 4
    ring

/-- The gradient of the squared error by an element. -/
theorem err_grad (e : EReal) :
    Ideal.div e (Ideal.ofBits .f32 0x45000000#32)
      = Ideal.div (Ideal.ofBits .f32 0x3F000000#32 * 1) (Ideal.ofBits .f32 0x45000000#32) * (Ideal.ofBits .f32 0x40000000#32 * e) := by
  rw [width_eq, half_eq, two_eq, mul_one, Ideal.div_coe (by norm_num : (2048 : ℝ) ≠ 0), Ideal.div_coe (by norm_num : (2048 : ℝ) ≠ 0), ← mul_assoc,
    ← EReal.coe_mul, ← EReal.coe_mul, mul_comm]
  congr 2
  norm_num

/-- Half a sum over rows, divided by the width, is half the sum of the rows' quotients. -/
theorem half_mean {n : ℕ} (f : Fin n → EReal) :
    Ideal.div (Ideal.ofBits .f32 0x3F000000#32 * ∑ r : Fin n, f r) (Ideal.ofBits .f32 0x45000000#32)
      = ∑ r : Fin n, Ideal.ofBits .f32 0x3F000000#32 * Ideal.div (f r) (Ideal.ofBits .f32 0x45000000#32) := by
  rw [width_eq, half_eq, Ideal.div_coe (by norm_num : (2048 : ℝ) ≠ 0), mul_assoc, sum_mul_real _ _ _ (by norm_num), mul_comm,
    sum_mul_real _ _ _ (by norm_num)]
  refine Finset.sum_congr rfl fun r _ => ?_
  rw [Ideal.div_coe (by norm_num : (2048 : ℝ) ≠ 0), mul_comm]

/-- The same with the half in front of the whole sum. -/
theorem half_sum {n : ℕ} (f : Fin n → EReal) :
    Ideal.ofBits .f32 0x3F000000#32 * ∑ r : Fin n, f r = ∑ r : Fin n, Ideal.ofBits .f32 0x3F000000#32 * f r := by
  rw [half_eq, mul_comm, sum_mul_real _ _ _ (by norm_num)]
  exact Finset.sum_congr rfl fun r _ => mul_comm _ _

end Cert.NormGrad

end
-- ==== Proof.RmsBwd.lean ====
module

public import proofs.«01_k».proof.Defs
public import proofs.«01_k».proof.Proof.Gen.KRmsBwdIdeal.Value
public import proofs.«01_k».proof.Proof.Gen.RRmsBwdIdeal.Run
public import proofs.«01_k».proof.Proof.Gen.RRmsBwdIdeal.Read
public import Idealize.ShloMosaic.Lib.Pipeline.ValueKit
public import Idealize.ShloMosaic.Lib.Pointwise
public import Idealize.ShloMosaic.Lib.Quiescent
public import Idealize.ShloMosaic.Lib.Pipeline.ReadBack
public import proofs.«01_k».proof.Proof.NormGrad

/-! The gradient of the root-mean-square norm by its rows, added to the gradient that passes by, and by its weights. -/

@[expose] public section

noncomputable section

open Idealize.ShloMosaic Idealize.ShloMosaic.TcCoe Idealize.SL.Sem
open Idealize.ShloMosaic.Pipeline (Dat)

namespace Cert.KRmsBwdIdeal.RmsBwd

open Cert.KRmsBwdIdeal Cert.KRmsBwdIdeal.Gen

open Cert.NormGrad (ms norm_grad)

/-- The reciprocal root of a row. -/
def rt (x : S4096x2048.Idx → EReal) (r : Fin 4096) : EReal := Ideal.rsqrt (ms fun k => x (ix2 r k))

/-- The gradient by the rows. -/
def dx (x : S4096x2048.Idx → EReal) (w : S1x2048.Idx → EReal) (dn dres : S4096x2048.Idx → EReal) : S4096x2048.Idx → EReal :=
  fun i => dres i + rt x (i 0) * (dn i * w (ix2 (0 : Fin 1) (i 1))
    - x i * rt x (i 0) * Ideal.div (∑ k : Fin 2048, dn (ix2 (i 0) k) * w (ix2 (0 : Fin 1) k) * (x (ix2 (i 0) k) * rt x (i 0))) (Ideal.ofBits .f32 0x45000000#32))

/-- One row's part of the gradient by the weights. -/
def term (x dn : S4096x2048.Idx → EReal) (r : Fin 4096) (j : Fin 2048) : EReal := dn (ix2 r j) * (x (ix2 r j) * rt x r)

/-- The part of the `b`-th run of 512 rows. -/
def part (x dn : S4096x2048.Idx → EReal) (j : Fin 2048) (b : ℕ) : EReal := ∑ k : Fin 512, term x dn (Fin.ofNat 4096 (b * 512 + k.val)) j

/-- The gradient by the weights. -/
def dw (x dn : S4096x2048.Idx → EReal) : S1x2048.Idx → EReal := fun i => ∑ r : Fin 4096, term x dn r (i 1)

variable (m : (ℓ : Loc nD τ sig) → Buf (Elt Ideal) ℓ) (ρ : Dev nD → PrngReg)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)

/-- The reciprocal roots as the host lines before the call leave them. -/
theorem root_eq (c : Dev nD) : V m c main_v7 = fun i : S4096x1.Idx => rt (m ((c : Thread nD τ).loc main_arg0)) (i 0) := by
  unfold V
  simp only [hostOps0, List.flatten_cons, List.flatten_nil, List.append_nil, List.cons_append, List.nil_append]
  after_results
  funext i
  simp only [pointwise, zero_add, Nat.reduceEqDiff, OfNat.ofNat_ne_one, ↓reduceDIte]
  unfold rt ms
  rfl

/-- The block of window 1, row by row. -/
theorem block_root (c : Dev nD) (t : Fin cfg0.N) (y : S512x1.Idx) :
    iblk m c 1 t y = rt (m ((c : Thread nD τ).loc main_arg0)) (⟨512 * t.val + (y 0).val, by
      have h := lt_of_lt_of_eq t.isLt N_0
      have := (y 0).isLt
      change (y 0).val < 512 at this
      omega⟩ : Fin 4096) := by
  refine (congrFun (congrArg (((cfg0.win 1).blk t).view.read (Elt Ideal)) (root_eq m c)) y).trans ?_
  refine congrArg (rt _) (Fin.ext ?_)
  show win0_1.index t 0 * _ + 1 * _ = _
  rw [e1 t]
  show t.val * 512 + 1 * (y 0).val = 512 * t.val + (y 0).val
  omega

/-- What the call leaves in the array of window 5. -/
theorem final_dx (c : Dev nD) : (dats m 0 c).arrAt 5 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hr := block_root m c t
  blk_simp
  rw [after0_5]
  have h : (outsAt0 m c t.val t.isLt).1 = k0_pay6 (F := Ideal) (iblk m c 1 t) (iblk m c 0 t) (iblk m c 3 t) (iblk m c 2 t) (iblk m c 4 t) := by
    by_cases h0 : t.val % 8 = 0
    · rw [outsAt0_A m c t h0]
      frame_out
    · rw [outsAt0_B m c t h0]
      frame_out
  rw [h]
  unfold_payloads
  simp only [pointwise, zero_add, Nat.reduceEqDiff, OfNat.ofNat_ne_one, ↓reduceDIte]
  simp only [hr]
  unfold dx
  blk_point [iblk, V, e0 t, e2 t, e3 t, e4 t, e5 t]

/-- What a point adds to the gradient by the weights. -/
theorem point (c : Dev nD) (t : Fin cfg0.N) (v : S1x2048.Idx → EReal) (y : S1x2048.Idx) :
    k0_pay5 (F := Ideal) (iblk m c 1 t) (iblk m c 0 t) (iblk m c 3 t) v y = v y + part (m ((c : Thread nD τ).loc main_arg0)) (m ((c : Thread nD τ).loc main_arg2)) (y 1) t.val := by
  have hr := block_root m c t
  have hN := lt_of_lt_of_eq t.isLt N_0
  have row : ∀ k : Fin 512, Fin.ofNat 4096 (t.val * 512 + k.val) = (⟨512 * t.val + k.val, by omega⟩ : Fin 4096) := fun k =>
    Fin.ext (by show (t.val * 512 + k.val) % 4096 = 512 * t.val + k.val; omega)
  unfold_payloads
  simp only [pointwise, zero_add, Nat.reduceEqDiff, OfNat.ofNat_ne_one, ↓reduceDIte]
  unfold part term
  simp only [hr, row]
  blk_point [iblk, V, e0 t, e3 t, e6 t]

/-- The gradient by the weights after the first points. -/
theorem step (c : Dev nD) (n : ℕ) (hn : n < cfg0.N) (y : S1x2048.Idx) : (outsAt0 m c n hn).2 y = ∑ b ∈ Finset.range (n + 1), part (m ((c : Thread nD τ).loc main_arg0)) (m ((c : Thread nD τ).loc main_arg2)) (y 1) b := by
  induction n with
  | zero =>
    rw [outsAt0_A m c ⟨0, hn⟩ rfl]
    frame_out
    rw [point m c ⟨0, hn⟩, Finset.sum_range_one]
    unfold_payloads
    simp only [pointwise, zero_add]
  | succ n ih =>
    rw [outsAt0_B m c ⟨n + 1, hn⟩ (by have := lt_of_lt_of_eq hn N_0; show ¬ (n + 1) % 8 = 0; omega)]
    frame_out
    rw [point m c ⟨n + 1, hn⟩, Finset.sum_range_succ]
    exact congrArg (· + _) (ih (Nat.lt_of_succ_lt hn))

/-- What the call leaves in the array of window 6. -/
theorem final_dw (c : Dev nD) : (dats m 0 c).arrAt 6 cfg0.N = dw (m ((c : Thread nD τ).loc main_arg0)) (m ((c : Thread nD τ).loc main_arg2)) := by
  refine (dats m 0 c).arrAt_eq_of_covers 6 _ (by decide +kernel) fun t hf y => ?_
  have h7 : t.val = 7 := by
    have h := (flush0_6 t).mp hf
    have := lt_of_lt_of_eq t.isLt N_0
    omega
  blk_simp
  rw [after0_6]
  refine (step m c t.val t.isLt y).trans ?_
  rw [h7, ← Fin.sum_univ_eq_sum_range]
  unfold part dw
  refine Fin.sum_mul_add_congr fun s k hl => ?_
  refine congrArg₂ (term _ _) (Fin.ext ?_) (Fin.ext ?_)
  · show (s.val * 512 + k.val) % 4096 = s.val * 512 + k.val
    have := s.isLt
    omega
  · show _ = win0_6.index t 1 * _ + 1 * _
    rw [e6 t]
    show (y 1).val = 0 * 2048 + 1 * (y 1).val
    omega

open Cert.RRmsBwdIdeal.Read in
/-- The reference's result, index by index. -/
theorem ref_dw (x dn : S4096x2048.Idx → EReal) : val_main_v18 (F := Ideal) x dn = dw x dn := by
  funext i
  simp only [val_main_v18, val_main_v17, val_main_v16, val_main_v15, val_main_v12, val_main_v11, val_main_v7, val_main_v6, val_main_v5, val_main_v4, val_main_v3, val_main_v2, val_main_v1, val_main_v0, val_main_cst, val_main_cst_0, val_main_cst_1, val_main_cst_3]
  simp only [pointwise, zero_add, Nat.reduceEqDiff, OfNat.ofNat_ne_one, ↓reduceDIte]
  unfold dw term rt ms
  refine Finset.sum_congr rfl fun r _ => ?_
  exact mul_comm _ _

open Cert.RRmsBwdIdeal.Read in
/-- The reference's result, index by index. -/
theorem ref_dx (x : S4096x2048.Idx → EReal) (w : S1x2048.Idx → EReal) (dn dres : S4096x2048.Idx → EReal) : val_main_v36 (F := Ideal) x w dn dres = dx x w dn dres := by
  funext i
  obtain ⟨a, b, rfl⟩ : ∃ (a : Fin 4096) (b : Fin 2048), i = ix2 a b := ⟨i 0, i 1, funext fun a => by fin_cases a <;> rfl⟩
  simp only [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v15, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6]
  simp only [pointwise, zero_add, Nat.reduceEqDiff, OfNat.ofNat_ne_one, ↓reduceDIte, Fin.sum_univ_one]
  exact congrArg (dres (ix2 a b) + ·) (norm_grad (fun k => x (ix2 a k)) (fun k => dn (ix2 a k) * w (ix2 (0 : Fin 1) k)) b).symm

open Cert.RRmsBwdIdeal.Read in
/-- From memories that agree on the arguments the call and the reference leave equal results. -/
theorem algebraic : Cert.algebraic_KRmsBwdIdeal_RRmsBwdIdeal :=
  fun m ρ m' ρ' _ hag => ⟨fun c => dx (m ((c : Thread nD τ).loc main_arg0)) (m ((c : Thread nD τ).loc main_arg1)) (m ((c : Thread nD τ).loc main_arg2)) (m ((c : Thread nD τ).loc main_arg3)),
    fun c => dw (m ((c : Thread nD τ).loc main_arg0)) (m ((c : Thread nD τ).loc main_arg2)),
    (θ_run _ _ _).mono (fun _ h c => ⟨(h c).1.trans (final_dx m c), (h c).2.1.trans (final_dw m c), (h c).2.2⟩) (Value.run_blocks m ρ),
    (θ_run _ _ _).mono (fun _ h c => ⟨(h c).1.trans (by
        rw [(hag c).1, (hag c).2.1, (hag c).2.2.1, (hag c).2.2.2]; exact (val_main_v36_eq _ _ _ _).trans (ref_dx _ _ _ _)),
      (h c).2.1.trans (by
        rw [(hag c).1, (hag c).2.2.1]; exact (val_main_v18_eq _ _).trans (ref_dw _ _)), (h c).2.2⟩)
      (Cert.RRmsBwdIdeal.Value.run m' ρ')⟩

end Cert.KRmsBwdIdeal.RmsBwd

end
-- ==== Proof.RmsFfn.lean ====
module

public import proofs.«01_k».proof.Defs
public import proofs.«01_k».proof.Proof.Gen.KRmsFfnIdeal.Value
public import proofs.«01_k».proof.Proof.Gen.RRmsFfnIdeal.Run
public import proofs.«01_k».proof.Proof.Gen.RRmsFfnIdeal.Read
public import Idealize.ShloMosaic.Lib.Pipeline.ValueKit
public import Idealize.ShloMosaic.Lib.Pointwise
public import Idealize.ShloMosaic.Lib.Quiescent
public import Idealize.ShloMosaic.Lib.Pipeline.ReadBack
public import proofs.«01_k».proof.Proof.NormGrad

/-! The gradient of the norm before the feed-forward part by its rows, added to the gradient that passes by, and by its weights. -/

@[expose] public section

noncomputable section

open Idealize.ShloMosaic Idealize.ShloMosaic.TcCoe Idealize.SL.Sem
open Idealize.ShloMosaic.Pipeline (Dat)

namespace Cert.KRmsFfnIdeal.RmsFfn

open Cert.KRmsFfnIdeal Cert.KRmsFfnIdeal.Gen

open Cert.NormGrad (ms norm_grad)

/-- The reciprocal root of a row. -/
def rt (x : S4096x2048.Idx → EReal) (r : Fin 4096) : EReal := Ideal.rsqrt (ms fun k => x (ix2 r k))

/-- The gradient by the rows. -/
def dx (x : S4096x2048.Idx → EReal) (w : S1x2048.Idx → EReal) (dn dres : S4096x2048.Idx → EReal) : S4096x2048.Idx → EReal :=
  fun i => dres i + rt x (i 0) * (dn i * w (ix2 (0 : Fin 1) (i 1))
    - x i * rt x (i 0) * Ideal.div (∑ k : Fin 2048, dn (ix2 (i 0) k) * w (ix2 (0 : Fin 1) k) * (x (ix2 (i 0) k) * rt x (i 0))) (Ideal.ofBits .f32 0x45000000#32))

/-- One row's part of the gradient by the weights. -/
def term (x dn : S4096x2048.Idx → EReal) (r : Fin 4096) (j : Fin 2048) : EReal := dn (ix2 r j) * (x (ix2 r j) * rt x r)

/-- The part of the `b`-th run of 512 rows. -/
def part (x dn : S4096x2048.Idx → EReal) (j : Fin 2048) (b : ℕ) : EReal := ∑ k : Fin 512, term x dn (Fin.ofNat 4096 (b * 512 + k.val)) j

/-- The gradient by the weights. -/
def dw (x dn : S4096x2048.Idx → EReal) : S1x2048.Idx → EReal := fun i => ∑ r : Fin 4096, term x dn r (i 1)

variable (m : (ℓ : Loc nD τ sig) → Buf (Elt Ideal) ℓ) (ρ : Dev nD → PrngReg)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)

/-- The reciprocal roots as the host lines before the call leave them. -/
theorem root_eq (c : Dev nD) : V m c main_v7 = fun i : S4096x1.Idx => rt (m ((c : Thread nD τ).loc main_arg0)) (i 0) := by
  unfold V
  simp only [hostOps0, List.flatten_cons, List.flatten_nil, List.append_nil, List.cons_append, List.nil_append]
  after_results
  funext i
  simp only [pointwise, zero_add, Nat.reduceEqDiff, OfNat.ofNat_ne_one, ↓reduceDIte]
  unfold rt ms
  rfl

/-- The block of window 1, row by row. -/
theorem block_root (c : Dev nD) (t : Fin cfg0.N) (y : S512x1.Idx) :
    iblk m c 1 t y = rt (m ((c : Thread nD τ).loc main_arg0)) (⟨512 * t.val + (y 0).val, by
      have h := lt_of_lt_of_eq t.isLt N_0
      have := (y 0).isLt
      change (y 0).val < 512 at this
      omega⟩ : Fin 4096) := by
  refine (congrFun (congrArg (((cfg0.win 1).blk t).view.read (Elt Ideal)) (root_eq m c)) y).trans ?_
  refine congrArg (rt _) (Fin.ext ?_)
  show win0_1.index t 0 * _ + 1 * _ = _
  rw [e1 t]
  show t.val * 512 + 1 * (y 0).val = 512 * t.val + (y 0).val
  omega

/-- What the call leaves in the array of window 5. -/
theorem final_dx (c : Dev nD) : (dats m 0 c).arrAt 5 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hr := block_root m c t
  blk_simp
  rw [after0_5]
  have h : (outsAt0 m c t.val t.isLt).1 = k0_pay6 (F := Ideal) (iblk m c 1 t) (iblk m c 0 t) (iblk m c 3 t) (iblk m c 2 t) (iblk m c 4 t) := by
    by_cases h0 : t.val % 8 = 0
    · rw [outsAt0_A m c t h0]
      frame_out
    · rw [outsAt0_B m c t h0]
      frame_out
  rw [h]
  unfold_payloads
  simp only [pointwise, zero_add, Nat.reduceEqDiff, OfNat.ofNat_ne_one, ↓reduceDIte]
  simp only [hr]
  unfold dx
  blk_point [iblk, V, e0 t, e2 t, e3 t, e4 t, e5 t]

/-- What a point adds to the gradient by the weights. -/
theorem point (c : Dev nD) (t : Fin cfg0.N) (v : S1x2048.Idx → EReal) (y : S1x2048.Idx) :
    k0_pay5 (F := Ideal) (iblk m c 1 t) (iblk m c 0 t) (iblk m c 3 t) v y = v y + part (m ((c : Thread nD τ).loc main_arg0)) (m ((c : Thread nD τ).loc main_arg2)) (y 1) t.val := by
  have hr := block_root m c t
  have hN := lt_of_lt_of_eq t.isLt N_0
  have row : ∀ k : Fin 512, Fin.ofNat 4096 (t.val * 512 + k.val) = (⟨512 * t.val + k.val, by omega⟩ : Fin 4096) := fun k =>
    Fin.ext (by show (t.val * 512 + k.val) % 4096 = 512 * t.val + k.val; omega)
  unfold_payloads
  simp only [pointwise, zero_add, Nat.reduceEqDiff, OfNat.ofNat_ne_one, ↓reduceDIte]
  unfold part term
  simp only [hr, row]
  blk_point [iblk, V, e0 t, e3 t, e6 t]

/-- The gradient by the weights after the first points. -/
theorem step (c : Dev nD) (n : ℕ) (hn : n < cfg0.N) (y : S1x2048.Idx) : (outsAt0 m c n hn).2 y = ∑ b ∈ Finset.range (n + 1), part (m ((c : Thread nD τ).loc main_arg0)) (m ((c : Thread nD τ).loc main_arg2)) (y 1) b := by
  induction n with
  | zero =>
    rw [outsAt0_A m c ⟨0, hn⟩ rfl]
    frame_out
    rw [point m c ⟨0, hn⟩, Finset.sum_range_one]
    unfold_payloads
    simp only [pointwise, zero_add]
  | succ n ih =>
    rw [outsAt0_B m c ⟨n + 1, hn⟩ (by have := lt_of_lt_of_eq hn N_0; show ¬ (n + 1) % 8 = 0; omega)]
    frame_out
    rw [point m c ⟨n + 1, hn⟩, Finset.sum_range_succ]
    exact congrArg (· + _) (ih (Nat.lt_of_succ_lt hn))

/-- What the call leaves in the array of window 6. -/
theorem final_dw (c : Dev nD) : (dats m 0 c).arrAt 6 cfg0.N = dw (m ((c : Thread nD τ).loc main_arg0)) (m ((c : Thread nD τ).loc main_arg2)) := by
  refine (dats m 0 c).arrAt_eq_of_covers 6 _ (by decide +kernel) fun t hf y => ?_
  have h7 : t.val = 7 := by
    have h := (flush0_6 t).mp hf
    have := lt_of_lt_of_eq t.isLt N_0
    omega
  blk_simp
  rw [after0_6]
  refine (step m c t.val t.isLt y).trans ?_
  rw [h7, ← Fin.sum_univ_eq_sum_range]
  unfold part dw
  refine Fin.sum_mul_add_congr fun s k hl => ?_
  refine congrArg₂ (term _ _) (Fin.ext ?_) (Fin.ext ?_)
  · show (s.val * 512 + k.val) % 4096 = s.val * 512 + k.val
    have := s.isLt
    omega
  · show _ = win0_6.index t 1 * _ + 1 * _
    rw [e6 t]
    show (y 1).val = 0 * 2048 + 1 * (y 1).val
    omega

open Cert.RRmsFfnIdeal.Read in
/-- The reference's result, index by index. -/
theorem ref_dw (x dn : S4096x2048.Idx → EReal) : val_main_v18 (F := Ideal) x dn = dw x dn := by
  funext i
  simp only [val_main_v18, val_main_v17, val_main_v16, val_main_v15, val_main_v12, val_main_v11, val_main_v7, val_main_v6, val_main_v5, val_main_v4, val_main_v3, val_main_v2, val_main_v1, val_main_v0, val_main_cst, val_main_cst_0, val_main_cst_1, val_main_cst_3]
  simp only [pointwise, zero_add, Nat.reduceEqDiff, OfNat.ofNat_ne_one, ↓reduceDIte]
  unfold dw term rt ms
  refine Finset.sum_congr rfl fun r _ => ?_
  exact mul_comm _ _

open Cert.RRmsFfnIdeal.Read in
/-- The reference's result, index by index. -/
theorem ref_dx (x : S4096x2048.Idx → EReal) (w : S1x2048.Idx → EReal) (dn dres : S4096x2048.Idx → EReal) : val_main_v37 (F := Ideal) x w dn dres = dx x w dn dres := by
  funext i
  obtain ⟨a, b, rfl⟩ : ∃ (a : Fin 4096) (b : Fin 2048), i = ix2 a b := ⟨i 0, i 1, funext fun a => by fin_cases a <;> rfl⟩
  simp only [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v15, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6]
  simp only [pointwise, zero_add, Nat.reduceEqDiff, OfNat.ofNat_ne_one, ↓reduceDIte, Fin.sum_univ_one]
  exact congrArg (dres (ix2 a b) + ·) (norm_grad (fun k => x (ix2 a k)) (fun k => dn (ix2 a k) * w (ix2 (0 : Fin 1) k)) b).symm

open Cert.RRmsFfnIdeal.Read in
/-- From memories that agree on the arguments the call and the reference leave equal results. -/
theorem algebraic : Cert.algebraic_KRmsFfnIdeal_RRmsFfnIdeal :=
  fun m ρ m' ρ' _ hag => ⟨fun c => dx (m ((c : Thread nD τ).loc main_arg0)) (m ((c : Thread nD τ).loc main_arg1)) (m ((c : Thread nD τ).loc main_arg2)) (m ((c : Thread nD τ).loc main_arg3)),
    fun c => dw (m ((c : Thread nD τ).loc main_arg0)) (m ((c : Thread nD τ).loc main_arg2)),
    (θ_run _ _ _).mono (fun _ h c => ⟨(h c).1.trans (final_dx m c), (h c).2.1.trans (final_dw m c), (h c).2.2⟩) (Value.run_blocks m ρ),
    (θ_run _ _ _).mono (fun _ h c => ⟨(h c).1.trans (by
        rw [(hag c).1, (hag c).2.1, (hag c).2.2.1, (hag c).2.2.2]; exact (val_main_v37_eq _ _ _ _).trans (ref_dx _ _ _ _)),
      (h c).2.1.trans (by
        rw [(hag c).1, (hag c).2.2.1]; exact (val_main_v18_eq _ _).trans (ref_dw _ _)), (h c).2.2⟩)
      (Cert.RRmsFfnIdeal.Value.run m' ρ')⟩

end Cert.KRmsFfnIdeal.RmsFfn

end
-- ==== Proof.Conv.lean ====
module

public import proofs.«01_k».proof.Defs
public import proofs.«01_k».proof.Proof.Gen.KConvIdeal.Value
public import proofs.«01_k».proof.Proof.Gen.RConvIdeal.Run
public import proofs.«01_k».proof.Proof.Gen.RConvIdeal.Read
public import Idealize.ShloMosaic.Lib.Pipeline.ValueKit
public import Idealize.ShloMosaic.Lib.Pointwise
public import Idealize.ShloMosaic.Lib.Quiescent

/-! The short causal convolution of the rows and its silu. -/

@[expose] public section

set_option maxRecDepth 16384

noncomputable section

open Idealize.ShloMosaic Idealize.ShloMosaic.TcCoe Idealize.SL.Sem
open Idealize.ShloMosaic.Pipeline (Dat)

namespace Cert.KConvIdeal.Conv

open Cert.KConvIdeal Cert.KConvIdeal.Gen

/-- Entry `r - k` of a column, zero before its first row. -/
def back {n : ℕ} (x : Fin n → EReal) (k : ℕ) (r : Fin n) : EReal :=
  if k ≤ r.val then x ⟨r.val - k, by omega⟩ else 0

/-- The sum of the four last rows, each by its weight. -/
def taps {n : ℕ} (x : Fin n → EReal) (w : Fin 4 → EReal) (r : Fin n) : EReal :=
  back x 3 r * w 0 + back x 2 r * w 1 + back x 1 r * w 2 + back x 0 r * w 3

/-- The sum and its silu. -/
def silu (p : EReal) : EReal := p * Ideal.logistic p

/-- A column of the convolution among the columns of the projection. -/
def wide (b : Fin 3072) : Fin 8320 := ⟨b.val, by omega⟩

/-- The convolution of the first columns and its silu. -/
def conv (x : S4096x8320.Idx → EReal) (w : S4x3072.Idx → EReal) : S4096x3072.Idx → EReal :=
  fun i => silu (taps (fun r => x (ix2 r (wide (i 1)))) (fun j => w (ix2 j (i 1))) (i 0))

variable (m : (ℓ : Loc nD τ sig) → Buf (Elt Ideal) ℓ) (ρ : Dev nD → PrngReg)

/-- A row of the block `k` rows back. -/
theorem at_back (x : S4096x128.Idx → EReal) (l : Fin 128) (r : Fin 4096) (k : ℕ) (a : Fin 4096) (b : Fin 128) (ha : a.val + k = r.val) (hb : b.val = l.val) :
    x (ix2 a b) = back (fun r => x (ix2 r l)) k r := by
  have hk : k ≤ r.val := by omega
  unfold back
  rw [if_pos hk]
  have e0 : a = ⟨r.val - k, by omega⟩ := Fin.ext (by show a.val = r.val - k; omega)
  have e1 : b = l := Fin.ext hb
  rw [e0, e1]

theorem at_tap (w : S4x128.Idx → EReal) (l : Fin 128) (q : Fin 4) (b : Fin 128) (hb : b.val = l.val) :
    w (ix2 q b) = (fun j => w (ix2 j l)) q := by
  have e1 : b = l := Fin.ext hb
  rw [e1]

theorem sge_eq : ∀ (n : Fin 8) (k : Fin 4), IntOp.cmpi CmpIPredicate.sge (BitVec.ofNat 32 n.val) (BitVec.ofNat 32 k.val) = if k.val ≤ n.val then 1#1 else 0#1 := by
  decide

/-- The head of the block: the rolled row where there is one, zero before. -/
theorem at_head (x : S4096x128.Idx → EReal) (w : S4x128.Idx → EReal) (l : Fin 128) (r : Fin 4096) (n : Fin 8) (k : Fin 4) (q : Fin 4) (a : Fin 4096) (b j : Fin 128)
    (N K : BitVec 32) (hN : N = BitVec.ofNat 32 n.val) (hK : K = BitVec.ofNat 32 k.val)
    (hn : n.val = r.val) (ha : k.val ≤ n.val → a.val + k.val = n.val) (hb : b.val = l.val) (hj : j.val = l.val) :
    Scalar.select (IntOp.cmpi CmpIPredicate.sge N K) (x (ix2 a b) * w (ix2 q j)) 0
      = back (fun r => x (ix2 r l)) k.val r * (fun j => w (ix2 j l)) q := by
  rw [hN, hK, sge_eq, at_tap w l q j hj]
  by_cases h : k.val ≤ n.val
  · rw [if_pos h, at_back x l r k.val a b (by have := ha h; omega) hb]; rfl
  · rw [if_neg h]
    unfold back
    rw [if_neg (by omega), zero_mul]; rfl

theorem taps_congr {n : ℕ} {x x' : Fin n → EReal} {w w' : Fin 4 → EReal} {r r' : Fin n} (hx : ∀ r, x r = x' r) (hw : ∀ j, w j = w' j) (hr : r = r') :
    taps x w r = taps x' w' r' := by
  rw [funext hx, funext hw, hr]

theorem sum4 {a b c d a' b' c' d' : EReal} (ha : a = a') (hb : b = b') (hc : c = c') (hd : d = d') : a + b + c + d = a' + b' + c' + d' := by
  rw [ha, hb, hc, hd]

theorem mul2 {a b a' b' : EReal} (ha : a = a') (hb : b = b') : a * b = a' * b' := by rw [ha, hb]

theorem out_at (c : Dev nD) (i : grid0.Coords) (arg1 : Memref sig .tc .vmem S4096x128 .f32) (harg1 : arg1.IsWhole) (arg2 : Memref sig .tc .vmem S4x128 .f32) (harg2 : arg2.IsWhole) (arg3 : Memref sig .tc .vmem S4096x128 .f32) (harg3 : arg3.IsWhole)
    (x0 : Vec Ideal S4096x128 .f32) (x1 : Vec Ideal S4x128 .f32) (y : S4096x128.Idx) :
    out0_A_2 c i arg1 harg1 arg2 harg2 arg3 harg3 x0 x1 y = silu (taps (fun r => x0 (ix2 r (y 1))) (fun j => x1 (ix2 j (y 1))) (y 0)) := by
  unfold out0_A_2
  rw [View.read_writes_junk_eq_canon]
  unfold kernelRun0_A
  dsimp only
  canon_tiles x h using cover0_A_2 c i arg1 harg1 arg2 harg2 arg3 harg3 x0 x1 y
  all_goals try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8]
  all_goals frame_out
  all_goals unfold_payloads
  all_goals simp only [pointwise, zero_add]
  case piece8 =>
    refine congrArg silu (sum4 ?_ ?_ ?_ ?_)
    · refine at_head x0 x1 (y 1) (y 0) (x 0) 3 0 _ _ _ _ _ ?_ rfl h0.symm ?_ ?_ ?_
      · congr 1; simp
      · intro h; simp at h ⊢; omega
      · simp; omega
      · simp; omega
    · refine at_head x0 x1 (y 1) (y 0) (x 0) 2 1 _ _ _ _ _ ?_ rfl h0.symm ?_ ?_ ?_
      · congr 1; simp
      · intro h; simp at h ⊢; omega
      · simp; omega
      · simp; omega
    · refine at_head x0 x1 (y 1) (y 0) (x 0) 1 2 _ _ _ _ _ ?_ rfl h0.symm ?_ ?_ ?_
      · congr 1; simp
      · intro h; simp at h ⊢; omega
      · simp; omega
      · simp; omega
    · refine at_head x0 x1 (y 1) (y 0) (x 0) 0 3 _ _ _ _ _ ?_ rfl h0.symm ?_ ?_ ?_
      · congr 1; simp
      · intro h; simp at h ⊢ <;> omega
      · simp; omega
      · simp; omega
  all_goals
    exact congrArg silu (sum4
      (mul2 (at_back x0 (y 1) (y 0) 3 _ _ (by simp; omega) (by simp; omega)) (at_tap x1 (y 1) 0 _ (by simp; omega)))
      (mul2 (at_back x0 (y 1) (y 0) 2 _ _ (by simp; omega) (by simp; omega)) (at_tap x1 (y 1) 1 _ (by simp; omega)))
      (mul2 (at_back x0 (y 1) (y 0) 1 _ _ (by simp; omega) (by simp; omega)) (at_tap x1 (y 1) 2 _ (by simp; omega)))
      (mul2 (at_back x0 (y 1) (y 0) 0 _ _ (by simp; omega) (by simp; omega)) (at_tap x1 (y 1) 3 _ (by simp; omega))))

theorem e0 : ∀ t : Fin cfg0.N, win0_0.index t = ![0, (grid0.coords t 0).val] := (by decide +kernel : ∀ t : Fin grid0.N, _)
theorem e1 : ∀ t : Fin cfg0.N, win0_1.index t = ![0, (grid0.coords t 0).val] := (by decide +kernel : ∀ t : Fin grid0.N, _)
theorem e2 : ∀ t : Fin cfg0.N, win0_2.index t = ![0, (grid0.coords t 0).val] := (by decide +kernel : ∀ t : Fin grid0.N, _)

/-- What the call leaves in the array of window 2. -/
theorem final (c : Dev nD) : (dats m 0 c).arrAt 2 cfg0.N = conv (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  rw [out_at]
  have hx : ∀ r : Fin 4096, iblk m c 0 t (ix2 r (y 1)) = m ((c : Thread nD τ).loc main_arg0) (ix2 r (wide ((win0_2.blk t).view.emb y 1))) := by
    intro r
    unfold wide
    blk_point [iblk, V, e0 t, e2 t]
  have hw : ∀ j : Fin 4, iblk m c 1 t (ix2 j (y 1)) = m ((c : Thread nD τ).loc main_arg1) (ix2 j ((win0_2.blk t).view.emb y 1)) := by
    intro j
    blk_point [iblk, V, e1 t, e2 t]
  have hy : (win0_2.blk t).view.emb y 0 = y 0 := by
    refine Fin.ext ?_
    blk_point [e2 t]
  unfold conv
  exact congrArg silu (taps_congr hx hw hy.symm)

/-- A padded row of the host. -/
theorem ref_back (x : S4096x8320.Idx → EReal) (i : S4096x3072.Idx) (k : ℕ) (P : Prop) [Decidable P] (a : ¬ P → Fin 4096) (b : ¬ P → Fin 8320)
    (hP : P ↔ (i 0).val < k) (ha : ∀ h, (a h).val + k = (i 0).val) (hb : ∀ h, (b h).val = (i 1).val) :
    (if h : P then (0 : EReal) else x (ix2 (a h) (b h))) = back (fun r => x (ix2 r (wide (i 1)))) k (i 0) := by
  unfold back
  by_cases h : P
  · rw [dif_pos h, if_neg (by have := hP.mp h; omega)]
  · have e0 : a h = ⟨(i 0).val - k, by have : (i 0).val < 4096 := (i 0).isLt; omega⟩ := Fin.ext (by have := ha h; show (a h).val = (i 0).val - k; omega)
    have e1 : b h = wide (i 1) := Fin.ext (hb h)
    rw [dif_neg h, if_pos (by have := ha h; omega), e0, e1]

theorem ref_tap (w : S4x3072.Idx → EReal) (i : S4096x3072.Idx) (q : Fin 4) (b : Fin 3072) (hb : b.val = (i 1).val) :
    w (ix2 q b) = (fun j => w (ix2 j (i 1))) q := by
  have e1 : b = i 1 := Fin.ext hb
  rw [e1]

theorem silu_host {p q : EReal} (h : p = q) : p * Ideal.div 1 (1 + Ideal.exp (-p)) = silu q := by
  rw [h]; rfl

open Cert.RConvIdeal.Read in
/-- The reference's result, index by index. -/
theorem ref_eq (x : S4096x8320.Idx → EReal) (w : S4x3072.Idx → EReal) : val_main_v32 (F := Ideal) x w = conv x w := by
  funext i
  simp only [val_main_v32, val_main_call0_v5, val_main_call0_v4, val_main_call0_cst_0, val_main_call0_v3, val_main_call0_v2, val_main_call0_cst, val_main_call0_v1, val_main_call0_v0, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_0, val_main_v8, val_main_v7, val_main_v6, val_main_v5, val_main_v4, val_main_v3, val_main_v2, val_main_v1, val_main_cst, val_main_v0]
  simp only [pointwise, zero_add]
  refine silu_host (sum4
    (mul2 (ref_back x i 3 _ _ _ (by simp) (by intro h; simp at h ⊢; omega) (by intro h; simp)) (ref_tap w i 0 _ (by simp)))
    (mul2 (ref_back x i 2 _ _ _ (by simp; omega) (by intro h; simp at h ⊢; omega) (by intro h; simp)) (ref_tap w i 1 _ (by simp)))
    (mul2 (ref_back x i 1 _ _ _ (by simp; omega) (by intro h; simp at h ⊢; omega) (by intro h; simp)) (ref_tap w i 2 _ (by simp)))
    (mul2 (ref_back x i 0 _ _ _ (by simp) (by intro h; simp at h ⊢) (by intro h; simp)) (ref_tap w i 3 _ (by simp))))

open Cert.RConvIdeal.Read in
/-- From memories that agree on the arguments the call and the reference leave equal results. -/
theorem algebraic : Cert.algebraic_KConvIdeal_RConvIdeal :=
  fun m ρ m' ρ' _ hag => ⟨fun c => conv (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans ((val_main_v32_eq _ _).trans (by
        rw [(hag c).1, (hag c).2]; exact ref_eq _ _)), (h c).2⟩)
      (Cert.RConvIdeal.Value.run m' ρ')⟩

end Cert.KConvIdeal.Conv

end
-- ==== Proof.ConvStage.lean ====
module

public import proofs.«01_k».proof.Defs
public import proofs.«01_k».proof.Proof.Conv
public import proofs.«01_k».proof.Proof.Gen.KConvBwdIdeal.Value
public import proofs.«01_k».proof.Proof.Gen.RConvBwdIdeal.Run
public import proofs.«01_k».proof.Proof.Gen.RConvBwdIdeal.Read
public import Idealize.ShloMosaic.Lib.Pipeline.ValueKit
public import Idealize.ShloMosaic.Lib.Pointwise
public import Idealize.ShloMosaic.Lib.Quiescent

/-! What one block of the gradient of the short causal convolution and its silu leaves. -/

@[expose] public section

set_option maxRecDepth 16384

noncomputable section

open Idealize.ShloMosaic Idealize.ShloMosaic.TcCoe Idealize.SL.Sem
open Idealize.ShloMosaic.Pipeline (Dat)

namespace Cert.KConvBwdIdeal.ConvBwd

open Cert.KConvBwdIdeal Cert.KConvBwdIdeal.Gen
open Cert.KConvIdeal.Conv (back taps silu at_back at_tap at_head sum4 mul2)

variable (m : (ℓ : Loc nD τ sig) → Buf (Elt Ideal) ℓ) (ρ : Dev nD → PrngReg)

/-- The gradient of the silu at `p`. -/
def slope (p : EReal) : EReal := Ideal.logistic p * (1 + p * (1 - Ideal.logistic p))

/-- The gradient before the silu, row by row, and zeros after the last one. -/
def pre {n : ℕ} (x : Fin n → EReal) (d : Fin n → EReal) (w : Fin 4 → EReal) (r : ℕ) : EReal :=
  if h : r < n then d ⟨r, h⟩ * slope (taps x w ⟨r, h⟩) else 0

/-- A row of the gradient of the convolution: the four rows after it, each by its weight. -/
def spread (g : ℕ → EReal) (w : Fin 4 → EReal) (r : ℕ) : EReal :=
  g (r + 3) * w 0 + g (r + 2) * w 1 + g (r + 1) * w 2 + g r * w 3

theorem pre_eq {n : ℕ} (x : Fin n → EReal) (d : Fin n → EReal) (w : Fin 4 → EReal) (r : ℕ) (h : r < n) :
    pre x d w r = d ⟨r, h⟩ * slope (taps x w ⟨r, h⟩) := by
  unfold pre
  rw [dif_pos h]

theorem gate {d d' p p' : EReal} (hd : d = d') (hp : p = p') :
    d * (Ideal.logistic p * (1 + p * (1 - Ideal.logistic p))) = d' * slope p' := by
  rw [hd, hp]
  rfl

theorem at_row (x : S4096x128.Idx → EReal) (l : Fin 128) (r : Fin 4096) (a : Fin 4096) (b : Fin 128) (ha : a.val = r.val) (hb : b.val = l.val) :
    x (ix2 a b) = (fun r => x (ix2 r l)) r := by
  have e0 : a = r := Fin.ext ha
  have e1 : b = l := Fin.ext hb
  rw [e0, e1]

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4x128 .f32) (harg3 : arg3.IsWhole) (arg5 : Memref sig .tc .vmem S4096x128 .bf16) (harg5 : arg5.IsWhole) (arg6 : Memref sig .tc .vmem S4x128 .f32) (harg6 : arg6.IsWhole) (arg7 : Memref sig .tc .vmem S4104x128 .f32) (harg7 : arg7.IsWhole)
    (x0 : Vec Ideal S4096x128 .f32) (x1 : Vec Ideal S4096x128 .f32) (x2 : Vec Ideal S4x128 .f32)

theorem stage_at (y : S4104x128.Idx) :
    View.canon (kernelRun0_A.sl.HS0_10 c arg1 harg1 arg2 harg2 arg3 harg3 x0 x1 x2) y = pre (fun r => x0 (ix2 r (y 1))) (fun r => x1 (ix2 r (y 1))) (fun j => x2 (ix2 j (y 1))) (y 0).val := by
  have hc := View.cover_of_tiledBy (kernelRun0_A.sl.HS0_10 c arg1 harg1 arg2 harg2 arg3 harg3 x0 x1 x2) ![8, 128] (by sl_kernel_rfl) y
  unfold kernelRun0_A.sl.HS0_10 at hc ⊢
  canon_tiles x h using hc
  all_goals try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51]
  all_goals clear hc
  all_goals try frame_out
  all_goals unfold_payloads
  all_goals simp only [pointwise, zero_add]
  case piece0 =>
    unfold pre
    rw [dif_neg (by omega)]
  case piece9 =>
    rw [pre_eq _ _ _ _ (show (y 0).val < 4096 by omega)]
    refine gate (at_row x1 (y 1) _ _ _ ?_ ?_) (sum4 ?_ ?_ ?_ ?_)
    · simp; omega
    · simp; omega
    · refine at_head x0 x2 (y 1) ⟨(y 0).val, _⟩ (x 0) 3 0 _ _ _ _ _ ?_ rfl h0.symm ?_ ?_ ?_
      · congr 1; simp
      · intro h; simp at h ⊢; omega
      · simp; omega
      · simp; omega
    · refine at_head x0 x2 (y 1) ⟨(y 0).val, _⟩ (x 0) 2 1 _ _ _ _ _ ?_ rfl h0.symm ?_ ?_ ?_
      · congr 1; simp
      · intro h; simp at h ⊢; omega
      · simp; omega
      · simp; omega
    · refine at_head x0 x2 (y 1) ⟨(y 0).val, _⟩ (x 0) 1 2 _ _ _ _ _ ?_ rfl h0.symm ?_ ?_ ?_
      · congr 1; simp
      · intro h; simp at h ⊢; omega
      · simp; omega
      · simp; omega
    · refine at_head x0 x2 (y 1) ⟨(y 0).val, _⟩ (x 0) 0 3 _ _ _ _ _ ?_ rfl h0.symm ?_ ?_ ?_
      · congr 1; simp
      · intro h; simp at h ⊢ <;> omega
      · simp; omega
      · simp; omega
  case' piece1 | piece2 | piece3 | piece4 | piece5 | piece6 | piece7 | piece8 =>
    rw [pre_eq _ _ _ _ (show (y 0).val < 4096 by omega)]
    refine gate (at_row x1 (y 1) _ _ _ ?_ ?_) (sum4 (mul2 (at_back x0 (y 1) _ 3 _ _ ?_ ?_) (at_tap x2 (y 1) 0 _ ?_)) (mul2 (at_back x0 (y 1) _ 2 _ _ ?_ ?_) (at_tap x2 (y 1) 1 _ ?_)) (mul2 (at_back x0 (y 1) _ 1 _ _ ?_ ?_) (at_tap x2 (y 1) 2 _ ?_)) (mul2 (at_back x0 (y 1) _ 0 _ _ ?_ ?_) (at_tap x2 (y 1) 3 _ ?_)))
  all_goals (simp <;> omega)

/-- The stage as a function of the place. -/
def stage (x d : S4096x128.Idx → EReal) (w : S4x128.Idx → EReal) : S4104x128.Idx → EReal :=
  fun y => pre (fun r => x (ix2 r (y 1))) (fun r => d (ix2 r (y 1))) (fun j => w (ix2 j (y 1))) (y 0).val

theorem at_stage (x d : S4096x128.Idx → EReal) (w : S4x128.Idx → EReal) (l : Fin 128) (n : ℕ) (a : Fin 4104) (b : Fin 128) (ha : a.val = n) (hb : b.val = l.val) :
    stage x d w (ix2 a b) = pre (fun r => x (ix2 r l)) (fun r => d (ix2 r l)) (fun j => w (ix2 j l)) n := by
  have e1 : b = l := Fin.ext hb
  rw [← ha, ← e1]
  rfl

theorem stage_eq : View.canon (kernelRun0_A.sl.HS0_10 c arg1 harg1 arg2 harg2 arg3 harg3 x0 x1 x2) = stage x0 x1 x2 :=
  funext (stage_at c arg1 harg1 arg2 harg2 arg3 harg3 x0 x1 x2)

theorem dx_at (y : S4096x128.Idx) :
    out0_A_3 c i arg1 harg1 arg2 harg2 arg3 harg3 arg5 harg5 arg6 harg6 arg7 harg7 x0 x1 x2 y
      = spread (pre (fun r => x0 (ix2 r (y 1))) (fun r => x1 (ix2 r (y 1))) (fun j => x2 (ix2 j (y 1)))) (fun j => x2 (ix2 j (y 1))) (y 0).val := by
  unfold out0_A_3
  rw [View.read_writes_junk_eq_canon]
  unfold kernelRun0_A
  dsimp only
  canon_tiles x h using cover0_A_3 c i arg1 harg1 arg2 harg2 arg3 harg3 arg5 harg5 arg6 harg6 arg7 harg7 x0 x1 x2 y
  all_goals try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51]
  all_goals try simp only [kernelRun0_A.sl.v311, kernelRun0_A.sl.v315, kernelRun0_A.sl.v320, kernelRun0_A.sl.v325, kernelRun0_A.sl.v332, kernelRun0_A.sl.v336, kernelRun0_A.sl.v341, kernelRun0_A.sl.v346, kernelRun0_A.sl.v353, kernelRun0_A.sl.v357, kernelRun0_A.sl.v362, kernelRun0_A.sl.v367, kernelRun0_A.sl.v374, kernelRun0_A.sl.v378, kernelRun0_A.sl.v383, kernelRun0_A.sl.v388, kernelRun0_A.sl.v395, kernelRun0_A.sl.v399, kernelRun0_A.sl.v404, kernelRun0_A.sl.v409, kernelRun0_A.sl.v416, kernelRun0_A.sl.v420, kernelRun0_A.sl.v425, kernelRun0_A.sl.v430, kernelRun0_A.sl.v437, kernelRun0_A.sl.v441, kernelRun0_A.sl.v446, kernelRun0_A.sl.v451, kernelRun0_A.sl.v458, kernelRun0_A.sl.v462, kernelRun0_A.sl.v467, kernelRun0_A.sl.v472, kernelRun0_A.sl.v479, kernelRun0_A.sl.v483, kernelRun0_A.sl.v488, kernelRun0_A.sl.v493, View.readCov_eq_canon', stage_eq]
  all_goals try frame_out
  all_goals unfold_payloads
  all_goals simp only [pointwise, zero_add]
  all_goals
    exact sum4
      (mul2 (at_stage x0 x1 x2 (y 1) _ _ _ (by simp; omega) (by simp; omega)) (at_tap x2 (y 1) 0 _ (by simp; omega)))
      (mul2 (at_stage x0 x1 x2 (y 1) _ _ _ (by simp; omega) (by simp; omega)) (at_tap x2 (y 1) 1 _ (by simp; omega)))
      (mul2 (at_stage x0 x1 x2 (y 1) _ _ _ (by simp; omega) (by simp; omega)) (at_tap x2 (y 1) 2 _ (by simp; omega)))
      (mul2 (at_stage x0 x1 x2 (y 1) _ _ _ (by simp; omega) (by simp; omega)) (at_tap x2 (y 1) 3 _ (by simp; omega)))

/-- Four rows put together, read at a place. -/
theorem rows_at (a b c d : FVec Ideal S1x128 .f32) (q : Fin 4) (l : Fin 128) :
    concatenate S4x128 0 [⟨S1x128, a⟩, ⟨S1x128, b⟩, ⟨S1x128, c⟩, ⟨S1x128, d⟩] concatenates_S1x128_S1x128_S1x128_S1x128_S4x128_d0 (ix2 q l)
      = (![a, b, c, d] q) (ix2 0 l) := by
  simp only [pointwise]
  fin_cases q <;> rfl

/-- The first eight rows of the gradient before the silu. -/
theorem head_at (z : S8x128.Idx) :
    k0_pay8 x2 (k0_pay4 (View.ld x0 (Rect.unit ![0, 0] ![8, 128] inb_S4096x128_S8x128_0_0)))
      (k0_pay5 (View.ld x0 (Rect.unit ![0, 0] ![8, 128] inb_S4096x128_S8x128_0_0)))
      (View.ld x1 (Rect.unit ![0, 0] ![8, 128] inb_S4096x128_S8x128_0_0))
      (k0_pay6 x2 (View.ld x0 (Rect.unit ![0, 0] ![8, 128] inb_S4096x128_S8x128_0_0))) (k0_pay7 x2) z
      = stage x0 x1 x2 (ix2 ⟨(z 0 : Fin 8).val, by have : (z 0 : Fin 8).val < 8 := (z 0).isLt; omega⟩ (z 1)) := by
  have h0 : (z 0 : Fin 8).val < 8 := (z 0).isLt
  unfold_payloads
  simp only [pointwise, zero_add]
  show _ = pre (fun r => x0 (ix2 r (z 1))) (fun r => x1 (ix2 r (z 1))) (fun j => x2 (ix2 j (z 1))) (z 0 : Fin 8).val
  rw [pre_eq _ _ _ _ (show (z 0 : Fin 8).val < 4096 by omega)]
  refine gate (at_row x1 (z 1) ⟨(z 0 : Fin 8).val, _⟩ _ _ ?_ ?_) (sum4 ?_ ?_ ?_ ?_)
  · simp
  · simp
  · refine at_head x0 x2 (z 1) ⟨(z 0 : Fin 8).val, _⟩ (z 0) 3 0 _ _ _ _ _ ?_ rfl rfl ?_ ?_ ?_
    · congr 1; simp
    · intro h; simp at h ⊢; omega
    · simp
    · simp
  · refine at_head x0 x2 (z 1) ⟨(z 0 : Fin 8).val, _⟩ (z 0) 2 1 _ _ _ _ _ ?_ rfl rfl ?_ ?_ ?_
    · congr 1; simp
    · intro h; simp at h ⊢; omega
    · simp
    · simp
  · refine at_head x0 x2 (z 1) ⟨(z 0 : Fin 8).val, _⟩ (z 0) 1 2 _ _ _ _ _ ?_ rfl rfl ?_ ?_ ?_
    · congr 1; simp
    · intro h; simp at h ⊢; omega
    · simp
    · simp
  · refine at_head x0 x2 (z 1) ⟨(z 0 : Fin 8).val, _⟩ (z 0) 0 3 _ _ _ _ _ ?_ rfl rfl ?_ ?_ ?_
    · congr 1; simp
    · intro h; simp at h ⊢ <;> omega
    · simp
    · simp

/-- A sum over the rows in the kernel's chunks. -/
theorem chunks (f : ℕ → EReal) : (∑ r : Fin 8, f r.val) + (∑ r : Fin 504, f (8 + r.val)) + (∑ r : Fin 512, f (512 + r.val)) + (∑ r : Fin 512, f (1024 + r.val))
    + (∑ r : Fin 512, f (1536 + r.val)) + (∑ r : Fin 512, f (2048 + r.val)) + (∑ r : Fin 512, f (2560 + r.val)) + (∑ r : Fin 512, f (3072 + r.val)) + (∑ r : Fin 512, f (3584 + r.val))
      = ∑ r : Fin 4096, f r.val := by
  rw [Fin.sum_univ_eq_sum_range f, Fin.sum_univ_eq_sum_range f]
  simp only [Fin.sum_univ_eq_sum_range (fun r => f (8 + r)), Fin.sum_univ_eq_sum_range (fun r => f (512 + r)), Fin.sum_univ_eq_sum_range (fun r => f (1024 + r)), Fin.sum_univ_eq_sum_range (fun r => f (1536 + r)), Fin.sum_univ_eq_sum_range (fun r => f (2048 + r)), Fin.sum_univ_eq_sum_range (fun r => f (2560 + r)), Fin.sum_univ_eq_sum_range (fun r => f (3072 + r)), Fin.sum_univ_eq_sum_range (fun r => f (3584 + r))]
  rw [show 4096 = 3584 + 512 from rfl, Finset.sum_range_add, show 3584 = 3072 + 512 from rfl, Finset.sum_range_add, show 3072 = 2560 + 512 from rfl, Finset.sum_range_add, show 2560 = 2048 + 512 from rfl, Finset.sum_range_add, show 2048 = 1536 + 512 from rfl, Finset.sum_range_add, show 1536 = 1024 + 512 from rfl, Finset.sum_range_add, show 1024 = 512 + 512 from rfl, Finset.sum_range_add, show 512 = 8 + 504 from rfl, Finset.sum_range_add f 8 504]

/-- The gradient before the silu at row `n` by the row `k` rows back. -/
def along (x d : S4096x128.Idx → EReal) (w : S4x128.Idx → EReal) (l : Fin 128) (k n : ℕ) : EReal :=
  pre (fun r => x (ix2 r l)) (fun r => d (ix2 r l)) (fun j => w (ix2 j l)) n * (if h : n < 4096 then back (fun r => x (ix2 r l)) k ⟨n, h⟩ else 0)

theorem chunk_at (x d : S4096x128.Idx → EReal) (w : S4x128.Idx → EReal) (l : Fin 128) (k n : ℕ) (a : Fin 4104) (b : Fin 128) (a' : Fin 4096) (b' : Fin 128)
    (hn : n < 4096) (ha : a.val = n) (hb : b.val = l.val) (ha' : a'.val + k = n) (hb' : b'.val = l.val) :
    stage x d w (ix2 a b) * x (ix2 a' b') = along x d w l k n := by
  unfold along
  rw [dif_pos hn, at_stage x d w l n a b ha hb, at_back x l ⟨n, hn⟩ k a' b' ha' hb']

theorem first_at (x d : S4096x128.Idx → EReal) (w : S4x128.Idx → EReal) (l : Fin 128) (k : Fin 4) (n : Fin 8) (a : Fin 4104) (b : Fin 128) (a' : Fin 4096) (b' : Fin 128)
    (N K : BitVec 32) (hN : N = BitVec.ofNat 32 n.val) (hK : K = BitVec.ofNat 32 k.val)
    (ha : a.val = n.val) (hb : b.val = l.val) (ha' : k.val ≤ n.val → a'.val + k.val = n.val) (hb' : b'.val = l.val) :
    Scalar.select (IntOp.cmpi CmpIPredicate.sge N K) (stage x d w (ix2 a b) * x (ix2 a' b')) 0 = along x d w l k.val n.val := by
  have hn : n.val < 4096 := by omega
  rw [hN, hK, Cert.KConvIdeal.Conv.sge_eq]
  by_cases h : k.val ≤ n.val
  · rw [if_pos h, chunk_at x d w l k.val n.val a b a' b' hn ha hb (ha' h) hb']
    rfl
  · rw [if_neg h]
    unfold along back
    rw [dif_pos hn, if_neg h, mul_zero]
    rfl

theorem sum9 {a b c d e f g h i a' b' c' d' e' f' g' h' i' : EReal} (ha : a = a') (hb : b = b') (hc : c = c') (hd : d = d') (he : e = e') (hf : f = f') (hg : g = g') (hh : h = h') (hi : i = i') :
    a + b + c + d + e + f + g + h + i = a' + b' + c' + d' + e' + f' + g' + h' + i' := by
  rw [ha, hb, hc, hd, he, hf, hg, hh, hi]

theorem whole (x d : S4096x128.Idx → EReal) (w : S4x128.Idx → EReal) (l : Fin 128) (k : ℕ) :
    (∑ r : Fin 4096, along x d w l k r.val) = ∑ r : Fin 4096, pre (fun r => x (ix2 r l)) (fun r => d (ix2 r l)) (fun j => w (ix2 j l)) r.val * back (fun r => x (ix2 r l)) k r := by
  refine Finset.sum_congr rfl fun r _ => ?_
  unfold along
  rw [dif_pos r.isLt]

theorem dw_at (y : S4x128.Idx) :
    out0_A_4 c i arg1 harg1 arg2 harg2 arg3 harg3 arg5 harg5 arg6 harg6 arg7 harg7 x0 x1 x2 y
      = ∑ r : Fin 4096, pre (fun r => x0 (ix2 r (y 1))) (fun r => x1 (ix2 r (y 1))) (fun j => x2 (ix2 j (y 1))) r.val * back (fun r => x0 (ix2 r (y 1))) (3 - (y 0).val) r := by
  unfold out0_A_4
  rw [View.read_writes_junk_eq_canon]
  unfold kernelRun0_A
  dsimp only
  canon_tiles x h using cover0_A_4 c i arg1 harg1 arg2 harg2 arg3 harg3 arg5 harg5 arg6 harg6 arg7 harg7 x0 x1 x2 y
  try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51]
  try simp only [kernelRun0_A.sl.v311, kernelRun0_A.sl.v315, kernelRun0_A.sl.v320, kernelRun0_A.sl.v325, kernelRun0_A.sl.v332, kernelRun0_A.sl.v336, kernelRun0_A.sl.v341, kernelRun0_A.sl.v346, kernelRun0_A.sl.v353, kernelRun0_A.sl.v357, kernelRun0_A.sl.v362, kernelRun0_A.sl.v367, kernelRun0_A.sl.v374, kernelRun0_A.sl.v378, kernelRun0_A.sl.v383, kernelRun0_A.sl.v388, kernelRun0_A.sl.v395, kernelRun0_A.sl.v399, kernelRun0_A.sl.v404, kernelRun0_A.sl.v409, kernelRun0_A.sl.v416, kernelRun0_A.sl.v420, kernelRun0_A.sl.v425, kernelRun0_A.sl.v430, kernelRun0_A.sl.v437, kernelRun0_A.sl.v441, kernelRun0_A.sl.v446, kernelRun0_A.sl.v451, kernelRun0_A.sl.v458, kernelRun0_A.sl.v462, kernelRun0_A.sl.v467, kernelRun0_A.sl.v472, kernelRun0_A.sl.v479, kernelRun0_A.sl.v483, kernelRun0_A.sl.v488, kernelRun0_A.sl.v493, View.readCov_eq_canon', stage_eq]
  frame_out
  rw [show k0_pay8 x2 (k0_pay4 (View.ld x0 (Rect.unit ![0, 0] ![8, 128] inb_S4096x128_S8x128_0_0)))
      (k0_pay5 (View.ld x0 (Rect.unit ![0, 0] ![8, 128] inb_S4096x128_S8x128_0_0)))
      (View.ld x1 (Rect.unit ![0, 0] ![8, 128] inb_S4096x128_S8x128_0_0))
      (k0_pay6 x2 (View.ld x0 (Rect.unit ![0, 0] ![8, 128] inb_S4096x128_S8x128_0_0))) (k0_pay7 x2) = _ from funext (head_at x0 x1 x2)]
  unfold_payloads
  dsimp only
  obtain ⟨q, hq⟩ : ∃ q : Fin 4, q = y 0 := ⟨_, rfl⟩
  obtain ⟨l, hl⟩ : ∃ l : Fin 128, l = y 1 := ⟨_, rfl⟩
  rw [show x = ix2 q l from (eq_ix2 x).trans (congrArg₂ ix2 (Fin.ext (by rw [hq]; exact h0.symm)) (Fin.ext (by rw [hl]; exact h1.symm))), rows_at, ← hq, ← hl]
  clear hq hl h0 h1
  match q with
  | 0 =>
    simp only [pointwise, zero_add, Matrix.cons_val]
    refine (sum9 (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_)).trans ((chunks (along x0 x1 x2 l 3)).trans (whole x0 x1 x2 l 3))
    · refine first_at x0 x1 x2 l 3 r _ _ _ _ _ _ ?_ rfl rfl ?_ ?_ ?_
      · congr 1; simp
      · simp
      · intro h; simp at h ⊢ <;> omega
      · simp
    all_goals exact chunk_at x0 x1 x2 l 3 _ _ _ _ _ (by omega) (by simp) (by simp) (by simp; omega) (by simp)
  | 1 =>
    simp only [pointwise, zero_add, Matrix.cons_val]
    refine (sum9 (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_)).trans ((chunks (along x0 x1 x2 l 2)).trans (whole x0 x1 x2 l 2))
    · refine first_at x0 x1 x2 l 2 r _ _ _ _ _ _ ?_ rfl rfl ?_ ?_ ?_
      · congr 1; simp
      · simp
      · intro h; simp at h ⊢ <;> omega
      · simp
    all_goals exact chunk_at x0 x1 x2 l 2 _ _ _ _ _ (by omega) (by simp) (by simp) (by simp; omega) (by simp)
  | 2 =>
    simp only [pointwise, zero_add, Matrix.cons_val]
    refine (sum9 (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_)).trans ((chunks (along x0 x1 x2 l 1)).trans (whole x0 x1 x2 l 1))
    · refine first_at x0 x1 x2 l 1 r _ _ _ _ _ _ ?_ rfl rfl ?_ ?_ ?_
      · congr 1; simp
      · simp
      · intro h; simp at h ⊢ <;> omega
      · simp
    all_goals exact chunk_at x0 x1 x2 l 1 _ _ _ _ _ (by omega) (by simp) (by simp) (by simp; omega) (by simp)
  | 3 =>
    simp only [pointwise, zero_add, Matrix.cons_val]
    refine (sum9 (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_) (Finset.sum_congr rfl fun r _ => ?_)).trans ((chunks (along x0 x1 x2 l 0)).trans (whole x0 x1 x2 l 0))
    · refine first_at x0 x1 x2 l 0 r _ _ _ _ _ _ ?_ rfl rfl ?_ ?_ ?_
      · congr 1; simp
      · simp
      · intro h; simp at h ⊢ <;> omega
      · simp
    all_goals exact chunk_at x0 x1 x2 l 0 _ _ _ _ _ (by omega) (by simp) (by simp) (by simp) (by simp)

end Cert.KConvBwdIdeal.ConvBwd

end
-- ==== Proof.ConvBwd.lean ====
module

public import proofs.«01_k».proof.Defs
public import proofs.«01_k».proof.Proof.ConvStage
public import proofs.«01_k».proof.Proof.Gen.KConvBwdIdeal.Value
public import proofs.«01_k».proof.Proof.Gen.Pre_finite_gradient
public import proofs.«01_k».proof.Proof.Gen.RConvBwdIdeal.Run
public import proofs.«01_k».proof.Proof.Gen.RConvBwdIdeal.Read
public import Idealize.ShloMosaic.Lib.Pipeline.ValueKit
public import Idealize.ShloMosaic.Lib.Pointwise
public import Idealize.ShloMosaic.Lib.ReduceAll
public import Idealize.ShloMosaic.Lib.KernelVsHost
public import Idealize.ShloMosaic.Lib.Quiescent

/-! The gradient of the short causal convolution and its silu. -/

@[expose] public section

set_option maxRecDepth 16384

noncomputable section

open Idealize.ShloMosaic Idealize.ShloMosaic.TcCoe Idealize.SL.Sem
open Idealize.ShloMosaic.Pipeline (Dat)

namespace Cert.KConvBwdIdeal.ConvBwd

open Cert.KConvBwdIdeal Cert.KConvBwdIdeal.Gen
open Cert.KConvIdeal.Conv (back taps wide ref_back ref_tap sum4 mul2)

variable (m : (ℓ : Loc nD τ sig) → Buf (Elt Ideal) ℓ) (ρ : Dev nD → PrngReg)

/-- A column of the projection among the columns of the convolution. -/
def narrow (b : Fin 8320) : Fin 3072 := ⟨b.val % 3072, by omega⟩

/-- The gradient before the silu of a column of the convolution. -/
def grad (x : S4096x8320.Idx → EReal) (d : S4096x3072.Idx → EReal) (w : S4x3072.Idx → EReal) (b : Fin 3072) : ℕ → EReal :=
  pre (fun r => x (ix2 r (wide b))) (fun r => d (ix2 r b)) (fun j => w (ix2 j b))

/-- The gradient by the projection: its first columns, and the others as they were. -/
def dproj (x : S4096x8320.Idx → EReal) (d : S4096x3072.Idx → EReal) (w : S4x3072.Idx → EReal) (o : S4096x8320.Idx → EReal) : S4096x8320.Idx → EReal :=
  fun i => if (i 1 : Fin 8320).val / 128 < 24 then spread (grad x d w (narrow (i 1))) (fun j => w (ix2 j (narrow (i 1)))) (i 0 : Fin 4096).val else o i

/-- The gradient by the weights. -/
def dweights (x : S4096x8320.Idx → EReal) (d : S4096x3072.Idx → EReal) (w : S4x3072.Idx → EReal) : S4x3072.Idx → EReal :=
  fun i => ∑ r : Fin 4096, grad x d w (i 1) r.val * back (fun r => x (ix2 r (wide (i 1)))) (3 - (i 0 : Fin 4).val) r

theorem e0 : ∀ t : Fin cfg0.N, win0_0.index t = ![0, (grid0.coords t 0).val] := (by decide +kernel : ∀ t : Fin grid0.N, _)
theorem e1 : ∀ t : Fin cfg0.N, win0_1.index t = ![0, (grid0.coords t 0).val] := (by decide +kernel : ∀ t : Fin grid0.N, _)
theorem e2 : ∀ t : Fin cfg0.N, win0_2.index t = ![0, (grid0.coords t 0).val] := (by decide +kernel : ∀ t : Fin grid0.N, _)
theorem e3 : ∀ t : Fin cfg0.N, win0_3.index t = ![0, (grid0.coords t 0).val] := (by decide +kernel : ∀ t : Fin grid0.N, _)
theorem e4 : ∀ t : Fin cfg0.N, win0_4.index t = ![0, (grid0.coords t 0).val] := (by decide +kernel : ∀ t : Fin grid0.N, _)

/-- What the call leaves in the gradient by the weights. -/
theorem final_dw (c : Dev nD) : (dats m 0 c).arrAt 4 cfg0.N
    = dweights (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  simp only [dw_at]
  have hx : (fun r : Fin 4096 => iblk m c 0 t (ix2 r (y 1))) = fun r => m ((c : Thread nD τ).loc main_arg0) (ix2 r (wide ((win0_4.blk t).view.emb y 1))) := by
    funext r
    unfold wide
    blk_point [iblk, V, e0 t, e4 t]
  have hd : (fun r : Fin 4096 => iblk m c 1 t (ix2 r (y 1))) = fun r => m ((c : Thread nD τ).loc main_arg1) (ix2 r ((win0_4.blk t).view.emb y 1)) := by
    funext r
    blk_point [iblk, V, e1 t, e4 t]
  have hw : (fun j : Fin 4 => iblk m c 2 t (ix2 j (y 1))) = fun j => m ((c : Thread nD τ).loc main_arg2) (ix2 j ((win0_4.blk t).view.emb y 1)) := by
    funext j
    blk_point [iblk, V, e2 t, e4 t]
  have hy : (y 0 : Fin 4) = (win0_4.blk t).view.emb y 0 := by
    refine Fin.ext ?_
    blk_point [e4 t]
  rw [hx, hd, hw, hy]
  rfl

/-- What the call leaves in the gradient by the projection. -/
theorem final_dx (c : Dev nD) : (dats m 0 c).arrAt 3 cfg0.N
    = dproj (m ((c : Thread nD τ).loc main_arg0)) (m ((c : Thread nD τ).loc main_arg1)) (m ((c : Thread nD τ).loc main_arg2)) (m ((c : Thread nD τ).loc main_arg3)) := by
  refine ((dats m 0 c).arrAt_eq_of_coversWhere 3 (fun i => spread (grad (m ((c : Thread nD τ).loc main_arg0)) (m ((c : Thread nD τ).loc main_arg1)) (m ((c : Thread nD τ).loc main_arg2)) (narrow (i 1))) (fun j => m ((c : Thread nD τ).loc main_arg2) (ix2 j (narrow (i 1)))) (i 0 : Fin 4096).val) (P := fun i => (i 1 : Fin 8320).val / 128 < 24) (fun β => β (1 : Fin _) < 24) (by decide +kernel)
    (fun t hf y => ?_) (fun j => Iff.rfl)).trans ?_
  · blk_simp
    rw [after0_3]
    unfold outsAt0
    simp only [dx_at]
    have hc : (grid0.coords t 0).val < 24 := (grid0.coords t 0).isLt
    have hx : (fun r : Fin 4096 => iblk m c 0 t (ix2 r (y 1))) = fun r => m ((c : Thread nD τ).loc main_arg0) (ix2 r (wide (narrow ((win0_3.blk t).view.emb y 1)))) := by
      funext r
      unfold wide narrow
      blk_point [iblk, V, e0 t, e3 t]
    have hd : (fun r : Fin 4096 => iblk m c 1 t (ix2 r (y 1))) = fun r => m ((c : Thread nD τ).loc main_arg1) (ix2 r (narrow ((win0_3.blk t).view.emb y 1))) := by
      funext r
      unfold narrow
      blk_point [iblk, V, e1 t, e3 t]
    have hw : (fun j : Fin 4 => iblk m c 2 t (ix2 j (y 1))) = fun j => m ((c : Thread nD τ).loc main_arg2) (ix2 j (narrow ((win0_3.blk t).view.emb y 1))) := by
      funext j
      unfold narrow
      blk_point [iblk, V, e2 t, e3 t]
    rw [hx, hd, hw, show win0_3.index t 0 = 0 from by rw [e3 t]; rfl, zero_mul, zero_add]
    rfl
  · rfl

theorem grad_eq (x : S4096x8320.Idx → EReal) (d : S4096x3072.Idx → EReal) (w : S4x3072.Idx → EReal) (i : S4096x3072.Idx) :
    grad x d w (i 1) (i 0 : Fin 4096).val = d i * slope (taps (fun r => x (ix2 r (wide (i 1)))) (fun j => w (ix2 j (i 1))) (i 0)) := by
  unfold grad
  exact (pre_eq _ _ _ _ (i 0 : Fin 4096).isLt).trans (mul2 (congrArg d (eq_ix2 i).symm) rfl)

theorem fold_eq {p d : EReal} (h : d < ⊤) (h' : ⊥ < d) :
    d * Ideal.logistic p + p * d * (Ideal.logistic p * (1 - Ideal.logistic p)) = d * slope p := by
  unfold slope
  induction d using EReal.rec with
  | bot => exact absurd h' (lt_irrefl _)
  | top => exact absurd h (lt_irrefl _)
  | coe d =>
    induction p using EReal.rec with
    | bot =>
      rw [Ideal.logistic_bot]
      simp
    | top =>
      have e : (1 : EReal) - 1 = 0 := by
        show ((1 : ℝ) : EReal) - ((1 : ℝ) : EReal) = 0
        rw [← EReal.coe_sub, sub_self, EReal.coe_zero]
      rw [Ideal.logistic_top, e]
      simp
    | coe p =>
      rw [Ideal.logistic_coe]
      generalize ((1 + Real.exp (-p))⁻¹ : ℝ) = s
      norm_cast
      ring

/-- Every entry of the gradient that arrives is finite. -/
theorem finite_at (x : S4096x8320.Idx → EReal) (d : S4096x3072.Idx → EReal) (w : S4x3072.Idx → EReal) (o : S4096x8320.Idx → EReal)
    (h : Cert.Pre_finite_gradient.fn (F := Ideal) x d w o = fun _ => 1#1) (i : S4096x3072.Idx) : d i < ⊤ ∧ ⊥ < d i := by
  have e := congrFun h ix0
  unfold Cert.Pre_finite_gradient.fn at e
  have e' := Host.reduce_andi_all _ _ _ _ _ e i
  simp only [pointwise] at e'
  rw [show Ideal.ofBits FTy.f32 2139095040#32 = ⊤ from by simp [Ideal.ofBits, Ideal.ieee], show Ideal.ofBits FTy.f32 4286578688#32 = ⊥ from by simp [Ideal.ofBits, Ideal.ieee]] at e'
  by_cases a : d i < ⊤ <;> by_cases b : ⊥ < d i <;> simp [a, b, IntOp.andi] at e' ⊢

open Cert.RConvBwdIdeal.Read in
/-- The four products of the reference, index by index. -/
theorem ref_taps (x : S4096x8320.Idx → EReal) (w : S4x3072.Idx → EReal) (i : S4096x3072.Idx) :
    val_main_v32 (F := Ideal) x w i = taps (fun r => x (ix2 r (wide (i 1)))) (fun j => w (ix2 j (i 1))) (i 0) := by
  simp only [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_1, val_main_cst_0, val_main_v8, val_main_v7, val_main_v6, val_main_v5, val_main_v4, val_main_v3, val_main_v2, val_main_v1, val_main_cst, val_main_v0]
  simp only [pointwise, zero_add]
  refine (sum4
    (mul2 (ref_back x i 3 _ _ _ (by simp) (by intro h; simp at h ⊢; omega) (by intro h; simp)) (ref_tap w i 0 _ (by simp)))
    (mul2 (ref_back x i 2 _ _ _ (by simp; omega) (by intro h; simp at h ⊢; omega) (by intro h; simp)) (ref_tap w i 1 _ (by simp)))
    (mul2 (ref_back x i 1 _ _ _ (by simp; omega) (by intro h; simp at h ⊢; omega) (by intro h; simp)) (ref_tap w i 2 _ (by simp)))
    (mul2 (ref_back x i 0 _ _ _ (by simp) (by intro h; simp at h ⊢) (by intro h; simp)) (ref_tap w i 3 _ (by simp))))

open Cert.RConvBwdIdeal.Read in
/-- The gradient before the silu of the reference. -/
theorem ref_grad (x : S4096x8320.Idx → EReal) (d : S4096x3072.Idx → EReal) (w : S4x3072.Idx → EReal) (hd : ∀ i, d i < ⊤ ∧ ⊥ < d i) (i : S4096x3072.Idx) :
    val_main_v34 (F := Ideal) x d w i = grad x d w (i 1) (i 0 : Fin 4096).val := by
  have hs : val_main_v33_2 (F := Ideal) x w i = Ideal.logistic (val_main_v32 (F := Ideal) x w i) := by
    simp only [val_main_v33_2, val_main_call0_v4, val_main_call0_cst_0, val_main_call0_v3, val_main_call0_v2, val_main_call0_cst, val_main_call0_v1, val_main_call0_v0]
    generalize val_main_v32 (F := Ideal) x w = z
    simp only [pointwise]
    rfl
  simp only [val_main_v34, val_main_call1_v2, val_main_call1_v1, val_main_call1_v0, val_main_v33_1, val_main_call0_v7, val_main_call0_v6, val_main_call0_cst_1]
  rw [grad_eq, ← ref_taps x w i, ← fold_eq (hd i).1 (hd i).2, ← hs]
  generalize val_main_v33_2 (F := Ideal) x w = s
  generalize val_main_v32 (F := Ideal) x w = z
  simp only [pointwise]

/-- No gradient comes from rows past the last. -/
theorem grad_late (x : S4096x8320.Idx → EReal) (d : S4096x3072.Idx → EReal) (w : S4x3072.Idx → EReal) (b : Fin 3072) (r : ℕ) (h : 4096 ≤ r) :
    grad x d w b r = 0 := by
  unfold grad pre
  rw [dif_neg (by omega)]

/-- Rows moved down by `lo` among three rows of zeros, read from the fourth on. -/
theorem shove {c : Fin 3072} (lo sh : ℕ) (hlo : lo + sh = 3) (f : Cert.RConvBwdIdeal.S4096x3072.Idx → EReal) {u : EReal} {G : ℕ → EReal}
    (hf : ∀ q : Fin 4096, f (ix2 q c) = G q.val * u) (hG : ∀ r, 4096 ≤ r → G r = 0)
    (v : Cert.RConvBwdIdeal.S_.Idx → EReal) (hp : Cert.RConvBwdIdeal.S4096x3072.Pads ![lo, 0] ![sh, 0] ![0, 0] Cert.RConvBwdIdeal.S4099x3072) (hu : 0 < Cert.RConvBwdIdeal.S_.numel)
    (hv : v (Shape.Idx.first hu) = 0) (r : Fin 4096) :
    pad Cert.RConvBwdIdeal.S4099x3072 ![lo, 0] ![sh, 0] ![0, 0] f v hp hu (ix2 (⟨3 + r.val, by omega⟩ : Fin 4099) c) = G (r.val + sh) * u := by
  by_cases h : r.val + sh < 4096
  · refine (pad_apply_of_inside _ _ _ f v hp hu _ (ix2 (⟨r.val + sh, h⟩ : Fin 4096) c) ?_).trans (hf ⟨r.val + sh, h⟩)
    intro a
    match a with
    | ⟨0, _⟩ => show 3 + r.val = lo + (r.val + sh) * 1; omega
    | ⟨1, _⟩ => show c.val = 0 + c.val * 1; omega
  · rw [hG _ (by omega), zero_mul]
    refine (pad_apply_of_not_inside _ _ _ f v hp hu _ (0 : Fin 2) ?_).trans hv
    show ¬ (lo ≤ 3 + r.val ∧ (3 + r.val - lo) % 1 = 0 ∧ (3 + r.val - lo) / 1 < 4096)
    omega

/-- One row put at row `lo` of four, the others zero. -/
theorem place (lo hi : ℕ) (hlo : lo + hi = 3) (f : Cert.RConvBwdIdeal.S1x3072.Idx → EReal)
    (v : Cert.RConvBwdIdeal.S_.Idx → EReal) (hp : Cert.RConvBwdIdeal.S1x3072.Pads ![lo, 0] ![hi, 0] ![0, 0] Cert.RConvBwdIdeal.S4x3072) (hu : 0 < Cert.RConvBwdIdeal.S_.numel)
    (hv : v (Shape.Idx.first hu) = 0) (q : Fin 4) (c : Fin 3072) :
    pad Cert.RConvBwdIdeal.S4x3072 ![lo, 0] ![hi, 0] ![0, 0] f v hp hu (ix2 q c) = if q.val = lo then f (ix2 0 c) else 0 := by
  by_cases h : q.val = lo
  · rw [if_pos h]
    refine pad_apply_of_inside _ _ _ f v hp hu _ (ix2 (0 : Fin 1) c) ?_
    intro a
    match a with
    | ⟨0, _⟩ => show q.val = lo + 0 * 1; omega
    | ⟨1, _⟩ => show c.val = 0 + c.val * 1; omega
  · rw [if_neg h]
    refine (pad_apply_of_not_inside _ _ _ f v hp hu _ (0 : Fin 2) ?_).trans hv
    show ¬ (lo ≤ q.val ∧ (q.val - lo) % 1 = 0 ∧ (q.val - lo) / 1 < 1)
    omega

open Cert.RConvBwdIdeal.Read in
theorem ref_back0 (x : S4096x8320.Idx → EReal) (i : S4096x3072.Idx) :
    val_main_v26 (F := Ideal) x i = back (fun r => x (ix2 r (wide (i 1)))) 0 (i 0) := by
  simp only [val_main_v26, val_main_v2, val_main_v1, val_main_cst_0, val_main_cst, val_main_v0]
  simp only [pointwise]
  exact ref_back x i 0 _ _ _ (by simp) (by intro h; simp at h ⊢) (by intro h; simp)

open Cert.RConvBwdIdeal.Read in
theorem ref_back1 (x : S4096x8320.Idx → EReal) (i : S4096x3072.Idx) :
    val_main_v19 (F := Ideal) x i = back (fun r => x (ix2 r (wide (i 1)))) 1 (i 0) := by
  simp only [val_main_v19, val_main_v2, val_main_v1, val_main_cst_0, val_main_cst, val_main_v0]
  simp only [pointwise]
  exact ref_back x i 1 _ _ _ (by simp; omega) (by intro h; simp at h ⊢; omega) (by intro h; simp)

open Cert.RConvBwdIdeal.Read in
theorem ref_back2 (x : S4096x8320.Idx → EReal) (i : S4096x3072.Idx) :
    val_main_v12 (F := Ideal) x i = back (fun r => x (ix2 r (wide (i 1)))) 2 (i 0) := by
  simp only [val_main_v12, val_main_v2, val_main_v1, val_main_cst_0, val_main_cst, val_main_v0]
  simp only [pointwise]
  exact ref_back x i 2 _ _ _ (by simp; omega) (by intro h; simp at h ⊢; omega) (by intro h; simp)

open Cert.RConvBwdIdeal.Read in
theorem ref_back3 (x : S4096x8320.Idx → EReal) (i : S4096x3072.Idx) :
    val_main_v4 (F := Ideal) x i = back (fun r => x (ix2 r (wide (i 1)))) 3 (i 0) := by
  simp only [val_main_v4, val_main_v2, val_main_v1, val_main_cst_0, val_main_cst, val_main_v0]
  simp only [pointwise]
  exact ref_back x i 3 _ _ _ (by simp) (by intro h; simp at h ⊢; omega) (by intro h; simp)

open Cert.RConvBwdIdeal.Read in
theorem part0 (x : S4096x8320.Idx → EReal) (d : S4096x3072.Idx → EReal) (w : S4x3072.Idx → EReal) (hd : ∀ i, d i < ⊤ ∧ ⊥ < d i) (r : Fin 4096) (c : Fin 3072) :
    val_main_v43 (F := Ideal) x d w (ix2 (⟨3 + r.val, by omega⟩ : Fin 4099) c) = grad x d w c (r.val + 0) * w (ix2 3 c) := by
  have hf : ∀ q : Fin 4096, val_main_v39 (F := Ideal) x d w (ix2 q c) = grad x d w c q.val * w (ix2 3 c) := by
    intro q
    rw [val_main_v39_apply]
    refine mul2 (ref_grad x d w hd (ix2 q c)) ?_
    simp only [val_main_v38, val_main_v29, val_main_v28, val_main_v27]
    simp only [pointwise]
    exact ref_tap w (ix2 q c) 3 _ (by simp)
  exact shove 3 0 (by omega) _ hf (fun r h => grad_late x d w c r h) _ _ _ (by simp only [val_main_cst_5]; simp only [pointwise]) r

open Cert.RConvBwdIdeal.Read in
theorem part1 (x : S4096x8320.Idx → EReal) (d : S4096x3072.Idx → EReal) (w : S4x3072.Idx → EReal) (hd : ∀ i, d i < ⊤ ∧ ⊥ < d i) (r : Fin 4096) (c : Fin 3072) :
    val_main_v53 (F := Ideal) x d w (ix2 (⟨3 + r.val, by omega⟩ : Fin 4099) c) = grad x d w c (r.val + 1) * w (ix2 2 c) := by
  have hf : ∀ q : Fin 4096, val_main_v48 (F := Ideal) x d w (ix2 q c) = grad x d w c q.val * w (ix2 2 c) := by
    intro q
    rw [val_main_v48_apply]
    refine mul2 (ref_grad x d w hd (ix2 q c)) ?_
    simp only [val_main_v47, val_main_v22, val_main_v21, val_main_v20]
    simp only [pointwise]
    exact ref_tap w (ix2 q c) 2 _ (by simp)
  exact shove 2 1 (by omega) _ hf (fun r h => grad_late x d w c r h) _ _ _ (by simp only [val_main_cst_9]; simp only [pointwise]) r

open Cert.RConvBwdIdeal.Read in
theorem part2 (x : S4096x8320.Idx → EReal) (d : S4096x3072.Idx → EReal) (w : S4x3072.Idx → EReal) (hd : ∀ i, d i < ⊤ ∧ ⊥ < d i) (r : Fin 4096) (c : Fin 3072) :
    val_main_v64 (F := Ideal) x d w (ix2 (⟨3 + r.val, by omega⟩ : Fin 4099) c) = grad x d w c (r.val + 2) * w (ix2 1 c) := by
  have hf : ∀ q : Fin 4096, val_main_v59 (F := Ideal) x d w (ix2 q c) = grad x d w c q.val * w (ix2 1 c) := by
    intro q
    rw [val_main_v59_apply]
    refine mul2 (ref_grad x d w hd (ix2 q c)) ?_
    simp only [val_main_v58, val_main_v15, val_main_v14, val_main_v13]
    simp only [pointwise]
    exact ref_tap w (ix2 q c) 1 _ (by simp)
  exact shove 1 2 (by omega) _ hf (fun r h => grad_late x d w c r h) _ _ _ (by simp only [val_main_cst_13]; simp only [pointwise]) r

open Cert.RConvBwdIdeal.Read in
theorem part3 (x : S4096x8320.Idx → EReal) (d : S4096x3072.Idx → EReal) (w : S4x3072.Idx → EReal) (hd : ∀ i, d i < ⊤ ∧ ⊥ < d i) (r : Fin 4096) (c : Fin 3072) :
    val_main_v75 (F := Ideal) x d w (ix2 (⟨3 + r.val, by omega⟩ : Fin 4099) c) = grad x d w c (r.val + 3) * w (ix2 0 c) := by
  have hf : ∀ q : Fin 4096, val_main_v70 (F := Ideal) x d w (ix2 q c) = grad x d w c q.val * w (ix2 0 c) := by
    intro q
    rw [val_main_v70_apply]
    refine mul2 (ref_grad x d w hd (ix2 q c)) ?_
    simp only [val_main_v69, val_main_v7, val_main_v6, val_main_v5]
    simp only [pointwise]
    exact ref_tap w (ix2 q c) 0 _ (by simp)
  exact shove 0 3 (by omega) _ hf (fun r h => grad_late x d w c r h) _ _ _ (by simp only [val_main_cst_17]; simp only [pointwise]) r

open Cert.RConvBwdIdeal.Read in
/-- The reference's gradient by the projection, index by index. -/
theorem ref_dx (x : S4096x8320.Idx → EReal) (d : S4096x3072.Idx → EReal) (w : S4x3072.Idx → EReal) (o : S4096x8320.Idx → EReal) (hd : ∀ i, d i < ⊤ ∧ ⊥ < d i) :
    val_main_v81 (F := Ideal) x d w o = dproj x d w o := by
  have key : ∀ (r : Fin 4096) (c : Fin 3072), val_main_v76 (F := Ideal) x d w (ix2 (⟨3 + r.val, by omega⟩ : Fin 4099) c) = spread (grad x d w c) (fun j => w (ix2 j c)) r.val := by
    intro r c
    have e : val_main_v76 (F := Ideal) x d w (ix2 (⟨3 + r.val, by omega⟩ : Fin 4099) c) = grad x d w c (r.val + 0) * w (ix2 3 c) + grad x d w c (r.val + 1) * w (ix2 2 c) + grad x d w c (r.val + 2) * w (ix2 1 c) + grad x d w c (r.val + 3) * w (ix2 0 c) :=
      sum4 (part0 x d w hd r c) (part1 x d w hd r c) (part2 x d w hd r c) (part3 x d w hd r c)
    rw [e]
    unfold spread
    rw [add_comm, add_comm (_ + _) (grad x d w c (r.val + 2) * w (ix2 1 c)), add_comm (grad x d w c (r.val + 0) * w (ix2 3 c)), ← add_assoc, ← add_assoc]
    rfl
  funext i
  simp only [val_main_v81, val_main_v80, val_main_v79, val_main_v78]
  obtain ⟨r, b, rfl⟩ : ∃ (r : Fin 4096) (b : Fin 8320), i = ix2 r b := ⟨i 0, i 1, eq_ix2 i⟩
  simp only [pointwise]
  by_cases h : b.val < 3072
  · refine (dif_pos h).trans (Eq.trans ?_ (if_pos (show b.val / 128 < 24 by omega)).symm)
    refine Eq.trans ?_ (key r (narrow b))
    refine congrArg _ (congrArg₂ ix2 (Fin.ext ?_) (Fin.ext ?_))
    · simp
    · show 0 + b.val = b.val % 3072
      omega
  · refine (dif_neg h).trans (Eq.trans ?_ (if_neg (show ¬ b.val / 128 < 24 by omega)).symm)
    refine congrArg o (congrArg₂ ix2 (Fin.ext ?_) (Fin.ext ?_))
    · simp
    · show 3072 + (b.val - 3072) = b.val
      omega

open Cert.RConvBwdIdeal.Read in
theorem total0 (x : S4096x8320.Idx → EReal) (d : S4096x3072.Idx → EReal) (w : S4x3072.Idx → EReal) (hd : ∀ i, d i < ⊤ ∧ ⊥ < d i) (q : Fin 4) (c : Fin 3072) :
    val_main_v42 (F := Ideal) x d w (ix2 q c) = if q.val = 3 then ∑ r : Fin 4096, grad x d w c r.val * back (fun r => x (ix2 r (wide c))) 0 r else 0 := by
  refine (place 3 0 (by omega) _ _ _ _ (by simp only [val_main_cst_4]; simp only [pointwise]) q c).trans ?_
  refine if_congr Iff.rfl ?_ rfl
  simp only [val_main_v41, val_main_v40, val_main_v37, val_main_v36, val_main_cst_3, val_main_cst_2]
  have hf : ∀ r : Fin 4096, val_main_v35 (F := Ideal) x d w (ix2 r c) = grad x d w c r.val * back (fun r => x (ix2 r (wide c))) 0 r := by
    intro r
    rw [val_main_v35_apply]
    exact (mul2 (ref_back0 x (ix2 r c)) (ref_grad x d w hd (ix2 r c))).trans (mul_comm _ _)
  generalize val_main_v35 (F := Ideal) x d w = g at hf ⊢
  simp only [pointwise, zero_add]
  exact (Fin.sum_univ_one _).trans (Finset.sum_congr rfl fun r _ => hf r)

open Cert.RConvBwdIdeal.Read in
theorem total1 (x : S4096x8320.Idx → EReal) (d : S4096x3072.Idx → EReal) (w : S4x3072.Idx → EReal) (hd : ∀ i, d i < ⊤ ∧ ⊥ < d i) (q : Fin 4) (c : Fin 3072) :
    val_main_v51 (F := Ideal) x d w (ix2 q c) = if q.val = 2 then ∑ r : Fin 4096, grad x d w c r.val * back (fun r => x (ix2 r (wide c))) 1 r else 0 := by
  refine (place 2 1 (by omega) _ _ _ _ (by simp only [val_main_cst_8]; simp only [pointwise]) q c).trans ?_
  refine if_congr Iff.rfl ?_ rfl
  simp only [val_main_v50, val_main_v49, val_main_v46, val_main_v45, val_main_cst_7, val_main_cst_6]
  have hf : ∀ r : Fin 4096, val_main_v44 (F := Ideal) x d w (ix2 r c) = grad x d w c r.val * back (fun r => x (ix2 r (wide c))) 1 r := by
    intro r
    rw [val_main_v44_apply]
    exact (mul2 (ref_back1 x (ix2 r c)) (ref_grad x d w hd (ix2 r c))).trans (mul_comm _ _)
  generalize val_main_v44 (F := Ideal) x d w = g at hf ⊢
  simp only [pointwise, zero_add]
  exact (Fin.sum_univ_one _).trans (Finset.sum_congr rfl fun r _ => hf r)

open Cert.RConvBwdIdeal.Read in
theorem total2 (x : S4096x8320.Idx → EReal) (d : S4096x3072.Idx → EReal) (w : S4x3072.Idx → EReal) (hd : ∀ i, d i < ⊤ ∧ ⊥ < d i) (q : Fin 4) (c : Fin 3072) :
    val_main_v62 (F := Ideal) x d w (ix2 q c) = if q.val = 1 then ∑ r : Fin 4096, grad x d w c r.val * back (fun r => x (ix2 r (wide c))) 2 r else 0 := by
  refine (place 1 2 (by omega) _ _ _ _ (by simp only [val_main_cst_12]; simp only [pointwise]) q c).trans ?_
  refine if_congr Iff.rfl ?_ rfl
  simp only [val_main_v61, val_main_v60, val_main_v57, val_main_v56, val_main_cst_11, val_main_cst_10]
  have hf : ∀ r : Fin 4096, val_main_v55 (F := Ideal) x d w (ix2 r c) = grad x d w c r.val * back (fun r => x (ix2 r (wide c))) 2 r := by
    intro r
    rw [val_main_v55_apply]
    exact (mul2 (ref_back2 x (ix2 r c)) (ref_grad x d w hd (ix2 r c))).trans (mul_comm _ _)
  generalize val_main_v55 (F := Ideal) x d w = g at hf ⊢
  simp only [pointwise, zero_add]
  exact (Fin.sum_univ_one _).trans (Finset.sum_congr rfl fun r _ => hf r)

open Cert.RConvBwdIdeal.Read in
theorem total3 (x : S4096x8320.Idx → EReal) (d : S4096x3072.Idx → EReal) (w : S4x3072.Idx → EReal) (hd : ∀ i, d i < ⊤ ∧ ⊥ < d i) (q : Fin 4) (c : Fin 3072) :
    val_main_v73 (F := Ideal) x d w (ix2 q c) = if q.val = 0 then ∑ r : Fin 4096, grad x d w c r.val * back (fun r => x (ix2 r (wide c))) 3 r else 0 := by
  refine (place 0 3 (by omega) _ _ _ _ (by simp only [val_main_cst_16]; simp only [pointwise]) q c).trans ?_
  refine if_congr Iff.rfl ?_ rfl
  simp only [val_main_v72, val_main_v71, val_main_v68, val_main_v67, val_main_cst_15, val_main_cst_14]
  have hf : ∀ r : Fin 4096, val_main_v66 (F := Ideal) x d w (ix2 r c) = grad x d w c r.val * back (fun r => x (ix2 r (wide c))) 3 r := by
    intro r
    rw [val_main_v66_apply]
    exact (mul2 (ref_back3 x (ix2 r c)) (ref_grad x d w hd (ix2 r c))).trans (mul_comm _ _)
  generalize val_main_v66 (F := Ideal) x d w = g at hf ⊢
  simp only [pointwise, zero_add]
  exact (Fin.sum_univ_one _).trans (Finset.sum_congr rfl fun r _ => hf r)

open Cert.RConvBwdIdeal.Read in
/-- The reference's gradient by the weights, index by index. -/
theorem ref_dw (x : S4096x8320.Idx → EReal) (d : S4096x3072.Idx → EReal) (w : S4x3072.Idx → EReal) (hd : ∀ i, d i < ⊤ ∧ ⊥ < d i) :
    val_main_v74 (F := Ideal) x d w = dweights x d w := by
  funext i
  obtain ⟨q, c, rfl⟩ : ∃ (q : Fin 4) (c : Fin 3072), i = ix2 q c := ⟨i 0, i 1, eq_ix2 i⟩
  refine (sum4 (total0 x d w hd q c) (total1 x d w hd q c) (total2 x d w hd q c) (total3 x d w hd q c)).trans ?_
  show _ = ∑ r : Fin 4096, grad x d w c r.val * back (fun r => x (ix2 r (wide c))) (3 - q.val) r
  match q with
  | 0 => simp
  | 1 => simp
  | 2 => simp
  | 3 => simp

open Cert.RConvBwdIdeal.Read in
/-- The kernel and the reference leave the same two gradients. -/
theorem algebraic : Cert.algebraic_KConvBwdIdeal_RConvBwdIdeal_pre_finite_gradient := fun m ρ m' ρ' hpre hag =>
  ⟨fun c => dproj (m ((c : Thread nD τ).loc main_arg0)) (m ((c : Thread nD τ).loc main_arg1)) (m ((c : Thread nD τ).loc main_arg2)) (m ((c : Thread nD τ).loc main_arg3)),
    fun c => dweights (m ((c : Thread nD τ).loc main_arg0)) (m ((c : Thread nD τ).loc main_arg1)) (m ((c : Thread nD τ).loc main_arg2)),
    (θ_run _ _ _).mono (fun _ h c => ⟨(h c).1.trans (final_dx m c), (h c).2.1.trans (final_dw m c), (h c).2.2⟩) (Value.run_blocks m ρ),
    (θ_run _ _ _).mono (fun _ h c => ⟨(h c).1.trans ((val_main_v81_eq _ _).trans (by
        rw [(hag c).1, (hag c).2.1, (hag c).2.2.1, (hag c).2.2.2]; exact ref_dx _ _ _ _ (finite_at _ _ _ _ (hpre c)))),
      (h c).2.1.trans ((val_main_v74_eq _ _).trans (by
        rw [(hag c).1, (hag c).2.1, (hag c).2.2.1]; exact ref_dw _ _ _ (finite_at _ _ _ _ (hpre c)))), (h c).2.2⟩)
      (Cert.RConvBwdIdeal.Value.run m' ρ')⟩

end Cert.KConvBwdIdeal.ConvBwd

end
-- ==== Proof.InProj.lean ====
module

public import proofs.«01_k».proof.Defs
public import proofs.«01_k».proof.Proof.Gen.KInProjIdeal.Value
public import proofs.«01_k».proof.Proof.Gen.RInProjIdeal.Run
public import proofs.«01_k».proof.Proof.Gen.RInProjIdeal.Read
public import Idealize.ShloMosaic.Lib.Pipeline.ValueKit
public import Idealize.ShloMosaic.Lib.Pointwise
public import Idealize.ShloMosaic.Lib.Quiescent
public import proofs.«01_k».proof.Proof.SlotRead
public import Idealize.ShloMosaic.Lib.Pipeline.ReadBack

/-! The lower half of the input projection's product, added to its upper half: the matrix is streamed through a ring of
three buffers. -/

@[expose] public section

noncomputable section

open Idealize.ShloMosaic Idealize.ShloMosaic.TcCoe Idealize.SL.Sem
open Idealize.ShloMosaic.Pipeline (Dat)

namespace Cert.KInProjIdeal.InProj

open Cert.KInProjIdeal Cert.KInProjIdeal.Gen

/-- The product over the first 1024 columns of the activations. -/
def high (n : S4096x2048.Idx → EReal) (w : S2048x8320.Idx → EReal) : S4096x8320.Idx → EReal :=
  fun i => ∑ k : Fin 1024, n (ix2 (i 0) (⟨k.val, by omega⟩ : Fin 2048)) * w (ix2 (⟨k.val, by omega⟩ : Fin 2048) (i 1))

/-- The product over the last 1024 columns, and the upper half added to it. -/
def grad (n : S4096x2048.Idx → EReal) (w : S2048x8320.Idx → EReal) : S4096x8320.Idx → EReal :=
  fun i => (∑ k : Fin 1024, n (ix2 (i 0) (⟨1024 + k.val, by omega⟩ : Fin 2048)) * w (ix2 (⟨1024 + k.val, by omega⟩ : Fin 2048) (i 1))) + high n w i

variable (m : (ℓ : Loc nD τ sig) → Buf (Elt Ideal) ℓ) (ρ : Dev nD → PrngReg)

theorem e0 : ∀ t : Fin cfg0.N, win0_0.index t = ![t.val / 5, 1] := (by decide +kernel : ∀ t : Fin grid0.N, _)
theorem e1 : ∀ t : Fin cfg0.N, win0_1.index t = ![t.val / 5, t.val % 5] := (by decide +kernel : ∀ t : Fin grid0.N, _)
theorem e2 : ∀ t : Fin cfg0.N, win0_2.index t = ![t.val / 5, t.val % 5] := (by decide +kernel : ∀ t : Fin grid0.N, _)

/-- The upper half as the host lines before the call leave it. -/
theorem high_eq (c : Dev nD) : V m c main_v5 = high (m ((c : Thread nD τ).loc main_arg0)) (m ((c : Thread nD τ).loc main_arg1)) := by
  unfold V
  simp only [hostOps0, List.flatten_cons, List.flatten_nil, List.append_nil, List.cons_append, List.nil_append]
  after_results
  funext i
  simp only [pointwise, zero_add]
  unfold high
  simp only [Matrix.cons_val_zero, Matrix.cons_val_one, Nat.zero_add]
  rfl

theorem block_high (c : Dev nD) (t : Fin cfg0.N) :
    iblk m c 1 t = ((cfg0.win 1).blk t).view.read (Elt Ideal) (high (m ((c : Thread nD τ).loc main_arg0)) (m ((c : Thread nD τ).loc main_arg1))) :=
  congrArg _ (high_eq m c)

/-- The blocks of window 1 and of window 2 lie at the same place. -/
theorem emb_eq (t : Fin cfg0.N) (y : S1024x1664.Idx) :
    (((cfg0.win 1).blk t).view.emb y : S4096x8320.Idx) = ((cfg0.win 2).blk t).view.emb y := by
  funext a
  refine Fin.ext ?_
  show win0_1.index t a * _ + 1 * _ = win0_2.index t a * _ + 1 * _
  rw [e1 t, e2 t]

/-- A load of slot `s` of the ring, without its leading axis, reads the block that was copied into the slot. -/
theorem slot_read (s : Fin 3) (X : S1024x1664.Idx → EReal) (inb : ∀ a, (![s.val, 0, 0] : Fin 3 → Nat) a + S1x1024x1664.size a ≤ S3x1024x1664.size a)
    (f : (rslot0_0 s).view.ty.Contents (Elt Ideal)) (hc : (Rect.unit (s := S3x1024x1664) ![s.val, 0, 0] S1x1024x1664.size inb).shape.ShapeCasts S1024x1664) :
    shapeCast S1024x1664 (View.readAt (Elt Ideal) (View.whole cc0_scratch0) (Rect.unit (s := S3x1024x1664) ![s.val, 0, 0] S1x1024x1664.size inb).toLoadRect
      ((rslot0_0 s).view.writes (Elt Ideal) f [⟨Rect.whole S1024x1664, X⟩])) hc = X :=
  SlotRead.read_slot scM0_0 _ (fun _ => rfl) squeezes_S1x1024x1664_S1024x1664 hc f X

/-- Block `b` of the matrix: 1664 columns of its last 1024 rows. -/
theorem src_at (b : Fin 20) (n : Nat) (hn : b.val % 5 = n) (hlt : n < 5) (W : S2048x8320.Idx → EReal) (j : Fin 1024) (k : Fin 1664) :
    View.read (Elt Ideal) (srcB0_0 b).view W (ix2 j k) = W (ix2 (⟨1024 + j.val, by omega⟩ : Fin 2048) (⟨1664 * n + k.val, by omega⟩ : Fin 8320)) := by
  subst hn
  show W ((srcB0_0 b).view.emb (ix2 j k)) = _
  refine congrArg W (funext fun a => Fin.ext ?_)
  unfold srcB0_0
  fin_cases a
  · show 1024 + 1 * j.val = _
    simp
  · show 1664 * (b.val % 5) + 1 * k.val = _
    simp

theorem src_eq (b : Fin 20) (n : Nat) (hn : b.val % 5 = n) (hlt : n < 5) (W : S2048x8320.Idx → EReal) :
    View.read (Elt Ideal) (srcB0_0 b).view W = fun i : S1024x1664.Idx => W (ix2 (⟨1024 + (i 0).val, by have := (i 0).isLt; change (i 0).val < 1024 at this; omega⟩ : Fin 2048)
      (⟨1664 * n + (i 1).val, by have := (i 1).isLt; change (i 1).val < 1664 at this; omega⟩ : Fin 8320)) := by
  funext i
  have h := src_at b n hn hlt W (i 0) (i 1)
  have e : i = ix2 (i 0) (i 1) := funext fun a => by fin_cases a <;> rfl
  exact (congrArg _ e).trans h

/-- What a point writes back, from what its slot holds. -/
theorem point (c : Dev nD) (t : Fin cfg0.N) (s : Fin 3) (hs : s.val = t.val % 3) (inb : ∀ a, (![s.val, 0, 0] : Fin 3 → Nat) a + S1x1024x1664.size a ≤ S3x1024x1664.size a)
    (f : (rslot0_0 s).view.ty.Contents (Elt Ideal)) (y : S1024x1664.Idx) :
    k0_pay2 (F := Ideal) (iblk m c 0 t) (View.readAt (Elt Ideal) (View.whole cc0_scratch0) (Rect.unit (s := S3x1024x1664) ![s.val, 0, 0] S1x1024x1664.size inb).toLoadRect
      ((rslot0_0 s).view.writes (Elt Ideal) f
          [⟨Rect.whole S1024x1664, View.read (Elt Ideal) (srcB0_0 (Ring.bk 20 t.val)).view (V m c main_arg1)⟩])) (iblk m c 1 t) y
      = grad (m ((c : Thread nD τ).loc main_arg0)) (m ((c : Thread nD τ).loc main_arg1)) (((cfg0.win 2).blk t).view.emb y) := by
  unfold_payloads
  rw [block_high, slot_read, src_eq (Ring.bk 20 t.val) (t.val % 5) (by show (t.val % 20) % 5 = _; omega) (by omega)]
  simp only [pointwise, zero_add]
  unfold grad
  refine congrArg₂ (· + ·) ?_ (congrArg (high _ _) (emb_eq t y))
  blk_point [iblk, V, e0 t, e1 t, e2 t]

/-- What the call leaves in the array of window 2. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have hN : t.val < 20 := lt_of_lt_of_eq t.isLt N_0
  have hsl : ∀ s : Fin 3, t.val % 3 = s.val → Fin.ofNat 3 t.val = s := fun s h => Fin.ext h
  blk_simp
  rw [after0_2]
  by_cases h0 : t.val % 20 = 0
  · rw [outsAt0_A m c t h0 (by omega) (by omega) (by omega) (by omega)]
    frame_out
    rw [hsl 0 (by show _ = 0; omega)]
    exact point m c t 0 (by show 0 = _; omega) _ _ y
  · by_cases h1 : t.val < 18
    · rcases (by omega : t.val % 3 = 0 ∨ t.val % 3 = 1 ∨ t.val % 3 = 2) with h2 | h2 | h2
      · rw [outsAt0_D m c t h0 (by omega) (by omega) (by omega) (by omega)]
        frame_out
        rw [hsl 0 (by show _ = 0; omega)]
        exact point m c t 0 (by show 0 = _; omega) _ _ y
      · rw [outsAt0_B m c t h0 (by omega) (by omega) (by omega) (by omega)]
        frame_out
        rw [hsl 1 (by show _ = 1; omega)]
        exact point m c t 1 (by show 1 = _; omega) _ _ y
      · rw [outsAt0_C m c t h0 (by omega) (by omega) (by omega) (by omega)]
        frame_out
        rw [hsl 2 (by show _ = 2; omega)]
        exact point m c t 2 (by show 2 = _; omega) _ _ y
    · rcases (by omega : t.val % 3 = 0 ∨ t.val % 3 = 1) with h2 | h2
      · rw [outsAt0_E m c t h0 (by omega) (by omega) (by omega) (by omega)]
        frame_out
        rw [hsl 0 (by show _ = 0; omega)]
        exact point m c t 0 (by show 0 = _; omega) _ _ y
      · rw [outsAt0_F m c t h0 (by omega) (by omega) (by omega) (by omega)]
        frame_out
        rw [hsl 1 (by show _ = 1; omega)]
        exact point m c t 1 (by show 1 = _; omega) _ _ y

open Cert.RInProjIdeal.Read in
/-- The reference's result, index by index. -/
theorem ref_eq (n : S4096x2048.Idx → EReal) (w : S2048x8320.Idx → EReal) : val_main_v2 (F := Ideal) n w = grad n w := by
  funext i
  simp only [val_main_v2, val_main_v1, val_main_v0]
  simp only [pointwise, zero_add]
  unfold grad high
  rw [add_comm]
  exact Fin.sum_univ_add (a := 1024) (b := 1024) (fun k : Fin (1024 + 1024) => n (ix2 (i 0) k) * w (ix2 k (i 1)))

open Cert.RInProjIdeal.Read in
/-- From memories that agree on the arguments the call and the reference leave equal results. -/
theorem algebraic : Cert.algebraic_KInProjIdeal_RInProjIdeal :=
  fun m ρ m' ρ' _ hag => ⟨fun c => grad (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by
        rw [(hag c).1, (hag c).2]; exact (val_main_v2_eq _ _).trans (ref_eq _ _)), (h c).2⟩)
      (Cert.RInProjIdeal.Value.run m' ρ')⟩

end Cert.KInProjIdeal.InProj

end
-- ==== Proof.InHigh.lean ====
module

public import proofs.«01_k».proof.Defs
public import proofs.«01_k».proof.Proof.Gen.KInHighIdeal.Value
public import proofs.«01_k».proof.Proof.Gen.RInHighIdeal.Run
public import proofs.«01_k».proof.Proof.Gen.RInHighIdeal.Read
public import Idealize.ShloMosaic.Lib.Pipeline.ValueKit
public import Idealize.ShloMosaic.Lib.Pointwise
public import Idealize.ShloMosaic.Lib.Quiescent

/-! The first half of the input projection. -/

@[expose] public section

noncomputable section

open Idealize.ShloMosaic Idealize.ShloMosaic.TcCoe Idealize.SL.Sem
open Idealize.ShloMosaic.Pipeline (Dat)

namespace Cert.KInHighIdeal.InHigh

open Cert.KInHighIdeal Cert.KInHighIdeal.Gen

def proj (n : S4096x2048.Idx → EReal) (w : S2048x8320.Idx → EReal) : S4096x8320.Idx → EReal :=
  fun i => ∑ k : Fin 1024, n (ix2 (i 0) (⟨k.val, by omega⟩ : Fin 2048)) * w (ix2 (⟨k.val, by omega⟩ : Fin 2048) (i 1))

variable (m : (ℓ : Loc nD τ sig) → Buf (Elt Ideal) ℓ) (ρ : Dev nD → PrngReg)

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- What the call leaves in the array of window 2. -/
theorem final (c : Dev nD) : (dats m 0 c).arrAt 2 cfg0.N = proj (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  simp only [pointwise, zero_add]
  unfold proj
  blk_point [iblk, V, e0 t, e1 t, e2 t]

open Cert.RInHighIdeal.Read in
/-- The reference's result, index by index. -/
theorem ref_eq (n : S4096x2048.Idx → EReal) (w : S2048x8320.Idx → EReal) : val_main_v5 (F := Ideal) n w = proj n w := by
  funext i
  simp only [val_main_v5, val_main_v4, val_main_v3, val_main_v2, val_main_v1, val_main_v0]
  simp only [pointwise, zero_add]
  unfold proj
  refine Finset.sum_congr rfl fun k _ => ?_
  simp only [Matrix.cons_val_zero, Matrix.cons_val_one, Nat.zero_add]
  rfl

open Cert.RInHighIdeal.Read in
/-- From memories that agree on the arguments the call and the reference leave equal results. -/
theorem algebraic : Cert.algebraic_KInHighIdeal_RInHighIdeal :=
  fun m ρ m' ρ' _ hag => ⟨fun c => proj (m ((c : Thread nD τ).loc main_arg0)) (m ((c : Thread nD τ).loc main_arg1)),
    (θ_run _ _ _).mono (fun _ h c => ⟨(h c).1.trans (final m c), (h c).2⟩) (Value.run_blocks m ρ),
    (θ_run _ _ _).mono (fun _ h c => ⟨(h c).1.trans (by
        rw [(hag c).1, (hag c).2]; exact (val_main_v5_eq _ _).trans (ref_eq _ _)), (h c).2⟩)
      (Cert.RInHighIdeal.Value.run m' ρ')⟩

end Cert.KInHighIdeal.InHigh

end
-- ==== Proof.OutProj.lean ====
module

public import proofs.«01_k».proof.Defs
public import proofs.«01_k».proof.Proof.Gen.KOutProjIdeal.Value
public import proofs.«01_k».proof.Proof.Gen.ROutProjIdeal.Run
public import proofs.«01_k».proof.Proof.Gen.ROutProjIdeal.Read
public import Idealize.ShloMosaic.Lib.Pipeline.ValueKit
public import Idealize.ShloMosaic.Lib.Pointwise
public import Idealize.ShloMosaic.Lib.Quiescent

/-! The output projection added to the rows, its root-mean-square norm, and the reciprocal root of the norm. -/

@[expose] public section

noncomputable section

open Idealize.ShloMosaic Idealize.ShloMosaic.TcCoe Idealize.SL.Sem
open Idealize.ShloMosaic.Pipeline (Dat)

namespace Cert.KOutProjIdeal.OutProj

open Cert.KOutProjIdeal Cert.KOutProjIdeal.Gen

/-- The rows and the output projection. -/
def res (y : S4096x2048.Idx → EReal) (p : S2048x2048.Idx → EReal) (x : S4096x2048.Idx → EReal) : S4096x2048.Idx → EReal :=
  fun i => x i + ∑ k : Fin 2048, y (ix2 (i 0) k) * p (ix2 k (i 1))

/-- The mean square of a row and the small constant. -/
def ms (h : S4096x2048.Idx → EReal) (r : Fin 4096) : EReal :=
  Ideal.div (∑ k : Fin 2048, h (ix2 r k) * h (ix2 r k)) (Ideal.ofBits .f32 0x45000000#32) + Ideal.ofBits .f32 0x358637BD#32

/-- The reciprocal root of every row. -/
def root (h : S4096x2048.Idx → EReal) : S4096x1.Idx → EReal :=
  fun i => Ideal.rsqrt (ms h (i 0))

/-- The rows, each multiplied by its reciprocal root, and the weights. -/
def norm (h : S4096x2048.Idx → EReal) (w : S1x2048.Idx → EReal) : S4096x2048.Idx → EReal :=
  fun i => h i * Ideal.rsqrt (ms h (i 0)) * w (ix2 (0 : Fin 1) (i 1))

variable (m : (ℓ : Loc nD τ sig) → Buf (Elt Ideal) ℓ) (ρ : Dev nD → PrngReg)

/-- The rows and the output projection, of the arguments. -/
def hid (c : Dev nD) : S4096x2048.Idx → EReal :=
  res (m ((c : Thread nD τ).loc main_arg0)) (m ((c : Thread nD τ).loc main_arg1)) (m ((c : Thread nD τ).loc main_arg2))

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

/-- What the call leaves in the array of window 4. -/
theorem final_h (c : Dev nD) : (dats m 0 c).arrAt 4 cfg0.N = hid m c := by
  refine (dats m 0 c).arrAt_eq_of_covers 4 _ (by decide +kernel) fun t hf y => ?_
  blk_simp
  rw [after0_4]
  frame_out
  unfold_payloads
  simp only [pointwise, zero_add, Nat.reduceEqDiff, OfNat.ofNat_ne_one, ↓reduceDIte]
  unfold hid res
  blk_point [iblk, V, e0 t, e1 t, e2 t, e3 t, e4 t, e5 t, e6 t]

/-- What the call leaves in the array of window 6. -/
theorem final_r (c : Dev nD) : (dats m 0 c).arrAt 6 cfg0.N = root (hid m c) := by
  refine (dats m 0 c).arrAt_eq_of_covers 6 _ (by decide +kernel) fun t hf y => ?_
  blk_simp
  rw [after0_6]
  frame_out
  unfold_payloads
  simp only [pointwise, zero_add, Nat.reduceEqDiff, OfNat.ofNat_ne_one, ↓reduceDIte]
  unfold root ms hid res
  blk_point [iblk, V, e0 t, e1 t, e2 t, e3 t, e4 t, e5 t, e6 t]

/-- What the call leaves in the array of window 5. -/
theorem final_n (c : Dev nD) : (dats m 0 c).arrAt 5 cfg0.N = norm (hid m c) (m ((c : Thread nD τ).loc main_arg3)) := by
  refine (dats m 0 c).arrAt_eq_of_covers 5 _ (by decide +kernel) fun t hf y => ?_
  blk_simp
  rw [after0_5]
  frame_out
  unfold_payloads
  simp only [pointwise, zero_add, Nat.reduceEqDiff, OfNat.ofNat_ne_one, ↓reduceDIte]
  unfold norm ms hid res
  blk_point [iblk, V, e0 t, e1 t, e2 t, e3 t, e4 t, e5 t, e6 t]

open Cert.ROutProjIdeal.Read in
/-- The reference's result, index by index. -/
theorem ref_h (y : S4096x2048.Idx → EReal) (p : S2048x2048.Idx → EReal) (x : S4096x2048.Idx → EReal) : val_main_v3 (F := Ideal) y p x = res y p x := by
  funext i
  simp only [val_main_v3, val_main_v2, val_main_v1, val_main_v0]
  simp only [pointwise, zero_add, Nat.reduceEqDiff, OfNat.ofNat_ne_one, ↓reduceDIte]
  unfold res
  rfl

open Cert.ROutProjIdeal.Read in
/-- The reference's result, index by index. -/
theorem ref_r (y : S4096x2048.Idx → EReal) (p : S2048x2048.Idx → EReal) (x : S4096x2048.Idx → EReal) : val_main_v11 (F := Ideal) y p x = root (res y p x) := by
  funext i
  simp only [val_main_v11, val_main_v10, val_main_v9, val_main_v8, val_main_v7, val_main_v6, val_main_v5, val_main_v4, val_main_cst, val_main_cst_0, val_main_cst_1, ref_h]
  simp only [pointwise, zero_add, Nat.reduceEqDiff, OfNat.ofNat_ne_one, ↓reduceDIte]
  unfold root ms
  rfl

open Cert.ROutProjIdeal.Read in
/-- The reference's result, index by index. -/
theorem ref_n (y : S4096x2048.Idx → EReal) (p : S2048x2048.Idx → EReal) (x : S4096x2048.Idx → EReal) (w : S1x2048.Idx → EReal) : val_main_v16 (F := Ideal) y p x w = norm (res y p x) w := by
  funext i
  simp only [val_main_v16, val_main_v15, val_main_v14, val_main_v13, val_main_v12, ref_h, ref_r]
  simp only [pointwise, zero_add, Nat.reduceEqDiff, OfNat.ofNat_ne_one, ↓reduceDIte]
  unfold norm
  rfl

open Cert.ROutProjIdeal.Read in
/-- From memories that agree on the arguments the call and the reference leave equal results. -/
theorem algebraic : Cert.algebraic_KOutProjIdeal_ROutProjIdeal :=
  fun m ρ m' ρ' _ hag => ⟨fun c => hid m c, fun c => norm (hid m c) (m ((c : Thread nD τ).loc main_arg3)), fun c => root (hid m c),
    (θ_run _ _ _).mono (fun _ h c => ⟨(h c).1.trans (final_h m c), (h c).2.1.trans (final_n m c), (h c).2.2.1.trans (final_r m c), (h c).2.2.2⟩) (Value.run_blocks m ρ),
    (θ_run _ _ _).mono (fun _ h c => ⟨(h c).1.trans (by
        rw [(hag c).1, (hag c).2.1, (hag c).2.2.1]; exact (val_main_v3_eq _ _ _).trans (ref_h _ _ _)),
      (h c).2.1.trans (by
        rw [(hag c).1, (hag c).2.1, (hag c).2.2.1, (hag c).2.2.2]; exact (val_main_v16_eq _ _ _ _).trans (ref_n _ _ _ _)),
      (h c).2.2.1.trans (by
        rw [(hag c).1, (hag c).2.1, (hag c).2.2.1]; exact (val_main_v11_eq _ _ _).trans (ref_r _ _ _)), (h c).2.2.2⟩)
      (Cert.ROutProjIdeal.Value.run m' ρ')⟩

end Cert.KOutProjIdeal.OutProj

end
-- ==== Proof.Rms.lean ====
module

public import proofs.«01_k».proof.Defs
public import proofs.«01_k».proof.Proof.Gen.KRmsIdeal.Value
public import proofs.«01_k».proof.Proof.Gen.RRmsIdeal.Run
public import proofs.«01_k».proof.Proof.Gen.RRmsIdeal.Read
public import Idealize.ShloMosaic.Lib.Pipeline.ValueKit
public import Idealize.ShloMosaic.Lib.Pointwise
public import Idealize.ShloMosaic.Lib.Quiescent

/-! The root-mean-square norm of the rows, and the reciprocal root it multiplies them by. -/

@[expose] public section

noncomputable section

open Idealize.ShloMosaic Idealize.ShloMosaic.TcCoe Idealize.SL.Sem
open Idealize.ShloMosaic.Pipeline (Dat)

namespace Cert.KRmsIdeal.Rms

open Cert.KRmsIdeal Cert.KRmsIdeal.Gen

/-- The mean square of a row and the small constant. -/
def ms (x : S4096x2048.Idx → EReal) (r : Fin 4096) : EReal :=
  Ideal.div (∑ k : Fin 2048, x (ix2 r k) * x (ix2 r k)) (Ideal.ofBits .f32 0x45000000#32) + Ideal.ofBits .f32 0x358637BD#32

/-- The reciprocal root of every row. -/
def root (x : S4096x2048.Idx → EReal) : S4096x1.Idx → EReal :=
  fun i => Ideal.rsqrt (ms x (i 0))

/-- The rows, each multiplied by its reciprocal root, and the weights. -/
def norm (x : S4096x2048.Idx → EReal) (w : S1x2048.Idx → EReal) : S4096x2048.Idx → EReal :=
  fun i => x i * Ideal.rsqrt (ms x (i 0)) * w (ix2 (0 : Fin 1) (i 1))

variable (m : (ℓ : Loc nD τ sig) → Buf (Elt Ideal) ℓ) (ρ : Dev nD → PrngReg)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

/-- What the call leaves in the array of window 3. -/
theorem final_r (c : Dev nD) : (dats m 0 c).arrAt 3 cfg0.N = root (m ((c : Thread nD τ).loc main_arg0)) := by
  refine (dats m 0 c).arrAt_eq_of_covers 3 _ (by decide +kernel) fun t hf y => ?_
  blk_simp
  rw [after0_3]
  frame_out
  unfold_payloads
  simp only [pointwise, zero_add, Nat.reduceEqDiff, OfNat.ofNat_ne_one, ↓reduceDIte]
  unfold root ms
  blk_point [iblk, V, e0 t, e1 t, e2 t, e3 t]

/-- What the call leaves in the array of window 2. -/
theorem final_n (c : Dev nD) : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  simp only [pointwise, zero_add, Nat.reduceEqDiff, OfNat.ofNat_ne_one, ↓reduceDIte]
  unfold norm ms
  blk_point [iblk, V, e0 t, e1 t, e2 t, e3 t]

open Cert.RRmsIdeal.Read in
/-- The reference's result, index by index. -/
theorem ref_r (x : S4096x2048.Idx → EReal) : val_main_v20 (F := Ideal) x = root x := by
  funext i
  simp only [val_main_v20, val_main_v19, val_main_v18, val_main_v17, val_main_v16, val_main_v15, val_main_v14, val_main_v13, val_main_cst_2, val_main_cst_3, val_main_cst_4]
  simp only [pointwise, zero_add, Nat.reduceEqDiff, OfNat.ofNat_ne_one, ↓reduceDIte]
  unfold root ms
  rfl

open Cert.RRmsIdeal.Read in
/-- The reference's result, index by index. -/
theorem ref_n (x : S4096x2048.Idx → EReal) (w : S1x2048.Idx → EReal) : val_main_v12 (F := Ideal) x w = norm x w := by
  funext i
  simp only [val_main_v12, val_main_v11, val_main_v10, val_main_v9, val_main_v8, val_main_v7, val_main_v6, val_main_v5, val_main_v4, val_main_v3, val_main_v2, val_main_v1, val_main_v0, val_main_cst, val_main_cst_0, val_main_cst_1]
  simp only [pointwise, zero_add, Nat.reduceEqDiff, OfNat.ofNat_ne_one, ↓reduceDIte]
  unfold norm ms
  rfl

open Cert.RRmsIdeal.Read in
/-- From memories that agree on the arguments the call and the reference leave equal results. -/
theorem algebraic : Cert.algebraic_KRmsIdeal_RRmsIdeal :=
  fun m ρ m' ρ' _ hag => ⟨fun c => norm (m ((c : Thread nD τ).loc main_arg0)) (m ((c : Thread nD τ).loc main_arg1)), fun c => root (m ((c : Thread nD τ).loc main_arg0)),
    (θ_run _ _ _).mono (fun _ h c => ⟨(h c).1.trans (final_n m c), (h c).2.1.trans (final_r m c), (h c).2.2⟩) (Value.run_blocks m ρ),
    (θ_run _ _ _).mono (fun _ h c => ⟨(h c).1.trans (by
        rw [(hag c).1, (hag c).2]; exact (val_main_v12_eq _ _).trans (ref_n _ _)),
      (h c).2.1.trans (by
        rw [(hag c).1]; exact (val_main_v20_eq _).trans (ref_r _)), (h c).2.2⟩)
      (Cert.RRmsIdeal.Value.run m' ρ')⟩

end Cert.KRmsIdeal.Rms

end
-- ==== Proof.Loss.lean ====
module

public import proofs.«01_k».proof.Defs
public import proofs.«01_k».proof.Proof.Gen.KLossIdeal.Value
public import proofs.«01_k».proof.Proof.Gen.RLossIdeal.Run
public import proofs.«01_k».proof.Proof.Gen.RLossIdeal.Read
public import Idealize.ShloMosaic.Lib.Pipeline.ValueKit
public import Idealize.ShloMosaic.Lib.Pointwise
public import Idealize.ShloMosaic.Lib.Quiescent
public import Idealize.ShloMosaic.Lib.Pipeline.ReadBack
public import proofs.«01_k».proof.Proof.NormGrad

/-! The second feed-forward product, the last norm and the squared error, and the gradient of the loss by the rows and by
the weights of the norm. -/

@[expose] public section

noncomputable section

open Idealize.ShloMosaic Idealize.ShloMosaic.TcCoe Idealize.SL.Sem
open Idealize.ShloMosaic.Pipeline (Dat)

namespace Cert.KLossIdeal.Loss

open Cert.KLossIdeal Cert.KLossIdeal.Gen

open Cert.NormGrad (ms norm_grad err_grad half_mean half_sum)

/-- The rows after the feed-forward layer: the rows before it and the second product. -/
def hid (a : S4096x8192.Idx → EReal) (p : S8192x2048.Idx → EReal) (x : S4096x2048.Idx → EReal) : S4096x2048.Idx → EReal :=
  fun i => x i + ∑ k : Fin 8192, a (ix2 (i 0) k) * p (ix2 k (i 1))

/-- The product over the `q`-th run of 2048 columns. -/
def kpart (a : S4096x8192.Idx → EReal) (p : S8192x2048.Idx → EReal) (r : Fin 4096) (j : Fin 2048) (q : ℕ) : EReal :=
  ∑ k : Fin 2048, a (ix2 r (Fin.ofNat 8192 (q * 2048 + k.val))) * p (ix2 (Fin.ofNat 8192 (q * 2048 + k.val)) j)

/-- Row `k` of the `b`-th run of 512 rows. -/
def row (b k : ℕ) : Fin 4096 := Fin.ofNat 4096 (b * 512 + k)

/-- The reciprocal root of a row. -/
def rt (h : S4096x2048.Idx → EReal) (r : Fin 4096) : EReal := Ideal.rsqrt (ms fun k => h (ix2 r k))

/-- The normed row. -/
def nrm (h : S4096x2048.Idx → EReal) (r : Fin 4096) (j : Fin 2048) : EReal := h (ix2 r j) * rt h r

/-- The error. -/
def err (h : S4096x2048.Idx → EReal) (w : S1x2048.Idx → EReal) (T : S4096x2048.Idx → EReal) (r : Fin 4096) (j : Fin 2048) : EReal :=
  nrm h r j * w (ix2 (0 : Fin 1) j) - T (ix2 r j)

/-- The gradient of the loss by the normed and weighted row. -/
def ge (h : S4096x2048.Idx → EReal) (w : S1x2048.Idx → EReal) (T : S4096x2048.Idx → EReal) (r : Fin 4096) (j : Fin 2048) : EReal :=
  Ideal.div (err h w T r j) (Ideal.ofBits .f32 0x45000000#32)

/-- The sum of a row's squared errors. -/
def sq (h : S4096x2048.Idx → EReal) (w : S1x2048.Idx → EReal) (T : S4096x2048.Idx → EReal) (r : Fin 4096) : EReal :=
  ∑ j : Fin 2048, err h w T r j * err h w T r j

/-- The loss of the `b`-th run of rows. -/
def lpart (h : S4096x2048.Idx → EReal) (w : S1x2048.Idx → EReal) (T : S4096x2048.Idx → EReal) (b : ℕ) : EReal :=
  Ideal.div (Ideal.ofBits .f32 0x3F000000#32 * ∑ k : Fin 512, sq h w T (row b k.val)) (Ideal.ofBits .f32 0x45000000#32)

/-- What the `b`-th run of rows adds to the gradient by the weights. -/
def wpart (h : S4096x2048.Idx → EReal) (w : S1x2048.Idx → EReal) (T : S4096x2048.Idx → EReal) (j : Fin 2048) (b : ℕ) : EReal :=
  ∑ k : Fin 512, ge h w T (row b k.val) j * nrm h (row b k.val) j

/-- The loss. -/
def loss (h : S4096x2048.Idx → EReal) (w : S1x2048.Idx → EReal) (T : S4096x2048.Idx → EReal) : S1x1.Idx → EReal :=
  fun _ => Ideal.ofBits .f32 0x3F000000#32 * ∑ r : Fin 4096, Ideal.div (sq h w T r) (Ideal.ofBits .f32 0x45000000#32)

/-- The gradient of the loss by the rows. -/
def dh (h : S4096x2048.Idx → EReal) (w : S1x2048.Idx → EReal) (T : S4096x2048.Idx → EReal) : S4096x2048.Idx → EReal :=
  fun i => rt h (i 0) * (ge h w T (i 0) (i 1) * w (ix2 (0 : Fin 1) (i 1))
    - nrm h (i 0) (i 1) * Ideal.div (∑ k : Fin 2048, ge h w T (i 0) k * w (ix2 (0 : Fin 1) k) * nrm h (i 0) k) (Ideal.ofBits .f32 0x45000000#32))

/-- The gradient of the loss by the weights. -/
def dw (h : S4096x2048.Idx → EReal) (w : S1x2048.Idx → EReal) (T : S4096x2048.Idx → EReal) : S1x2048.Idx → EReal :=
  fun i => ∑ r : Fin 4096, ge h w T r (i 1) * nrm h r (i 1)

variable (m : (ℓ : Loc nD τ sig) → Buf (Elt Ideal) ℓ) (ρ : Dev nD → PrngReg)

/-- The rows before the feed-forward layer. -/
def X (c : Dev nD) : S4096x2048.Idx → EReal := m ((c : Thread nD τ).loc main_arg2)

/-- The rows after the feed-forward layer, of the arguments. -/
def H (c : Dev nD) : S4096x2048.Idx → EReal :=
  hid (m ((c : Thread nD τ).loc main_arg0)) (m ((c : Thread nD τ).loc main_arg1)) (m ((c : Thread nD τ).loc main_arg2))

theorem e0 : ∀ t : Fin cfg0.N, win0_0.index t = ![t.val / 4, t.val % 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 4, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val / 4, 0] := (by decide +kernel : ∀ t : Fin grid0.N, _)
theorem e7 : ∀ t : Fin cfg0.N, win0_7.index t = ![0, 0] := (by decide +kernel : ∀ t : Fin grid0.N, _)

theorem row_eq (t : Fin cfg0.N) (k : Fin 512) : row (t.val / 4) k.val = (⟨512 * (t.val / 4) + k.val, by have := lt_of_lt_of_eq t.isLt N_0; omega⟩ : Fin 4096) := by
  have := lt_of_lt_of_eq t.isLt N_0
  exact Fin.ext (by show ((t.val / 4) * 512 + k.val) % 4096 = 512 * (t.val / 4) + k.val; omega)

theorem col_eq (t : Fin cfg0.N) (k : Fin 2048) : Fin.ofNat 8192 (t.val % 4 * 2048 + k.val) = (⟨2048 * (t.val % 4) + k.val, by omega⟩ : Fin 8192) :=
  Fin.ext (by show (t.val % 4 * 2048 + k.val) % 8192 = 2048 * (t.val % 4) + k.val; omega)

/-- The first point of a run of rows takes the rows before the layer. -/
theorem pay3_eq (c : Dev nD) (t : Fin cfg0.N) (y : S512x2048.Idx) :
    k0_pay3 (F := Ideal) (iblk m c 2 t) y = X m c (ix2 (row (t.val / 4) (y 0).val) (y 1)) := by
  rw [row_eq t (y 0)]
  unfold_payloads
  simp only [pointwise, zero_add, Nat.reduceEqDiff, OfNat.ofNat_ne_one, ↓reduceDIte]
  unfold X
  blk_point [iblk, V, e2 t]

/-- Every point adds its part of the product. -/
theorem pay4_eq (c : Dev nD) (t : Fin cfg0.N) (v : S512x2048.Idx → EReal) (y : S512x2048.Idx) :
    k0_pay4 (F := Ideal) v (iblk m c 0 t) (iblk m c 1 t) y
      = v y + kpart (m ((c : Thread nD τ).loc main_arg0)) (m ((c : Thread nD τ).loc main_arg1)) (row (t.val / 4) (y 0).val) (y 1) (t.val % 4) := by
  rw [row_eq t (y 0)]
  unfold kpart
  simp only [col_eq t]
  unfold_payloads
  simp only [pointwise, zero_add, Nat.reduceEqDiff, OfNat.ofNat_ne_one, ↓reduceDIte]
  blk_point [iblk, V, e0 t, e1 t]

/-- What the accumulator holds after a point. -/
theorem acc (c : Dev nD) (n : ℕ) (hn : n < cfg0.N) (y : S512x2048.Idx) : (outsAt0 m c n hn).2.2.2 y
    = X m c (ix2 (row (n / 4) (y 0).val) (y 1))
      + ∑ q ∈ Finset.range (n % 4 + 1), kpart (m ((c : Thread nD τ).loc main_arg0)) (m ((c : Thread nD τ).loc main_arg1)) (row (n / 4) (y 0).val) (y 1) q := by
  induction n with
  | zero =>
    rw [outsAt0_A m c ⟨0, hn⟩ rfl rfl (by show ¬ 0 % 4 = 3; decide)]
    frame_out
    rw [pay4_eq m c ⟨0, hn⟩, pay3_eq m c ⟨0, hn⟩]
    exact congrArg (_ + ·) (Finset.sum_range_one _).symm
  | succ n ih =>
    have hlt := lt_of_lt_of_eq hn N_0
    by_cases h4 : (n + 1) % 4 = 0
    · have e : (outsAt0 m c (n + 1) hn).2.2.2 = k0_pay4 (F := Ideal) (k0_pay3 (iblk m c 2 ⟨n + 1, hn⟩)) (iblk m c 0 ⟨n + 1, hn⟩) (iblk m c 1 ⟨n + 1, hn⟩) := by
        rw [outsAt0_D m c ⟨n + 1, hn⟩ (by show ¬ (n + 1) % 32 = 0; omega) h4 (by show ¬ (n + 1) % 4 = 3; omega)]
        frame_out
      rw [e, pay4_eq m c ⟨n + 1, hn⟩, pay3_eq m c ⟨n + 1, hn⟩]
      dsimp only
      rw [h4]
      exact congrArg (_ + ·) (Finset.sum_range_one _).symm
    · have e : (outsAt0 m c (n + 1) hn).2.2.2 = k0_pay4 (F := Ideal) (outsAt0 m c n (Nat.lt_of_succ_lt hn)).2.2.2 (iblk m c 0 ⟨n + 1, hn⟩) (iblk m c 1 ⟨n + 1, hn⟩) := by
        by_cases h3 : (n + 1) % 4 = 3
        · rw [outsAt0_C m c ⟨n + 1, hn⟩ (by show ¬ (n + 1) % 32 = 0; omega) h4 h3]
          frame_out
          simp only [read_unread_whole]
          rfl
        · rw [outsAt0_B m c ⟨n + 1, hn⟩ (by show ¬ (n + 1) % 32 = 0; omega) h4 h3]
          frame_out
          simp only [read_unread_whole]
          rfl
      rw [e, pay4_eq m c ⟨n + 1, hn⟩, ih (Nat.lt_of_succ_lt hn)]
      dsimp only
      rw [show (n + 1) / 4 = n / 4 by omega, show (n + 1) % 4 = n % 4 + 1 by omega, Finset.sum_range_succ _ (n % 4 + 1), ← add_assoc]

/-- The rows after the layer, as the last point of a run finds them. -/
def hblk (c : Dev nD) (b : ℕ) : S512x2048.Idx → EReal := fun y => H m c (ix2 (row b (y 0).val) (y 1))

theorem hblk_ix (c : Dev nD) (b : ℕ) (k : Fin 512) (j : Fin 2048) : hblk m c b (ix2 k j) = H m c (ix2 (row b k.val) j) := rfl

theorem hblk_at (c : Dev nD) (b : ℕ) (y : S512x2048.Idx) : hblk m c b y = H m c (ix2 (row b (y 0).val) (y 1)) := rfl

/-- After the last point of a run it holds the rows after the layer. -/
theorem acc_last (c : Dev nD) (n : ℕ) (hn : n < cfg0.N) (h3 : n % 4 = 3) : (outsAt0 m c n hn).2.2.2 = hblk m c (n / 4) := by
  funext y
  rw [acc, h3, ← Fin.sum_univ_eq_sum_range]
  refine congrArg (_ + ·) ?_
  unfold kpart
  refine Fin.sum_mul_add_congr fun s k hl => ?_
  have e : Fin.ofNat 8192 (s.val * 2048 + k.val) = (⟨s.val * 2048 + k.val, hl⟩ : Fin 8192) :=
    Fin.ext (by show (s.val * 2048 + k.val) % 8192 = _; exact Nat.mod_eq_of_lt hl)
  rw [e]
  rfl

/-- The last point of a run of rows: what it leaves. -/
theorem last (c : Dev nD) (n : ℕ) (hn : n < cfg0.N) (h3 : n % 4 = 3) :
    (outsAt0 m c n hn).1 = k0_pay9 (F := Ideal) (hblk m c (n / 4)) (iblk m c 3 ⟨n, hn⟩) (iblk m c 4 ⟨n, hn⟩) (outsAt0 m c (n - 1) (Nat.lt_of_le_of_lt (Nat.sub_le _ _) hn)).1
    ∧ (outsAt0 m c n hn).2.1 = k0_pay5 (F := Ideal) (iblk m c 3 ⟨n, hn⟩) (k0_pay6 (hblk m c (n / 4))) (k0_pay7 (hblk m c (n / 4))) (k0_pay10 (hblk m c (n / 4)) (iblk m c 3 ⟨n, hn⟩) (iblk m c 4 ⟨n, hn⟩))
    ∧ (outsAt0 m c n hn).2.2.1 = k0_pay11 (F := Ideal) (hblk m c (n / 4)) (iblk m c 3 ⟨n, hn⟩) (iblk m c 4 ⟨n, hn⟩) (outsAt0 m c (n - 1) (Nat.lt_of_le_of_lt (Nat.sub_le _ _) hn)).2.2.1 := by
  have ha := acc_last m c n hn h3
  have hc := outsAt0_C m c ⟨n, hn⟩ (by show ¬ n % 32 = 0; omega) (by show ¬ n % 4 = 0; omega) h3
  dsimp only at hc
  rw [hc] at ha ⊢
  frame_out at ha
  frame_out
  simp only [read_unread_whole] at ha ⊢
  simp only [ha]
  refine ⟨?_, ?_, ?_⟩ <;> first | trivial | rfl

/-- What the last point of a run adds to the loss. -/
theorem point_loss (c : Dev nD) (t : Fin cfg0.N) (v : S1x1.Idx → EReal) (y : S1x1.Idx) :
    k0_pay9 (F := Ideal) (hblk m c (t.val / 4)) (iblk m c 3 t) (iblk m c 4 t) v y = v y + lpart (H m c) (m ((c : Thread nD τ).loc main_arg3)) (m ((c : Thread nD τ).loc main_arg4)) (t.val / 4) := by
  unfold lpart sq err nrm rt ms
  simp only [row_eq t]
  unfold_payloads
  simp only [pointwise, zero_add, Nat.reduceEqDiff, OfNat.ofNat_ne_one, ↓reduceDIte]
  simp only [hblk_ix, row_eq t]
  blk_point [iblk, V, e3 t, e4 t]
  all_goals exact congrArg Fin.val (row_eq t _)

/-- What it adds to the gradient by the weights. -/
theorem point_dw (c : Dev nD) (t : Fin cfg0.N) (v : S1x2048.Idx → EReal) (y : S1x2048.Idx) :
    k0_pay11 (F := Ideal) (hblk m c (t.val / 4)) (iblk m c 3 t) (iblk m c 4 t) v y = v y + wpart (H m c) (m ((c : Thread nD τ).loc main_arg3)) (m ((c : Thread nD τ).loc main_arg4)) (y 1) (t.val / 4) := by
  unfold wpart ge err nrm rt ms
  simp only [row_eq t]
  unfold_payloads
  simp only [pointwise, zero_add, Nat.reduceEqDiff, OfNat.ofNat_ne_one, ↓reduceDIte]
  simp only [hblk_ix, row_eq t]
  blk_point [iblk, V, e3 t, e4 t]
  all_goals exact congrArg Fin.val (row_eq t _)

/-- What it writes back for the rows. -/
theorem point_dh (c : Dev nD) (t : Fin cfg0.N) (y : S512x2048.Idx) :
    k0_pay5 (F := Ideal) (iblk m c 3 t) (k0_pay6 (hblk m c (t.val / 4))) (k0_pay7 (hblk m c (t.val / 4))) (k0_pay10 (hblk m c (t.val / 4)) (iblk m c 3 t) (iblk m c 4 t)) y
      = dh (H m c) (m ((c : Thread nD τ).loc main_arg3)) (m ((c : Thread nD τ).loc main_arg4)) (ix2 (row (t.val / 4) (y 0).val) (y 1)) := by
  unfold dh ge err nrm rt ms
  rw [row_eq t (y 0)]
  unfold_payloads
  simp only [pointwise, zero_add, Nat.reduceEqDiff, OfNat.ofNat_ne_one, ↓reduceDIte]
  simp only [hblk_ix, hblk_at m c _ y, row_eq t]
  blk_point [iblk, V, e3 t, e4 t]
  all_goals exact congrArg Fin.val (row_eq t _)

/-- A point that is not the last of a run keeps the loss and the gradient by the weights; the first point of all clears them. -/
theorem keep (c : Dev nD) (n : ℕ) (hn : n + 1 < cfg0.N) (h3 : ¬(n + 1) % 4 = 3) :
    (outsAt0 m c (n + 1) hn).1 = (outsAt0 m c n (Nat.lt_of_succ_lt hn)).1 ∧ (outsAt0 m c (n + 1) hn).2.2.1 = (outsAt0 m c n (Nat.lt_of_succ_lt hn)).2.2.1 := by
  have hlt := lt_of_lt_of_eq hn N_0
  by_cases h4 : (n + 1) % 4 = 0
  · have h := outsAt0_D m c ⟨n + 1, hn⟩ (by show ¬ (n + 1) % 32 = 0; omega) h4 h3
    dsimp only at h
    rw [h]
    exact ⟨rfl, rfl⟩
  · have h := outsAt0_B m c ⟨n + 1, hn⟩ (by show ¬ (n + 1) % 32 = 0; omega) h4 h3
    dsimp only at h
    rw [h]
    exact ⟨rfl, rfl⟩

/-- The loss after the first points. -/
theorem run_loss (c : Dev nD) (n : ℕ) (hn : n < cfg0.N) (y : S1x1.Idx) :
    (outsAt0 m c n hn).1 y = ∑ b ∈ Finset.range ((n + 1) / 4), lpart (H m c) (m ((c : Thread nD τ).loc main_arg3)) (m ((c : Thread nD τ).loc main_arg4)) b := by
  induction n with
  | zero =>
    have e : (outsAt0 m c 0 hn).1 = k0_pay1 (F := Ideal) := by
      rw [outsAt0_A m c ⟨0, hn⟩ rfl rfl (by show ¬ 0 % 4 = 3; decide)]
      frame_out
    rw [e]
    unfold_payloads
    simp only [pointwise]
    exact (Finset.sum_range_zero _).symm
  | succ n ih =>
    by_cases h3 : (n + 1) % 4 = 3
    · rw [(last m c (n + 1) hn h3).1, point_loss m c ⟨n + 1, hn⟩, show (n + 1 + 1) / 4 = (n + 1) / 4 + 1 by omega, Finset.sum_range_succ]
      exact congrArg (· + _) (ih (Nat.lt_of_succ_lt hn))
    · rw [(keep m c n hn h3).1, ih (Nat.lt_of_succ_lt hn), show (n + 1 + 1) / 4 = (n + 1) / 4 by omega]

/-- The gradient by the weights after the first points. -/
theorem run_dw (c : Dev nD) (n : ℕ) (hn : n < cfg0.N) (y : S1x2048.Idx) :
    (outsAt0 m c n hn).2.2.1 y = ∑ b ∈ Finset.range ((n + 1) / 4), wpart (H m c) (m ((c : Thread nD τ).loc main_arg3)) (m ((c : Thread nD τ).loc main_arg4)) (y 1) b := by
  induction n with
  | zero =>
    have e : (outsAt0 m c 0 hn).2.2.1 = k0_pay2 (F := Ideal) := by
      rw [outsAt0_A m c ⟨0, hn⟩ rfl rfl (by show ¬ 0 % 4 = 3; decide)]
      frame_out
    rw [e]
    unfold_payloads
    simp only [pointwise]
    exact (Finset.sum_range_zero _).symm
  | succ n ih =>
    by_cases h3 : (n + 1) % 4 = 3
    · rw [(last m c (n + 1) hn h3).2.2, point_dw m c ⟨n + 1, hn⟩, show (n + 1 + 1) / 4 = (n + 1) / 4 + 1 by omega, Finset.sum_range_succ]
      exact congrArg (· + _) (ih (Nat.lt_of_succ_lt hn))
    · rw [(keep m c n hn h3).2, ih (Nat.lt_of_succ_lt hn), show (n + 1 + 1) / 4 = (n + 1) / 4 by omega]

theorem row_of (s : Fin 8) (k : Fin 512) (hl : s.val * 512 + k.val < 4096) : row s.val k.val = (⟨s.val * 512 + k.val, hl⟩ : Fin 4096) :=
  Fin.ext (Nat.mod_eq_of_lt hl)

/-- What the call leaves in the array of window 5. -/
theorem final_loss (c : Dev nD) : (dats m 0 c).arrAt 5 cfg0.N = loss (H m c) (m ((c : Thread nD τ).loc main_arg3)) (m ((c : Thread nD τ).loc main_arg4)) := by
  refine (dats m 0 c).arrAt_eq_of_covers 5 _ (by decide +kernel) fun t hf y => ?_
  have h : t.val = 31 := by
    have h := (flush0_5 t).mp hf
    have := lt_of_lt_of_eq t.isLt N_0
    omega
  blk_simp
  rw [after0_5]
  refine (run_loss m c t.val t.isLt y).trans ?_
  rw [h, show (31 + 1) / 4 = 8 by decide, ← Fin.sum_univ_eq_sum_range]
  unfold lpart loss
  simp only [half_mean]
  rw [half_sum]
  refine Fin.sum_mul_add_congr fun s k hl => ?_
  rw [row_of s k hl]

/-- What the call leaves in the array of window 7. -/
theorem final_dw (c : Dev nD) : (dats m 0 c).arrAt 7 cfg0.N = dw (H m c) (m ((c : Thread nD τ).loc main_arg3)) (m ((c : Thread nD τ).loc main_arg4)) := by
  refine (dats m 0 c).arrAt_eq_of_covers 7 _ (by decide +kernel) fun t hf y => ?_
  have h : t.val = 31 := by
    have h := (flush0_7 t).mp hf
    have := lt_of_lt_of_eq t.isLt N_0
    omega
  blk_simp
  rw [after0_7]
  refine (run_dw m c t.val t.isLt y).trans ?_
  have hy : (y 1 : Fin 2048) = ((cfg0.win 7).blk t).view.emb y 1 := by
    refine Fin.ext ?_
    show _ = win0_7.index t 1 * _ + 1 * _
    rw [e7 t]
    show (y 1).val = 0 * 2048 + 1 * (y 1).val
    omega
  rw [h, show (31 + 1) / 4 = 8 by decide, ← Fin.sum_univ_eq_sum_range]
  unfold wpart dw
  refine Fin.sum_mul_add_congr fun s k hl => ?_
  rw [row_of s k hl]
  exact congrArg (fun j => ge (H m c) (m ((c : Thread nD τ).loc main_arg3)) (m ((c : Thread nD τ).loc main_arg4)) _ j * nrm (H m c) _ j) hy

/-- What the call leaves in the array of window 6. -/
theorem final_dh (c : Dev nD) : (dats m 0 c).arrAt 6 cfg0.N = dh (H m c) (m ((c : Thread nD τ).loc main_arg3)) (m ((c : Thread nD τ).loc main_arg4)) := by
  refine (dats m 0 c).arrAt_eq_of_covers 6 _ (by decide +kernel) fun t hf y => ?_
  have h3 : t.val % 4 = 3 := (flush0_6 t).mp hf
  blk_simp
  rw [after0_6, (last m c t.val t.isLt h3).2.1]
  refine (point_dh m c t y).trans ?_
  refine congrArg (dh _ _ _) (funext fun a => Fin.ext ?_)
  show _ = win0_6.index t a * _ + 1 * _
  rw [e6 t]
  fin_cases a
  · refine (congrArg Fin.val (row_eq t (y 0))).trans ?_
    show 512 * (t.val / 4) + (y 0).val = t.val / 4 * 512 + 1 * (y 0).val
    omega
  · show (y 1).val = 0 * 2048 + 1 * (y 1).val
    omega

open Cert.RLossIdeal.Read in
/-- The reference's rows after the layer. -/
theorem ref_hid (a : S4096x8192.Idx → EReal) (p : S8192x2048.Idx → EReal) (x : S4096x2048.Idx → EReal) : val_main_v3 (F := Ideal) a p x = hid a p x := by
  funext i
  simp only [val_main_v3, val_main_v2, val_main_v1, val_main_v0]
  simp only [pointwise, zero_add, Nat.reduceEqDiff, OfNat.ofNat_ne_one, ↓reduceDIte]
  unfold hid
  rfl

open Cert.RLossIdeal.Read in
/-- The reference's result, index by index. -/
theorem ref_loss (a : S4096x8192.Idx → EReal) (p : S8192x2048.Idx → EReal) (x : S4096x2048.Idx → EReal) (w : S1x2048.Idx → EReal) (T : S4096x2048.Idx → EReal) : val_main_v53 (F := Ideal) a p x w T = loss (hid a p x) w T := by
  funext i
  simp only [val_main_v53, val_main_v27, val_main_v26, val_main_v25, val_main_v24, val_main_v23, val_main_v20, val_main_v19, val_main_v18, val_main_v17, val_main_v16, val_main_v15, val_main_v11, val_main_v10, val_main_v9, val_main_v8, val_main_v7, val_main_v6, val_main_v5, val_main_v4, val_main_cst, val_main_cst_0, val_main_cst_1, val_main_cst_4, val_main_cst_5, val_main_cst_6, val_main_cst_7, ref_hid]
  simp only [pointwise, zero_add, Nat.reduceEqDiff, OfNat.ofNat_ne_one, ↓reduceDIte]
  unfold loss sq err nrm rt ms
  rfl

open Cert.RLossIdeal.Read in
/-- The reference's result, index by index. -/
theorem ref_dw (a : S4096x8192.Idx → EReal) (p : S8192x2048.Idx → EReal) (x : S4096x2048.Idx → EReal) (w : S1x2048.Idx → EReal) (T : S4096x2048.Idx → EReal) : val_main_v36 (F := Ideal) a p x w T = dw (hid a p x) w T := by
  funext i
  simp only [val_main_v36, val_main_v35, val_main_v34, val_main_v33, val_main_v32, val_main_v31, val_main_v30, val_main_v29, val_main_v28, val_main_v22, val_main_v21, val_main_cst_3, val_main_cst_8, val_main_cst_9, val_main_cst_10, val_main_v19, val_main_v18, val_main_v17, val_main_v16, val_main_v15, val_main_v11, val_main_v10, val_main_v9, val_main_v8, val_main_v7, val_main_v6, val_main_v5, val_main_v4, val_main_cst, val_main_cst_0, val_main_cst_1, val_main_cst_11, ref_hid]
  simp only [pointwise, zero_add, Nat.reduceEqDiff, OfNat.ofNat_ne_one, ↓reduceDIte, ← err_grad]
  unfold dw ge err nrm rt ms
  refine Finset.sum_congr rfl fun r _ => ?_
  exact mul_comm _ _

open Cert.RLossIdeal.Read in
/-- The reference's result, index by index. -/
theorem ref_dh (a : S4096x8192.Idx → EReal) (p : S8192x2048.Idx → EReal) (x : S4096x2048.Idx → EReal) (w : S1x2048.Idx → EReal) (T : S4096x2048.Idx → EReal) : val_main_v54 (F := Ideal) a p x w T = dh (hid a p x) w T := by
  funext i
  obtain ⟨r, j, rfl⟩ : ∃ (r : Fin 4096) (j : Fin 2048), i = ix2 r j := ⟨i 0, i 1, funext fun a => by fin_cases a <;> rfl⟩
  simp only [val_main_v54, val_main_v52, val_main_v51, val_main_v50, val_main_v49, val_main_v48, val_main_v47, val_main_v46, val_main_v45, val_main_v44, val_main_v43, val_main_v42, val_main_v41, val_main_v40, val_main_v39, val_main_v38, val_main_v37, val_main_v14, val_main_v13, val_main_v12, val_main_v33, val_main_v32, val_main_v31, val_main_v30, val_main_v29, val_main_v28, val_main_v22, val_main_v21, val_main_cst_3, val_main_cst_8, val_main_cst_9, val_main_cst_10, val_main_v19, val_main_v18, val_main_v17, val_main_v16, val_main_v15, val_main_v11, val_main_v10, val_main_v9, val_main_v8, val_main_v7, val_main_v6, val_main_v5, val_main_v4, val_main_cst, val_main_cst_0, val_main_cst_1, val_main_cst_2, val_main_cst_12, val_main_cst_13, val_main_cst_14, ref_hid]
  simp only [pointwise, zero_add, Nat.reduceEqDiff, OfNat.ofNat_ne_one, ↓reduceDIte, Fin.sum_univ_one, ← err_grad]
  exact (norm_grad (fun k => hid a p x (ix2 r k)) (fun k => ge (hid a p x) w T r k * w (ix2 (0 : Fin 1) k)) j).symm

open Cert.RLossIdeal.Read in
/-- From memories that agree on the arguments the call and the reference leave equal results. -/
theorem algebraic : Cert.algebraic_KLossIdeal_RLossIdeal :=
  fun m ρ m' ρ' _ hag => ⟨fun c => loss (H m c) (m ((c : Thread nD τ).loc main_arg3)) (m ((c : Thread nD τ).loc main_arg4)), fun c => dh (H m c) (m ((c : Thread nD τ).loc main_arg3)) (m ((c : Thread nD τ).loc main_arg4)), fun c => dw (H m c) (m ((c : Thread nD τ).loc main_arg3)) (m ((c : Thread nD τ).loc main_arg4)),
    (θ_run _ _ _).mono (fun _ h c => ⟨(h c).1.trans (final_loss m c), (h c).2.1.trans (final_dh m c), (h c).2.2.1.trans (final_dw m c), (h c).2.2.2⟩) (Value.run_blocks m ρ),
    (θ_run _ _ _).mono (fun _ h c => ⟨(h c).1.trans (by
        rw [(hag c).1, (hag c).2.1, (hag c).2.2.1, (hag c).2.2.2.1, (hag c).2.2.2.2]; exact (val_main_v53_eq _ _ _ _ _).trans (ref_loss _ _ _ _ _)),
      (h c).2.1.trans ((val_main_v54_eq _ _).trans (by
        rw [(hag c).1, (hag c).2.1, (hag c).2.2.1, (hag c).2.2.2.1, (hag c).2.2.2.2]; exact ref_dh _ _ _ _ _)),
      (h c).2.2.1.trans (by
        rw [(hag c).1, (hag c).2.1, (hag c).2.2.1, (hag c).2.2.2.1, (hag c).2.2.2.2]; exact (val_main_v36_eq _ _ _ _ _).trans (ref_dw _ _ _ _ _)), (h c).2.2.2⟩)
      (Cert.RLossIdeal.Value.run m' ρ')⟩

end Cert.KLossIdeal.Loss

end
-- ==== Proof.PairSum.lean ====
module

public import proofs.«01_k».proof.Defs
public import proofs.«01_k».proof.Proof.Gen.KPair.Frame
public import proofs.«01_k».proof.Proof.Gen.KPairIdeal.Frame
public import proofs.«01_k».proof.Proof.Gen.RPairIdeal.Run
public import proofs.«01_k».proof.Proof.Gen.RPairIdeal.Read
public import Idealize.ShloMosaic.Lib.Pipeline.ValueKit
public import Idealize.ShloMosaic.Lib.Pipeline.Covers
public import Idealize.ShloMosaic.Lib.Pointwise
public import Idealize.ShloMosaic.Lib.Quiescent

/-! The sum of the two parts of a chip: of the gradient of every pair of shards, the device's own part and its sibling's. -/

@[expose] public section

noncomputable section

open Idealize.ShloMosaic Idealize.ShloMosaic.TcCoe Idealize.SL.Sem
open Idealize.ShloMosaic.Pipeline (Dat)

namespace Cert.KPair.PairSum

open Cert.KPair Cert.KPair.Gen

section
variable {F : FTy → Type} [FloatOps F]
variable (m : (ℓ : Loc nD τ sig) → Buf (Elt F) ℓ) (ρ : Dev nD → PrngReg)

/-- The table names the first device of the pair. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own parts are the first of each pair. -/
theorem index_own (i : grid0.Coords) : cc0_transform_0 inb_S1_S1_0 numel1_S1 (tbl m) i = ![(i 0).val, 0, (i 1).val, 0] := by
  have h : (tbl m).at 0 (Rect.unit (s := S1) ![0] S1.size inb_S1_S1_0) numel1_S1 = 0#32 := tbl_eq m _
  unfold cc0_transform_0
  simp only [h]
  revert i
  decide +kernel

/-- The blocks that the table names lie inside the array. -/
theorem ok : Ok m := by
  have key : ∀ i : grid0.Coords, ∃ h : (∀ a, ((![(i 0).val, 0, (i 1).val, 0] : Fin 4 → Nat) a + 1) * S1x1x1024x1026.size a ≤ S4x2x2048x1026.size a), EltTy.bits .bf16 = 32 ∨ (Rect.block (s := S4x2x2048x1026) S1x1x1024x1026.size ![(i 0).val, 0, (i 1).val, 0] h).WholeWords (EltTy.packing .bf16) := by
    decide +kernel
  intro i
  have e := index_own m i
  generalize cc0_transform_0 inb_S1_S1_0 numel1_S1 (tbl m) i = X at e ⊢
  subst e
  exact key i
end

end Cert.KPair.PairSum

namespace Cert.KPairIdeal.PairSum

open Cert.KPairIdeal Cert.KPairIdeal.Gen

section
variable {F : FTy → Type} [FloatOps F]
variable (m : (ℓ : Loc nD τ sig) → Buf (Elt F) ℓ) (ρ : Dev nD → PrngReg)

/-- The table names the first device of the pair. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own parts are the first of each pair. -/
theorem index_own (i : grid0.Coords) : cc0_transform_0 inb_S1_S1_0 numel1_S1 (tbl m) i = ![(i 0).val, 0, (i 1).val, 0] := by
  have h : (tbl m).at 0 (Rect.unit (s := S1) ![0] S1.size inb_S1_S1_0) numel1_S1 = 0#32 := tbl_eq m _
  unfold cc0_transform_0
  simp only [h]
  revert i
  decide +kernel

/-- The blocks that the table names lie inside the array. -/
theorem ok : Ok m := by
  have key : ∀ i : grid0.Coords, ∃ h : (∀ a, ((![(i 0).val, 0, (i 1).val, 0] : Fin 4 → Nat) a + 1) * S1x1x1024x1026.size a ≤ S4x2x2048x1026.size a), EltTy.bits .bf16 = 32 ∨ (Rect.block (s := S4x2x2048x1026) S1x1x1024x1026.size ![(i 0).val, 0, (i 1).val, 0] h).WholeWords (EltTy.packing .bf16) := by
    decide +kernel
  intro i
  have e := index_own m i
  generalize cc0_transform_0 inb_S1_S1_0 numel1_S1 (tbl m) i = X at e ⊢
  subst e
  exact key i
end

section
variable {F : FTy → Type} [FloatOps F]
variable (a : (pcfg0 (F := F)).Adm)

/-- The pair of shards of point `t`. -/
def chip (t : Fin (cfg0 a).N) : Fin 4 := ⟨(grid0.coords t 0).val, (grid0.coords t 0).isLt⟩

/-- The row of the array that row `b` of the block at point `t` is. -/
def row (t : Fin (cfg0 a).N) (b : Fin 1024) : Fin 2048 := ⟨(grid0.coords t 1).val * 1024 + 1 * b.val, by
  have h : (grid0.coords t 1).val < 2 := (grid0.coords t 1).isLt
  have := b.isLt
  omega⟩

theorem e0 (ha : ∀ i : grid0.Coords, cc0_transform_0 inb_S1_S1_0 numel1_S1 a.1 i = ![(i 0).val, 0, (i 1).val, 0]) (t : Fin (cfg0 a).N) : ((cfg0 a).win 0).index t = ![(grid0.coords t 0).val, 0, (grid0.coords t 1).val, 0] :=
  ha (grid0.coords t)
theorem e1 (t : Fin (cfg0 a).N) : ((cfg0 a).win 1).index t = ![(grid0.coords t 0).val, (grid0.coords t 1).val, 0] := (by decide +kernel : ∀ t : Fin grid0.N, cc0_transform_1 (grid0.coords t) = ![(grid0.coords t 0).val, (grid0.coords t 1).val, 0]) t
theorem e2 (t : Fin (cfg0 a).N) : ((cfg0 a).win 2).index t = ![(grid0.coords t 0).val, (grid0.coords t 1).val, 0] := (by decide +kernel : ∀ t : Fin grid0.N, cc0_transform_2 (grid0.coords t) = ![(grid0.coords t 0).val, (grid0.coords t 1).val, 0]) t

/-- An element of a block of the own parts, as an element of the array. -/
theorem emb0 (ha : ∀ i : grid0.Coords, cc0_transform_0 inb_S1_S1_0 numel1_S1 a.1 i = ![(i 0).val, 0, (i 1).val, 0]) (t : Fin (cfg0 a).N) (p : Fin 1024) (q : Fin 1026) : (((cfg0 a).win 0).blk t).view.emb (ix4 0 0 p q) = ix4 (chip a t) 0 (row a t p) q := by
  refine funext fun x => Fin.ext ?_
  match x with
  | ⟨0, _⟩ =>
    refine (?_ : _ = ((cfg0 a).win 0).index t (⟨0, by decide⟩ : Fin 4) * 1 + 1 * 0).trans ?_
    · rfl
    · rw [e0 a ha t]
      show (grid0.coords t 0).val * 1 + 1 * 0 = (grid0.coords t 0).val
      omega
  | ⟨1, _⟩ =>
    refine (?_ : _ = ((cfg0 a).win 0).index t (⟨1, by decide⟩ : Fin 4) * 1 + 1 * 0).trans ?_
    · rfl
    · rw [e0 a ha t]
      rfl
  | ⟨2, _⟩ =>
    refine (?_ : _ = ((cfg0 a).win 0).index t (⟨2, by decide⟩ : Fin 4) * 1024 + 1 * p.val).trans ?_
    · rfl
    · rw [e0 a ha t]
      rfl
  | ⟨3, _⟩ =>
    refine (?_ : _ = ((cfg0 a).win 0).index t (⟨3, by decide⟩ : Fin 4) * 1026 + 1 * q.val).trans ?_
    · rfl
    · rw [e0 a ha t]
      show 0 * 1026 + 1 * q.val = q.val
      omega

/-- An element of a block of the sibling's parts, as an element of the array. -/
theorem emb1 (t : Fin (cfg0 a).N) (p : Fin 1024) (q : Fin 1026) : (((cfg0 a).win 1).blk t).view.emb (ix3 0 p q) = ix3 (chip a t) (row a t p) q := by
  refine funext fun x => Fin.ext ?_
  match x with
  | ⟨0, _⟩ =>
    refine (?_ : _ = ((cfg0 a).win 1).index t (⟨0, by decide⟩ : Fin 3) * 1 + 1 * 0).trans ?_
    · rfl
    · rw [e1 a t]
      show (grid0.coords t 0).val * 1 + 1 * 0 = (grid0.coords t 0).val
      omega
  | ⟨1, _⟩ =>
    refine (?_ : _ = ((cfg0 a).win 1).index t (⟨1, by decide⟩ : Fin 3) * 1024 + 1 * p.val).trans ?_
    · rfl
    · rw [e1 a t]
      rfl
  | ⟨2, _⟩ =>
    refine (?_ : _ = ((cfg0 a).win 1).index t (⟨2, by decide⟩ : Fin 3) * 1026 + 1 * q.val).trans ?_
    · rfl
    · rw [e1 a t]
      show 0 * 1026 + 1 * q.val = q.val
      omega

/-- An element of a block of the sum, as an element of the array. -/
theorem emb2 (t : Fin (cfg0 a).N) (y : S1x1024x1026.Idx) : (((cfg0 a).win 2).blk t).view.emb y = ix3 (chip a t) (row a t (y 1)) (y 2) := by
  refine funext fun x => Fin.ext ?_
  match x with
  | ⟨0, _⟩ =>
    refine (?_ : _ = ((cfg0 a).win 2).index t (⟨0, by decide⟩ : Fin 3) * 1 + 1 * (y 0).val).trans ?_
    · rfl
    · rw [e2 a t]
      have h : (y 0).val < 1 := (y 0).isLt
      show (grid0.coords t 0).val * 1 + 1 * (y 0).val = (grid0.coords t 0).val
      omega
  | ⟨1, _⟩ =>
    refine (?_ : _ = ((cfg0 a).win 2).index t (⟨1, by decide⟩ : Fin 3) * 1024 + 1 * (y 1).val).trans ?_
    · rfl
    · rw [e2 a t]
      rfl
  | ⟨2, _⟩ =>
    refine (?_ : _ = ((cfg0 a).win 2).index t (⟨2, by decide⟩ : Fin 3) * 1026 + 1 * (y 2).val).trans ?_
    · rfl
    · rw [e2 a t]
      show 0 * 1026 + 1 * (y 2).val = (y 2).val
      omega

/-- Every pair and half of the rows is a point. -/
theorem point_of : ∀ (b : Fin 4) (d : Fin 2), ∃ t : Fin grid0.N, (grid0.coords t 0).val = b.val ∧ (grid0.coords t 1).val = d.val := by
  decide +kernel

/-- The blocks of the sum cover its array. -/
theorem covers2 : ((cfg0 a).win 2).Covers := by
  refine Pipeline.Window.covers_of_index_surj _ rfl (by show ∀ a : Fin 3, 0 < S1x1024x1026.size a; decide) fun β => ?_
  have n0 : ((cfg0 a).win 2).nblk (⟨0, by decide⟩ : Fin 3) = 4 := by
    show (4 + 1 - 1) / 1 = 4
    rfl
  have n1 : ((cfg0 a).win 2).nblk (⟨1, by decide⟩ : Fin 3) = 2 := by
    show (2048 + 1024 - 1) / 1024 = 2
    rfl
  have n2 : ((cfg0 a).win 2).nblk (⟨2, by decide⟩ : Fin 3) = 1 := by
    show (1026 + 1026 - 1) / 1026 = 1
    rfl
  have h0 : (β (⟨0, by decide⟩ : Fin 3)).val < 4 := lt_of_lt_of_eq (β (⟨0, by decide⟩ : Fin 3)).isLt n0
  have h1 : (β (⟨1, by decide⟩ : Fin 3)).val < 2 := lt_of_lt_of_eq (β (⟨1, by decide⟩ : Fin 3)).isLt n1
  have h2 : (β (⟨2, by decide⟩ : Fin 3)).val < 1 := lt_of_lt_of_eq (β (⟨2, by decide⟩ : Fin 3)).isLt n2
  obtain ⟨t, ht0, ht1⟩ := point_of ⟨_, h0⟩ ⟨_, h1⟩
  refine ⟨t, fun x => ?_⟩
  rw [e2 a _]
  match x with
  | ⟨0, _⟩ => exact ht0
  | ⟨1, _⟩ => exact ht1
  | ⟨2, _⟩ =>
    show 0 = (β (⟨2, by decide⟩ : Fin 3)).val
    omega

end

variable (m : (ℓ : Loc nD τ sig) → Buf (Elt Ideal) ℓ) (ρ : Dev nD → PrngReg) (hO : Ok m)

/-- The sum at an element. -/
def pairSum (x0 : Vec Ideal S8x2048x1026 .bf16) (x1 : Vec Ideal S4x2048x1026 .bf16) : S4x2048x1026.Idx → EReal := fun j =>
  (shapeCast S4x2x2048x1026 x0 shapeCasts_S8x2048x1026_S4x2x2048x1026 : Vec Ideal S4x2x2048x1026 .bf16) (ix4 (j 0) 0 (j 1) (j 2)) + x1 j

/-- The block of the sum that the body stores, element by element. -/
theorem out2 (c i a3 h3 a4 h4 a5 h5 x0 x1 xt) (y : S1x1024x1026.Idx) : out0_A_2 (F := Ideal) c i a3 h3 a4 h4 a5 h5 x0 x1 xt y = x0 (ix4 0 0 (y 1) (y 2)) + x1 (ix3 0 (y 1) (y 2)) := by
  frame_out
  unfold_payloads
  simp only [pointwise, zero_add]
  have hy : y = ix3 (0 : Fin 1) (y 1) (y 2) := funext fun a => by
    fin_cases a
    · exact Subsingleton.elim (α := Fin 1) _ _
    · rfl
    · rfl
  exact congrArg (fun z : EReal => x0 (ix4 0 0 (y 1) (y 2)) + z) (congrArg x1 hy)

/-- The own parts, pair by pair, as the host line before the call leaves them. -/
theorem own_eq (c : Dev nD) : V m c main_v1 = (shapeCast S4x2x2048x1026 (m ((c : Thread nD τ).loc main_arg0)) shapeCasts_S8x2048x1026_S4x2x2048x1026 : Vec Ideal S4x2x2048x1026 .bf16) := by
  unfold V
  simp only [hostOps0, List.flatten_cons, List.flatten_nil, List.append_nil, List.cons_append, List.nil_append]
  after_results
  rfl

/-- The blocks of the own parts. -/
theorem blk0 (c : Dev nD) (t : Fin (cfgM m hO).N) (p : Fin 1024) (q : Fin 1026) : iblk m hO c 0 t (ix4 0 0 p q) = (shapeCast S4x2x2048x1026 (m ((c : Thread nD τ).loc main_arg0)) shapeCasts_S8x2048x1026_S4x2x2048x1026 : Vec Ideal S4x2x2048x1026 .bf16) (ix4 (chip (adm m hO) t) 0 (row (adm m hO) t p) q) :=
  (congrFun (own_eq m c) _).trans (congrArg (shapeCast S4x2x2048x1026 (m ((c : Thread nD τ).loc main_arg0)) shapeCasts_S8x2048x1026_S4x2x2048x1026 : Vec Ideal S4x2x2048x1026 .bf16) (emb0 (adm m hO) (index_own m) t p q))

/-- The blocks of the sibling's parts. -/
theorem blk1 (c : Dev nD) (t : Fin (cfgM m hO).N) (p : Fin 1024) (q : Fin 1026) : iblk m hO c 1 t (ix3 0 p q) = m ((c : Thread nD τ).loc main_arg1) (ix3 (chip (adm m hO) t) (row (adm m hO) t p) q) :=
  (congrFun (V_main_arg1 m c) _).trans (congrArg (m ((c : Thread nD τ).loc main_arg1)) (emb1 (adm m hO) t p q))

/-- What the call leaves in its result's array. -/
theorem final (c : Dev nD) : (dats m hO 0 c).arrAt 2 (cfgM m hO).N = pairSum (m ((c : Thread nD τ).loc main_arg0)) (m ((c : Thread nD τ).loc main_arg1)) := by
  have key : ∀ t (y : S1x1024x1026.Idx), (outsAt0 m hO c t) y = pairSum (m ((c : Thread nD τ).loc main_arg0)) (m ((c : Thread nD τ).loc main_arg1)) ((((cfgM m hO).win 2).blk t).view.emb y) := by
    intro t y
    rw [emb2 (adm m hO) t y]
    unfold outsAt0
    rw [out2 c (grid0.coords t) (ms0_0 m hO t) (hs0_0 m hO t) (ms0_1 m hO t) (hs0_1 m hO t) (ms0_2 m hO t) (hs0_2 m hO t) (iblk m hO c 0 t) (iblk m hO c 1 t) (tbl m 0) y]
    rw [blk0 m hO c t (y 1) (y 2), blk1 m hO c t (y 1) (y 2)]
    rfl
  refine (dats m hO 0 c).arrAt_eq_of_covers 2 _ (covers2 (adm m hO)) fun t hf y => ?_
  blk_simp
  rw [after0_2]
  exact key t y

/-- What a run of the call leaves in its result's and its arguments' arrays. -/
theorem run_blocks : θ_run defs (onTc (τ := τ) (main (F := Ideal))) ⟨m, fun _ => 0, ρ⟩ fun r => ∀ c : Dev nD,
    r.2.mem ((c : Thread nD τ).loc main_v2) = (dats m hO 0 c).arrAt 2 (cfgM m hO).N
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h.1 c).1 2, h.2 c⟩) (θ_run_and (run_main m ρ hO) (unchanged m ρ hO))

section
open Cert.RPairIdeal.Read

/-- The reference's sum. -/
theorem ref_eq (x0 : S8x2048x1026.Idx → EReal) (x1 : S4x2048x1026.Idx → EReal) : val_main_v6 (F := Ideal) x0 x1 = pairSum x0 x1 := by
  funext j
  obtain ⟨a, b, d, rfl⟩ : ∃ (a : Fin 4) (b : Fin 2048) (d : Fin 1026), j = ix3 a b d := ⟨j 0, j 1, j 2, funext fun a => by fin_cases a <;> rfl⟩
  simp only [val_main_v6, val_main_v5, val_main_v4, val_main_v3, val_main_v2, val_main_v1]
  simp only [pointwise]
  show val_main_v0 (F := Ideal) x0 _ + x1 (ix3 a b d) = val_main_v0 (F := Ideal) x0 (ix4 a 0 b d) + x1 (ix3 a b d)
  refine congrArg (fun z : EReal => z + x1 (ix3 a b d)) (congrArg (val_main_v0 (F := Ideal) x0) (funext fun e => Fin.ext ?_))
  match e with
  | ⟨0, _⟩ => exact Nat.zero_add _
  | ⟨1, _⟩ => rfl
  | ⟨2, _⟩ => exact Nat.zero_add _
  | ⟨3, _⟩ => exact Nat.zero_add _

end

/-- From memories that agree on the arguments the call and the reference leave equal results. -/
theorem algebraic : Cert.algebraic_KPairIdeal_RPairIdeal :=
  fun m ρ m' ρ' _ hag => ⟨fun c => pairSum (m ((c : Thread nD τ).loc main_arg0)) (m ((c : Thread nD τ).loc main_arg1)),
    (θ_run _ _ _).mono (fun _ h c => ⟨(h c).1.trans (final m (ok m) c), (h c).2⟩) (run_blocks m ρ (ok m)),
    (θ_run _ _ _).mono (fun _ h c => ⟨(h c).1.trans (by
        rw [(hag c).1, (hag c).2]; exact (Cert.RPairIdeal.Read.val_main_v6_eq _ _).trans (ref_eq _ _)), (h c).2⟩)
      (Cert.RPairIdeal.Value.run m' ρ')⟩

end Cert.KPairIdeal.PairSum

end

end
-- ==== Proof.AdStep.lean ====
module

public import Idealize.ShloMosaic.Lib.Pipeline.ValueKit
public import Idealize.ShloMosaic.Lib.Pointwise

/-! The optimiser's step at one element: the new moments from the gradient and the old ones, and the change of the weight. -/

@[expose] public section

noncomputable section

open Idealize.ShloMosaic

namespace Cert.AdStep

/-- The new first moment. -/
def mNew (g m : EReal) : EReal := Ideal.ofBits .f32 0x3F666666#32 * m + Ideal.ofBits .f32 0x3DCCCCCD#32 * g

/-- The new second moment. -/
def vNew (g v : EReal) : EReal := Ideal.ofBits .f32 0x3F7FBE77#32 * v + Ideal.ofBits .f32 0x3A83126F#32 * (g * g)

/-- The change of the weight. -/
def dNew (g w m v : EReal) : EReal :=
  Ideal.ofBits .f32 0xBA83126F#32 * (Ideal.div (Ideal.div (mNew g m) (Ideal.ofBits .f32 0x3F26BD02#32)) (Ideal.sqrt (Ideal.div (vNew g v) (Ideal.ofBits .f32 0x3C231ACC#32)) + Ideal.ofBits .f32 0x322BCC77#32) + Ideal.ofBits .f32 0x3C23D70A#32 * w)

end Cert.AdStep

end

end
-- ==== Proof.AdFf2.lean ====
module

public import proofs.«01_k».proof.Defs
public import proofs.«01_k».proof.Proof.AdStep
public import proofs.«01_k».proof.Proof.Gen.KAdFf2.Frame
public import proofs.«01_k».proof.Proof.Gen.KAdFf2Ideal.Frame
public import proofs.«01_k».proof.Proof.Gen.RAdFf2Ideal.Run
public import proofs.«01_k».proof.Proof.Gen.RAdFf2Ideal.Read
public import Idealize.ShloMosaic.Lib.Pipeline.ValueKit
public import Idealize.ShloMosaic.Lib.Pipeline.Covers
public import Idealize.ShloMosaic.Lib.Pointwise
public import Idealize.ShloMosaic.Lib.Quiescent

/-! The optimiser's step on the shard of the second feed-forward matrix: the sum of the devices' parts of its gradient, the change of the
weights and the two new moments. -/

@[expose] public section

noncomputable section

open Idealize.ShloMosaic Idealize.ShloMosaic.TcCoe Idealize.SL.Sem
open Idealize.ShloMosaic.Pipeline (Dat)
open Cert.AdStep

namespace Cert.KAdFf2.AdFf2

open Cert.KAdFf2 Cert.KAdFf2.Gen

section
variable {F : FTy → Type} [FloatOps F]
variable (m : (ℓ : Loc nD τ sig) → Buf (Elt F) ℓ) (ρ : Dev nD → PrngReg)

/-- The table names slot 0. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own part are the first slot's. -/
theorem index_mine (i : grid0.Coords) : cc0_transform_1 inb_S1_S1_0 numel1_S1 (tbl m) i = ![0, (i 0).val, 0] := by
  have h : (tbl m).at 0 (Rect.unit (s := S1) ![0] S1.size inb_S1_S1_0) numel1_S1 = 0#32 := tbl_eq m _
  unfold cc0_transform_1
  simp only [h]
  revert i
  decide +kernel

/-- The blocks that the table names lie inside the array. -/
theorem ok : Ok m := by
  have key : ∀ i : grid0.Coords, ∃ h : (∀ a, ((![0, (i 0).val, 0] : Fin 3 → Nat) a + 1) * S1x128x2048.size a ≤ S8x1024x2048.size a), EltTy.bits .bf16 = 32 ∨ (Rect.block (s := S8x1024x2048) S1x128x2048.size ![0, (i 0).val, 0] h).WholeWords (EltTy.packing .bf16) := by
    decide +kernel
  intro i
  have e := index_mine m i
  generalize cc0_transform_1 inb_S1_S1_0 numel1_S1 (tbl m) i = X at e ⊢
  subst e
  exact key i
end

end Cert.KAdFf2.AdFf2

namespace Cert.KAdFf2Ideal.AdFf2

open Cert.KAdFf2Ideal Cert.KAdFf2Ideal.Gen

section
variable {F : FTy → Type} [FloatOps F]
variable (m : (ℓ : Loc nD τ sig) → Buf (Elt F) ℓ) (ρ : Dev nD → PrngReg)

/-- The table names slot 0. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own part are the first slot's. -/
theorem index_mine (i : grid0.Coords) : cc0_transform_1 inb_S1_S1_0 numel1_S1 (tbl m) i = ![0, (i 0).val, 0] := by
  have h : (tbl m).at 0 (Rect.unit (s := S1) ![0] S1.size inb_S1_S1_0) numel1_S1 = 0#32 := tbl_eq m _
  unfold cc0_transform_1
  simp only [h]
  revert i
  decide +kernel

/-- The blocks that the table names lie inside the array. -/
theorem ok : Ok m := by
  have key : ∀ i : grid0.Coords, ∃ h : (∀ a, ((![0, (i 0).val, 0] : Fin 3 → Nat) a + 1) * S1x128x2048.size a ≤ S8x1024x2048.size a), EltTy.bits .bf16 = 32 ∨ (Rect.block (s := S8x1024x2048) S1x128x2048.size ![0, (i 0).val, 0] h).WholeWords (EltTy.packing .bf16) := by
    decide +kernel
  intro i
  have e := index_mine m i
  generalize cc0_transform_1 inb_S1_S1_0 numel1_S1 (tbl m) i = X at e ⊢
  subst e
  exact key i
end

section
variable {F : FTy → Type} [FloatOps F]
variable (a : (pcfg0 (F := F)).Adm)

/-- The row of the array that row `b` of the block at point `t` is. -/
def row (t : Fin (cfg0 a).N) (b : Fin 128) : Fin 1024 := ⟨t.val * 128 + 1 * b.val, by
  have h : t.val < 8 := lt_of_lt_of_eq t.isLt (by decide +kernel : grid0.N = 8)
  have := b.isLt
  omega⟩

theorem e0 (t : Fin (cfg0 a).N) : ((cfg0 a).win 0).index t = ![0, t.val, 0] := (by decide +kernel : ∀ t : Fin grid0.N, cc0_transform_0 (grid0.coords t) = ![0, t.val, 0]) t
theorem e1 (ha : ∀ i : grid0.Coords, cc0_transform_1 inb_S1_S1_0 numel1_S1 a.1 i = ![0, (i 0).val, 0]) (t : Fin (cfg0 a).N) : ((cfg0 a).win 1).index t = ![0, t.val, 0] :=
  (ha (grid0.coords t)).trans ((by decide +kernel : ∀ t : Fin grid0.N, ![0, (grid0.coords t 0).val, 0] = ![0, t.val, 0]) t)

/-- An element of a block of the parts, as an element of the array. -/
theorem emb0 (t : Fin (cfg0 a).N) (k : Fin 8) (p : Fin 128) (q : Fin 2048) : (((cfg0 a).win 0).blk t).view.emb (ix3 k p q) = ix3 k (row a t p) q := by
  refine funext fun x => Fin.ext ?_
  match x with
  | ⟨0, _⟩ =>
    refine (?_ : _ = ((cfg0 a).win 0).index t (⟨0, by decide⟩ : Fin 3) * 8 + 1 * k.val).trans ?_
    · rfl
    · rw [e0 a t]
      show 0 * 8 + 1 * k.val = k.val
      omega
  | ⟨1, _⟩ =>
    refine (?_ : _ = ((cfg0 a).win 0).index t (⟨1, by decide⟩ : Fin 3) * 128 + 1 * p.val).trans ?_
    · rfl
    · rw [e0 a t]
      rfl
  | ⟨2, _⟩ =>
    refine (?_ : _ = ((cfg0 a).win 0).index t (⟨2, by decide⟩ : Fin 3) * 2048 + 1 * q.val).trans ?_
    · rfl
    · rw [e0 a t]
      show 0 * 2048 + 1 * q.val = q.val
      omega

/-- An element of a block of the device's own part, as an element of the array. -/
theorem emb1 (ha : ∀ i : grid0.Coords, cc0_transform_1 inb_S1_S1_0 numel1_S1 a.1 i = ![0, (i 0).val, 0]) (t : Fin (cfg0 a).N) (p : Fin 128) (q : Fin 2048) : (((cfg0 a).win 1).blk t).view.emb (ix3 0 p q) = ix3 0 (row a t p) q := by
  refine funext fun x => Fin.ext ?_
  match x with
  | ⟨0, _⟩ =>
    refine (?_ : _ = ((cfg0 a).win 1).index t (⟨0, by decide⟩ : Fin 3) * 1 + 1 * 0).trans ?_
    · rfl
    · rw [e1 a ha t]
      rfl
  | ⟨1, _⟩ =>
    refine (?_ : _ = ((cfg0 a).win 1).index t (⟨1, by decide⟩ : Fin 3) * 128 + 1 * p.val).trans ?_
    · rfl
    · rw [e1 a ha t]
      rfl
  | ⟨2, _⟩ =>
    refine (?_ : _ = ((cfg0 a).win 1).index t (⟨2, by decide⟩ : Fin 3) * 2048 + 1 * q.val).trans ?_
    · rfl
    · rw [e1 a ha t]
      show 0 * 2048 + 1 * q.val = q.val
      omega

theorem e2 (t : Fin (cfg0 a).N) : ((cfg0 a).win 2).index t = ![t.val, 0] := (by decide +kernel : ∀ t : Fin grid0.N, cc0_transform_2 (grid0.coords t) = ![t.val, 0]) t

/-- An element of a block of window 2, as an element of the array. -/
theorem emb2 (t : Fin (cfg0 a).N) (y : S128x2048.Idx) : (((cfg0 a).win 2).blk t).view.emb y = ix2 (row a t (y 0)) (y 1) := by
  refine funext fun x => Fin.ext ?_
  match x with
  | ⟨0, _⟩ =>
    refine (?_ : _ = ((cfg0 a).win 2).index t (⟨0, by decide⟩ : Fin 2) * 128 + 1 * (y 0).val).trans ?_
    · rfl
    · rw [e2 a t]
      rfl
  | ⟨1, _⟩ =>
    refine (?_ : _ = ((cfg0 a).win 2).index t (⟨1, by decide⟩ : Fin 2) * 2048 + 1 * (y 1).val).trans ?_
    · rfl
    · rw [e2 a t]
      show 0 * 2048 + 1 * (y 1).val = (y 1).val
      omega

theorem e3 (t : Fin (cfg0 a).N) : ((cfg0 a).win 3).index t = ![t.val, 0] := (by decide +kernel : ∀ t : Fin grid0.N, cc0_transform_3 (grid0.coords t) = ![t.val, 0]) t

/-- An element of a block of window 3, as an element of the array. -/
theorem emb3 (t : Fin (cfg0 a).N) (y : S128x2048.Idx) : (((cfg0 a).win 3).blk t).view.emb y = ix2 (row a t (y 0)) (y 1) := by
  refine funext fun x => Fin.ext ?_
  match x with
  | ⟨0, _⟩ =>
    refine (?_ : _ = ((cfg0 a).win 3).index t (⟨0, by decide⟩ : Fin 2) * 128 + 1 * (y 0).val).trans ?_
    · rfl
    · rw [e3 a t]
      rfl
  | ⟨1, _⟩ =>
    refine (?_ : _ = ((cfg0 a).win 3).index t (⟨1, by decide⟩ : Fin 2) * 2048 + 1 * (y 1).val).trans ?_
    · rfl
    · rw [e3 a t]
      show 0 * 2048 + 1 * (y 1).val = (y 1).val
      omega

theorem e4 (t : Fin (cfg0 a).N) : ((cfg0 a).win 4).index t = ![t.val, 0] := (by decide +kernel : ∀ t : Fin grid0.N, cc0_transform_4 (grid0.coords t) = ![t.val, 0]) t

/-- An element of a block of window 4, as an element of the array. -/
theorem emb4 (t : Fin (cfg0 a).N) (y : S128x2048.Idx) : (((cfg0 a).win 4).blk t).view.emb y = ix2 (row a t (y 0)) (y 1) := by
  refine funext fun x => Fin.ext ?_
  match x with
  | ⟨0, _⟩ =>
    refine (?_ : _ = ((cfg0 a).win 4).index t (⟨0, by decide⟩ : Fin 2) * 128 + 1 * (y 0).val).trans ?_
    · rfl
    · rw [e4 a t]
      rfl
  | ⟨1, _⟩ =>
    refine (?_ : _ = ((cfg0 a).win 4).index t (⟨1, by decide⟩ : Fin 2) * 2048 + 1 * (y 1).val).trans ?_
    · rfl
    · rw [e4 a t]
      show 0 * 2048 + 1 * (y 1).val = (y 1).val
      omega

theorem e5 (t : Fin (cfg0 a).N) : ((cfg0 a).win 5).index t = ![t.val, 0] := (by decide +kernel : ∀ t : Fin grid0.N, cc0_transform_5 (grid0.coords t) = ![t.val, 0]) t

/-- An element of a block of window 5, as an element of the array. -/
theorem emb5 (t : Fin (cfg0 a).N) (y : S128x2048.Idx) : (((cfg0 a).win 5).blk t).view.emb y = ix2 (row a t (y 0)) (y 1) := by
  refine funext fun x => Fin.ext ?_
  match x with
  | ⟨0, _⟩ =>
    refine (?_ : _ = ((cfg0 a).win 5).index t (⟨0, by decide⟩ : Fin 2) * 128 + 1 * (y 0).val).trans ?_
    · rfl
    · rw [e5 a t]
      rfl
  | ⟨1, _⟩ =>
    refine (?_ : _ = ((cfg0 a).win 5).index t (⟨1, by decide⟩ : Fin 2) * 2048 + 1 * (y 1).val).trans ?_
    · rfl
    · rw [e5 a t]
      show 0 * 2048 + 1 * (y 1).val = (y 1).val
      omega

theorem e6 (t : Fin (cfg0 a).N) : ((cfg0 a).win 6).index t = ![t.val, 0] := (by decide +kernel : ∀ t : Fin grid0.N, cc0_transform_6 (grid0.coords t) = ![t.val, 0]) t

/-- An element of a block of window 6, as an element of the array. -/
theorem emb6 (t : Fin (cfg0 a).N) (y : S128x2048.Idx) : (((cfg0 a).win 6).blk t).view.emb y = ix2 (row a t (y 0)) (y 1) := by
  refine funext fun x => Fin.ext ?_
  match x with
  | ⟨0, _⟩ =>
    refine (?_ : _ = ((cfg0 a).win 6).index t (⟨0, by decide⟩ : Fin 2) * 128 + 1 * (y 0).val).trans ?_
    · rfl
    · rw [e6 a t]
      rfl
  | ⟨1, _⟩ =>
    refine (?_ : _ = ((cfg0 a).win 6).index t (⟨1, by decide⟩ : Fin 2) * 2048 + 1 * (y 1).val).trans ?_
    · rfl
    · rw [e6 a t]
      show 0 * 2048 + 1 * (y 1).val = (y 1).val
      omega

theorem e7 (t : Fin (cfg0 a).N) : ((cfg0 a).win 7).index t = ![t.val, 0] := (by decide +kernel : ∀ t : Fin grid0.N, cc0_transform_7 (grid0.coords t) = ![t.val, 0]) t

/-- An element of a block of window 7, as an element of the array. -/
theorem emb7 (t : Fin (cfg0 a).N) (y : S128x2048.Idx) : (((cfg0 a).win 7).blk t).view.emb y = ix2 (row a t (y 0)) (y 1) := by
  refine funext fun x => Fin.ext ?_
  match x with
  | ⟨0, _⟩ =>
    refine (?_ : _ = ((cfg0 a).win 7).index t (⟨0, by decide⟩ : Fin 2) * 128 + 1 * (y 0).val).trans ?_
    · rfl
    · rw [e7 a t]
      rfl
  | ⟨1, _⟩ =>
    refine (?_ : _ = ((cfg0 a).win 7).index t (⟨1, by decide⟩ : Fin 2) * 2048 + 1 * (y 1).val).trans ?_
    · rfl
    · rw [e7 a t]
      show 0 * 2048 + 1 * (y 1).val = (y 1).val
      omega

theorem e8 (t : Fin (cfg0 a).N) : ((cfg0 a).win 8).index t = ![t.val, 0] := (by decide +kernel : ∀ t : Fin grid0.N, cc0_transform_8 (grid0.coords t) = ![t.val, 0]) t

/-- An element of a block of window 8, as an element of the array. -/
theorem emb8 (t : Fin (cfg0 a).N) (y : S128x2048.Idx) : (((cfg0 a).win 8).blk t).view.emb y = ix2 (row a t (y 0)) (y 1) := by
  refine funext fun x => Fin.ext ?_
  match x with
  | ⟨0, _⟩ =>
    refine (?_ : _ = ((cfg0 a).win 8).index t (⟨0, by decide⟩ : Fin 2) * 128 + 1 * (y 0).val).trans ?_
    · rfl
    · rw [e8 a t]
      rfl
  | ⟨1, _⟩ =>
    refine (?_ : _ = ((cfg0 a).win 8).index t (⟨1, by decide⟩ : Fin 2) * 2048 + 1 * (y 1).val).trans ?_
    · rfl
    · rw [e8 a t]
      show 0 * 2048 + 1 * (y 1).val = (y 1).val
      omega

/-- The blocks of window 5 cover its array. -/
theorem covers5 : ((cfg0 a).win 5).Covers := by
  refine Pipeline.Window.covers_of_index_surj _ rfl (by show ∀ a : Fin 2, 0 < S128x2048.size a; decide) fun β => ?_
  have n0 : ((cfg0 a).win 5).nblk (⟨0, by decide⟩ : Fin 2) = 8 := by
    show (1024 + 128 - 1) / 128 = 8
    rfl
  have n1 : ((cfg0 a).win 5).nblk (⟨1, by decide⟩ : Fin 2) = 1 := by
    show (2048 + 2048 - 1) / 2048 = 1
    rfl
  have h0 : (β (⟨0, by decide⟩ : Fin 2)).val < 8 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 8 = grid0.N)⟩, fun x => ?_⟩
  rw [e5 a _]
  match x with
  | ⟨0, _⟩ => rfl
  | ⟨1, _⟩ =>
    show 0 = (β (⟨1, by decide⟩ : Fin 2)).val
    omega

/-- The blocks of window 6 cover its array. -/
theorem covers6 : ((cfg0 a).win 6).Covers := by
  refine Pipeline.Window.covers_of_index_surj _ rfl (by show ∀ a : Fin 2, 0 < S128x2048.size a; decide) fun β => ?_
  have n0 : ((cfg0 a).win 6).nblk (⟨0, by decide⟩ : Fin 2) = 8 := by
    show (1024 + 128 - 1) / 128 = 8
    rfl
  have n1 : ((cfg0 a).win 6).nblk (⟨1, by decide⟩ : Fin 2) = 1 := by
    show (2048 + 2048 - 1) / 2048 = 1
    rfl
  have h0 : (β (⟨0, by decide⟩ : Fin 2)).val < 8 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 8 = grid0.N)⟩, fun x => ?_⟩
  rw [e6 a _]
  match x with
  | ⟨0, _⟩ => rfl
  | ⟨1, _⟩ =>
    show 0 = (β (⟨1, by decide⟩ : Fin 2)).val
    omega

/-- The blocks of window 7 cover its array. -/
theorem covers7 : ((cfg0 a).win 7).Covers := by
  refine Pipeline.Window.covers_of_index_surj _ rfl (by show ∀ a : Fin 2, 0 < S128x2048.size a; decide) fun β => ?_
  have n0 : ((cfg0 a).win 7).nblk (⟨0, by decide⟩ : Fin 2) = 8 := by
    show (1024 + 128 - 1) / 128 = 8
    rfl
  have n1 : ((cfg0 a).win 7).nblk (⟨1, by decide⟩ : Fin 2) = 1 := by
    show (2048 + 2048 - 1) / 2048 = 1
    rfl
  have h0 : (β (⟨0, by decide⟩ : Fin 2)).val < 8 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 8 = grid0.N)⟩, fun x => ?_⟩
  rw [e7 a _]
  match x with
  | ⟨0, _⟩ => rfl
  | ⟨1, _⟩ =>
    show 0 = (β (⟨1, by decide⟩ : Fin 2)).val
    omega

/-- The blocks of window 8 cover its array. -/
theorem covers8 : ((cfg0 a).win 8).Covers := by
  refine Pipeline.Window.covers_of_index_surj _ rfl (by show ∀ a : Fin 2, 0 < S128x2048.size a; decide) fun β => ?_
  have n0 : ((cfg0 a).win 8).nblk (⟨0, by decide⟩ : Fin 2) = 8 := by
    show (1024 + 128 - 1) / 128 = 8
    rfl
  have n1 : ((cfg0 a).win 8).nblk (⟨1, by decide⟩ : Fin 2) = 1 := by
    show (2048 + 2048 - 1) / 2048 = 1
    rfl
  have h0 : (β (⟨0, by decide⟩ : Fin 2)).val < 8 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 8 = grid0.N)⟩, fun x => ?_⟩
  rw [e8 a _]
  match x with
  | ⟨0, _⟩ => rfl
  | ⟨1, _⟩ =>
    show 0 = (β (⟨1, by decide⟩ : Fin 2)).val
    omega

end

variable (m : (ℓ : Loc nD τ sig) → Buf (Elt Ideal) ℓ) (ρ : Dev nD → PrngReg) (hO : Ok m)

theorem eq0 : IntOp.cmpi CmpIPredicate.eq 0#32 0#32 = 1 := by decide
theorem ne1 : ¬ IntOp.cmpi CmpIPredicate.eq 0#32 1#32 = 1 := by decide
theorem ne2 : ¬ IntOp.cmpi CmpIPredicate.eq 0#32 2#32 = 1 := by decide
theorem ne3 : ¬ IntOp.cmpi CmpIPredicate.eq 0#32 3#32 = 1 := by decide
theorem ne4 : ¬ IntOp.cmpi CmpIPredicate.eq 0#32 4#32 = 1 := by decide
theorem ne5 : ¬ IntOp.cmpi CmpIPredicate.eq 0#32 5#32 = 1 := by decide
theorem ne6 : ¬ IntOp.cmpi CmpIPredicate.eq 0#32 6#32 = 1 := by decide
theorem ne7 : ¬ IntOp.cmpi CmpIPredicate.eq 0#32 7#32 = 1 := by decide

/-- The sum of the blocks of the devices' parts at an element, the first one this device's own. -/
def partSum (x0 : Vec Ideal S8x128x2048 .bf16) (x1 : Vec Ideal S1x128x2048 .bf16) (a : Fin 128) (b : Fin 2048) : EReal :=
  x1 (ix3 0 a b) + x0 (ix3 1 a b) + x0 (ix3 2 a b) + x0 (ix3 3 a b) + x0 (ix3 4 a b) + x0 (ix3 5 a b) + x0 (ix3 6 a b) + x0 (ix3 7 a b)

/-- The gradient at an element: the sum of the devices' parts, the first one this device's own. -/
def grad (x0 x1 : Vec Ideal S8x1024x2048 .bf16) (a : Fin 1024) (b : Fin 2048) : EReal :=
  x1 (ix3 0 a b) + x0 (ix3 1 a b) + x0 (ix3 2 a b) + x0 (ix3 3 a b) + x0 (ix3 4 a b) + x0 (ix3 5 a b) + x0 (ix3 6 a b) + x0 (ix3 7 a b)

/-- The block of the gradient that the body stores, element by element. -/
theorem out5 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x2048.Idx) : out0_A_5 (F := Ideal) c i a2 h2 a3 h3 a4 h4 a5 h5 a6 h6 a7 h7 a8 h8 a9 h9 a10 h10 x0 x1 x2 x3 x4 xt y = partSum x0 x1 (y 0) (y 1) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The block of the change of the weights that the body stores, element by element. -/
theorem out6 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x2048.Idx) : out0_A_6 (F := Ideal) c i a2 h2 a3 h3 a4 h4 a5 h5 a6 h6 a7 h7 a8 h8 a9 h9 a10 h10 x0 x1 x2 x3 x4 xt y = dNew (partSum x0 x1 (y 0) (y 1)) (x2 y) (x3 y) (x4 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The block of the new first moment that the body stores, element by element. -/
theorem out7 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x2048.Idx) : out0_A_7 (F := Ideal) c i a2 h2 a3 h3 a4 h4 a5 h5 a6 h6 a7 h7 a8 h8 a9 h9 a10 h10 x0 x1 x2 x3 x4 xt y = mNew (partSum x0 x1 (y 0) (y 1)) (x3 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The block of the new second moment that the body stores, element by element. -/
theorem out8 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x2048.Idx) : out0_A_8 (F := Ideal) c i a2 h2 a3 h3 a4 h4 a5 h5 a6 h6 a7 h7 a8 h8 a9 h9 a10 h10 x0 x1 x2 x3 x4 xt y = vNew (partSum x0 x1 (y 0) (y 1)) (x4 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The blocks of the parts. -/
theorem blk0 (c : Dev nD) (t : Fin (cfgM m hO).N) (k : Fin 8) (a : Fin 128) (b : Fin 2048) : iblk m hO c 0 t (ix3 k a b) = m ((c : Thread nD τ).loc main_arg0) (ix3 k (row (adm m hO) t a) b) :=
  (congrFun (V_main_arg0 m c) _).trans (congrArg (m ((c : Thread nD τ).loc main_arg0)) (emb0 (adm m hO) t k a b))

/-- The block of the device's own part. -/
theorem blk1 (c : Dev nD) (t : Fin (cfgM m hO).N) (a : Fin 128) (b : Fin 2048) : iblk m hO c 1 t (ix3 0 a b) = m ((c : Thread nD τ).loc main_arg1) (ix3 0 (row (adm m hO) t a) b) :=
  (congrFun (V_main_arg1 m c) _).trans (congrArg (m ((c : Thread nD τ).loc main_arg1)) (emb1 (adm m hO) (index_mine m) t a b))

/-- The block of the weights. -/
theorem blk2 (c : Dev nD) (t : Fin (cfgM m hO).N) (y : S128x2048.Idx) : iblk m hO c 2 t y = m ((c : Thread nD τ).loc main_arg2) (ix2 (row (adm m hO) t (y 0)) (y 1)) :=
  (congrFun (V_main_arg2 m c) _).trans (congrArg (m ((c : Thread nD τ).loc main_arg2)) (emb2 (adm m hO) t y))

/-- The block of the first moment. -/
theorem blk3 (c : Dev nD) (t : Fin (cfgM m hO).N) (y : S128x2048.Idx) : iblk m hO c 3 t y = m ((c : Thread nD τ).loc main_arg3) (ix2 (row (adm m hO) t (y 0)) (y 1)) :=
  (congrFun (V_main_arg3 m c) _).trans (congrArg (m ((c : Thread nD τ).loc main_arg3)) (emb3 (adm m hO) t y))

/-- The block of the second moment. -/
theorem blk4 (c : Dev nD) (t : Fin (cfgM m hO).N) (y : S128x2048.Idx) : iblk m hO c 4 t y = m ((c : Thread nD τ).loc main_arg4) (ix2 (row (adm m hO) t (y 0)) (y 1)) :=
  (congrFun (V_main_arg4 m c) _).trans (congrArg (m ((c : Thread nD τ).loc main_arg4)) (emb4 (adm m hO) t y))

/-- The block's sum is the gradient's block. -/
theorem part_eq (c : Dev nD) (t : Fin (cfgM m hO).N) (a : Fin 128) (b : Fin 2048) : partSum (iblk m hO c 0 t) (iblk m hO c 1 t) a b = grad (m ((c : Thread nD τ).loc main_arg0)) (m ((c : Thread nD τ).loc main_arg1)) (row (adm m hO) t a) b := by
  unfold partSum grad
  rw [blk1 m hO c t a b, blk0 m hO c t 1 a b, blk0 m hO c t 2 a b, blk0 m hO c t 3 a b, blk0 m hO c t 4 a b, blk0 m hO c t 5 a b, blk0 m hO c t 6 a b, blk0 m hO c t 7 a b]

/-- The gradient. -/
theorem final_g (c : Dev nD) : (dats m hO 0 c).arrAt 5 (cfgM m hO).N = fun j : S1024x2048.Idx => grad (m ((c : Thread nD τ).loc main_arg0)) (m ((c : Thread nD τ).loc main_arg1)) (j 0) (j 1) := by
  have key : ∀ t (y : S128x2048.Idx), (outsAt0 m hO c t).1 y = (fun j : S1024x2048.Idx => grad (m ((c : Thread nD τ).loc main_arg0)) (m ((c : Thread nD τ).loc main_arg1)) (j 0) (j 1)) ((((cfgM m hO).win 5).blk t).view.emb y) := by
    intro t y
    rw [emb5 (adm m hO) t y]
    unfold outsAt0
    dsimp only
    rw [out5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1)]
    rfl
  refine (dats m hO 0 c).arrAt_eq_of_covers 5 _ (covers5 (adm m hO)) fun t hf y => ?_
  blk_simp
  rw [after0_5]
  exact key t y

/-- The change of the weights. -/
theorem final_d (c : Dev nD) : (dats m hO 0 c).arrAt 6 (cfgM m hO).N = fun j : S1024x2048.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j) := by
  have key : ∀ t (y : S128x2048.Idx), (outsAt0 m hO c t).2.1 y = (fun j : S1024x2048.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j)) ((((cfgM m hO).win 6).blk t).view.emb y) := by
    intro t y
    rw [emb6 (adm m hO) t y]
    unfold outsAt0
    dsimp only
    rw [out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk2 m hO c t y, blk3 m hO c t y, blk4 m hO c t y]
    rfl
  refine (dats m hO 0 c).arrAt_eq_of_covers 6 _ (covers6 (adm m hO)) fun t hf y => ?_
  blk_simp
  rw [after0_6]
  exact key t y

/-- The new first moment. -/
theorem final_m (c : Dev nD) : (dats m hO 0 c).arrAt 7 (cfgM m hO).N = fun j : S1024x2048.Idx => mNew (grad (m ((c : Thread nD τ).loc main_arg0)) (m ((c : Thread nD τ).loc main_arg1)) (j 0) (j 1)) (m ((c : Thread nD τ).loc main_arg3) j) := by
  have key : ∀ t (y : S128x2048.Idx), (outsAt0 m hO c t).2.2.1 y = (fun j : S1024x2048.Idx => mNew (grad (m ((c : Thread nD τ).loc main_arg0)) (m ((c : Thread nD τ).loc main_arg1)) (j 0) (j 1)) (m ((c : Thread nD τ).loc main_arg3) j)) ((((cfgM m hO).win 7).blk t).view.emb y) := by
    intro t y
    rw [emb7 (adm m hO) t y]
    unfold outsAt0
    dsimp only
    rw [out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk3 m hO c t y]
    rfl
  refine (dats m hO 0 c).arrAt_eq_of_covers 7 _ (covers7 (adm m hO)) fun t hf y => ?_
  blk_simp
  rw [after0_7]
  exact key t y

/-- The new second moment. -/
theorem final_v (c : Dev nD) : (dats m hO 0 c).arrAt 8 (cfgM m hO).N = fun j : S1024x2048.Idx => vNew (grad (m ((c : Thread nD τ).loc main_arg0)) (m ((c : Thread nD τ).loc main_arg1)) (j 0) (j 1)) (m ((c : Thread nD τ).loc main_arg4) j) := by
  have key : ∀ t (y : S128x2048.Idx), (outsAt0 m hO c t).2.2.2 y = (fun j : S1024x2048.Idx => vNew (grad (m ((c : Thread nD τ).loc main_arg0)) (m ((c : Thread nD τ).loc main_arg1)) (j 0) (j 1)) (m ((c : Thread nD τ).loc main_arg4) j)) ((((cfgM m hO).win 8).blk t).view.emb y) := by
    intro t y
    rw [emb8 (adm m hO) t y]
    unfold outsAt0
    dsimp only
    rw [out8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk4 m hO c t y]
    rfl
  refine (dats m hO 0 c).arrAt_eq_of_covers 8 _ (covers8 (adm m hO)) fun t hf y => ?_
  blk_simp
  rw [after0_8]
  exact key t y

/-- What a run of the call leaves in its results' and its arguments' arrays. -/
theorem run_blocks : θ_run defs (onTc (τ := τ) (main (F := Ideal))) ⟨m, fun _ => 0, ρ⟩ fun r => ∀ c : Dev nD,
    r.2.mem ((c : Thread nD τ).loc main_v1_0) = (dats m hO 0 c).arrAt 5 (cfgM m hO).N
    ∧ r.2.mem ((c : Thread nD τ).loc main_v1_1) = (dats m hO 0 c).arrAt 6 (cfgM m hO).N
    ∧ r.2.mem ((c : Thread nD τ).loc main_v1_2) = (dats m hO 0 c).arrAt 7 (cfgM m hO).N
    ∧ r.2.mem ((c : Thread nD τ).loc main_v1_3) = (dats m hO 0 c).arrAt 8 (cfgM m hO).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1 5, (h c).1 6, (h c).1 7, (h c).1 8,
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c)))⟩) (run_main m ρ hO)

section
open Cert.RAdFf2Ideal.Read

/-- The reference's gradient. -/
theorem ref_g (x0 x1 : S8x1024x2048.Idx → EReal) : val_main_v4 (F := Ideal) x0 x1 = fun j : S1024x2048.Idx => grad x0 x1 (j 0) (j 1) := by
  funext j
  simp only [val_main_v4, val_main_v3, val_main_v2, val_main_v1, val_main_v0, val_main_cst]
  simp only [pointwise, zero_add]
  refine (congrArg₂ (fun a b : EReal => a + b) (?_ : _ = x1 (ix3 0 (j 0) (j 1))) (?_ : _ = ∑ x : Fin 7, x0 (ix3 (⟨x.val + 1, by omega⟩ : Fin 8) (j 0) (j 1)))).trans ?_
  · refine (Fin.sum_univ_one _).trans ((dif_pos Nat.one_pos).trans (congrArg x1 (funext fun a => Fin.ext ?_)))
    match a with
    | ⟨0, _⟩ => rfl
    | ⟨1, _⟩ => exact Nat.zero_add _
    | ⟨2, _⟩ => exact Nat.zero_add _
  · refine Finset.sum_congr rfl fun x _ => (dif_neg id).trans (congrArg x0 (funext fun a => Fin.ext ?_))
    match a with
    | ⟨0, _⟩ =>
      show 1 + (if True then 1 + x.val - 1 else 1 + x.val) = x.val + 1
      rw [if_pos trivial]
      omega
    | ⟨1, _⟩ =>
      show 0 + (if (1 : Nat) = 0 then 1 + x.val - 1 else (j 0).val) = (j 0).val
      rw [if_neg Nat.one_ne_zero]
      exact Nat.zero_add _
    | ⟨2, _⟩ =>
      show 0 + (if (2 : Nat) = 0 then 1 + x.val - 1 else (j 1).val) = (j 1).val
      rw [if_neg (by decide)]
      exact Nat.zero_add _
  · rw [Fin.sum_univ_seven]
    unfold grad
    simp only [add_assoc]
    rfl

/-- The reference's new first moment. -/
theorem ref_m (x0 x1 : S8x1024x2048.Idx → EReal) (x3 : S1024x2048.Idx → EReal) : val_main_v9 (F := Ideal) x0 x1 x3 = fun j : S1024x2048.Idx => mNew (grad x0 x1 (j 0) (j 1)) (x3 j) := by
  funext j
  simp only [val_main_v9, val_main_v8, val_main_v7, val_main_v6, val_main_v5, val_main_cst_0, val_main_cst_1, ref_g]
  simp only [pointwise]
  rfl

/-- The reference's new second moment. -/
theorem ref_v (x0 x1 : S8x1024x2048.Idx → EReal) (x4 : S1024x2048.Idx → EReal) : val_main_v15 (F := Ideal) x0 x1 x4 = fun j : S1024x2048.Idx => vNew (grad x0 x1 (j 0) (j 1)) (x4 j) := by
  funext j
  simp only [val_main_v15, val_main_v14, val_main_v13, val_main_v12, val_main_v11, val_main_v10, val_main_cst_2, val_main_cst_3, ref_g]
  simp only [pointwise]
  rfl

/-- The reference's change of the weights. -/
theorem ref_d (x0 x1 : S8x1024x2048.Idx → EReal) (x2 x3 x4 : S1024x2048.Idx → EReal) : val_main_v28 (F := Ideal) x0 x1 x2 x3 x4 = fun j : S1024x2048.Idx => dNew (grad x0 x1 (j 0) (j 1)) (x2 j) (x3 j) (x4 j) := by
  funext j
  simp only [val_main_v28, val_main_v27, val_main_v26, val_main_v25, val_main_v24, val_main_v23, val_main_v22, val_main_v21, val_main_v20, val_main_v19, val_main_v18, val_main_v17, val_main_v16, val_main_cst_4, val_main_cst_5, val_main_cst_6, val_main_cst_7, val_main_cst_8, ref_g, ref_m, ref_v]
  simp only [pointwise]
  rfl

/-- From memories that agree on the arguments the call and the reference leave equal results. -/
theorem algebraic : Cert.algebraic_KAdFf2Ideal_RAdFf2Ideal :=
  fun m ρ m' ρ' _ hag => ⟨fun c => fun j : S1024x2048.Idx => grad (m ((c : Thread nD τ).loc main_arg0)) (m ((c : Thread nD τ).loc main_arg1)) (j 0) (j 1),
    fun c => fun j : S1024x2048.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j),
    fun c => fun j : S1024x2048.Idx => mNew (grad (m ((c : Thread nD τ).loc main_arg0)) (m ((c : Thread nD τ).loc main_arg1)) (j 0) (j 1)) (m ((c : Thread nD τ).loc main_arg3) j),
    fun c => fun j : S1024x2048.Idx => vNew (grad (m ((c : Thread nD τ).loc main_arg0)) (m ((c : Thread nD τ).loc main_arg1)) (j 0) (j 1)) (m ((c : Thread nD τ).loc main_arg4) j),
    (θ_run _ _ _).mono (fun _ h c => ⟨(h c).1.trans (final_g m (ok m) c), (h c).2.1.trans (final_d m (ok m) c), (h c).2.2.1.trans (final_m m (ok m) c), (h c).2.2.2.1.trans (final_v m (ok m) c), (h c).2.2.2.2⟩) (run_blocks m ρ (ok m)),
    (θ_run _ _ _).mono (fun _ h c => ⟨(h c).1.trans (by
        rw [(hag c).1, (hag c).2.1]; exact (val_main_v4_eq _ _).trans (ref_g _ _)),
      (h c).2.1.trans (by
        rw [(hag c).1, (hag c).2.1, (hag c).2.2.1, (hag c).2.2.2.1, (hag c).2.2.2.2]; exact (val_main_v28_eq _ _ _ _ _).trans (ref_d _ _ _ _ _)),
      (h c).2.2.1.trans (by
        rw [(hag c).1, (hag c).2.1, (hag c).2.2.2.1]; exact (val_main_v9_eq _ _ _).trans (ref_m _ _ _)),
      (h c).2.2.2.1.trans (by
        rw [(hag c).1, (hag c).2.1, (hag c).2.2.2.2]; exact (val_main_v15_eq _ _ _).trans (ref_v _ _ _)), (h c).2.2.2.2⟩)
      (Cert.RAdFf2Ideal.Value.run m' ρ')⟩
end

end Cert.KAdFf2Ideal.AdFf2

end

end
-- ==== Proof.AdFf1.lean ====
module

public import proofs.«01_k».proof.Defs
public import proofs.«01_k».proof.Proof.AdStep
public import proofs.«01_k».proof.Proof.Gen.KAdFf1.Frame
public import proofs.«01_k».proof.Proof.Gen.KAdFf1Ideal.Frame
public import proofs.«01_k».proof.Proof.Gen.RAdFf1Ideal.Run
public import proofs.«01_k».proof.Proof.Gen.RAdFf1Ideal.Read
public import Idealize.ShloMosaic.Lib.Pipeline.ValueKit
public import Idealize.ShloMosaic.Lib.Pipeline.Covers
public import Idealize.ShloMosaic.Lib.Pointwise
public import Idealize.ShloMosaic.Lib.Quiescent

/-! The optimiser's step on the shard of the first feed-forward matrix: the sum of the devices' parts of its gradient, the change of the
weights and the two new moments. -/

@[expose] public section

noncomputable section

open Idealize.ShloMosaic Idealize.ShloMosaic.TcCoe Idealize.SL.Sem
open Idealize.ShloMosaic.Pipeline (Dat)
open Cert.AdStep

namespace Cert.KAdFf1.AdFf1

open Cert.KAdFf1 Cert.KAdFf1.Gen

section
variable {F : FTy → Type} [FloatOps F]
variable (m : (ℓ : Loc nD τ sig) → Buf (Elt F) ℓ) (ρ : Dev nD → PrngReg)

/-- The table names slot 0. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own part are the first slot's. -/
theorem index_mine (i : grid0.Coords) : cc0_transform_1 inb_S1_S1_0 numel1_S1 (tbl m) i = ![0, (i 0).val, 0] := by
  have h : (tbl m).at 0 (Rect.unit (s := S1) ![0] S1.size inb_S1_S1_0) numel1_S1 = 0#32 := tbl_eq m _
  unfold cc0_transform_1
  simp only [h]
  revert i
  decide +kernel

/-- The blocks that the table names lie inside the array. -/
theorem ok : Ok m := by
  have key : ∀ i : grid0.Coords, ∃ h : (∀ a, ((![0, (i 0).val, 0] : Fin 3 → Nat) a + 1) * S1x128x1024.size a ≤ S8x2048x1024.size a), EltTy.bits .bf16 = 32 ∨ (Rect.block (s := S8x2048x1024) S1x128x1024.size ![0, (i 0).val, 0] h).WholeWords (EltTy.packing .bf16) := by
    decide +kernel
  intro i
  have e := index_mine m i
  generalize cc0_transform_1 inb_S1_S1_0 numel1_S1 (tbl m) i = X at e ⊢
  subst e
  exact key i
end

end Cert.KAdFf1.AdFf1

namespace Cert.KAdFf1Ideal.AdFf1

open Cert.KAdFf1Ideal Cert.KAdFf1Ideal.Gen

section
variable {F : FTy → Type} [FloatOps F]
variable (m : (ℓ : Loc nD τ sig) → Buf (Elt F) ℓ) (ρ : Dev nD → PrngReg)

/-- The table names slot 0. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own part are the first slot's. -/
theorem index_mine (i : grid0.Coords) : cc0_transform_1 inb_S1_S1_0 numel1_S1 (tbl m) i = ![0, (i 0).val, 0] := by
  have h : (tbl m).at 0 (Rect.unit (s := S1) ![0] S1.size inb_S1_S1_0) numel1_S1 = 0#32 := tbl_eq m _
  unfold cc0_transform_1
  simp only [h]
  revert i
  decide +kernel

/-- The blocks that the table names lie inside the array. -/
theorem ok : Ok m := by
  have key : ∀ i : grid0.Coords, ∃ h : (∀ a, ((![0, (i 0).val, 0] : Fin 3 → Nat) a + 1) * S1x128x1024.size a ≤ S8x2048x1024.size a), EltTy.bits .bf16 = 32 ∨ (Rect.block (s := S8x2048x1024) S1x128x1024.size ![0, (i 0).val, 0] h).WholeWords (EltTy.packing .bf16) := by
    decide +kernel
  intro i
  have e := index_mine m i
  generalize cc0_transform_1 inb_S1_S1_0 numel1_S1 (tbl m) i = X at e ⊢
  subst e
  exact key i
end

section
variable {F : FTy → Type} [FloatOps F]
variable (a : (pcfg0 (F := F)).Adm)

/-- The row of the array that row `b` of the block at point `t` is. -/
def row (t : Fin (cfg0 a).N) (b : Fin 128) : Fin 2048 := ⟨t.val * 128 + 1 * b.val, by
  have h : t.val < 16 := lt_of_lt_of_eq t.isLt (by decide +kernel : grid0.N = 16)
  have := b.isLt
  omega⟩

theorem e0 (t : Fin (cfg0 a).N) : ((cfg0 a).win 0).index t = ![0, t.val, 0] := (by decide +kernel : ∀ t : Fin grid0.N, cc0_transform_0 (grid0.coords t) = ![0, t.val, 0]) t
theorem e1 (ha : ∀ i : grid0.Coords, cc0_transform_1 inb_S1_S1_0 numel1_S1 a.1 i = ![0, (i 0).val, 0]) (t : Fin (cfg0 a).N) : ((cfg0 a).win 1).index t = ![0, t.val, 0] :=
  (ha (grid0.coords t)).trans ((by decide +kernel : ∀ t : Fin grid0.N, ![0, (grid0.coords t 0).val, 0] = ![0, t.val, 0]) t)

/-- An element of a block of the parts, as an element of the array. -/
theorem emb0 (t : Fin (cfg0 a).N) (k : Fin 8) (p : Fin 128) (q : Fin 1024) : (((cfg0 a).win 0).blk t).view.emb (ix3 k p q) = ix3 k (row a t p) q := by
  refine funext fun x => Fin.ext ?_
  match x with
  | ⟨0, _⟩ =>
    refine (?_ : _ = ((cfg0 a).win 0).index t (⟨0, by decide⟩ : Fin 3) * 8 + 1 * k.val).trans ?_
    · rfl
    · rw [e0 a t]
      show 0 * 8 + 1 * k.val = k.val
      omega
  | ⟨1, _⟩ =>
    refine (?_ : _ = ((cfg0 a).win 0).index t (⟨1, by decide⟩ : Fin 3) * 128 + 1 * p.val).trans ?_
    · rfl
    · rw [e0 a t]
      rfl
  | ⟨2, _⟩ =>
    refine (?_ : _ = ((cfg0 a).win 0).index t (⟨2, by decide⟩ : Fin 3) * 1024 + 1 * q.val).trans ?_
    · rfl
    · rw [e0 a t]
      show 0 * 1024 + 1 * q.val = q.val
      omega

/-- An element of a block of the device's own part, as an element of the array. -/
theorem emb1 (ha : ∀ i : grid0.Coords, cc0_transform_1 inb_S1_S1_0 numel1_S1 a.1 i = ![0, (i 0).val, 0]) (t : Fin (cfg0 a).N) (p : Fin 128) (q : Fin 1024) : (((cfg0 a).win 1).blk t).view.emb (ix3 0 p q) = ix3 0 (row a t p) q := by
  refine funext fun x => Fin.ext ?_
  match x with
  | ⟨0, _⟩ =>
    refine (?_ : _ = ((cfg0 a).win 1).index t (⟨0, by decide⟩ : Fin 3) * 1 + 1 * 0).trans ?_
    · rfl
    · rw [e1 a ha t]
      rfl
  | ⟨1, _⟩ =>
    refine (?_ : _ = ((cfg0 a).win 1).index t (⟨1, by decide⟩ : Fin 3) * 128 + 1 * p.val).trans ?_
    · rfl
    · rw [e1 a ha t]
      rfl
  | ⟨2, _⟩ =>
    refine (?_ : _ = ((cfg0 a).win 1).index t (⟨2, by decide⟩ : Fin 3) * 1024 + 1 * q.val).trans ?_
    · rfl
    · rw [e1 a ha t]
      show 0 * 1024 + 1 * q.val = q.val
      omega

theorem e2 (t : Fin (cfg0 a).N) : ((cfg0 a).win 2).index t = ![t.val, 0] := (by decide +kernel : ∀ t : Fin grid0.N, cc0_transform_2 (grid0.coords t) = ![t.val, 0]) t

/-- An element of a block of window 2, as an element of the array. -/
theorem emb2 (t : Fin (cfg0 a).N) (y : S128x1024.Idx) : (((cfg0 a).win 2).blk t).view.emb y = ix2 (row a t (y 0)) (y 1) := by
  refine funext fun x => Fin.ext ?_
  match x with
  | ⟨0, _⟩ =>
    refine (?_ : _ = ((cfg0 a).win 2).index t (⟨0, by decide⟩ : Fin 2) * 128 + 1 * (y 0).val).trans ?_
    · rfl
    · rw [e2 a t]
      rfl
  | ⟨1, _⟩ =>
    refine (?_ : _ = ((cfg0 a).win 2).index t (⟨1, by decide⟩ : Fin 2) * 1024 + 1 * (y 1).val).trans ?_
    · rfl
    · rw [e2 a t]
      show 0 * 1024 + 1 * (y 1).val = (y 1).val
      omega

theorem e3 (t : Fin (cfg0 a).N) : ((cfg0 a).win 3).index t = ![t.val, 0] := (by decide +kernel : ∀ t : Fin grid0.N, cc0_transform_3 (grid0.coords t) = ![t.val, 0]) t

/-- An element of a block of window 3, as an element of the array. -/
theorem emb3 (t : Fin (cfg0 a).N) (y : S128x1024.Idx) : (((cfg0 a).win 3).blk t).view.emb y = ix2 (row a t (y 0)) (y 1) := by
  refine funext fun x => Fin.ext ?_
  match x with
  | ⟨0, _⟩ =>
    refine (?_ : _ = ((cfg0 a).win 3).index t (⟨0, by decide⟩ : Fin 2) * 128 + 1 * (y 0).val).trans ?_
    · rfl
    · rw [e3 a t]
      rfl
  | ⟨1, _⟩ =>
    refine (?_ : _ = ((cfg0 a).win 3).index t (⟨1, by decide⟩ : Fin 2) * 1024 + 1 * (y 1).val).trans ?_
    · rfl
    · rw [e3 a t]
      show 0 * 1024 + 1 * (y 1).val = (y 1).val
      omega

theorem e4 (t : Fin (cfg0 a).N) : ((cfg0 a).win 4).index t = ![t.val, 0] := (by decide +kernel : ∀ t : Fin grid0.N, cc0_transform_4 (grid0.coords t) = ![t.val, 0]) t

/-- An element of a block of window 4, as an element of the array. -/
theorem emb4 (t : Fin (cfg0 a).N) (y : S128x1024.Idx) : (((cfg0 a).win 4).blk t).view.emb y = ix2 (row a t (y 0)) (y 1) := by
  refine funext fun x => Fin.ext ?_
  match x with
  | ⟨0, _⟩ =>
    refine (?_ : _ = ((cfg0 a).win 4).index t (⟨0, by decide⟩ : Fin 2) * 128 + 1 * (y 0).val).trans ?_
    · rfl
    · rw [e4 a t]
      rfl
  | ⟨1, _⟩ =>
    refine (?_ : _ = ((cfg0 a).win 4).index t (⟨1, by decide⟩ : Fin 2) * 1024 + 1 * (y 1).val).trans ?_
    · rfl
    · rw [e4 a t]
      show 0 * 1024 + 1 * (y 1).val = (y 1).val
      omega

theorem e5 (t : Fin (cfg0 a).N) : ((cfg0 a).win 5).index t = ![t.val, 0] := (by decide +kernel : ∀ t : Fin grid0.N, cc0_transform_5 (grid0.coords t) = ![t.val, 0]) t

/-- An element of a block of window 5, as an element of the array. -/
theorem emb5 (t : Fin (cfg0 a).N) (y : S128x1024.Idx) : (((cfg0 a).win 5).blk t).view.emb y = ix2 (row a t (y 0)) (y 1) := by
  refine funext fun x => Fin.ext ?_
  match x with
  | ⟨0, _⟩ =>
    refine (?_ : _ = ((cfg0 a).win 5).index t (⟨0, by decide⟩ : Fin 2) * 128 + 1 * (y 0).val).trans ?_
    · rfl
    · rw [e5 a t]
      rfl
  | ⟨1, _⟩ =>
    refine (?_ : _ = ((cfg0 a).win 5).index t (⟨1, by decide⟩ : Fin 2) * 1024 + 1 * (y 1).val).trans ?_
    · rfl
    · rw [e5 a t]
      show 0 * 1024 + 1 * (y 1).val = (y 1).val
      omega

theorem e6 (t : Fin (cfg0 a).N) : ((cfg0 a).win 6).index t = ![t.val, 0] := (by decide +kernel : ∀ t : Fin grid0.N, cc0_transform_6 (grid0.coords t) = ![t.val, 0]) t

/-- An element of a block of window 6, as an element of the array. -/
theorem emb6 (t : Fin (cfg0 a).N) (y : S128x1024.Idx) : (((cfg0 a).win 6).blk t).view.emb y = ix2 (row a t (y 0)) (y 1) := by
  refine funext fun x => Fin.ext ?_
  match x with
  | ⟨0, _⟩ =>
    refine (?_ : _ = ((cfg0 a).win 6).index t (⟨0, by decide⟩ : Fin 2) * 128 + 1 * (y 0).val).trans ?_
    · rfl
    · rw [e6 a t]
      rfl
  | ⟨1, _⟩ =>
    refine (?_ : _ = ((cfg0 a).win 6).index t (⟨1, by decide⟩ : Fin 2) * 1024 + 1 * (y 1).val).trans ?_
    · rfl
    · rw [e6 a t]
      show 0 * 1024 + 1 * (y 1).val = (y 1).val
      omega

theorem e7 (t : Fin (cfg0 a).N) : ((cfg0 a).win 7).index t = ![t.val, 0] := (by decide +kernel : ∀ t : Fin grid0.N, cc0_transform_7 (grid0.coords t) = ![t.val, 0]) t

/-- An element of a block of window 7, as an element of the array. -/
theorem emb7 (t : Fin (cfg0 a).N) (y : S128x1024.Idx) : (((cfg0 a).win 7).blk t).view.emb y = ix2 (row a t (y 0)) (y 1) := by
  refine funext fun x => Fin.ext ?_
  match x with
  | ⟨0, _⟩ =>
    refine (?_ : _ = ((cfg0 a).win 7).index t (⟨0, by decide⟩ : Fin 2) * 128 + 1 * (y 0).val).trans ?_
    · rfl
    · rw [e7 a t]
      rfl
  | ⟨1, _⟩ =>
    refine (?_ : _ = ((cfg0 a).win 7).index t (⟨1, by decide⟩ : Fin 2) * 1024 + 1 * (y 1).val).trans ?_
    · rfl
    · rw [e7 a t]
      show 0 * 1024 + 1 * (y 1).val = (y 1).val
      omega

theorem e8 (t : Fin (cfg0 a).N) : ((cfg0 a).win 8).index t = ![t.val, 0] := (by decide +kernel : ∀ t : Fin grid0.N, cc0_transform_8 (grid0.coords t) = ![t.val, 0]) t

/-- An element of a block of window 8, as an element of the array. -/
theorem emb8 (t : Fin (cfg0 a).N) (y : S128x1024.Idx) : (((cfg0 a).win 8).blk t).view.emb y = ix2 (row a t (y 0)) (y 1) := by
  refine funext fun x => Fin.ext ?_
  match x with
  | ⟨0, _⟩ =>
    refine (?_ : _ = ((cfg0 a).win 8).index t (⟨0, by decide⟩ : Fin 2) * 128 + 1 * (y 0).val).trans ?_
    · rfl
    · rw [e8 a t]
      rfl
  | ⟨1, _⟩ =>
    refine (?_ : _ = ((cfg0 a).win 8).index t (⟨1, by decide⟩ : Fin 2) * 1024 + 1 * (y 1).val).trans ?_
    · rfl
    · rw [e8 a t]
      show 0 * 1024 + 1 * (y 1).val = (y 1).val
      omega

/-- The blocks of window 5 cover its array. -/
theorem covers5 : ((cfg0 a).win 5).Covers := by
  refine Pipeline.Window.covers_of_index_surj _ rfl (by show ∀ a : Fin 2, 0 < S128x1024.size a; decide) fun β => ?_
  have n0 : ((cfg0 a).win 5).nblk (⟨0, by decide⟩ : Fin 2) = 16 := by
    show (2048 + 128 - 1) / 128 = 16
    rfl
  have n1 : ((cfg0 a).win 5).nblk (⟨1, by decide⟩ : Fin 2) = 1 := by
    show (1024 + 1024 - 1) / 1024 = 1
    rfl
  have h0 : (β (⟨0, by decide⟩ : Fin 2)).val < 16 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 16 = grid0.N)⟩, fun x => ?_⟩
  rw [e5 a _]
  match x with
  | ⟨0, _⟩ => rfl
  | ⟨1, _⟩ =>
    show 0 = (β (⟨1, by decide⟩ : Fin 2)).val
    omega

/-- The blocks of window 6 cover its array. -/
theorem covers6 : ((cfg0 a).win 6).Covers := by
  refine Pipeline.Window.covers_of_index_surj _ rfl (by show ∀ a : Fin 2, 0 < S128x1024.size a; decide) fun β => ?_
  have n0 : ((cfg0 a).win 6).nblk (⟨0, by decide⟩ : Fin 2) = 16 := by
    show (2048 + 128 - 1) / 128 = 16
    rfl
  have n1 : ((cfg0 a).win 6).nblk (⟨1, by decide⟩ : Fin 2) = 1 := by
    show (1024 + 1024 - 1) / 1024 = 1
    rfl
  have h0 : (β (⟨0, by decide⟩ : Fin 2)).val < 16 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 16 = grid0.N)⟩, fun x => ?_⟩
  rw [e6 a _]
  match x with
  | ⟨0, _⟩ => rfl
  | ⟨1, _⟩ =>
    show 0 = (β (⟨1, by decide⟩ : Fin 2)).val
    omega

/-- The blocks of window 7 cover its array. -/
theorem covers7 : ((cfg0 a).win 7).Covers := by
  refine Pipeline.Window.covers_of_index_surj _ rfl (by show ∀ a : Fin 2, 0 < S128x1024.size a; decide) fun β => ?_
  have n0 : ((cfg0 a).win 7).nblk (⟨0, by decide⟩ : Fin 2) = 16 := by
    show (2048 + 128 - 1) / 128 = 16
    rfl
  have n1 : ((cfg0 a).win 7).nblk (⟨1, by decide⟩ : Fin 2) = 1 := by
    show (1024 + 1024 - 1) / 1024 = 1
    rfl
  have h0 : (β (⟨0, by decide⟩ : Fin 2)).val < 16 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 16 = grid0.N)⟩, fun x => ?_⟩
  rw [e7 a _]
  match x with
  | ⟨0, _⟩ => rfl
  | ⟨1, _⟩ =>
    show 0 = (β (⟨1, by decide⟩ : Fin 2)).val
    omega

/-- The blocks of window 8 cover its array. -/
theorem covers8 : ((cfg0 a).win 8).Covers := by
  refine Pipeline.Window.covers_of_index_surj _ rfl (by show ∀ a : Fin 2, 0 < S128x1024.size a; decide) fun β => ?_
  have n0 : ((cfg0 a).win 8).nblk (⟨0, by decide⟩ : Fin 2) = 16 := by
    show (2048 + 128 - 1) / 128 = 16
    rfl
  have n1 : ((cfg0 a).win 8).nblk (⟨1, by decide⟩ : Fin 2) = 1 := by
    show (1024 + 1024 - 1) / 1024 = 1
    rfl
  have h0 : (β (⟨0, by decide⟩ : Fin 2)).val < 16 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 16 = grid0.N)⟩, fun x => ?_⟩
  rw [e8 a _]
  match x with
  | ⟨0, _⟩ => rfl
  | ⟨1, _⟩ =>
    show 0 = (β (⟨1, by decide⟩ : Fin 2)).val
    omega

end

variable (m : (ℓ : Loc nD τ sig) → Buf (Elt Ideal) ℓ) (ρ : Dev nD → PrngReg) (hO : Ok m)

theorem eq0 : IntOp.cmpi CmpIPredicate.eq 0#32 0#32 = 1 := by decide
theorem ne1 : ¬ IntOp.cmpi CmpIPredicate.eq 0#32 1#32 = 1 := by decide
theorem ne2 : ¬ IntOp.cmpi CmpIPredicate.eq 0#32 2#32 = 1 := by decide
theorem ne3 : ¬ IntOp.cmpi CmpIPredicate.eq 0#32 3#32 = 1 := by decide
theorem ne4 : ¬ IntOp.cmpi CmpIPredicate.eq 0#32 4#32 = 1 := by decide
theorem ne5 : ¬ IntOp.cmpi CmpIPredicate.eq 0#32 5#32 = 1 := by decide
theorem ne6 : ¬ IntOp.cmpi CmpIPredicate.eq 0#32 6#32 = 1 := by decide
theorem ne7 : ¬ IntOp.cmpi CmpIPredicate.eq 0#32 7#32 = 1 := by decide

/-- The sum of the blocks of the devices' parts at an element, the first one this device's own. -/
def partSum (x0 : Vec Ideal S8x128x1024 .bf16) (x1 : Vec Ideal S1x128x1024 .bf16) (a : Fin 128) (b : Fin 1024) : EReal :=
  x1 (ix3 0 a b) + x0 (ix3 1 a b) + x0 (ix3 2 a b) + x0 (ix3 3 a b) + x0 (ix3 4 a b) + x0 (ix3 5 a b) + x0 (ix3 6 a b) + x0 (ix3 7 a b)

/-- The gradient at an element: the sum of the devices' parts, the first one this device's own. -/
def grad (x0 x1 : Vec Ideal S8x2048x1024 .bf16) (a : Fin 2048) (b : Fin 1024) : EReal :=
  x1 (ix3 0 a b) + x0 (ix3 1 a b) + x0 (ix3 2 a b) + x0 (ix3 3 a b) + x0 (ix3 4 a b) + x0 (ix3 5 a b) + x0 (ix3 6 a b) + x0 (ix3 7 a b)

/-- The block of the gradient that the body stores, element by element. -/
theorem out5 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x1024.Idx) : out0_A_5 (F := Ideal) c i a2 h2 a3 h3 a4 h4 a5 h5 a6 h6 a7 h7 a8 h8 a9 h9 a10 h10 x0 x1 x2 x3 x4 xt y = partSum x0 x1 (y 0) (y 1) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The block of the change of the weights that the body stores, element by element. -/
theorem out6 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x1024.Idx) : out0_A_6 (F := Ideal) c i a2 h2 a3 h3 a4 h4 a5 h5 a6 h6 a7 h7 a8 h8 a9 h9 a10 h10 x0 x1 x2 x3 x4 xt y = dNew (partSum x0 x1 (y 0) (y 1)) (x2 y) (x3 y) (x4 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The block of the new first moment that the body stores, element by element. -/
theorem out7 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x1024.Idx) : out0_A_7 (F := Ideal) c i a2 h2 a3 h3 a4 h4 a5 h5 a6 h6 a7 h7 a8 h8 a9 h9 a10 h10 x0 x1 x2 x3 x4 xt y = mNew (partSum x0 x1 (y 0) (y 1)) (x3 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The block of the new second moment that the body stores, element by element. -/
theorem out8 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x1024.Idx) : out0_A_8 (F := Ideal) c i a2 h2 a3 h3 a4 h4 a5 h5 a6 h6 a7 h7 a8 h8 a9 h9 a10 h10 x0 x1 x2 x3 x4 xt y = vNew (partSum x0 x1 (y 0) (y 1)) (x4 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The blocks of the parts. -/
theorem blk0 (c : Dev nD) (t : Fin (cfgM m hO).N) (k : Fin 8) (a : Fin 128) (b : Fin 1024) : iblk m hO c 0 t (ix3 k a b) = m ((c : Thread nD τ).loc main_arg0) (ix3 k (row (adm m hO) t a) b) :=
  (congrFun (V_main_arg0 m c) _).trans (congrArg (m ((c : Thread nD τ).loc main_arg0)) (emb0 (adm m hO) t k a b))

/-- The block of the device's own part. -/
theorem blk1 (c : Dev nD) (t : Fin (cfgM m hO).N) (a : Fin 128) (b : Fin 1024) : iblk m hO c 1 t (ix3 0 a b) = m ((c : Thread nD τ).loc main_arg1) (ix3 0 (row (adm m hO) t a) b) :=
  (congrFun (V_main_arg1 m c) _).trans (congrArg (m ((c : Thread nD τ).loc main_arg1)) (emb1 (adm m hO) (index_mine m) t a b))

/-- The block of the weights. -/
theorem blk2 (c : Dev nD) (t : Fin (cfgM m hO).N) (y : S128x1024.Idx) : iblk m hO c 2 t y = m ((c : Thread nD τ).loc main_arg2) (ix2 (row (adm m hO) t (y 0)) (y 1)) :=
  (congrFun (V_main_arg2 m c) _).trans (congrArg (m ((c : Thread nD τ).loc main_arg2)) (emb2 (adm m hO) t y))

/-- The block of the first moment. -/
theorem blk3 (c : Dev nD) (t : Fin (cfgM m hO).N) (y : S128x1024.Idx) : iblk m hO c 3 t y = m ((c : Thread nD τ).loc main_arg3) (ix2 (row (adm m hO) t (y 0)) (y 1)) :=
  (congrFun (V_main_arg3 m c) _).trans (congrArg (m ((c : Thread nD τ).loc main_arg3)) (emb3 (adm m hO) t y))

/-- The block of the second moment. -/
theorem blk4 (c : Dev nD) (t : Fin (cfgM m hO).N) (y : S128x1024.Idx) : iblk m hO c 4 t y = m ((c : Thread nD τ).loc main_arg4) (ix2 (row (adm m hO) t (y 0)) (y 1)) :=
  (congrFun (V_main_arg4 m c) _).trans (congrArg (m ((c : Thread nD τ).loc main_arg4)) (emb4 (adm m hO) t y))

/-- The block's sum is the gradient's block. -/
theorem part_eq (c : Dev nD) (t : Fin (cfgM m hO).N) (a : Fin 128) (b : Fin 1024) : partSum (iblk m hO c 0 t) (iblk m hO c 1 t) a b = grad (m ((c : Thread nD τ).loc main_arg0)) (m ((c : Thread nD τ).loc main_arg1)) (row (adm m hO) t a) b := by
  unfold partSum grad
  rw [blk1 m hO c t a b, blk0 m hO c t 1 a b, blk0 m hO c t 2 a b, blk0 m hO c t 3 a b, blk0 m hO c t 4 a b, blk0 m hO c t 5 a b, blk0 m hO c t 6 a b, blk0 m hO c t 7 a b]

/-- The gradient. -/
theorem final_g (c : Dev nD) : (dats m hO 0 c).arrAt 5 (cfgM m hO).N = fun j : S2048x1024.Idx => grad (m ((c : Thread nD τ).loc main_arg0)) (m ((c : Thread nD τ).loc main_arg1)) (j 0) (j 1) := by
  have key : ∀ t (y : S128x1024.Idx), (outsAt0 m hO c t).1 y = (fun j : S2048x1024.Idx => grad (m ((c : Thread nD τ).loc main_arg0)) (m ((c : Thread nD τ).loc main_arg1)) (j 0) (j 1)) ((((cfgM m hO).win 5).blk t).view.emb y) := by
    intro t y
    rw [emb5 (adm m hO) t y]
    unfold outsAt0
    dsimp only
    rw [out5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1)]
    rfl
  refine (dats m hO 0 c).arrAt_eq_of_covers 5 _ (covers5 (adm m hO)) fun t hf y => ?_
  blk_simp
  rw [after0_5]
  exact key t y

/-- The change of the weights. -/
theorem final_d (c : Dev nD) : (dats m hO 0 c).arrAt 6 (cfgM m hO).N = fun j : S2048x1024.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j) := by
  have key : ∀ t (y : S128x1024.Idx), (outsAt0 m hO c t).2.1 y = (fun j : S2048x1024.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j)) ((((cfgM m hO).win 6).blk t).view.emb y) := by
    intro t y
    rw [emb6 (adm m hO) t y]
    unfold outsAt0
    dsimp only
    rw [out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk2 m hO c t y, blk3 m hO c t y, blk4 m hO c t y]
    rfl
  refine (dats m hO 0 c).arrAt_eq_of_covers 6 _ (covers6 (adm m hO)) fun t hf y => ?_
  blk_simp
  rw [after0_6]
  exact key t y

/-- The new first moment. -/
theorem final_m (c : Dev nD) : (dats m hO 0 c).arrAt 7 (cfgM m hO).N = fun j : S2048x1024.Idx => mNew (grad (m ((c : Thread nD τ).loc main_arg0)) (m ((c : Thread nD τ).loc main_arg1)) (j 0) (j 1)) (m ((c : Thread nD τ).loc main_arg3) j) := by
  have key : ∀ t (y : S128x1024.Idx), (outsAt0 m hO c t).2.2.1 y = (fun j : S2048x1024.Idx => mNew (grad (m ((c : Thread nD τ).loc main_arg0)) (m ((c : Thread nD τ).loc main_arg1)) (j 0) (j 1)) (m ((c : Thread nD τ).loc main_arg3) j)) ((((cfgM m hO).win 7).blk t).view.emb y) := by
    intro t y
    rw [emb7 (adm m hO) t y]
    unfold outsAt0
    dsimp only
    rw [out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk3 m hO c t y]
    rfl
  refine (dats m hO 0 c).arrAt_eq_of_covers 7 _ (covers7 (adm m hO)) fun t hf y => ?_
  blk_simp
  rw [after0_7]
  exact key t y

/-- The new second moment. -/
theorem final_v (c : Dev nD) : (dats m hO 0 c).arrAt 8 (cfgM m hO).N = fun j : S2048x1024.Idx => vNew (grad (m ((c : Thread nD τ).loc main_arg0)) (m ((c : Thread nD τ).loc main_arg1)) (j 0) (j 1)) (m ((c : Thread nD τ).loc main_arg4) j) := by
  have key : ∀ t (y : S128x1024.Idx), (outsAt0 m hO c t).2.2.2 y = (fun j : S2048x1024.Idx => vNew (grad (m ((c : Thread nD τ).loc main_arg0)) (m ((c : Thread nD τ).loc main_arg1)) (j 0) (j 1)) (m ((c : Thread nD τ).loc main_arg4) j)) ((((cfgM m hO).win 8).blk t).view.emb y) := by
    intro t y
    rw [emb8 (adm m hO) t y]
    unfold outsAt0
    dsimp only
    rw [out8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk4 m hO c t y]
    rfl
  refine (dats m hO 0 c).arrAt_eq_of_covers 8 _ (covers8 (adm m hO)) fun t hf y => ?_
  blk_simp
  rw [after0_8]
  exact key t y

/-- What a run of the call leaves in its results' and its arguments' arrays. -/
theorem run_blocks : θ_run defs (onTc (τ := τ) (main (F := Ideal))) ⟨m, fun _ => 0, ρ⟩ fun r => ∀ c : Dev nD,
    r.2.mem ((c : Thread nD τ).loc main_v1_0) = (dats m hO 0 c).arrAt 5 (cfgM m hO).N
    ∧ r.2.mem ((c : Thread nD τ).loc main_v1_1) = (dats m hO 0 c).arrAt 6 (cfgM m hO).N
    ∧ r.2.mem ((c : Thread nD τ).loc main_v1_2) = (dats m hO 0 c).arrAt 7 (cfgM m hO).N
    ∧ r.2.mem ((c : Thread nD τ).loc main_v1_3) = (dats m hO 0 c).arrAt 8 (cfgM m hO).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1 5, (h c).1 6, (h c).1 7, (h c).1 8,
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c)))⟩) (run_main m ρ hO)

section
open Cert.RAdFf1Ideal.Read

/-- The reference's gradient. -/
theorem ref_g (x0 x1 : S8x2048x1024.Idx → EReal) : val_main_v4 (F := Ideal) x0 x1 = fun j : S2048x1024.Idx => grad x0 x1 (j 0) (j 1) := by
  funext j
  simp only [val_main_v4, val_main_v3, val_main_v2, val_main_v1, val_main_v0, val_main_cst]
  simp only [pointwise, zero_add]
  refine (congrArg₂ (fun a b : EReal => a + b) (?_ : _ = x1 (ix3 0 (j 0) (j 1))) (?_ : _ = ∑ x : Fin 7, x0 (ix3 (⟨x.val + 1, by omega⟩ : Fin 8) (j 0) (j 1)))).trans ?_
  · refine (Fin.sum_univ_one _).trans ((dif_pos Nat.one_pos).trans (congrArg x1 (funext fun a => Fin.ext ?_)))
    match a with
    | ⟨0, _⟩ => rfl
    | ⟨1, _⟩ => exact Nat.zero_add _
    | ⟨2, _⟩ => exact Nat.zero_add _
  · refine Finset.sum_congr rfl fun x _ => (dif_neg id).trans (congrArg x0 (funext fun a => Fin.ext ?_))
    match a with
    | ⟨0, _⟩ =>
      show 1 + (if True then 1 + x.val - 1 else 1 + x.val) = x.val + 1
      rw [if_pos trivial]
      omega
    | ⟨1, _⟩ =>
      show 0 + (if (1 : Nat) = 0 then 1 + x.val - 1 else (j 0).val) = (j 0).val
      rw [if_neg Nat.one_ne_zero]
      exact Nat.zero_add _
    | ⟨2, _⟩ =>
      show 0 + (if (2 : Nat) = 0 then 1 + x.val - 1 else (j 1).val) = (j 1).val
      rw [if_neg (by decide)]
      exact Nat.zero_add _
  · rw [Fin.sum_univ_seven]
    unfold grad
    simp only [add_assoc]
    rfl

/-- The reference's new first moment. -/
theorem ref_m (x0 x1 : S8x2048x1024.Idx → EReal) (x3 : S2048x1024.Idx → EReal) : val_main_v9 (F := Ideal) x0 x1 x3 = fun j : S2048x1024.Idx => mNew (grad x0 x1 (j 0) (j 1)) (x3 j) := by
  funext j
  simp only [val_main_v9, val_main_v8, val_main_v7, val_main_v6, val_main_v5, val_main_cst_0, val_main_cst_1, ref_g]
  simp only [pointwise]
  rfl

/-- The reference's new second moment. -/
theorem ref_v (x0 x1 : S8x2048x1024.Idx → EReal) (x4 : S2048x1024.Idx → EReal) : val_main_v15 (F := Ideal) x0 x1 x4 = fun j : S2048x1024.Idx => vNew (grad x0 x1 (j 0) (j 1)) (x4 j) := by
  funext j
  simp only [val_main_v15, val_main_v14, val_main_v13, val_main_v12, val_main_v11, val_main_v10, val_main_cst_2, val_main_cst_3, ref_g]
  simp only [pointwise]
  rfl

/-- The reference's change of the weights. -/
theorem ref_d (x0 x1 : S8x2048x1024.Idx → EReal) (x2 x3 x4 : S2048x1024.Idx → EReal) : val_main_v28 (F := Ideal) x0 x1 x2 x3 x4 = fun j : S2048x1024.Idx => dNew (grad x0 x1 (j 0) (j 1)) (x2 j) (x3 j) (x4 j) := by
  funext j
  simp only [val_main_v28, val_main_v27, val_main_v26, val_main_v25, val_main_v24, val_main_v23, val_main_v22, val_main_v21, val_main_v20, val_main_v19, val_main_v18, val_main_v17, val_main_v16, val_main_cst_4, val_main_cst_5, val_main_cst_6, val_main_cst_7, val_main_cst_8, ref_g, ref_m, ref_v]
  simp only [pointwise]
  rfl

/-- From memories that agree on the arguments the call and the reference leave equal results. -/
theorem algebraic : Cert.algebraic_KAdFf1Ideal_RAdFf1Ideal :=
  fun m ρ m' ρ' _ hag => ⟨fun c => fun j : S2048x1024.Idx => grad (m ((c : Thread nD τ).loc main_arg0)) (m ((c : Thread nD τ).loc main_arg1)) (j 0) (j 1),
    fun c => fun j : S2048x1024.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j),
    fun c => fun j : S2048x1024.Idx => mNew (grad (m ((c : Thread nD τ).loc main_arg0)) (m ((c : Thread nD τ).loc main_arg1)) (j 0) (j 1)) (m ((c : Thread nD τ).loc main_arg3) j),
    fun c => fun j : S2048x1024.Idx => vNew (grad (m ((c : Thread nD τ).loc main_arg0)) (m ((c : Thread nD τ).loc main_arg1)) (j 0) (j 1)) (m ((c : Thread nD τ).loc main_arg4) j),
    (θ_run _ _ _).mono (fun _ h c => ⟨(h c).1.trans (final_g m (ok m) c), (h c).2.1.trans (final_d m (ok m) c), (h c).2.2.1.trans (final_m m (ok m) c), (h c).2.2.2.1.trans (final_v m (ok m) c), (h c).2.2.2.2⟩) (run_blocks m ρ (ok m)),
    (θ_run _ _ _).mono (fun _ h c => ⟨(h c).1.trans (by
        rw [(hag c).1, (hag c).2.1]; exact (val_main_v4_eq _ _).trans (ref_g _ _)),
      (h c).2.1.trans (by
        rw [(hag c).1, (hag c).2.1, (hag c).2.2.1, (hag c).2.2.2.1, (hag c).2.2.2.2]; exact (val_main_v28_eq _ _ _ _ _).trans (ref_d _ _ _ _ _)),
      (h c).2.2.1.trans (by
        rw [(hag c).1, (hag c).2.1, (hag c).2.2.2.1]; exact (val_main_v9_eq _ _ _).trans (ref_m _ _ _)),
      (h c).2.2.2.1.trans (by
        rw [(hag c).1, (hag c).2.1, (hag c).2.2.2.2]; exact (val_main_v15_eq _ _ _).trans (ref_v _ _ _)), (h c).2.2.2.2⟩)
      (Cert.RAdFf1Ideal.Value.run m' ρ')⟩
end

end Cert.KAdFf1Ideal.AdFf1

end

end
-- ==== Proof.AdOut.lean ====
module

public import proofs.«01_k».proof.Defs
public import proofs.«01_k».proof.Proof.AdStep
public import proofs.«01_k».proof.Proof.Gen.KAdOut.Frame
public import proofs.«01_k».proof.Proof.Gen.KAdOutIdeal.Frame
public import proofs.«01_k».proof.Proof.Gen.RAdOutIdeal.Run
public import proofs.«01_k».proof.Proof.Gen.RAdOutIdeal.Read
public import Idealize.ShloMosaic.Lib.Pipeline.ValueKit
public import Idealize.ShloMosaic.Lib.Pipeline.Covers
public import Idealize.ShloMosaic.Lib.Pointwise
public import Idealize.ShloMosaic.Lib.Quiescent

/-! The optimiser's step on the shard of the output projection: the sum of the devices' parts of its gradient, the change of the
weights and the two new moments. -/

@[expose] public section

noncomputable section

open Idealize.ShloMosaic Idealize.ShloMosaic.TcCoe Idealize.SL.Sem
open Idealize.ShloMosaic.Pipeline (Dat)
open Cert.AdStep

namespace Cert.KAdOut.AdOut

open Cert.KAdOut Cert.KAdOut.Gen

section
variable {F : FTy → Type} [FloatOps F]
variable (m : (ℓ : Loc nD τ sig) → Buf (Elt F) ℓ) (ρ : Dev nD → PrngReg)

/-- The table names slot 0. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own part are the first slot's. -/
theorem index_mine (i : grid0.Coords) : cc0_transform_1 inb_S1_S1_0 numel1_S1 (tbl m) i = ![0, (i 0).val, 0] := by
  have h : (tbl m).at 0 (Rect.unit (s := S1) ![0] S1.size inb_S1_S1_0) numel1_S1 = 0#32 := tbl_eq m _
  unfold cc0_transform_1
  simp only [h]
  revert i
  decide +kernel

/-- The blocks that the table names lie inside the array. -/
theorem ok : Ok m := by
  have key : ∀ i : grid0.Coords, ∃ h : (∀ a, ((![0, (i 0).val, 0] : Fin 3 → Nat) a + 1) * S1x128x2048.size a ≤ S8x256x2048.size a), EltTy.bits .bf16 = 32 ∨ (Rect.block (s := S8x256x2048) S1x128x2048.size ![0, (i 0).val, 0] h).WholeWords (EltTy.packing .bf16) := by
    decide +kernel
  intro i
  have e := index_mine m i
  generalize cc0_transform_1 inb_S1_S1_0 numel1_S1 (tbl m) i = X at e ⊢
  subst e
  exact key i
end

end Cert.KAdOut.AdOut

namespace Cert.KAdOutIdeal.AdOut

open Cert.KAdOutIdeal Cert.KAdOutIdeal.Gen

section
variable {F : FTy → Type} [FloatOps F]
variable (m : (ℓ : Loc nD τ sig) → Buf (Elt F) ℓ) (ρ : Dev nD → PrngReg)

/-- The table names slot 0. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own part are the first slot's. -/
theorem index_mine (i : grid0.Coords) : cc0_transform_1 inb_S1_S1_0 numel1_S1 (tbl m) i = ![0, (i 0).val, 0] := by
  have h : (tbl m).at 0 (Rect.unit (s := S1) ![0] S1.size inb_S1_S1_0) numel1_S1 = 0#32 := tbl_eq m _
  unfold cc0_transform_1
  simp only [h]
  revert i
  decide +kernel

/-- The blocks that the table names lie inside the array. -/
theorem ok : Ok m := by
  have key : ∀ i : grid0.Coords, ∃ h : (∀ a, ((![0, (i 0).val, 0] : Fin 3 → Nat) a + 1) * S1x128x2048.size a ≤ S8x256x2048.size a), EltTy.bits .bf16 = 32 ∨ (Rect.block (s := S8x256x2048) S1x128x2048.size ![0, (i 0).val, 0] h).WholeWords (EltTy.packing .bf16) := by
    decide +kernel
  intro i
  have e := index_mine m i
  generalize cc0_transform_1 inb_S1_S1_0 numel1_S1 (tbl m) i = X at e ⊢
  subst e
  exact key i
end

section
variable {F : FTy → Type} [FloatOps F]
variable (a : (pcfg0 (F := F)).Adm)

/-- The row of the array that row `b` of the block at point `t` is. -/
def row (t : Fin (cfg0 a).N) (b : Fin 128) : Fin 256 := ⟨t.val * 128 + 1 * b.val, by
  have h : t.val < 2 := lt_of_lt_of_eq t.isLt (by decide +kernel : grid0.N = 2)
  have := b.isLt
  omega⟩

theorem e0 (t : Fin (cfg0 a).N) : ((cfg0 a).win 0).index t = ![0, t.val, 0] := (by decide +kernel : ∀ t : Fin grid0.N, cc0_transform_0 (grid0.coords t) = ![0, t.val, 0]) t
theorem e1 (ha : ∀ i : grid0.Coords, cc0_transform_1 inb_S1_S1_0 numel1_S1 a.1 i = ![0, (i 0).val, 0]) (t : Fin (cfg0 a).N) : ((cfg0 a).win 1).index t = ![0, t.val, 0] :=
  (ha (grid0.coords t)).trans ((by decide +kernel : ∀ t : Fin grid0.N, ![0, (grid0.coords t 0).val, 0] = ![0, t.val, 0]) t)

/-- An element of a block of the parts, as an element of the array. -/
theorem emb0 (t : Fin (cfg0 a).N) (k : Fin 8) (p : Fin 128) (q : Fin 2048) : (((cfg0 a).win 0).blk t).view.emb (ix3 k p q) = ix3 k (row a t p) q := by
  refine funext fun x => Fin.ext ?_
  match x with
  | ⟨0, _⟩ =>
    refine (?_ : _ = ((cfg0 a).win 0).index t (⟨0, by decide⟩ : Fin 3) * 8 + 1 * k.val).trans ?_
    · rfl
    · rw [e0 a t]
      show 0 * 8 + 1 * k.val = k.val
      omega
  | ⟨1, _⟩ =>
    refine (?_ : _ = ((cfg0 a).win 0).index t (⟨1, by decide⟩ : Fin 3) * 128 + 1 * p.val).trans ?_
    · rfl
    · rw [e0 a t]
      rfl
  | ⟨2, _⟩ =>
    refine (?_ : _ = ((cfg0 a).win 0).index t (⟨2, by decide⟩ : Fin 3) * 2048 + 1 * q.val).trans ?_
    · rfl
    · rw [e0 a t]
      show 0 * 2048 + 1 * q.val = q.val
      omega

/-- An element of a block of the device's own part, as an element of the array. -/
theorem emb1 (ha : ∀ i : grid0.Coords, cc0_transform_1 inb_S1_S1_0 numel1_S1 a.1 i = ![0, (i 0).val, 0]) (t : Fin (cfg0 a).N) (p : Fin 128) (q : Fin 2048) : (((cfg0 a).win 1).blk t).view.emb (ix3 0 p q) = ix3 0 (row a t p) q := by
  refine funext fun x => Fin.ext ?_
  match x with
  | ⟨0, _⟩ =>
    refine (?_ : _ = ((cfg0 a).win 1).index t (⟨0, by decide⟩ : Fin 3) * 1 + 1 * 0).trans ?_
    · rfl
    · rw [e1 a ha t]
      rfl
  | ⟨1, _⟩ =>
    refine (?_ : _ = ((cfg0 a).win 1).index t (⟨1, by decide⟩ : Fin 3) * 128 + 1 * p.val).trans ?_
    · rfl
    · rw [e1 a ha t]
      rfl
  | ⟨2, _⟩ =>
    refine (?_ : _ = ((cfg0 a).win 1).index t (⟨2, by decide⟩ : Fin 3) * 2048 + 1 * q.val).trans ?_
    · rfl
    · rw [e1 a ha t]
      show 0 * 2048 + 1 * q.val = q.val
      omega

theorem e2 (t : Fin (cfg0 a).N) : ((cfg0 a).win 2).index t = ![t.val, 0] := (by decide +kernel : ∀ t : Fin grid0.N, cc0_transform_2 (grid0.coords t) = ![t.val, 0]) t

/-- An element of a block of window 2, as an element of the array. -/
theorem emb2 (t : Fin (cfg0 a).N) (y : S128x2048.Idx) : (((cfg0 a).win 2).blk t).view.emb y = ix2 (row a t (y 0)) (y 1) := by
  refine funext fun x => Fin.ext ?_
  match x with
  | ⟨0, _⟩ =>
    refine (?_ : _ = ((cfg0 a).win 2).index t (⟨0, by decide⟩ : Fin 2) * 128 + 1 * (y 0).val).trans ?_
    · rfl
    · rw [e2 a t]
      rfl
  | ⟨1, _⟩ =>
    refine (?_ : _ = ((cfg0 a).win 2).index t (⟨1, by decide⟩ : Fin 2) * 2048 + 1 * (y 1).val).trans ?_
    · rfl
    · rw [e2 a t]
      show 0 * 2048 + 1 * (y 1).val = (y 1).val
      omega

theorem e3 (t : Fin (cfg0 a).N) : ((cfg0 a).win 3).index t = ![t.val, 0] := (by decide +kernel : ∀ t : Fin grid0.N, cc0_transform_3 (grid0.coords t) = ![t.val, 0]) t

/-- An element of a block of window 3, as an element of the array. -/
theorem emb3 (t : Fin (cfg0 a).N) (y : S128x2048.Idx) : (((cfg0 a).win 3).blk t).view.emb y = ix2 (row a t (y 0)) (y 1) := by
  refine funext fun x => Fin.ext ?_
  match x with
  | ⟨0, _⟩ =>
    refine (?_ : _ = ((cfg0 a).win 3).index t (⟨0, by decide⟩ : Fin 2) * 128 + 1 * (y 0).val).trans ?_
    · rfl
    · rw [e3 a t]
      rfl
  | ⟨1, _⟩ =>
    refine (?_ : _ = ((cfg0 a).win 3).index t (⟨1, by decide⟩ : Fin 2) * 2048 + 1 * (y 1).val).trans ?_
    · rfl
    · rw [e3 a t]
      show 0 * 2048 + 1 * (y 1).val = (y 1).val
      omega

theorem e4 (t : Fin (cfg0 a).N) : ((cfg0 a).win 4).index t = ![t.val, 0] := (by decide +kernel : ∀ t : Fin grid0.N, cc0_transform_4 (grid0.coords t) = ![t.val, 0]) t

/-- An element of a block of window 4, as an element of the array. -/
theorem emb4 (t : Fin (cfg0 a).N) (y : S128x2048.Idx) : (((cfg0 a).win 4).blk t).view.emb y = ix2 (row a t (y 0)) (y 1) := by
  refine funext fun x => Fin.ext ?_
  match x with
  | ⟨0, _⟩ =>
    refine (?_ : _ = ((cfg0 a).win 4).index t (⟨0, by decide⟩ : Fin 2) * 128 + 1 * (y 0).val).trans ?_
    · rfl
    · rw [e4 a t]
      rfl
  | ⟨1, _⟩ =>
    refine (?_ : _ = ((cfg0 a).win 4).index t (⟨1, by decide⟩ : Fin 2) * 2048 + 1 * (y 1).val).trans ?_
    · rfl
    · rw [e4 a t]
      show 0 * 2048 + 1 * (y 1).val = (y 1).val
      omega

theorem e5 (t : Fin (cfg0 a).N) : ((cfg0 a).win 5).index t = ![t.val, 0] := (by decide +kernel : ∀ t : Fin grid0.N, cc0_transform_5 (grid0.coords t) = ![t.val, 0]) t

/-- An element of a block of window 5, as an element of the array. -/
theorem emb5 (t : Fin (cfg0 a).N) (y : S128x2048.Idx) : (((cfg0 a).win 5).blk t).view.emb y = ix2 (row a t (y 0)) (y 1) := by
  refine funext fun x => Fin.ext ?_
  match x with
  | ⟨0, _⟩ =>
    refine (?_ : _ = ((cfg0 a).win 5).index t (⟨0, by decide⟩ : Fin 2) * 128 + 1 * (y 0).val).trans ?_
    · rfl
    · rw [e5 a t]
      rfl
  | ⟨1, _⟩ =>
    refine (?_ : _ = ((cfg0 a).win 5).index t (⟨1, by decide⟩ : Fin 2) * 2048 + 1 * (y 1).val).trans ?_
    · rfl
    · rw [e5 a t]
      show 0 * 2048 + 1 * (y 1).val = (y 1).val
      omega

theorem e6 (t : Fin (cfg0 a).N) : ((cfg0 a).win 6).index t = ![t.val, 0] := (by decide +kernel : ∀ t : Fin grid0.N, cc0_transform_6 (grid0.coords t) = ![t.val, 0]) t

/-- An element of a block of window 6, as an element of the array. -/
theorem emb6 (t : Fin (cfg0 a).N) (y : S128x2048.Idx) : (((cfg0 a).win 6).blk t).view.emb y = ix2 (row a t (y 0)) (y 1) := by
  refine funext fun x => Fin.ext ?_
  match x with
  | ⟨0, _⟩ =>
    refine (?_ : _ = ((cfg0 a).win 6).index t (⟨0, by decide⟩ : Fin 2) * 128 + 1 * (y 0).val).trans ?_
    · rfl
    · rw [e6 a t]
      rfl
  | ⟨1, _⟩ =>
    refine (?_ : _ = ((cfg0 a).win 6).index t (⟨1, by decide⟩ : Fin 2) * 2048 + 1 * (y 1).val).trans ?_
    · rfl
    · rw [e6 a t]
      show 0 * 2048 + 1 * (y 1).val = (y 1).val
      omega

theorem e7 (t : Fin (cfg0 a).N) : ((cfg0 a).win 7).index t = ![t.val, 0] := (by decide +kernel : ∀ t : Fin grid0.N, cc0_transform_7 (grid0.coords t) = ![t.val, 0]) t

/-- An element of a block of window 7, as an element of the array. -/
theorem emb7 (t : Fin (cfg0 a).N) (y : S128x2048.Idx) : (((cfg0 a).win 7).blk t).view.emb y = ix2 (row a t (y 0)) (y 1) := by
  refine funext fun x => Fin.ext ?_
  match x with
  | ⟨0, _⟩ =>
    refine (?_ : _ = ((cfg0 a).win 7).index t (⟨0, by decide⟩ : Fin 2) * 128 + 1 * (y 0).val).trans ?_
    · rfl
    · rw [e7 a t]
      rfl
  | ⟨1, _⟩ =>
    refine (?_ : _ = ((cfg0 a).win 7).index t (⟨1, by decide⟩ : Fin 2) * 2048 + 1 * (y 1).val).trans ?_
    · rfl
    · rw [e7 a t]
      show 0 * 2048 + 1 * (y 1).val = (y 1).val
      omega

theorem e8 (t : Fin (cfg0 a).N) : ((cfg0 a).win 8).index t = ![t.val, 0] := (by decide +kernel : ∀ t : Fin grid0.N, cc0_transform_8 (grid0.coords t) = ![t.val, 0]) t

/-- An element of a block of window 8, as an element of the array. -/
theorem emb8 (t : Fin (cfg0 a).N) (y : S128x2048.Idx) : (((cfg0 a).win 8).blk t).view.emb y = ix2 (row a t (y 0)) (y 1) := by
  refine funext fun x => Fin.ext ?_
  match x with
  | ⟨0, _⟩ =>
    refine (?_ : _ = ((cfg0 a).win 8).index t (⟨0, by decide⟩ : Fin 2) * 128 + 1 * (y 0).val).trans ?_
    · rfl
    · rw [e8 a t]
      rfl
  | ⟨1, _⟩ =>
    refine (?_ : _ = ((cfg0 a).win 8).index t (⟨1, by decide⟩ : Fin 2) * 2048 + 1 * (y 1).val).trans ?_
    · rfl
    · rw [e8 a t]
      show 0 * 2048 + 1 * (y 1).val = (y 1).val
      omega

/-- The blocks of window 5 cover its array. -/
theorem covers5 : ((cfg0 a).win 5).Covers := by
  refine Pipeline.Window.covers_of_index_surj _ rfl (by show ∀ a : Fin 2, 0 < S128x2048.size a; decide) fun β => ?_
  have n0 : ((cfg0 a).win 5).nblk (⟨0, by decide⟩ : Fin 2) = 2 := by
    show (256 + 128 - 1) / 128 = 2
    rfl
  have n1 : ((cfg0 a).win 5).nblk (⟨1, by decide⟩ : Fin 2) = 1 := by
    show (2048 + 2048 - 1) / 2048 = 1
    rfl
  have h0 : (β (⟨0, by decide⟩ : Fin 2)).val < 2 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 2 = grid0.N)⟩, fun x => ?_⟩
  rw [e5 a _]
  match x with
  | ⟨0, _⟩ => rfl
  | ⟨1, _⟩ =>
    show 0 = (β (⟨1, by decide⟩ : Fin 2)).val
    omega

/-- The blocks of window 6 cover its array. -/
theorem covers6 : ((cfg0 a).win 6).Covers := by
  refine Pipeline.Window.covers_of_index_surj _ rfl (by show ∀ a : Fin 2, 0 < S128x2048.size a; decide) fun β => ?_
  have n0 : ((cfg0 a).win 6).nblk (⟨0, by decide⟩ : Fin 2) = 2 := by
    show (256 + 128 - 1) / 128 = 2
    rfl
  have n1 : ((cfg0 a).win 6).nblk (⟨1, by decide⟩ : Fin 2) = 1 := by
    show (2048 + 2048 - 1) / 2048 = 1
    rfl
  have h0 : (β (⟨0, by decide⟩ : Fin 2)).val < 2 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 2 = grid0.N)⟩, fun x => ?_⟩
  rw [e6 a _]
  match x with
  | ⟨0, _⟩ => rfl
  | ⟨1, _⟩ =>
    show 0 = (β (⟨1, by decide⟩ : Fin 2)).val
    omega

/-- The blocks of window 7 cover its array. -/
theorem covers7 : ((cfg0 a).win 7).Covers := by
  refine Pipeline.Window.covers_of_index_surj _ rfl (by show ∀ a : Fin 2, 0 < S128x2048.size a; decide) fun β => ?_
  have n0 : ((cfg0 a).win 7).nblk (⟨0, by decide⟩ : Fin 2) = 2 := by
    show (256 + 128 - 1) / 128 = 2
    rfl
  have n1 : ((cfg0 a).win 7).nblk (⟨1, by decide⟩ : Fin 2) = 1 := by
    show (2048 + 2048 - 1) / 2048 = 1
    rfl
  have h0 : (β (⟨0, by decide⟩ : Fin 2)).val < 2 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 2 = grid0.N)⟩, fun x => ?_⟩
  rw [e7 a _]
  match x with
  | ⟨0, _⟩ => rfl
  | ⟨1, _⟩ =>
    show 0 = (β (⟨1, by decide⟩ : Fin 2)).val
    omega

/-- The blocks of window 8 cover its array. -/
theorem covers8 : ((cfg0 a).win 8).Covers := by
  refine Pipeline.Window.covers_of_index_surj _ rfl (by show ∀ a : Fin 2, 0 < S128x2048.size a; decide) fun β => ?_
  have n0 : ((cfg0 a).win 8).nblk (⟨0, by decide⟩ : Fin 2) = 2 := by
    show (256 + 128 - 1) / 128 = 2
    rfl
  have n1 : ((cfg0 a).win 8).nblk (⟨1, by decide⟩ : Fin 2) = 1 := by
    show (2048 + 2048 - 1) / 2048 = 1
    rfl
  have h0 : (β (⟨0, by decide⟩ : Fin 2)).val < 2 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 2 = grid0.N)⟩, fun x => ?_⟩
  rw [e8 a _]
  match x with
  | ⟨0, _⟩ => rfl
  | ⟨1, _⟩ =>
    show 0 = (β (⟨1, by decide⟩ : Fin 2)).val
    omega

end

variable (m : (ℓ : Loc nD τ sig) → Buf (Elt Ideal) ℓ) (ρ : Dev nD → PrngReg) (hO : Ok m)

theorem eq0 : IntOp.cmpi CmpIPredicate.eq 0#32 0#32 = 1 := by decide
theorem ne1 : ¬ IntOp.cmpi CmpIPredicate.eq 0#32 1#32 = 1 := by decide
theorem ne2 : ¬ IntOp.cmpi CmpIPredicate.eq 0#32 2#32 = 1 := by decide
theorem ne3 : ¬ IntOp.cmpi CmpIPredicate.eq 0#32 3#32 = 1 := by decide
theorem ne4 : ¬ IntOp.cmpi CmpIPredicate.eq 0#32 4#32 = 1 := by decide
theorem ne5 : ¬ IntOp.cmpi CmpIPredicate.eq 0#32 5#32 = 1 := by decide
theorem ne6 : ¬ IntOp.cmpi CmpIPredicate.eq 0#32 6#32 = 1 := by decide
theorem ne7 : ¬ IntOp.cmpi CmpIPredicate.eq 0#32 7#32 = 1 := by decide

/-- The sum of the blocks of the devices' parts at an element, the first one this device's own. -/
def partSum (x0 : Vec Ideal S8x128x2048 .bf16) (x1 : Vec Ideal S1x128x2048 .bf16) (a : Fin 128) (b : Fin 2048) : EReal :=
  x1 (ix3 0 a b) + x0 (ix3 1 a b) + x0 (ix3 2 a b) + x0 (ix3 3 a b) + x0 (ix3 4 a b) + x0 (ix3 5 a b) + x0 (ix3 6 a b) + x0 (ix3 7 a b)

/-- The gradient at an element: the sum of the devices' parts, the first one this device's own. -/
def grad (x0 x1 : Vec Ideal S8x256x2048 .bf16) (a : Fin 256) (b : Fin 2048) : EReal :=
  x1 (ix3 0 a b) + x0 (ix3 1 a b) + x0 (ix3 2 a b) + x0 (ix3 3 a b) + x0 (ix3 4 a b) + x0 (ix3 5 a b) + x0 (ix3 6 a b) + x0 (ix3 7 a b)

/-- The block of the gradient that the body stores, element by element. -/
theorem out5 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x2048.Idx) : out0_A_5 (F := Ideal) c i a2 h2 a3 h3 a4 h4 a5 h5 a6 h6 a7 h7 a8 h8 a9 h9 a10 h10 x0 x1 x2 x3 x4 xt y = partSum x0 x1 (y 0) (y 1) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The block of the change of the weights that the body stores, element by element. -/
theorem out6 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x2048.Idx) : out0_A_6 (F := Ideal) c i a2 h2 a3 h3 a4 h4 a5 h5 a6 h6 a7 h7 a8 h8 a9 h9 a10 h10 x0 x1 x2 x3 x4 xt y = dNew (partSum x0 x1 (y 0) (y 1)) (x2 y) (x3 y) (x4 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The block of the new first moment that the body stores, element by element. -/
theorem out7 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x2048.Idx) : out0_A_7 (F := Ideal) c i a2 h2 a3 h3 a4 h4 a5 h5 a6 h6 a7 h7 a8 h8 a9 h9 a10 h10 x0 x1 x2 x3 x4 xt y = mNew (partSum x0 x1 (y 0) (y 1)) (x3 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The block of the new second moment that the body stores, element by element. -/
theorem out8 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x2048.Idx) : out0_A_8 (F := Ideal) c i a2 h2 a3 h3 a4 h4 a5 h5 a6 h6 a7 h7 a8 h8 a9 h9 a10 h10 x0 x1 x2 x3 x4 xt y = vNew (partSum x0 x1 (y 0) (y 1)) (x4 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, if_neg ne4, if_neg ne5, if_neg ne6, if_neg ne7, Matrix.cons_val, Matrix.cons_val_one, Matrix.cons_val_zero, zero_add, one_mul]
  rfl

/-- The blocks of the parts. -/
theorem blk0 (c : Dev nD) (t : Fin (cfgM m hO).N) (k : Fin 8) (a : Fin 128) (b : Fin 2048) : iblk m hO c 0 t (ix3 k a b) = m ((c : Thread nD τ).loc main_arg0) (ix3 k (row (adm m hO) t a) b) :=
  (congrFun (V_main_arg0 m c) _).trans (congrArg (m ((c : Thread nD τ).loc main_arg0)) (emb0 (adm m hO) t k a b))

/-- The block of the device's own part. -/
theorem blk1 (c : Dev nD) (t : Fin (cfgM m hO).N) (a : Fin 128) (b : Fin 2048) : iblk m hO c 1 t (ix3 0 a b) = m ((c : Thread nD τ).loc main_arg1) (ix3 0 (row (adm m hO) t a) b) :=
  (congrFun (V_main_arg1 m c) _).trans (congrArg (m ((c : Thread nD τ).loc main_arg1)) (emb1 (adm m hO) (index_mine m) t a b))

/-- The block of the weights. -/
theorem blk2 (c : Dev nD) (t : Fin (cfgM m hO).N) (y : S128x2048.Idx) : iblk m hO c 2 t y = m ((c : Thread nD τ).loc main_arg2) (ix2 (row (adm m hO) t (y 0)) (y 1)) :=
  (congrFun (V_main_arg2 m c) _).trans (congrArg (m ((c : Thread nD τ).loc main_arg2)) (emb2 (adm m hO) t y))

/-- The block of the first moment. -/
theorem blk3 (c : Dev nD) (t : Fin (cfgM m hO).N) (y : S128x2048.Idx) : iblk m hO c 3 t y = m ((c : Thread nD τ).loc main_arg3) (ix2 (row (adm m hO) t (y 0)) (y 1)) :=
  (congrFun (V_main_arg3 m c) _).trans (congrArg (m ((c : Thread nD τ).loc main_arg3)) (emb3 (adm m hO) t y))

/-- The block of the second moment. -/
theorem blk4 (c : Dev nD) (t : Fin (cfgM m hO).N) (y : S128x2048.Idx) : iblk m hO c 4 t y = m ((c : Thread nD τ).loc main_arg4) (ix2 (row (adm m hO) t (y 0)) (y 1)) :=
  (congrFun (V_main_arg4 m c) _).trans (congrArg (m ((c : Thread nD τ).loc main_arg4)) (emb4 (adm m hO) t y))

/-- The block's sum is the gradient's block. -/
theorem part_eq (c : Dev nD) (t : Fin (cfgM m hO).N) (a : Fin 128) (b : Fin 2048) : partSum (iblk m hO c 0 t) (iblk m hO c 1 t) a b = grad (m ((c : Thread nD τ).loc main_arg0)) (m ((c : Thread nD τ).loc main_arg1)) (row (adm m hO) t a) b := by
  unfold partSum grad
  rw [blk1 m hO c t a b, blk0 m hO c t 1 a b, blk0 m hO c t 2 a b, blk0 m hO c t 3 a b, blk0 m hO c t 4 a b, blk0 m hO c t 5 a b, blk0 m hO c t 6 a b, blk0 m hO c t 7 a b]

/-- The gradient. -/
theorem final_g (c : Dev nD) : (dats m hO 0 c).arrAt 5 (cfgM m hO).N = fun j : S256x2048.Idx => grad (m ((c : Thread nD τ).loc main_arg0)) (m ((c : Thread nD τ).loc main_arg1)) (j 0) (j 1) := by
  have key : ∀ t (y : S128x2048.Idx), (outsAt0 m hO c t).1 y = (fun j : S256x2048.Idx => grad (m ((c : Thread nD τ).loc main_arg0)) (m ((c : Thread nD τ).loc main_arg1)) (j 0) (j 1)) ((((cfgM m hO).win 5).blk t).view.emb y) := by
    intro t y
    rw [emb5 (adm m hO) t y]
    unfold outsAt0
    dsimp only
    rw [out5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1)]
    rfl
  refine (dats m hO 0 c).arrAt_eq_of_covers 5 _ (covers5 (adm m hO)) fun t hf y => ?_
  blk_simp
  rw [after0_5]
  exact key t y

/-- The change of the weights. -/
theorem final_d (c : Dev nD) : (dats m hO 0 c).arrAt 6 (cfgM m hO).N = fun j : S256x2048.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j) := by
  have key : ∀ t (y : S128x2048.Idx), (outsAt0 m hO c t).2.1 y = (fun j : S256x2048.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j)) ((((cfgM m hO).win 6).blk t).view.emb y) := by
    intro t y
    rw [emb6 (adm m hO) t y]
    unfold outsAt0
    dsimp only
    rw [out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk2 m hO c t y, blk3 m hO c t y, blk4 m hO c t y]
    rfl
  refine (dats m hO 0 c).arrAt_eq_of_covers 6 _ (covers6 (adm m hO)) fun t hf y => ?_
  blk_simp
  rw [after0_6]
  exact key t y

/-- The new first moment. -/
theorem final_m (c : Dev nD) : (dats m hO 0 c).arrAt 7 (cfgM m hO).N = fun j : S256x2048.Idx => mNew (grad (m ((c : Thread nD τ).loc main_arg0)) (m ((c : Thread nD τ).loc main_arg1)) (j 0) (j 1)) (m ((c : Thread nD τ).loc main_arg3) j) := by
  have key : ∀ t (y : S128x2048.Idx), (outsAt0 m hO c t).2.2.1 y = (fun j : S256x2048.Idx => mNew (grad (m ((c : Thread nD τ).loc main_arg0)) (m ((c : Thread nD τ).loc main_arg1)) (j 0) (j 1)) (m ((c : Thread nD τ).loc main_arg3) j)) ((((cfgM m hO).win 7).blk t).view.emb y) := by
    intro t y
    rw [emb7 (adm m hO) t y]
    unfold outsAt0
    dsimp only
    rw [out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk3 m hO c t y]
    rfl
  refine (dats m hO 0 c).arrAt_eq_of_covers 7 _ (covers7 (adm m hO)) fun t hf y => ?_
  blk_simp
  rw [after0_7]
  exact key t y

/-- The new second moment. -/
theorem final_v (c : Dev nD) : (dats m hO 0 c).arrAt 8 (cfgM m hO).N = fun j : S256x2048.Idx => vNew (grad (m ((c : Thread nD τ).loc main_arg0)) (m ((c : Thread nD τ).loc main_arg1)) (j 0) (j 1)) (m ((c : Thread nD τ).loc main_arg4) j) := by
  have key : ∀ t (y : S128x2048.Idx), (outsAt0 m hO c t).2.2.2 y = (fun j : S256x2048.Idx => vNew (grad (m ((c : Thread nD τ).loc main_arg0)) (m ((c : Thread nD τ).loc main_arg1)) (j 0) (j 1)) (m ((c : Thread nD τ).loc main_arg4) j)) ((((cfgM m hO).win 8).blk t).view.emb y) := by
    intro t y
    rw [emb8 (adm m hO) t y]
    unfold outsAt0
    dsimp only
    rw [out8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk4 m hO c t y]
    rfl
  refine (dats m hO 0 c).arrAt_eq_of_covers 8 _ (covers8 (adm m hO)) fun t hf y => ?_
  blk_simp
  rw [after0_8]
  exact key t y

/-- What a run of the call leaves in its results' and its arguments' arrays. -/
theorem run_blocks : θ_run defs (onTc (τ := τ) (main (F := Ideal))) ⟨m, fun _ => 0, ρ⟩ fun r => ∀ c : Dev nD,
    r.2.mem ((c : Thread nD τ).loc main_v1_0) = (dats m hO 0 c).arrAt 5 (cfgM m hO).N
    ∧ r.2.mem ((c : Thread nD τ).loc main_v1_1) = (dats m hO 0 c).arrAt 6 (cfgM m hO).N
    ∧ r.2.mem ((c : Thread nD τ).loc main_v1_2) = (dats m hO 0 c).arrAt 7 (cfgM m hO).N
    ∧ r.2.mem ((c : Thread nD τ).loc main_v1_3) = (dats m hO 0 c).arrAt 8 (cfgM m hO).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1 5, (h c).1 6, (h c).1 7, (h c).1 8,
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c)))⟩) (run_main m ρ hO)

section
open Cert.RAdOutIdeal.Read

/-- The reference's gradient. -/
theorem ref_g (x0 x1 : S8x256x2048.Idx → EReal) : val_main_v4 (F := Ideal) x0 x1 = fun j : S256x2048.Idx => grad x0 x1 (j 0) (j 1) := by
  funext j
  simp only [val_main_v4, val_main_v3, val_main_v2, val_main_v1, val_main_v0, val_main_cst]
  simp only [pointwise, zero_add]
  refine (congrArg₂ (fun a b : EReal => a + b) (?_ : _ = x1 (ix3 0 (j 0) (j 1))) (?_ : _ = ∑ x : Fin 7, x0 (ix3 (⟨x.val + 1, by omega⟩ : Fin 8) (j 0) (j 1)))).trans ?_
  · refine (Fin.sum_univ_one _).trans ((dif_pos Nat.one_pos).trans (congrArg x1 (funext fun a => Fin.ext ?_)))
    match a with
    | ⟨0, _⟩ => rfl
    | ⟨1, _⟩ => exact Nat.zero_add _
    | ⟨2, _⟩ => exact Nat.zero_add _
  · refine Finset.sum_congr rfl fun x _ => (dif_neg id).trans (congrArg x0 (funext fun a => Fin.ext ?_))
    match a with
    | ⟨0, _⟩ =>
      show 1 + (if True then 1 + x.val - 1 else 1 + x.val) = x.val + 1
      rw [if_pos trivial]
      omega
    | ⟨1, _⟩ =>
      show 0 + (if (1 : Nat) = 0 then 1 + x.val - 1 else (j 0).val) = (j 0).val
      rw [if_neg Nat.one_ne_zero]
      exact Nat.zero_add _
    | ⟨2, _⟩ =>
      show 0 + (if (2 : Nat) = 0 then 1 + x.val - 1 else (j 1).val) = (j 1).val
      rw [if_neg (by decide)]
      exact Nat.zero_add _
  · rw [Fin.sum_univ_seven]
    unfold grad
    simp only [add_assoc]
    rfl

/-- The reference's new first moment. -/
theorem ref_m (x0 x1 : S8x256x2048.Idx → EReal) (x3 : S256x2048.Idx → EReal) : val_main_v9 (F := Ideal) x0 x1 x3 = fun j : S256x2048.Idx => mNew (grad x0 x1 (j 0) (j 1)) (x3 j) := by
  funext j
  simp only [val_main_v9, val_main_v8, val_main_v7, val_main_v6, val_main_v5, val_main_cst_0, val_main_cst_1, ref_g]
  simp only [pointwise]
  rfl

/-- The reference's new second moment. -/
theorem ref_v (x0 x1 : S8x256x2048.Idx → EReal) (x4 : S256x2048.Idx → EReal) : val_main_v15 (F := Ideal) x0 x1 x4 = fun j : S256x2048.Idx => vNew (grad x0 x1 (j 0) (j 1)) (x4 j) := by
  funext j
  simp only [val_main_v15, val_main_v14, val_main_v13, val_main_v12, val_main_v11, val_main_v10, val_main_cst_2, val_main_cst_3, ref_g]
  simp only [pointwise]
  rfl

/-- The reference's change of the weights. -/
theorem ref_d (x0 x1 : S8x256x2048.Idx → EReal) (x2 x3 x4 : S256x2048.Idx → EReal) : val_main_v28 (F := Ideal) x0 x1 x2 x3 x4 = fun j : S256x2048.Idx => dNew (grad x0 x1 (j 0) (j 1)) (x2 j) (x3 j) (x4 j) := by
  funext j
  simp only [val_main_v28, val_main_v27, val_main_v26, val_main_v25, val_main_v24, val_main_v23, val_main_v22, val_main_v21, val_main_v20, val_main_v19, val_main_v18, val_main_v17, val_main_v16, val_main_cst_4, val_main_cst_5, val_main_cst_6, val_main_cst_7, val_main_cst_8, ref_g, ref_m, ref_v]
  simp only [pointwise]
  rfl

/-- From memories that agree on the arguments the call and the reference leave equal results. -/
theorem algebraic : Cert.algebraic_KAdOutIdeal_RAdOutIdeal :=
  fun m ρ m' ρ' _ hag => ⟨fun c => fun j : S256x2048.Idx => grad (m ((c : Thread nD τ).loc main_arg0)) (m ((c : Thread nD τ).loc main_arg1)) (j 0) (j 1),
    fun c => fun j : S256x2048.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j),
    fun c => fun j : S256x2048.Idx => mNew (grad (m ((c : Thread nD τ).loc main_arg0)) (m ((c : Thread nD τ).loc main_arg1)) (j 0) (j 1)) (m ((c : Thread nD τ).loc main_arg3) j),
    fun c => fun j : S256x2048.Idx => vNew (grad (m ((c : Thread nD τ).loc main_arg0)) (m ((c : Thread nD τ).loc main_arg1)) (j 0) (j 1)) (m ((c : Thread nD τ).loc main_arg4) j),
    (θ_run _ _ _).mono (fun _ h c => ⟨(h c).1.trans (final_g m (ok m) c), (h c).2.1.trans (final_d m (ok m) c), (h c).2.2.1.trans (final_m m (ok m) c), (h c).2.2.2.1.trans (final_v m (ok m) c), (h c).2.2.2.2⟩) (run_blocks m ρ (ok m)),
    (θ_run _ _ _).mono (fun _ h c => ⟨(h c).1.trans (by
        rw [(hag c).1, (hag c).2.1]; exact (val_main_v4_eq _ _).trans (ref_g _ _)),
      (h c).2.1.trans (by
        rw [(hag c).1, (hag c).2.1, (hag c).2.2.1, (hag c).2.2.2.1, (hag c).2.2.2.2]; exact (val_main_v28_eq _ _ _ _ _).trans (ref_d _ _ _ _ _)),
      (h c).2.2.1.trans (by
        rw [(hag c).1, (hag c).2.1, (hag c).2.2.2.1]; exact (val_main_v9_eq _ _ _).trans (ref_m _ _ _)),
      (h c).2.2.2.1.trans (by
        rw [(hag c).1, (hag c).2.1, (hag c).2.2.2.2]; exact (val_main_v15_eq _ _ _).trans (ref_v _ _ _)), (h c).2.2.2.2⟩)
      (Cert.RAdOutIdeal.Value.run m' ρ')⟩
end

end Cert.KAdOutIdeal.AdOut

end

end
-- ==== Proof.AdIn.lean ====
module

public import proofs.«01_k».proof.Defs
public import proofs.«01_k».proof.Proof.AdStep
public import proofs.«01_k».proof.Proof.Gen.KAdIn.Frame
public import proofs.«01_k».proof.Proof.Gen.KAdInIdeal.Frame
public import proofs.«01_k».proof.Proof.Gen.RAdInIdeal.Run
public import proofs.«01_k».proof.Proof.Gen.RAdInIdeal.Read
public import Idealize.ShloMosaic.Lib.Pipeline.ValueKit
public import Idealize.ShloMosaic.Lib.Pipeline.Covers
public import Idealize.ShloMosaic.Lib.Pointwise
public import Idealize.ShloMosaic.Lib.Quiescent

/-! The optimiser's step on the shard of the input projection: the sum of the devices' parts of its gradient, the change of the
weights and the two new moments. -/

@[expose] public section

noncomputable section

open Idealize.ShloMosaic Idealize.ShloMosaic.TcCoe Idealize.SL.Sem
open Idealize.ShloMosaic.Pipeline (Dat)
open Cert.AdStep

namespace Cert.KAdIn.AdIn

open Cert.KAdIn Cert.KAdIn.Gen

section
variable {F : FTy → Type} [FloatOps F]
variable (m : (ℓ : Loc nD τ sig) → Buf (Elt F) ℓ) (ρ : Dev nD → PrngReg)

/-- The table names slot 0. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own part are the first slot's. -/
theorem index_mine (i : grid0.Coords) : cc0_transform_1 inb_S1_S1_0 numel1_S1 (tbl m) i = ![0, (i 0).val, 0] := by
  have h : (tbl m).at 0 (Rect.unit (s := S1) ![0] S1.size inb_S1_S1_0) numel1_S1 = 0#32 := tbl_eq m _
  unfold cc0_transform_1
  simp only [h]
  revert i
  decide +kernel

/-- The blocks that the table names lie inside the array. -/
theorem ok : Ok m := by
  have key : ∀ i : grid0.Coords, ∃ h : (∀ a, ((![0, (i 0).val, 0] : Fin 3 → Nat) a + 1) * S1x128x1026.size a ≤ S4x2048x1026.size a), EltTy.bits .bf16 = 32 ∨ (Rect.block (s := S4x2048x1026) S1x128x1026.size ![0, (i 0).val, 0] h).WholeWords (EltTy.packing .bf16) := by
    decide +kernel
  intro i
  have e := index_mine m i
  generalize cc0_transform_1 inb_S1_S1_0 numel1_S1 (tbl m) i = X at e ⊢
  subst e
  exact key i
end

end Cert.KAdIn.AdIn

namespace Cert.KAdInIdeal.AdIn

open Cert.KAdInIdeal Cert.KAdInIdeal.Gen

section
variable {F : FTy → Type} [FloatOps F]
variable (m : (ℓ : Loc nD τ sig) → Buf (Elt F) ℓ) (ρ : Dev nD → PrngReg)

/-- The table names slot 0. -/
theorem tbl_eq (x : S1.Idx) : tbl m 0 x = 0#32 := by
  show V m (0 : Dev nD) main_v0 x = _
  unfold V
  simp only [hostOps0, List.flatten_cons, List.flatten_nil, List.append_nil, List.cons_append, List.nil_append]
  after_results
  rfl

/-- The blocks of the device's own part are the first slot's. -/
theorem index_mine (i : grid0.Coords) : cc0_transform_1 inb_S1_S1_0 numel1_S1 (tbl m) i = ![0, (i 0).val, 0] := by
  have h : (tbl m).at 0 (Rect.unit (s := S1) ![0] S1.size inb_S1_S1_0) numel1_S1 = 0#32 := tbl_eq m _
  unfold cc0_transform_1
  simp only [h]
  revert i
  decide +kernel

/-- The blocks that the table names lie inside the array. -/
theorem ok : Ok m := by
  have key : ∀ i : grid0.Coords, ∃ h : (∀ a, ((![0, (i 0).val, 0] : Fin 3 → Nat) a + 1) * S1x128x1026.size a ≤ S4x2048x1026.size a), EltTy.bits .bf16 = 32 ∨ (Rect.block (s := S4x2048x1026) S1x128x1026.size ![0, (i 0).val, 0] h).WholeWords (EltTy.packing .bf16) := by
    decide +kernel
  intro i
  have e := index_mine m i
  generalize cc0_transform_1 inb_S1_S1_0 numel1_S1 (tbl m) i = X at e ⊢
  subst e
  exact key i
end

section
variable {F : FTy → Type} [FloatOps F]
variable (a : (pcfg0 (F := F)).Adm)

/-- The row of the array that row `b` of the block at point `t` is. -/
def row (t : Fin (cfg0 a).N) (b : Fin 128) : Fin 2048 := ⟨t.val * 128 + 1 * b.val, by
  have h : t.val < 16 := lt_of_lt_of_eq t.isLt (by decide +kernel : grid0.N = 16)
  have := b.isLt
  omega⟩

theorem e0 (t : Fin (cfg0 a).N) : ((cfg0 a).win 0).index t = ![0, t.val, 0] := (by decide +kernel : ∀ t : Fin grid0.N, cc0_transform_0 (grid0.coords t) = ![0, t.val, 0]) t
theorem e1 (ha : ∀ i : grid0.Coords, cc0_transform_1 inb_S1_S1_0 numel1_S1 a.1 i = ![0, (i 0).val, 0]) (t : Fin (cfg0 a).N) : ((cfg0 a).win 1).index t = ![0, t.val, 0] :=
  (ha (grid0.coords t)).trans ((by decide +kernel : ∀ t : Fin grid0.N, ![0, (grid0.coords t 0).val, 0] = ![0, t.val, 0]) t)

/-- An element of a block of the parts, as an element of the array. -/
theorem emb0 (t : Fin (cfg0 a).N) (k : Fin 4) (p : Fin 128) (q : Fin 1026) : (((cfg0 a).win 0).blk t).view.emb (ix3 k p q) = ix3 k (row a t p) q := by
  refine funext fun x => Fin.ext ?_
  match x with
  | ⟨0, _⟩ =>
    refine (?_ : _ = ((cfg0 a).win 0).index t (⟨0, by decide⟩ : Fin 3) * 4 + 1 * k.val).trans ?_
    · rfl
    · rw [e0 a t]
      show 0 * 4 + 1 * k.val = k.val
      omega
  | ⟨1, _⟩ =>
    refine (?_ : _ = ((cfg0 a).win 0).index t (⟨1, by decide⟩ : Fin 3) * 128 + 1 * p.val).trans ?_
    · rfl
    · rw [e0 a t]
      rfl
  | ⟨2, _⟩ =>
    refine (?_ : _ = ((cfg0 a).win 0).index t (⟨2, by decide⟩ : Fin 3) * 1026 + 1 * q.val).trans ?_
    · rfl
    · rw [e0 a t]
      show 0 * 1026 + 1 * q.val = q.val
      omega

/-- An element of a block of the device's own part, as an element of the array. -/
theorem emb1 (ha : ∀ i : grid0.Coords, cc0_transform_1 inb_S1_S1_0 numel1_S1 a.1 i = ![0, (i 0).val, 0]) (t : Fin (cfg0 a).N) (p : Fin 128) (q : Fin 1026) : (((cfg0 a).win 1).blk t).view.emb (ix3 0 p q) = ix3 0 (row a t p) q := by
  refine funext fun x => Fin.ext ?_
  match x with
  | ⟨0, _⟩ =>
    refine (?_ : _ = ((cfg0 a).win 1).index t (⟨0, by decide⟩ : Fin 3) * 1 + 1 * 0).trans ?_
    · rfl
    · rw [e1 a ha t]
      rfl
  | ⟨1, _⟩ =>
    refine (?_ : _ = ((cfg0 a).win 1).index t (⟨1, by decide⟩ : Fin 3) * 128 + 1 * p.val).trans ?_
    · rfl
    · rw [e1 a ha t]
      rfl
  | ⟨2, _⟩ =>
    refine (?_ : _ = ((cfg0 a).win 1).index t (⟨2, by decide⟩ : Fin 3) * 1026 + 1 * q.val).trans ?_
    · rfl
    · rw [e1 a ha t]
      show 0 * 1026 + 1 * q.val = q.val
      omega

theorem e2 (t : Fin (cfg0 a).N) : ((cfg0 a).win 2).index t = ![t.val, 0] := (by decide +kernel : ∀ t : Fin grid0.N, cc0_transform_2 (grid0.coords t) = ![t.val, 0]) t

/-- An element of a block of window 2, as an element of the array. -/
theorem emb2 (t : Fin (cfg0 a).N) (y : S128x1026.Idx) : (((cfg0 a).win 2).blk t).view.emb y = ix2 (row a t (y 0)) (y 1) := by
  refine funext fun x => Fin.ext ?_
  match x with
  | ⟨0, _⟩ =>
    refine (?_ : _ = ((cfg0 a).win 2).index t (⟨0, by decide⟩ : Fin 2) * 128 + 1 * (y 0).val).trans ?_
    · rfl
    · rw [e2 a t]
      rfl
  | ⟨1, _⟩ =>
    refine (?_ : _ = ((cfg0 a).win 2).index t (⟨1, by decide⟩ : Fin 2) * 1026 + 1 * (y 1).val).trans ?_
    · rfl
    · rw [e2 a t]
      show 0 * 1026 + 1 * (y 1).val = (y 1).val
      omega

theorem e3 (t : Fin (cfg0 a).N) : ((cfg0 a).win 3).index t = ![t.val, 0] := (by decide +kernel : ∀ t : Fin grid0.N, cc0_transform_3 (grid0.coords t) = ![t.val, 0]) t

/-- An element of a block of window 3, as an element of the array. -/
theorem emb3 (t : Fin (cfg0 a).N) (y : S128x1026.Idx) : (((cfg0 a).win 3).blk t).view.emb y = ix2 (row a t (y 0)) (y 1) := by
  refine funext fun x => Fin.ext ?_
  match x with
  | ⟨0, _⟩ =>
    refine (?_ : _ = ((cfg0 a).win 3).index t (⟨0, by decide⟩ : Fin 2) * 128 + 1 * (y 0).val).trans ?_
    · rfl
    · rw [e3 a t]
      rfl
  | ⟨1, _⟩ =>
    refine (?_ : _ = ((cfg0 a).win 3).index t (⟨1, by decide⟩ : Fin 2) * 1026 + 1 * (y 1).val).trans ?_
    · rfl
    · rw [e3 a t]
      show 0 * 1026 + 1 * (y 1).val = (y 1).val
      omega

theorem e4 (t : Fin (cfg0 a).N) : ((cfg0 a).win 4).index t = ![t.val, 0] := (by decide +kernel : ∀ t : Fin grid0.N, cc0_transform_4 (grid0.coords t) = ![t.val, 0]) t

/-- An element of a block of window 4, as an element of the array. -/
theorem emb4 (t : Fin (cfg0 a).N) (y : S128x1026.Idx) : (((cfg0 a).win 4).blk t).view.emb y = ix2 (row a t (y 0)) (y 1) := by
  refine funext fun x => Fin.ext ?_
  match x with
  | ⟨0, _⟩ =>
    refine (?_ : _ = ((cfg0 a).win 4).index t (⟨0, by decide⟩ : Fin 2) * 128 + 1 * (y 0).val).trans ?_
    · rfl
    · rw [e4 a t]
      rfl
  | ⟨1, _⟩ =>
    refine (?_ : _ = ((cfg0 a).win 4).index t (⟨1, by decide⟩ : Fin 2) * 1026 + 1 * (y 1).val).trans ?_
    · rfl
    · rw [e4 a t]
      show 0 * 1026 + 1 * (y 1).val = (y 1).val
      omega

theorem e5 (t : Fin (cfg0 a).N) : ((cfg0 a).win 5).index t = ![t.val, 0] := (by decide +kernel : ∀ t : Fin grid0.N, cc0_transform_5 (grid0.coords t) = ![t.val, 0]) t

/-- An element of a block of window 5, as an element of the array. -/
theorem emb5 (t : Fin (cfg0 a).N) (y : S128x1026.Idx) : (((cfg0 a).win 5).blk t).view.emb y = ix2 (row a t (y 0)) (y 1) := by
  refine funext fun x => Fin.ext ?_
  match x with
  | ⟨0, _⟩ =>
    refine (?_ : _ = ((cfg0 a).win 5).index t (⟨0, by decide⟩ : Fin 2) * 128 + 1 * (y 0).val).trans ?_
    · rfl
    · rw [e5 a t]
      rfl
  | ⟨1, _⟩ =>
    refine (?_ : _ = ((cfg0 a).win 5).index t (⟨1, by decide⟩ : Fin 2) * 1026 + 1 * (y 1).val).trans ?_
    · rfl
    · rw [e5 a t]
      show 0 * 1026 + 1 * (y 1).val = (y 1).val
      omega

theorem e6 (t : Fin (cfg0 a).N) : ((cfg0 a).win 6).index t = ![t.val, 0] := (by decide +kernel : ∀ t : Fin grid0.N, cc0_transform_6 (grid0.coords t) = ![t.val, 0]) t

/-- An element of a block of window 6, as an element of the array. -/
theorem emb6 (t : Fin (cfg0 a).N) (y : S128x1026.Idx) : (((cfg0 a).win 6).blk t).view.emb y = ix2 (row a t (y 0)) (y 1) := by
  refine funext fun x => Fin.ext ?_
  match x with
  | ⟨0, _⟩ =>
    refine (?_ : _ = ((cfg0 a).win 6).index t (⟨0, by decide⟩ : Fin 2) * 128 + 1 * (y 0).val).trans ?_
    · rfl
    · rw [e6 a t]
      rfl
  | ⟨1, _⟩ =>
    refine (?_ : _ = ((cfg0 a).win 6).index t (⟨1, by decide⟩ : Fin 2) * 1026 + 1 * (y 1).val).trans ?_
    · rfl
    · rw [e6 a t]
      show 0 * 1026 + 1 * (y 1).val = (y 1).val
      omega

theorem e7 (t : Fin (cfg0 a).N) : ((cfg0 a).win 7).index t = ![t.val, 0] := (by decide +kernel : ∀ t : Fin grid0.N, cc0_transform_7 (grid0.coords t) = ![t.val, 0]) t

/-- An element of a block of window 7, as an element of the array. -/
theorem emb7 (t : Fin (cfg0 a).N) (y : S128x1026.Idx) : (((cfg0 a).win 7).blk t).view.emb y = ix2 (row a t (y 0)) (y 1) := by
  refine funext fun x => Fin.ext ?_
  match x with
  | ⟨0, _⟩ =>
    refine (?_ : _ = ((cfg0 a).win 7).index t (⟨0, by decide⟩ : Fin 2) * 128 + 1 * (y 0).val).trans ?_
    · rfl
    · rw [e7 a t]
      rfl
  | ⟨1, _⟩ =>
    refine (?_ : _ = ((cfg0 a).win 7).index t (⟨1, by decide⟩ : Fin 2) * 1026 + 1 * (y 1).val).trans ?_
    · rfl
    · rw [e7 a t]
      show 0 * 1026 + 1 * (y 1).val = (y 1).val
      omega

theorem e8 (t : Fin (cfg0 a).N) : ((cfg0 a).win 8).index t = ![t.val, 0] := (by decide +kernel : ∀ t : Fin grid0.N, cc0_transform_8 (grid0.coords t) = ![t.val, 0]) t

/-- An element of a block of window 8, as an element of the array. -/
theorem emb8 (t : Fin (cfg0 a).N) (y : S128x1026.Idx) : (((cfg0 a).win 8).blk t).view.emb y = ix2 (row a t (y 0)) (y 1) := by
  refine funext fun x => Fin.ext ?_
  match x with
  | ⟨0, _⟩ =>
    refine (?_ : _ = ((cfg0 a).win 8).index t (⟨0, by decide⟩ : Fin 2) * 128 + 1 * (y 0).val).trans ?_
    · rfl
    · rw [e8 a t]
      rfl
  | ⟨1, _⟩ =>
    refine (?_ : _ = ((cfg0 a).win 8).index t (⟨1, by decide⟩ : Fin 2) * 1026 + 1 * (y 1).val).trans ?_
    · rfl
    · rw [e8 a t]
      show 0 * 1026 + 1 * (y 1).val = (y 1).val
      omega

/-- The blocks of window 5 cover its array. -/
theorem covers5 : ((cfg0 a).win 5).Covers := by
  refine Pipeline.Window.covers_of_index_surj _ rfl (by show ∀ a : Fin 2, 0 < S128x1026.size a; decide) fun β => ?_
  have n0 : ((cfg0 a).win 5).nblk (⟨0, by decide⟩ : Fin 2) = 16 := by
    show (2048 + 128 - 1) / 128 = 16
    rfl
  have n1 : ((cfg0 a).win 5).nblk (⟨1, by decide⟩ : Fin 2) = 1 := by
    show (1026 + 1026 - 1) / 1026 = 1
    rfl
  have h0 : (β (⟨0, by decide⟩ : Fin 2)).val < 16 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 16 = grid0.N)⟩, fun x => ?_⟩
  rw [e5 a _]
  match x with
  | ⟨0, _⟩ => rfl
  | ⟨1, _⟩ =>
    show 0 = (β (⟨1, by decide⟩ : Fin 2)).val
    omega

/-- The blocks of window 6 cover its array. -/
theorem covers6 : ((cfg0 a).win 6).Covers := by
  refine Pipeline.Window.covers_of_index_surj _ rfl (by show ∀ a : Fin 2, 0 < S128x1026.size a; decide) fun β => ?_
  have n0 : ((cfg0 a).win 6).nblk (⟨0, by decide⟩ : Fin 2) = 16 := by
    show (2048 + 128 - 1) / 128 = 16
    rfl
  have n1 : ((cfg0 a).win 6).nblk (⟨1, by decide⟩ : Fin 2) = 1 := by
    show (1026 + 1026 - 1) / 1026 = 1
    rfl
  have h0 : (β (⟨0, by decide⟩ : Fin 2)).val < 16 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 16 = grid0.N)⟩, fun x => ?_⟩
  rw [e6 a _]
  match x with
  | ⟨0, _⟩ => rfl
  | ⟨1, _⟩ =>
    show 0 = (β (⟨1, by decide⟩ : Fin 2)).val
    omega

/-- The blocks of window 7 cover its array. -/
theorem covers7 : ((cfg0 a).win 7).Covers := by
  refine Pipeline.Window.covers_of_index_surj _ rfl (by show ∀ a : Fin 2, 0 < S128x1026.size a; decide) fun β => ?_
  have n0 : ((cfg0 a).win 7).nblk (⟨0, by decide⟩ : Fin 2) = 16 := by
    show (2048 + 128 - 1) / 128 = 16
    rfl
  have n1 : ((cfg0 a).win 7).nblk (⟨1, by decide⟩ : Fin 2) = 1 := by
    show (1026 + 1026 - 1) / 1026 = 1
    rfl
  have h0 : (β (⟨0, by decide⟩ : Fin 2)).val < 16 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 16 = grid0.N)⟩, fun x => ?_⟩
  rw [e7 a _]
  match x with
  | ⟨0, _⟩ => rfl
  | ⟨1, _⟩ =>
    show 0 = (β (⟨1, by decide⟩ : Fin 2)).val
    omega

/-- The blocks of window 8 cover its array. -/
theorem covers8 : ((cfg0 a).win 8).Covers := by
  refine Pipeline.Window.covers_of_index_surj _ rfl (by show ∀ a : Fin 2, 0 < S128x1026.size a; decide) fun β => ?_
  have n0 : ((cfg0 a).win 8).nblk (⟨0, by decide⟩ : Fin 2) = 16 := by
    show (2048 + 128 - 1) / 128 = 16
    rfl
  have n1 : ((cfg0 a).win 8).nblk (⟨1, by decide⟩ : Fin 2) = 1 := by
    show (1026 + 1026 - 1) / 1026 = 1
    rfl
  have h0 : (β (⟨0, by decide⟩ : Fin 2)).val < 16 := lt_of_lt_of_eq (β (⟨0, by decide⟩ : Fin 2)).isLt n0
  have h1 : (β (⟨1, by decide⟩ : Fin 2)).val < 1 := lt_of_lt_of_eq (β (⟨1, by decide⟩ : Fin 2)).isLt n1
  refine ⟨⟨(β (⟨0, by decide⟩ : Fin 2)).val, lt_of_lt_of_eq h0 (by decide +kernel : 16 = grid0.N)⟩, fun x => ?_⟩
  rw [e8 a _]
  match x with
  | ⟨0, _⟩ => rfl
  | ⟨1, _⟩ =>
    show 0 = (β (⟨1, by decide⟩ : Fin 2)).val
    omega

end

variable (m : (ℓ : Loc nD τ sig) → Buf (Elt Ideal) ℓ) (ρ : Dev nD → PrngReg) (hO : Ok m)

theorem eq0 : IntOp.cmpi CmpIPredicate.eq 0#32 0#32 = 1 := by decide
theorem ne1 : ¬ IntOp.cmpi CmpIPredicate.eq 0#32 1#32 = 1 := by decide
theorem ne2 : ¬ IntOp.cmpi CmpIPredicate.eq 0#32 2#32 = 1 := by decide
theorem ne3 : ¬ IntOp.cmpi CmpIPredicate.eq 0#32 3#32 = 1 := by decide

/-- The sum of the blocks of the devices' parts at an element, the first one this device's own. -/
def partSum (x0 : Vec Ideal S4x128x1026 .bf16) (x1 : Vec Ideal S1x128x1026 .bf16) (a : Fin 128) (b : Fin 1026) : EReal :=
  x1 (ix3 0 a b) + x0 (ix3 1 a b) + x0 (ix3 2 a b) + x0 (ix3 3 a b)

/-- The gradient at an element: the sum of the devices' parts, the first one this device's own. -/
def grad (x0 x1 : Vec Ideal S4x2048x1026 .bf16) (a : Fin 2048) (b : Fin 1026) : EReal :=
  x1 (ix3 0 a b) + x0 (ix3 1 a b) + x0 (ix3 2 a b) + x0 (ix3 3 a b)

/-- The block of the gradient that the body stores, element by element. -/
theorem out5 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x1026.Idx) : out0_A_5 (F := Ideal) c i a2 h2 a3 h3 a4 h4 a5 h5 a6 h6 a7 h7 a8 h8 a9 h9 a10 h10 x0 x1 x2 x3 x4 xt y = partSum x0 x1 (y 0) (y 1) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, Matrix.cons_val, Matrix.cons_val_one, Matrix.cons_val_zero, zero_add, one_mul]
  rfl

/-- The block of the change of the weights that the body stores, element by element. -/
theorem out6 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x1026.Idx) : out0_A_6 (F := Ideal) c i a2 h2 a3 h3 a4 h4 a5 h5 a6 h6 a7 h7 a8 h8 a9 h9 a10 h10 x0 x1 x2 x3 x4 xt y = dNew (partSum x0 x1 (y 0) (y 1)) (x2 y) (x3 y) (x4 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, Matrix.cons_val, Matrix.cons_val_one, Matrix.cons_val_zero, zero_add, one_mul]
  rfl

/-- The block of the new first moment that the body stores, element by element. -/
theorem out7 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x1026.Idx) : out0_A_7 (F := Ideal) c i a2 h2 a3 h3 a4 h4 a5 h5 a6 h6 a7 h7 a8 h8 a9 h9 a10 h10 x0 x1 x2 x3 x4 xt y = mNew (partSum x0 x1 (y 0) (y 1)) (x3 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, Matrix.cons_val, Matrix.cons_val_one, Matrix.cons_val_zero, zero_add, one_mul]
  rfl

/-- The block of the new second moment that the body stores, element by element. -/
theorem out8 (c) (i) (a2) (h2) (a3) (h3) (a4) (h4) (a5) (h5) (a6) (h6) (a7) (h7) (a8) (h8) (a9) (h9) (a10) (h10) (x0) (x1) (x2) (x3) (x4) (xt) (hx : ∀ x, xt x = 0#32) (y : S128x1026.Idx) : out0_A_8 (F := Ideal) c i a2 h2 a3 h3 a4 h4 a5 h5 a6 h6 a7 h7 a8 h8 a9 h9 a10 h10 x0 x1 x2 x3 x4 xt y = vNew (partSum x0 x1 (y 0) (y 1)) (x4 y) := by
  frame_out
  unfold_payloads
  simp only [pointwise, zero_add]
  have hw : ∀ x, View.read (Elt Ideal) (View.whole main_v0) xt x = (0#32 : BitVec 32) := fun x => hx _
  simp only [hw, Scalar.cmpi, Scalar.select]
  simp only [if_pos eq0, if_neg ne1, if_neg ne2, if_neg ne3, Matrix.cons_val, Matrix.cons_val_one, Matrix.cons_val_zero, zero_add, one_mul]
  rfl

/-- The blocks of the parts. -/
theorem blk0 (c : Dev nD) (t : Fin (cfgM m hO).N) (k : Fin 4) (a : Fin 128) (b : Fin 1026) : iblk m hO c 0 t (ix3 k a b) = m ((c : Thread nD τ).loc main_arg0) (ix3 k (row (adm m hO) t a) b) :=
  (congrFun (V_main_arg0 m c) _).trans (congrArg (m ((c : Thread nD τ).loc main_arg0)) (emb0 (adm m hO) t k a b))

/-- The block of the device's own part. -/
theorem blk1 (c : Dev nD) (t : Fin (cfgM m hO).N) (a : Fin 128) (b : Fin 1026) : iblk m hO c 1 t (ix3 0 a b) = m ((c : Thread nD τ).loc main_arg1) (ix3 0 (row (adm m hO) t a) b) :=
  (congrFun (V_main_arg1 m c) _).trans (congrArg (m ((c : Thread nD τ).loc main_arg1)) (emb1 (adm m hO) (index_mine m) t a b))

/-- The block of the weights. -/
theorem blk2 (c : Dev nD) (t : Fin (cfgM m hO).N) (y : S128x1026.Idx) : iblk m hO c 2 t y = m ((c : Thread nD τ).loc main_arg2) (ix2 (row (adm m hO) t (y 0)) (y 1)) :=
  (congrFun (V_main_arg2 m c) _).trans (congrArg (m ((c : Thread nD τ).loc main_arg2)) (emb2 (adm m hO) t y))

/-- The block of the first moment. -/
theorem blk3 (c : Dev nD) (t : Fin (cfgM m hO).N) (y : S128x1026.Idx) : iblk m hO c 3 t y = m ((c : Thread nD τ).loc main_arg3) (ix2 (row (adm m hO) t (y 0)) (y 1)) :=
  (congrFun (V_main_arg3 m c) _).trans (congrArg (m ((c : Thread nD τ).loc main_arg3)) (emb3 (adm m hO) t y))

/-- The block of the second moment. -/
theorem blk4 (c : Dev nD) (t : Fin (cfgM m hO).N) (y : S128x1026.Idx) : iblk m hO c 4 t y = m ((c : Thread nD τ).loc main_arg4) (ix2 (row (adm m hO) t (y 0)) (y 1)) :=
  (congrFun (V_main_arg4 m c) _).trans (congrArg (m ((c : Thread nD τ).loc main_arg4)) (emb4 (adm m hO) t y))

/-- The block's sum is the gradient's block. -/
theorem part_eq (c : Dev nD) (t : Fin (cfgM m hO).N) (a : Fin 128) (b : Fin 1026) : partSum (iblk m hO c 0 t) (iblk m hO c 1 t) a b = grad (m ((c : Thread nD τ).loc main_arg0)) (m ((c : Thread nD τ).loc main_arg1)) (row (adm m hO) t a) b := by
  unfold partSum grad
  rw [blk1 m hO c t a b, blk0 m hO c t 1 a b, blk0 m hO c t 2 a b, blk0 m hO c t 3 a b]

/-- The gradient. -/
theorem final_g (c : Dev nD) : (dats m hO 0 c).arrAt 5 (cfgM m hO).N = fun j : S2048x1026.Idx => grad (m ((c : Thread nD τ).loc main_arg0)) (m ((c : Thread nD τ).loc main_arg1)) (j 0) (j 1) := by
  have key : ∀ t (y : S128x1026.Idx), (outsAt0 m hO c t).1 y = (fun j : S2048x1026.Idx => grad (m ((c : Thread nD τ).loc main_arg0)) (m ((c : Thread nD τ).loc main_arg1)) (j 0) (j 1)) ((((cfgM m hO).win 5).blk t).view.emb y) := by
    intro t y
    rw [emb5 (adm m hO) t y]
    unfold outsAt0
    dsimp only
    rw [out5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1)]
    rfl
  refine (dats m hO 0 c).arrAt_eq_of_covers 5 _ (covers5 (adm m hO)) fun t hf y => ?_
  blk_simp
  rw [after0_5]
  exact key t y

/-- The change of the weights. -/
theorem final_d (c : Dev nD) : (dats m hO 0 c).arrAt 6 (cfgM m hO).N = fun j : S2048x1026.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j) := by
  have key : ∀ t (y : S128x1026.Idx), (outsAt0 m hO c t).2.1 y = (fun j : S2048x1026.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j)) ((((cfgM m hO).win 6).blk t).view.emb y) := by
    intro t y
    rw [emb6 (adm m hO) t y]
    unfold outsAt0
    dsimp only
    rw [out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk2 m hO c t y, blk3 m hO c t y, blk4 m hO c t y]
    rfl
  refine (dats m hO 0 c).arrAt_eq_of_covers 6 _ (covers6 (adm m hO)) fun t hf y => ?_
  blk_simp
  rw [after0_6]
  exact key t y

/-- The new first moment. -/
theorem final_m (c : Dev nD) : (dats m hO 0 c).arrAt 7 (cfgM m hO).N = fun j : S2048x1026.Idx => mNew (grad (m ((c : Thread nD τ).loc main_arg0)) (m ((c : Thread nD τ).loc main_arg1)) (j 0) (j 1)) (m ((c : Thread nD τ).loc main_arg3) j) := by
  have key : ∀ t (y : S128x1026.Idx), (outsAt0 m hO c t).2.2.1 y = (fun j : S2048x1026.Idx => mNew (grad (m ((c : Thread nD τ).loc main_arg0)) (m ((c : Thread nD τ).loc main_arg1)) (j 0) (j 1)) (m ((c : Thread nD τ).loc main_arg3) j)) ((((cfgM m hO).win 7).blk t).view.emb y) := by
    intro t y
    rw [emb7 (adm m hO) t y]
    unfold outsAt0
    dsimp only
    rw [out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk3 m hO c t y]
    rfl
  refine (dats m hO 0 c).arrAt_eq_of_covers 7 _ (covers7 (adm m hO)) fun t hf y => ?_
  blk_simp
  rw [after0_7]
  exact key t y

/-- The new second moment. -/
theorem final_v (c : Dev nD) : (dats m hO 0 c).arrAt 8 (cfgM m hO).N = fun j : S2048x1026.Idx => vNew (grad (m ((c : Thread nD τ).loc main_arg0)) (m ((c : Thread nD τ).loc main_arg1)) (j 0) (j 1)) (m ((c : Thread nD τ).loc main_arg4) j) := by
  have key : ∀ t (y : S128x1026.Idx), (outsAt0 m hO c t).2.2.2 y = (fun j : S2048x1026.Idx => vNew (grad (m ((c : Thread nD τ).loc main_arg0)) (m ((c : Thread nD τ).loc main_arg1)) (j 0) (j 1)) (m ((c : Thread nD τ).loc main_arg4) j)) ((((cfgM m hO).win 8).blk t).view.emb y) := by
    intro t y
    rw [emb8 (adm m hO) t y]
    unfold outsAt0
    dsimp only
    rw [out8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (tbl_eq m) y]
    rw [part_eq m hO c t (y 0) (y 1), blk4 m hO c t y]
    rfl
  refine (dats m hO 0 c).arrAt_eq_of_covers 8 _ (covers8 (adm m hO)) fun t hf y => ?_
  blk_simp
  rw [after0_8]
  exact key t y

/-- What a run of the call leaves in its results' and its arguments' arrays. -/
theorem run_blocks : θ_run defs (onTc (τ := τ) (main (F := Ideal))) ⟨m, fun _ => 0, ρ⟩ fun r => ∀ c : Dev nD,
    r.2.mem ((c : Thread nD τ).loc main_v1_0) = (dats m hO 0 c).arrAt 5 (cfgM m hO).N
    ∧ r.2.mem ((c : Thread nD τ).loc main_v1_1) = (dats m hO 0 c).arrAt 6 (cfgM m hO).N
    ∧ r.2.mem ((c : Thread nD τ).loc main_v1_2) = (dats m hO 0 c).arrAt 7 (cfgM m hO).N
    ∧ r.2.mem ((c : Thread nD τ).loc main_v1_3) = (dats m hO 0 c).arrAt 8 (cfgM m hO).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1 5, (h c).1 6, (h c).1 7, (h c).1 8,
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c)))⟩) (run_main m ρ hO)

section
open Cert.RAdInIdeal.Read

/-- The reference's gradient. -/
theorem ref_g (x0 x1 : S4x2048x1026.Idx → EReal) : val_main_v4 (F := Ideal) x0 x1 = fun j : S2048x1026.Idx => grad x0 x1 (j 0) (j 1) := by
  funext j
  simp only [val_main_v4, val_main_v3, val_main_v2, val_main_v1, val_main_v0, val_main_cst]
  simp only [pointwise, zero_add]
  refine (congrArg₂ (fun a b : EReal => a + b) (?_ : _ = x1 (ix3 0 (j 0) (j 1))) (?_ : _ = ∑ x : Fin 3, x0 (ix3 (⟨x.val + 1, by omega⟩ : Fin 4) (j 0) (j 1)))).trans ?_
  · refine (Fin.sum_univ_one _).trans ((dif_pos Nat.one_pos).trans (congrArg x1 (funext fun a => Fin.ext ?_)))
    match a with
    | ⟨0, _⟩ => rfl
    | ⟨1, _⟩ => exact Nat.zero_add _
    | ⟨2, _⟩ => exact Nat.zero_add _
  · refine Finset.sum_congr rfl fun x _ => (dif_neg id).trans (congrArg x0 (funext fun a => Fin.ext ?_))
    match a with
    | ⟨0, _⟩ =>
      show 1 + (if True then 1 + x.val - 1 else 1 + x.val) = x.val + 1
      rw [if_pos trivial]
      omega
    | ⟨1, _⟩ =>
      show 0 + (if (1 : Nat) = 0 then 1 + x.val - 1 else (j 0).val) = (j 0).val
      rw [if_neg Nat.one_ne_zero]
      exact Nat.zero_add _
    | ⟨2, _⟩ =>
      show 0 + (if (2 : Nat) = 0 then 1 + x.val - 1 else (j 1).val) = (j 1).val
      rw [if_neg (by decide)]
      exact Nat.zero_add _
  · rw [Fin.sum_univ_three]
    unfold grad
    simp only [add_assoc]
    rfl

/-- The reference's new first moment. -/
theorem ref_m (x0 x1 : S4x2048x1026.Idx → EReal) (x3 : S2048x1026.Idx → EReal) : val_main_v9 (F := Ideal) x0 x1 x3 = fun j : S2048x1026.Idx => mNew (grad x0 x1 (j 0) (j 1)) (x3 j) := by
  funext j
  simp only [val_main_v9, val_main_v8, val_main_v7, val_main_v6, val_main_v5, val_main_cst_0, val_main_cst_1, ref_g]
  simp only [pointwise]
  rfl

/-- The reference's new second moment. -/
theorem ref_v (x0 x1 : S4x2048x1026.Idx → EReal) (x4 : S2048x1026.Idx → EReal) : val_main_v15 (F := Ideal) x0 x1 x4 = fun j : S2048x1026.Idx => vNew (grad x0 x1 (j 0) (j 1)) (x4 j) := by
  funext j
  simp only [val_main_v15, val_main_v14, val_main_v13, val_main_v12, val_main_v11, val_main_v10, val_main_cst_2, val_main_cst_3, ref_g]
  simp only [pointwise]
  rfl

/-- The reference's change of the weights. -/
theorem ref_d (x0 x1 : S4x2048x1026.Idx → EReal) (x2 x3 x4 : S2048x1026.Idx → EReal) : val_main_v28 (F := Ideal) x0 x1 x2 x3 x4 = fun j : S2048x1026.Idx => dNew (grad x0 x1 (j 0) (j 1)) (x2 j) (x3 j) (x4 j) := by
  funext j
  simp only [val_main_v28, val_main_v27, val_main_v26, val_main_v25, val_main_v24, val_main_v23, val_main_v22, val_main_v21, val_main_v20, val_main_v19, val_main_v18, val_main_v17, val_main_v16, val_main_cst_4, val_main_cst_5, val_main_cst_6, val_main_cst_7, val_main_cst_8, ref_g, ref_m, ref_v]
  simp only [pointwise]
  rfl

/-- From memories that agree on the arguments the call and the reference leave equal results. -/
theorem algebraic : Cert.algebraic_KAdInIdeal_RAdInIdeal :=
  fun m ρ m' ρ' _ hag => ⟨fun c => fun j : S2048x1026.Idx => grad (m ((c : Thread nD τ).loc main_arg0)) (m ((c : Thread nD τ).loc main_arg1)) (j 0) (j 1),
    fun c => fun j : S2048x1026.Idx => dNew (grad (m ((c : Thread nD τ).loc main_arg0)) (m ((c : Thread nD τ).loc main_arg1)) (j 0) (j 1)) (m ((c : Thread nD τ).loc main_arg2) j) (m ((c : Thread nD τ).loc main_arg3) j) (m ((c : Thread nD τ).loc main_arg4) j),
    fun c => fun j : S2048x1026.Idx => mNew (grad (m ((c : Thread nD τ).loc main_arg0)) (m ((c : Thread nD τ).loc main_arg1)) (j 0) (j 1)) (m ((c : Thread nD τ).loc main_arg3) j),
    fun c => fun j : S2048x1026.Idx => vNew (grad (m ((c : Thread nD τ).loc main_arg0)) (m ((c : Thread nD τ).loc main_arg1)) (j 0) (j 1)) (m ((c : Thread nD τ).loc main_arg4) j),
    (θ_run _ _ _).mono (fun _ h c => ⟨(h c).1.trans (final_g m (ok m) c), (h c).2.1.trans (final_d m (ok m) c), (h c).2.2.1.trans (final_m m (ok m) c), (h c).2.2.2.1.trans (final_v m (ok m) c), (h c).2.2.2.2⟩) (run_blocks m ρ (ok m)),
    (θ_run _ _ _).mono (fun _ h c => ⟨(h c).1.trans (by
        rw [(hag c).1, (hag c).2.1]; exact (val_main_v4_eq _ _).trans (ref_g _ _)),
      (h c).2.1.trans (by
        rw [(hag c).1, (hag c).2.1, (hag c).2.2.1, (hag c).2.2.2.1, (hag c).2.2.2.2]; exact (val_main_v28_eq _ _ _ _ _).trans (ref_d _ _ _ _ _)),
      (h c).2.2.1.trans (by
        rw [(hag c).1, (hag c).2.1, (hag c).2.2.2.1]; exact (val_main_v9_eq _ _ _).trans (ref_m _ _ _)),
      (h c).2.2.2.1.trans (by
        rw [(hag c).1, (hag c).2.1, (hag c).2.2.2.2]; exact (val_main_v15_eq _ _ _).trans (ref_v _ _ _)), (h c).2.2.2.2⟩)
      (Cert.RAdInIdeal.Value.run m' ρ')⟩
end

end Cert.KAdInIdeal.AdIn

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KDwFf2
public import proofs.«01_k».proof.Proof.Gen.KDwFf2.Skeleton
public import proofs.«01_k».proof.Proof.Gen.KDwFf2.Launch
public import proofs.«01_k».proof.Proof.Gen.KDwFf2.Points
public import proofs.«01_k».proof.Proof.Gen.KDwFf2.Frame
public import proofs.«01_k».proof.Proof.Gen.KDwFf2Ideal
public import proofs.«01_k».proof.Proof.Gen.KDwFf2Ideal.Skeleton
public import proofs.«01_k».proof.Proof.Gen.KDwFf2Ideal.Launch
public import proofs.«01_k».proof.Proof.Gen.KDwFf2Ideal.Points
public import proofs.«01_k».proof.Proof.Gen.KDwFf2Ideal.Frame
public import proofs.«01_k».proof.Proof.Gen.RDwFf2Ideal
public import proofs.«01_k».proof.Proof.Gen.KDn2
public import proofs.«01_k».proof.Proof.Gen.KDn2.Skeleton
public import proofs.«01_k».proof.Proof.Gen.KDn2.Launch
public import proofs.«01_k».proof.Proof.Gen.KDn2.Points
public import proofs.«01_k».proof.Proof.Gen.KDn2.Frame
public import proofs.«01_k».proof.Proof.Gen.KDn2Ideal
public import proofs.«01_k».proof.Proof.Gen.KDn2Ideal.Skeleton
public import proofs.«01_k».proof.Proof.Gen.KDn2Ideal.Launch
public import proofs.«01_k».proof.Proof.Gen.KDn2Ideal.Points
public import proofs.«01_k».proof.Proof.Gen.KDn2Ideal.Frame
public import proofs.«01_k».proof.Proof.Gen.RDn2Ideal
public import proofs.«01_k».proof.Proof.Gen.KDwFf1
public import proofs.«01_k».proof.Proof.Gen.KDwFf1.Skeleton
public import proofs.«01_k».proof.Proof.Gen.KDwFf1.Launch
public import proofs.«01_k».proof.Proof.Gen.KDwFf1.Points
public import proofs.«01_k».proof.Proof.Gen.KDwFf1.Frame
public import proofs.«01_k».proof.Proof.Gen.KDwFf1Ideal
public import proofs.«01_k».proof.Proof.Gen.KDwFf1Ideal.Skeleton
public import proofs.«01_k».proof.Proof.Gen.KDwFf1Ideal.Launch
public import proofs.«01_k».proof.Proof.Gen.KDwFf1Ideal.Points
public import proofs.«01_k».proof.Proof.Gen.KDwFf1Ideal.Frame
public import proofs.«01_k».proof.Proof.Gen.RDwFf1Ideal
public import proofs.«01_k».proof.Proof.Gen.KFf1
public import proofs.«01_k».proof.Proof.Gen.KFf1.Skeleton
public import proofs.«01_k».proof.Proof.Gen.KFf1.Launch
public import proofs.«01_k».proof.Proof.Gen.KFf1.Points
public import proofs.«01_k».proof.Proof.Gen.KFf1.Frame
public import proofs.«01_k».proof.Proof.Gen.KFf1Ideal
public import proofs.«01_k».proof.Proof.Gen.KFf1Ideal.Skeleton
public import proofs.«01_k».proof.Proof.Gen.KFf1Ideal.Launch
public import proofs.«01_k».proof.Proof.Gen.KFf1Ideal.Points
public import proofs.«01_k».proof.Proof.Gen.KFf1Ideal.Frame
public import proofs.«01_k».proof.Proof.Gen.RFf1Ideal
public import proofs.«01_k».proof.Proof.Gen.KDMix
public import proofs.«01_k».proof.Proof.Gen.KDMix.Skeleton
public import proofs.«01_k».proof.Proof.Gen.KDMix.Launch
public import proofs.«01_k».proof.Proof.Gen.KDMix.Points
public import proofs.«01_k».proof.Proof.Gen.KDMix.Frame
public import proofs.«01_k».proof.Proof.Gen.KDMixIdeal
public import proofs.«01_k».proof.Proof.Gen.KDMixIdeal.Skeleton
public import proofs.«01_k».proof.Proof.Gen.KDMixIdeal.Launch
public import proofs.«01_k».proof.Proof.Gen.KDMixIdeal.Points
public import proofs.«01_k».proof.Proof.Gen.KDMixIdeal.Frame
public import proofs.«01_k».proof.Proof.Gen.RDMixIdeal
public import proofs.«01_k».proof.Proof.Gen.KDwOut
public import proofs.«01_k».proof.Proof.Gen.KDwOut.Skeleton
public import proofs.«01_k».proof.Proof.Gen.KDwOut.Launch
public import proofs.«01_k».proof.Proof.Gen.KDwOut.Points
public import proofs.«01_k».proof.Proof.Gen.KDwOut.Frame
public import proofs.«01_k».proof.Proof.Gen.KDwOutIdeal
public import proofs.«01_k».proof.Proof.Gen.KDwOutIdeal.Skeleton
public import proofs.«01_k».proof.Proof.Gen.KDwOutIdeal.Launch
public import proofs.«01_k».proof.Proof.Gen.KDwOutIdeal.Points
public import proofs.«01_k».proof.Proof.Gen.KDwOutIdeal.Frame
public import proofs.«01_k».proof.Proof.Gen.RDwOutIdeal
public import proofs.«01_k».proof.Proof.Gen.KDwIn
public import proofs.«01_k».proof.Proof.Gen.KDwIn.Skeleton
public import proofs.«01_k».proof.Proof.Gen.KDwIn.Launch
public import proofs.«01_k».proof.Proof.Gen.KDwIn.Points
public import proofs.«01_k».proof.Proof.Gen.KDwIn.Frame
public import proofs.«01_k».proof.Proof.Gen.KDwInIdeal
public import proofs.«01_k».proof.Proof.Gen.KDwInIdeal.Skeleton
public import proofs.«01_k».proof.Proof.Gen.KDwInIdeal.Launch
public import proofs.«01_k».proof.Proof.Gen.KDwInIdeal.Points
public import proofs.«01_k».proof.Proof.Gen.KDwInIdeal.Frame
public import proofs.«01_k».proof.Proof.Gen.RDwInIdeal
public import proofs.«01_k».proof.Proof.Gen.KDn1
public import proofs.«01_k».proof.Proof.Gen.KDn1.Skeleton
public import proofs.«01_k».proof.Proof.Gen.KDn1.Launch
public import proofs.«01_k».proof.Proof.Gen.KDn1.Points
public import proofs.«01_k».proof.Proof.Gen.KDn1.Frame
public import proofs.«01_k».proof.Proof.Gen.KDn1Ideal
public import proofs.«01_k».proof.Proof.Gen.KDn1Ideal.Skeleton
public import proofs.«01_k».proof.Proof.Gen.KDn1Ideal.Launch
public import proofs.«01_k».proof.Proof.Gen.KDn1Ideal.Points
public import proofs.«01_k».proof.Proof.Gen.KDn1Ideal.Frame
public import proofs.«01_k».proof.Proof.Gen.RDn1Ideal
public import proofs.«01_k».proof.Proof.Gen.KRmsBwd
public import proofs.«01_k».proof.Proof.Gen.KRmsBwd.Skeleton
public import proofs.«01_k».proof.Proof.Gen.KRmsBwd.Launch
public import proofs.«01_k».proof.Proof.Gen.KRmsBwd.Points
public import proofs.«01_k».proof.Proof.Gen.KRmsBwd.Frame
public import proofs.«01_k».proof.Proof.Gen.KRmsBwdIdeal
public import proofs.«01_k».proof.Proof.Gen.KRmsBwdIdeal.Skeleton
public import proofs.«01_k».proof.Proof.Gen.KRmsBwdIdeal.Launch
public import proofs.«01_k».proof.Proof.Gen.KRmsBwdIdeal.Points
public import proofs.«01_k».proof.Proof.Gen.KRmsBwdIdeal.Frame
public import proofs.«01_k».proof.Proof.Gen.RRmsBwdIdeal
public import proofs.«01_k».proof.Proof.Gen.KRmsFfn
public import proofs.«01_k».proof.Proof.Gen.KRmsFfn.Skeleton
public import proofs.«01_k».proof.Proof.Gen.KRmsFfn.Launch
public import proofs.«01_k».proof.Proof.Gen.KRmsFfn.Points
public import proofs.«01_k».proof.Proof.Gen.KRmsFfn.Frame
public import proofs.«01_k».proof.Proof.Gen.KRmsFfnIdeal
public import proofs.«01_k».proof.Proof.Gen.KRmsFfnIdeal.Skeleton
public import proofs.«01_k».proof.Proof.Gen.KRmsFfnIdeal.Launch
public import proofs.«01_k».proof.Proof.Gen.KRmsFfnIdeal.Points
public import proofs.«01_k».proof.Proof.Gen.KRmsFfnIdeal.Frame
public import proofs.«01_k».proof.Proof.Gen.RRmsFfnIdeal
public import proofs.«01_k».proof.Proof.Gen.KConvBwd
public import proofs.«01_k».proof.Proof.Gen.KConvBwd.Skeleton
public import proofs.«01_k».proof.Proof.Gen.KConvBwd.Launch
public import proofs.«01_k».proof.Proof.Gen.KConvBwd.Points
public import proofs.«01_k».proof.Proof.Gen.KConvBwd.Frame
public import proofs.«01_k».proof.Proof.Gen.KConvBwdIdeal
public import proofs.«01_k».proof.Proof.Gen.KConvBwdIdeal.Skeleton
public import proofs.«01_k».proof.Proof.Gen.KConvBwdIdeal.Launch
public import proofs.«01_k».proof.Proof.Gen.KConvBwdIdeal.Points
public import proofs.«01_k».proof.Proof.Gen.KConvBwdIdeal.Frame
public import proofs.«01_k».proof.Proof.Gen.RConvBwdIdeal
public import proofs.«01_k».proof.Proof.Gen.KInProj
public import proofs.«01_k».proof.Proof.Gen.KInProj.Skeleton
public import proofs.«01_k».proof.Proof.Gen.KInProj.Launch
public import proofs.«01_k».proof.Proof.Gen.KInProj.Points
public import proofs.«01_k».proof.Proof.Gen.KInProj.Frame
public import proofs.«01_k».proof.Proof.Gen.KInProjIdeal
public import proofs.«01_k».proof.Proof.Gen.KInProjIdeal.Skeleton
public import proofs.«01_k».proof.Proof.Gen.KInProjIdeal.Launch
public import proofs.«01_k».proof.Proof.Gen.KInProjIdeal.Points
public import proofs.«01_k».proof.Proof.Gen.KInProjIdeal.Frame
public import proofs.«01_k».proof.Proof.Gen.RInProjIdeal
public import proofs.«01_k».proof.Proof.Gen.KInHigh
public import proofs.«01_k».proof.Proof.Gen.KInHigh.Skeleton
public import proofs.«01_k».proof.Proof.Gen.KInHigh.Launch
public import proofs.«01_k».proof.Proof.Gen.KInHigh.Points
public import proofs.«01_k».proof.Proof.Gen.KInHigh.Frame
public import proofs.«01_k».proof.Proof.Gen.KInHighIdeal
public import proofs.«01_k».proof.Proof.Gen.KInHighIdeal.Skeleton
public import proofs.«01_k».proof.Proof.Gen.KInHighIdeal.Launch
public import proofs.«01_k».proof.Proof.Gen.KInHighIdeal.Points
public import proofs.«01_k».proof.Proof.Gen.KInHighIdeal.Frame
public import proofs.«01_k».proof.Proof.Gen.RInHighIdeal
public import proofs.«01_k».proof.Proof.Gen.KOutProj
public import proofs.«01_k».proof.Proof.Gen.KOutProj.Skeleton
public import proofs.«01_k».proof.Proof.Gen.KOutProj.Launch
public import proofs.«01_k».proof.Proof.Gen.KOutProj.Points
public import proofs.«01_k».proof.Proof.Gen.KOutProj.Frame
public import proofs.«01_k».proof.Proof.Gen.KOutProjIdeal
public import proofs.«01_k».proof.Proof.Gen.KOutProjIdeal.Skeleton
public import proofs.«01_k».proof.Proof.Gen.KOutProjIdeal.Launch
public import proofs.«01_k».proof.Proof.Gen.KOutProjIdeal.Points
public import proofs.«01_k».proof.Proof.Gen.KOutProjIdeal.Frame
public import proofs.«01_k».proof.Proof.Gen.ROutProjIdeal
public import proofs.«01_k».proof.Proof.Gen.KConv
public import proofs.«01_k».proof.Proof.Gen.KConv.Skeleton
public import proofs.«01_k».proof.Proof.Gen.KConv.Launch
public import proofs.«01_k».proof.Proof.Gen.KConv.Points
public import proofs.«01_k».proof.Proof.Gen.KConv.Frame
public import proofs.«01_k».proof.Proof.Gen.KConvIdeal
public import proofs.«01_k».proof.Proof.Gen.KConvIdeal.Skeleton
public import proofs.«01_k».proof.Proof.Gen.KConvIdeal.Launch
public import proofs.«01_k».proof.Proof.Gen.KConvIdeal.Points
public import proofs.«01_k».proof.Proof.Gen.KConvIdeal.Frame
public import proofs.«01_k».proof.Proof.Gen.RConvIdeal
public import proofs.«01_k».proof.Proof.Gen.KRms
public import proofs.«01_k».proof.Proof.Gen.KRms.Skeleton
public import proofs.«01_k».proof.Proof.Gen.KRms.Launch
public import proofs.«01_k».proof.Proof.Gen.KRms.Points
public import proofs.«01_k».proof.Proof.Gen.KRms.Frame
public import proofs.«01_k».proof.Proof.Gen.KRmsIdeal
public import proofs.«01_k».proof.Proof.Gen.KRmsIdeal.Skeleton
public import proofs.«01_k».proof.Proof.Gen.KRmsIdeal.Launch
public import proofs.«01_k».proof.Proof.Gen.KRmsIdeal.Points
public import proofs.«01_k».proof.Proof.Gen.KRmsIdeal.Frame
public import proofs.«01_k».proof.Proof.Gen.RRmsIdeal
public import proofs.«01_k».proof.Proof.Gen.KLoss
public import proofs.«01_k».proof.Proof.Gen.KLoss.Skeleton
public import proofs.«01_k».proof.Proof.Gen.KLoss.Launch
public import proofs.«01_k».proof.Proof.Gen.KLoss.Points
public import proofs.«01_k».proof.Proof.Gen.KLoss.Frame
public import proofs.«01_k».proof.Proof.Gen.KLossIdeal
public import proofs.«01_k».proof.Proof.Gen.KLossIdeal.Skeleton
public import proofs.«01_k».proof.Proof.Gen.KLossIdeal.Launch
public import proofs.«01_k».proof.Proof.Gen.KLossIdeal.Points
public import proofs.«01_k».proof.Proof.Gen.KLossIdeal.Frame
public import proofs.«01_k».proof.Proof.Gen.RLossIdeal
public import proofs.«01_k».proof.Proof.Gen.KPair
public import proofs.«01_k».proof.Proof.Gen.KPair.Skeleton
public import proofs.«01_k».proof.Proof.Gen.KPair.Launch
public import proofs.«01_k».proof.Proof.Gen.KPair.Points
public import proofs.«01_k».proof.Proof.Gen.KPair.Frame
public import proofs.«01_k».proof.Proof.Gen.KPairIdeal
public import proofs.«01_k».proof.Proof.Gen.KPairIdeal.Skeleton
public import proofs.«01_k».proof.Proof.Gen.KPairIdeal.Launch
public import proofs.«01_k».proof.Proof.Gen.KPairIdeal.Points
public import proofs.«01_k».proof.Proof.Gen.KPairIdeal.Frame
public import proofs.«01_k».proof.Proof.Gen.RPairIdeal
public import proofs.«01_k».proof.Proof.Gen.KAdFf2
public import proofs.«01_k».proof.Proof.Gen.KAdFf2.Skeleton
public import proofs.«01_k».proof.Proof.Gen.KAdFf2.Launch
public import proofs.«01_k».proof.Proof.Gen.KAdFf2.Points
public import proofs.«01_k».proof.Proof.Gen.KAdFf2.Frame
public import proofs.«01_k».proof.Proof.Gen.KAdFf2Ideal
public import proofs.«01_k».proof.Proof.Gen.KAdFf2Ideal.Skeleton
public import proofs.«01_k».proof.Proof.Gen.KAdFf2Ideal.Launch
public import proofs.«01_k».proof.Proof.Gen.KAdFf2Ideal.Points
public import proofs.«01_k».proof.Proof.Gen.KAdFf2Ideal.Frame
public import proofs.«01_k».proof.Proof.Gen.RAdFf2Ideal
public import proofs.«01_k».proof.Proof.Gen.KAdFf1
public import proofs.«01_k».proof.Proof.Gen.KAdFf1.Skeleton
public import proofs.«01_k».proof.Proof.Gen.KAdFf1.Launch
public import proofs.«01_k».proof.Proof.Gen.KAdFf1.Points
public import proofs.«01_k».proof.Proof.Gen.KAdFf1.Frame
public import proofs.«01_k».proof.Proof.Gen.KAdFf1Ideal
public import proofs.«01_k».proof.Proof.Gen.KAdFf1Ideal.Skeleton
public import proofs.«01_k».proof.Proof.Gen.KAdFf1Ideal.Launch
public import proofs.«01_k».proof.Proof.Gen.KAdFf1Ideal.Points
public import proofs.«01_k».proof.Proof.Gen.KAdFf1Ideal.Frame
public import proofs.«01_k».proof.Proof.Gen.RAdFf1Ideal
public import proofs.«01_k».proof.Proof.Gen.KAdOut
public import proofs.«01_k».proof.Proof.Gen.KAdOut.Skeleton
public import proofs.«01_k».proof.Proof.Gen.KAdOut.Launch
public import proofs.«01_k».proof.Proof.Gen.KAdOut.Points
public import proofs.«01_k».proof.Proof.Gen.KAdOut.Frame
public import proofs.«01_k».proof.Proof.Gen.KAdOutIdeal
public import proofs.«01_k».proof.Proof.Gen.KAdOutIdeal.Skeleton
public import proofs.«01_k».proof.Proof.Gen.KAdOutIdeal.Launch
public import proofs.«01_k».proof.Proof.Gen.KAdOutIdeal.Points
public import proofs.«01_k».proof.Proof.Gen.KAdOutIdeal.Frame
public import proofs.«01_k».proof.Proof.Gen.RAdOutIdeal
public import proofs.«01_k».proof.Proof.Gen.KAdIn
public import proofs.«01_k».proof.Proof.Gen.KAdIn.Skeleton
public import proofs.«01_k».proof.Proof.Gen.KAdIn.Launch
public import proofs.«01_k».proof.Proof.Gen.KAdIn.Points
public import proofs.«01_k».proof.Proof.Gen.KAdIn.Frame
public import proofs.«01_k».proof.Proof.Gen.KAdInIdeal
public import proofs.«01_k».proof.Proof.Gen.KAdInIdeal.Skeleton
public import proofs.«01_k».proof.Proof.Gen.KAdInIdeal.Launch
public import proofs.«01_k».proof.Proof.Gen.KAdInIdeal.Points
public import proofs.«01_k».proof.Proof.Gen.KAdInIdeal.Frame
public import proofs.«01_k».proof.Proof.Gen.RAdInIdeal
public import proofs.«01_k».proof.Proof.Gen.Pre_finite_gradient
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KDwFf2Ideal.Value
public import proofs.«01_k».proof.Proof.Gen.RDwFf2Ideal.Run
public import proofs.«01_k».proof.Proof.Gen.RDwFf2Ideal.Read
public import proofs.«01_k».proof.Proof.Gen.KDn2Ideal.Value
public import proofs.«01_k».proof.Proof.Gen.RDn2Ideal.Run
public import proofs.«01_k».proof.Proof.Gen.RDn2Ideal.Read
public import proofs.«01_k».proof.Proof.Gen.KDwFf1Ideal.Value
public import proofs.«01_k».proof.Proof.Gen.RDwFf1Ideal.Run
public import proofs.«01_k».proof.Proof.Gen.RDwFf1Ideal.Read
public import proofs.«01_k».proof.Proof.Gen.KFf1Ideal.Value
public import proofs.«01_k».proof.Proof.Gen.RFf1Ideal.Run
public import proofs.«01_k».proof.Proof.Gen.RFf1Ideal.Read
public import proofs.«01_k».proof.Proof.Gen.KDMixIdeal.Value
public import proofs.«01_k».proof.Proof.Gen.RDMixIdeal.Run
public import proofs.«01_k».proof.Proof.Gen.RDMixIdeal.Read
public import proofs.«01_k».proof.Proof.Gen.KDwOutIdeal.Value
public import proofs.«01_k».proof.Proof.Gen.RDwOutIdeal.Run
public import proofs.«01_k».proof.Proof.Gen.RDwOutIdeal.Read
public import proofs.«01_k».proof.Proof.Gen.KDwInIdeal.Value
public import proofs.«01_k».proof.Proof.Gen.RDwInIdeal.Run
public import proofs.«01_k».proof.Proof.Gen.RDwInIdeal.Read
public import proofs.«01_k».proof.Proof.Gen.KDn1Ideal.Value
public import proofs.«01_k».proof.Proof.Gen.RDn1Ideal.Run
public import proofs.«01_k».proof.Proof.Gen.RDn1Ideal.Read
public import proofs.«01_k».proof.Proof.Gen.KRmsBwdIdeal.Value
public import proofs.«01_k».proof.Proof.Gen.RRmsBwdIdeal.Run
public import proofs.«01_k».proof.Proof.Gen.RRmsBwdIdeal.Read
public import proofs.«01_k».proof.Proof.Gen.KRmsFfnIdeal.Value
public import proofs.«01_k».proof.Proof.Gen.RRmsFfnIdeal.Run
public import proofs.«01_k».proof.Proof.Gen.RRmsFfnIdeal.Read
public import proofs.«01_k».proof.Proof.Gen.KConvBwdIdeal.Value
public import proofs.«01_k».proof.Proof.Gen.RConvBwdIdeal.Run
public import proofs.«01_k».proof.Proof.Gen.RConvBwdIdeal.Read
public import proofs.«01_k».proof.Proof.Gen.KInProjIdeal.Value
public import proofs.«01_k».proof.Proof.Gen.RInProjIdeal.Run
public import proofs.«01_k».proof.Proof.Gen.RInProjIdeal.Read
public import proofs.«01_k».proof.Proof.Gen.KInHighIdeal.Value
public import proofs.«01_k».proof.Proof.Gen.RInHighIdeal.Run
public import proofs.«01_k».proof.Proof.Gen.RInHighIdeal.Read
public import proofs.«01_k».proof.Proof.Gen.KOutProjIdeal.Value
public import proofs.«01_k».proof.Proof.Gen.ROutProjIdeal.Run
public import proofs.«01_k».proof.Proof.Gen.ROutProjIdeal.Read
public import proofs.«01_k».proof.Proof.Gen.KConvIdeal.Value
public import proofs.«01_k».proof.Proof.Gen.RConvIdeal.Run
public import proofs.«01_k».proof.Proof.Gen.RConvIdeal.Read
public import proofs.«01_k».proof.Proof.Gen.KRmsIdeal.Value
public import proofs.«01_k».proof.Proof.Gen.RRmsIdeal.Run
public import proofs.«01_k».proof.Proof.Gen.RRmsIdeal.Read
public import proofs.«01_k».proof.Proof.Gen.KLossIdeal.Value
public import proofs.«01_k».proof.Proof.Gen.RLossIdeal.Run
public import proofs.«01_k».proof.Proof.Gen.RLossIdeal.Read
public import proofs.«01_k».proof.Proof.Gen.RPairIdeal.Run
public import proofs.«01_k».proof.Proof.Gen.RPairIdeal.Read
public import proofs.«01_k».proof.Proof.Gen.RAdFf2Ideal.Run
public import proofs.«01_k».proof.Proof.Gen.RAdFf2Ideal.Read
public import proofs.«01_k».proof.Proof.Gen.RAdFf1Ideal.Run
public import proofs.«01_k».proof.Proof.Gen.RAdFf1Ideal.Read
public import proofs.«01_k».proof.Proof.Gen.RAdOutIdeal.Run
public import proofs.«01_k».proof.Proof.Gen.RAdOutIdeal.Read
public import proofs.«01_k».proof.Proof.Gen.RAdInIdeal.Run
public import proofs.«01_k».proof.Proof.Gen.RAdInIdeal.Read
public import proofs.«01_k».proof.Proof.DAct
public import proofs.«01_k».proof.Proof.DwFf2
public import proofs.«01_k».proof.Proof.Dn2
public import proofs.«01_k».proof.Proof.DwFf1
public import proofs.«01_k».proof.Proof.Ff1
public import proofs.«01_k».proof.Proof.DMix
public import proofs.«01_k».proof.Proof.DwOut
public import proofs.«01_k».proof.Proof.DwIn
public import proofs.«01_k».proof.Proof.Dn1
public import proofs.«01_k».proof.Proof.RmsBwd
public import proofs.«01_k».proof.Proof.RmsFfn
public import proofs.«01_k».proof.Proof.ConvBwd
public import proofs.«01_k».proof.Proof.InProj
public import proofs.«01_k».proof.Proof.InHigh
public import proofs.«01_k».proof.Proof.OutProj
public import proofs.«01_k».proof.Proof.Conv
public import proofs.«01_k».proof.Proof.Rms
public import proofs.«01_k».proof.Proof.Loss
public import proofs.«01_k».proof.Proof.PairSum
public import proofs.«01_k».proof.Proof.AdFf2
public import proofs.«01_k».proof.Proof.AdFf1
public import proofs.«01_k».proof.Proof.AdOut
public import proofs.«01_k».proof.Proof.AdIn
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of `Kernel` runs, leaves its arguments and declares no semaphore. -/
theorem frame_Reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of `KDwFf2` runs, leaves its arguments and declares no semaphore. -/
theorem frame_RDwFf2 : Cert.quiescent_RDwFf2Ideal := fun m ρ _ =>
  (θ_run Cert.RDwFf2Ideal.defs _ _).mono (fun r h => ⟨fun c => (h c).2, sem_eq_zero_of_no_sems (by decide) r.2⟩)
    (Cert.RDwFf2Ideal.Value.run (F := Ideal) m ρ)

/-- The reference of `KDn2` runs, leaves its arguments and declares no semaphore. -/
theorem frame_RDn2 : Cert.quiescent_RDn2Ideal := fun m ρ _ =>
  (θ_run Cert.RDn2Ideal.defs _ _).mono (fun r h => ⟨fun c => (h c).2, sem_eq_zero_of_no_sems (by decide) r.2⟩)
    (Cert.RDn2Ideal.Value.run (F := Ideal) m ρ)

/-- The reference of `KDwFf1` runs, leaves its arguments and declares no semaphore. -/
theorem frame_RDwFf1 : Cert.quiescent_RDwFf1Ideal := fun m ρ _ =>
  (θ_run Cert.RDwFf1Ideal.defs _ _).mono (fun r h => ⟨fun c => (h c).2, sem_eq_zero_of_no_sems (by decide) r.2⟩)
    (Cert.RDwFf1Ideal.Value.run (F := Ideal) m ρ)

/-- The reference of `KFf1` runs, leaves its arguments and declares no semaphore. -/
theorem frame_RFf1 : Cert.quiescent_RFf1Ideal := fun m ρ _ =>
  (θ_run Cert.RFf1Ideal.defs _ _).mono (fun r h => ⟨fun c => (h c).2.2, sem_eq_zero_of_no_sems (by decide) r.2⟩)
    (Cert.RFf1Ideal.Value.run (F := Ideal) m ρ)

/-- The reference of `KDMix` runs, leaves its arguments and declares no semaphore. -/
theorem frame_RDMix : Cert.quiescent_RDMixIdeal := fun m ρ _ =>
  (θ_run Cert.RDMixIdeal.defs _ _).mono (fun r h => ⟨fun c => (h c).2, sem_eq_zero_of_no_sems (by decide) r.2⟩)
    (Cert.RDMixIdeal.Value.run (F := Ideal) m ρ)

/-- The reference of `KDwOut` runs, leaves its arguments and declares no semaphore. -/
theorem frame_RDwOut : Cert.quiescent_RDwOutIdeal := fun m ρ _ =>
  (θ_run Cert.RDwOutIdeal.defs _ _).mono (fun r h => ⟨fun c => (h c).2, sem_eq_zero_of_no_sems (by decide) r.2⟩)
    (Cert.RDwOutIdeal.Value.run (F := Ideal) m ρ)

/-- The reference of `KDwIn` runs, leaves its arguments and declares no semaphore. -/
theorem frame_RDwIn : Cert.quiescent_RDwInIdeal := fun m ρ _ =>
  (θ_run Cert.RDwInIdeal.defs _ _).mono (fun r h => ⟨fun c => (h c).2, sem_eq_zero_of_no_sems (by decide) r.2⟩)
    (Cert.RDwInIdeal.Value.run (F := Ideal) m ρ)

/-- The reference of `KDn1` runs, leaves its arguments and declares no semaphore. -/
theorem frame_RDn1 : Cert.quiescent_RDn1Ideal := fun m ρ _ =>
  (θ_run Cert.RDn1Ideal.defs _ _).mono (fun r h => ⟨fun c => (h c).2, sem_eq_zero_of_no_sems (by decide) r.2⟩)
    (Cert.RDn1Ideal.Value.run (F := Ideal) m ρ)

/-- The reference of `KRmsBwd` runs, leaves its arguments and declares no semaphore. -/
theorem frame_RRmsBwd : Cert.quiescent_RRmsBwdIdeal := fun m ρ _ =>
  (θ_run Cert.RRmsBwdIdeal.defs _ _).mono (fun r h => ⟨fun c => (h c).2.2, sem_eq_zero_of_no_sems (by decide) r.2⟩)
    (Cert.RRmsBwdIdeal.Value.run (F := Ideal) m ρ)

/-- The reference of `KRmsFfn` runs, leaves its arguments and declares no semaphore. -/
theorem frame_RRmsFfn : Cert.quiescent_RRmsFfnIdeal := fun m ρ _ =>
  (θ_run Cert.RRmsFfnIdeal.defs _ _).mono (fun r h => ⟨fun c => (h c).2.2, sem_eq_zero_of_no_sems (by decide) r.2⟩)
    (Cert.RRmsFfnIdeal.Value.run (F := Ideal) m ρ)

/-- The reference of `KConvBwd` runs, leaves its arguments and declares no semaphore. -/
theorem frame_RConvBwd : Cert.quiescent_RConvBwdIdeal := fun m ρ _ =>
  (θ_run Cert.RConvBwdIdeal.defs _ _).mono (fun r h => ⟨fun c => (h c).2.2, sem_eq_zero_of_no_sems (by decide) r.2⟩)
    (Cert.RConvBwdIdeal.Value.run (F := Ideal) m ρ)

/-- The reference of `KInProj` runs, leaves its arguments and declares no semaphore. -/
theorem frame_RInProj : Cert.quiescent_RInProjIdeal := fun m ρ _ =>
  (θ_run Cert.RInProjIdeal.defs _ _).mono (fun r h => ⟨fun c => (h c).2, sem_eq_zero_of_no_sems (by decide) r.2⟩)
    (Cert.RInProjIdeal.Value.run (F := Ideal) m ρ)

/-- The reference of `KInHigh` runs, leaves its arguments and declares no semaphore. -/
theorem frame_RInHigh : Cert.quiescent_RInHighIdeal := fun m ρ _ =>
  (θ_run Cert.RInHighIdeal.defs _ _).mono (fun r h => ⟨fun c => (h c).2, sem_eq_zero_of_no_sems (by decide) r.2⟩)
    (Cert.RInHighIdeal.Value.run (F := Ideal) m ρ)

/-- The reference of `KOutProj` runs, leaves its arguments and declares no semaphore. -/
theorem frame_ROutProj : Cert.quiescent_ROutProjIdeal := fun m ρ _ =>
  (θ_run Cert.ROutProjIdeal.defs _ _).mono (fun r h => ⟨fun c => (h c).2.2.2, sem_eq_zero_of_no_sems (by decide) r.2⟩)
    (Cert.ROutProjIdeal.Value.run (F := Ideal) m ρ)

/-- The reference of `KConv` runs, leaves its arguments and declares no semaphore. -/
theorem frame_RConv : Cert.quiescent_RConvIdeal := fun m ρ _ =>
  (θ_run Cert.RConvIdeal.defs _ _).mono (fun r h => ⟨fun c => (h c).2, sem_eq_zero_of_no_sems (by decide) r.2⟩)
    (Cert.RConvIdeal.Value.run (F := Ideal) m ρ)

/-- The reference of `KRms` runs, leaves its arguments and declares no semaphore. -/
theorem frame_RRms : Cert.quiescent_RRmsIdeal := fun m ρ _ =>
  (θ_run Cert.RRmsIdeal.defs _ _).mono (fun r h => ⟨fun c => (h c).2.2, sem_eq_zero_of_no_sems (by decide) r.2⟩)
    (Cert.RRmsIdeal.Value.run (F := Ideal) m ρ)

/-- The reference of `KLoss` runs, leaves its arguments and declares no semaphore. -/
theorem frame_RLoss : Cert.quiescent_RLossIdeal := fun m ρ _ =>
  (θ_run Cert.RLossIdeal.defs _ _).mono (fun r h => ⟨fun c => (h c).2.2.2, sem_eq_zero_of_no_sems (by decide) r.2⟩)
    (Cert.RLossIdeal.Value.run (F := Ideal) m ρ)

/-- The reference of `KPair` runs, leaves its arguments and declares no semaphore. -/
theorem frame_RPair : Cert.quiescent_RPairIdeal := fun m ρ _ =>
  (θ_run Cert.RPairIdeal.defs _ _).mono (fun r h => ⟨fun c => (h c).2, sem_eq_zero_of_no_sems (by decide) r.2⟩)
    (Cert.RPairIdeal.Value.run (F := Ideal) m ρ)

/-- The reference of `KAdFf2` runs, leaves its arguments and declares no semaphore. -/
theorem frame_RAdFf2 : Cert.quiescent_RAdFf2Ideal := fun m ρ _ =>
  (θ_run Cert.RAdFf2Ideal.defs _ _).mono (fun r h => ⟨fun c => (h c).2.2.2.2, sem_eq_zero_of_no_sems (by decide) r.2⟩)
    (Cert.RAdFf2Ideal.Value.run (F := Ideal) m ρ)

/-- The reference of `KAdFf1` runs, leaves its arguments and declares no semaphore. -/
theorem frame_RAdFf1 : Cert.quiescent_RAdFf1Ideal := fun m ρ _ =>
  (θ_run Cert.RAdFf1Ideal.defs _ _).mono (fun r h => ⟨fun c => (h c).2.2.2.2, sem_eq_zero_of_no_sems (by decide) r.2⟩)
    (Cert.RAdFf1Ideal.Value.run (F := Ideal) m ρ)

/-- The reference of `KAdOut` runs, leaves its arguments and declares no semaphore. -/
theorem frame_RAdOut : Cert.quiescent_RAdOutIdeal := fun m ρ _ =>
  (θ_run Cert.RAdOutIdeal.defs _ _).mono (fun r h => ⟨fun c => (h c).2.2.2.2, sem_eq_zero_of_no_sems (by decide) r.2⟩)
    (Cert.RAdOutIdeal.Value.run (F := Ideal) m ρ)

/-- The reference of `KAdIn` runs, leaves its arguments and declares no semaphore. -/
theorem frame_RAdIn : Cert.quiescent_RAdInIdeal := fun m ρ _ =>
  (θ_run Cert.RAdInIdeal.defs _ _).mono (fun r h => ⟨fun c => (h c).2.2.2.2, sem_eq_zero_of_no_sems (by decide) r.2⟩)
    (Cert.RAdInIdeal.Value.run (F := Ideal) m ρ)

/-- Everything that is claimed: the frames of all programs, then call by call what it computes. -/
theorem claim : Cert.Claim := ⟨Cert.Kernel.Gen.facts, Cert.KernelIdeal.Gen.facts, Cert.ReferenceIdeal.Gen.facts,
  Cert.KDwFf2.Gen.facts, Cert.KDwFf2Ideal.Gen.facts, Cert.RDwFf2Ideal.Gen.facts,
  Cert.KDn2.Gen.facts, Cert.KDn2Ideal.Gen.facts, Cert.RDn2Ideal.Gen.facts,
  Cert.KDwFf1.Gen.facts, Cert.KDwFf1Ideal.Gen.facts, Cert.RDwFf1Ideal.Gen.facts,
  Cert.KFf1.Gen.facts, Cert.KFf1Ideal.Gen.facts, Cert.RFf1Ideal.Gen.facts,
  Cert.KDMix.Gen.facts, Cert.KDMixIdeal.Gen.facts, Cert.RDMixIdeal.Gen.facts,
  Cert.KDwOut.Gen.facts, Cert.KDwOutIdeal.Gen.facts, Cert.RDwOutIdeal.Gen.facts,
  Cert.KDwIn.Gen.facts, Cert.KDwInIdeal.Gen.facts, Cert.RDwInIdeal.Gen.facts,
  Cert.KDn1.Gen.facts, Cert.KDn1Ideal.Gen.facts, Cert.RDn1Ideal.Gen.facts,
  Cert.KRmsBwd.Gen.facts, Cert.KRmsBwdIdeal.Gen.facts, Cert.RRmsBwdIdeal.Gen.facts,
  Cert.KRmsFfn.Gen.facts, Cert.KRmsFfnIdeal.Gen.facts, Cert.RRmsFfnIdeal.Gen.facts,
  Cert.KConvBwd.Gen.facts, Cert.KConvBwdIdeal.Gen.facts, Cert.RConvBwdIdeal.Gen.facts,
  Cert.KInProj.Gen.facts, Cert.KInProjIdeal.Gen.facts, Cert.RInProjIdeal.Gen.facts,
  Cert.KInHigh.Gen.facts, Cert.KInHighIdeal.Gen.facts, Cert.RInHighIdeal.Gen.facts,
  Cert.KOutProj.Gen.facts, Cert.KOutProjIdeal.Gen.facts, Cert.ROutProjIdeal.Gen.facts,
  Cert.KConv.Gen.facts, Cert.KConvIdeal.Gen.facts, Cert.RConvIdeal.Gen.facts,
  Cert.KRms.Gen.facts, Cert.KRmsIdeal.Gen.facts, Cert.RRmsIdeal.Gen.facts,
  Cert.KLoss.Gen.facts, Cert.KLossIdeal.Gen.facts, Cert.RLossIdeal.Gen.facts,
  Cert.KPair.Gen.facts, Cert.KPairIdeal.Gen.facts, Cert.RPairIdeal.Gen.facts,
  Cert.KAdFf2.Gen.facts, Cert.KAdFf2Ideal.Gen.facts, Cert.RAdFf2Ideal.Gen.facts,
  Cert.KAdFf1.Gen.facts, Cert.KAdFf1Ideal.Gen.facts, Cert.RAdFf1Ideal.Gen.facts,
  Cert.KAdOut.Gen.facts, Cert.KAdOutIdeal.Gen.facts, Cert.RAdOutIdeal.Gen.facts,
  Cert.KAdIn.Gen.facts, Cert.KAdInIdeal.Gen.facts, Cert.RAdInIdeal.Gen.facts,
  Cert.Pre_finite_gradient.Gen.facts,
  fun m ρ _ => Cert.Kernel.Gen.frame m ρ,
  fun m ρ _ => Cert.KernelIdeal.Gen.frame m ρ,
  frame_Reference,
  fun m ρ _ => Cert.KDwFf2.Gen.frame m ρ,
  fun m ρ _ => Cert.KDwFf2Ideal.Gen.frame m ρ,
  frame_RDwFf2,
  fun m ρ _ => Cert.KDn2.Gen.frame m ρ,
  fun m ρ _ => Cert.KDn2Ideal.Gen.frame m ρ,
  frame_RDn2,
  fun m ρ _ => Cert.KDwFf1.Gen.frame m ρ,
  fun m ρ _ => Cert.KDwFf1Ideal.Gen.frame m ρ,
  frame_RDwFf1,
  fun m ρ _ => Cert.KFf1.Gen.frame m ρ,
  fun m ρ _ => Cert.KFf1Ideal.Gen.frame m ρ,
  frame_RFf1,
  fun m ρ _ => Cert.KDMix.Gen.frame m ρ,
  fun m ρ _ => Cert.KDMixIdeal.Gen.frame m ρ,
  frame_RDMix,
  fun m ρ _ => Cert.KDwOut.Gen.frame m ρ,
  fun m ρ _ => Cert.KDwOutIdeal.Gen.frame m ρ,
  frame_RDwOut,
  fun m ρ _ => Cert.KDwIn.Gen.frame m ρ,
  fun m ρ _ => Cert.KDwInIdeal.Gen.frame m ρ,
  frame_RDwIn,
  fun m ρ _ => Cert.KDn1.Gen.frame m ρ,
  fun m ρ _ => Cert.KDn1Ideal.Gen.frame m ρ,
  frame_RDn1,
  fun m ρ _ => Cert.KRmsBwd.Gen.frame m ρ,
  fun m ρ _ => Cert.KRmsBwdIdeal.Gen.frame m ρ,
  frame_RRmsBwd,
  fun m ρ _ => Cert.KRmsFfn.Gen.frame m ρ,
  fun m ρ _ => Cert.KRmsFfnIdeal.Gen.frame m ρ,
  frame_RRmsFfn,
  fun m ρ _ => Cert.KConvBwd.Gen.frame m ρ,
  fun m ρ _ => Cert.KConvBwdIdeal.Gen.frame m ρ,
  fun m ρ _ => Cert.KConvBwdIdeal.Gen.frame m ρ,
  frame_RConvBwd,
  fun m ρ _ => frame_RConvBwd m ρ trivial,
  fun m ρ _ => Cert.KInProj.Gen.frame m ρ,
  fun m ρ _ => Cert.KInProjIdeal.Gen.frame m ρ,
  frame_RInProj,
  fun m ρ _ => Cert.KInHigh.Gen.frame m ρ,
  fun m ρ _ => Cert.KInHighIdeal.Gen.frame m ρ,
  frame_RInHigh,
  fun m ρ _ => Cert.KOutProj.Gen.frame m ρ,
  fun m ρ _ => Cert.KOutProjIdeal.Gen.frame m ρ,
  frame_ROutProj,
  fun m ρ _ => Cert.KConv.Gen.frame m ρ,
  fun m ρ _ => Cert.KConvIdeal.Gen.frame m ρ,
  frame_RConv,
  fun m ρ _ => Cert.KRms.Gen.frame m ρ,
  fun m ρ _ => Cert.KRmsIdeal.Gen.frame m ρ,
  frame_RRms,
  fun m ρ _ => Cert.KLoss.Gen.frame m ρ,
  fun m ρ _ => Cert.KLossIdeal.Gen.frame m ρ,
  frame_RLoss,
  fun m ρ _ => Cert.KPair.Gen.frame m ρ (Cert.KPair.PairSum.ok m),
  fun m ρ _ => Cert.KPairIdeal.Gen.frame m ρ (Cert.KPairIdeal.PairSum.ok m),
  frame_RPair,
  fun m ρ _ => Cert.KAdFf2.Gen.frame m ρ (Cert.KAdFf2.AdFf2.ok m),
  fun m ρ _ => Cert.KAdFf2Ideal.Gen.frame m ρ (Cert.KAdFf2Ideal.AdFf2.ok m),
  frame_RAdFf2,
  fun m ρ _ => Cert.KAdFf1.Gen.frame m ρ (Cert.KAdFf1.AdFf1.ok m),
  fun m ρ _ => Cert.KAdFf1Ideal.Gen.frame m ρ (Cert.KAdFf1Ideal.AdFf1.ok m),
  frame_RAdFf1,
  fun m ρ _ => Cert.KAdOut.Gen.frame m ρ (Cert.KAdOut.AdOut.ok m),
  fun m ρ _ => Cert.KAdOutIdeal.Gen.frame m ρ (Cert.KAdOutIdeal.AdOut.ok m),
  frame_RAdOut,
  fun m ρ _ => Cert.KAdIn.Gen.frame m ρ (Cert.KAdIn.AdIn.ok m),
  fun m ρ _ => Cert.KAdInIdeal.Gen.frame m ρ (Cert.KAdInIdeal.AdIn.ok m),
  frame_RAdIn,
  trivial,
  Cert.KernelIdeal.DAct.algebraic,
  trivial,
  Cert.KDwFf2Ideal.DwFf2.algebraic,
  trivial,
  Cert.KDn2Ideal.Dn2.algebraic,
  trivial,
  Cert.KDwFf1Ideal.DwFf1.algebraic,
  trivial,
  Cert.KFf1Ideal.Ff1.algebraic,
  trivial,
  Cert.KDMixIdeal.DMix.algebraic,
  trivial,
  Cert.KDwOutIdeal.DwOut.algebraic,
  trivial,
  Cert.KDwInIdeal.DwIn.algebraic,
  trivial,
  Cert.KDn1Ideal.Dn1.algebraic,
  trivial,
  Cert.KRmsBwdIdeal.RmsBwd.algebraic,
  trivial,
  Cert.KRmsFfnIdeal.RmsFfn.algebraic,
  trivial,
  Cert.KConvBwdIdeal.ConvBwd.algebraic,
  trivial,
  Cert.KInProjIdeal.InProj.algebraic,
  trivial,
  Cert.KInHighIdeal.InHigh.algebraic,
  trivial,
  Cert.KOutProjIdeal.OutProj.algebraic,
  trivial,
  Cert.KConvIdeal.Conv.algebraic,
  trivial,
  Cert.KRmsIdeal.Rms.algebraic,
  trivial,
  Cert.KLossIdeal.Loss.algebraic,
  trivial,
  Cert.KPairIdeal.PairSum.algebraic,
  trivial,
  Cert.KAdFf2Ideal.AdFf2.algebraic,
  trivial,
  Cert.KAdFf1Ideal.AdFf1.algebraic,
  trivial,
  Cert.KAdOutIdeal.AdOut.algebraic,
  trivial,
  Cert.KAdInIdeal.AdIn.algebraic⟩

end Cert.Proof

end
